-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedIdeal_finite_ff [hPre_finite_ff : Cert.Pre_finite_ff.Facts] (m : (ℓ : Loc Cert.FeedIdeal.nD Cert.FeedIdeal.τ Cert.FeedIdeal.sig) → Buf (Elt Ideal) ℓ) : Prop :=
  ∀ c : Dev Cert.FeedIdeal.nD,
    (Cert.Pre_finite_ff.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3)) (m ((c.tc : Thread Cert.FeedIdeal.nD Cert.FeedIdeal.τ).loc Cert.FeedIdeal.main_arg4))).1 = (fun _ => 1#1)
    ∧ (Cert.Pre_finite_ff.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3)) (m ((c.tc : Thread Cert.FeedIdeal.nD Cert.FeedIdeal.τ).loc Cert.FeedIdeal.main_arg4))).2.1 = (fun _ => 1#1)
    ∧ (Cert.Pre_finite_ff.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3)) (m ((c.tc : Thread Cert.FeedIdeal.nD Cert.FeedIdeal.τ).loc Cert.FeedIdeal.main_arg4))).2.2.1 = (fun _ => 1#1)
    ∧ (Cert.Pre_finite_ff.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3)) (m ((c.tc : Thread Cert.FeedIdeal.nD Cert.FeedIdeal.τ).loc Cert.FeedIdeal.main_arg4))).2.2.2 = (fun _ => 1#1)

def Pre_FeedRefIdeal (m : (ℓ : Loc Cert.FeedRefIdeal.nD Cert.FeedRefIdeal.τ Cert.FeedRefIdeal.sig) → Buf (Elt Ideal) ℓ) : Prop :=
  True

def Pre_FeedRefIdeal_finite_ff [hPre_finite_ff : Cert.Pre_finite_ff.Facts] (m : (ℓ : Loc Cert.FeedRefIdeal.nD Cert.FeedRefIdeal.τ Cert.FeedRefIdeal.sig) → Buf (Elt Ideal) ℓ) : Prop :=
  ∀ c : Dev Cert.FeedRefIdeal.nD,
    (Cert.Pre_finite_ff.fn (F := Ideal) (m ((c.tc : Thread Cert.FeedRefIdeal.nD Cert.FeedRefIdeal.τ).loc Cert.FeedRefIdeal.main_arg0)) (m ((c.tc : Thread Cert.FeedRefIdeal.nD Cert.FeedRefIdeal.τ).loc Cert.FeedRefIdeal.main_arg1)) (m ((c.tc : Thread Cert.FeedRefIdeal.nD Cert.FeedRefIdeal.τ).loc Cert.FeedRefIdeal.main_arg2)) (m ((c.tc : Thread Cert.FeedRefIdeal.nD Cert.FeedRefIdeal.τ).loc Cert.FeedRefIdeal.main_arg3)) (m ((c.tc : Thread Cert.FeedRefIdeal.nD Cert.FeedRefIdeal.τ).loc Cert.FeedRefIdeal.main_arg4))).1 = (fun _ => 1#1)
    ∧ (Cert.Pre_finite_ff.fn (F := Ideal) (m ((c.tc : Thread Cert.FeedRefIdeal.nD Cert.FeedRefIdeal.τ).loc Cert.FeedRefIdeal.main_arg0)) (m ((c.tc : Thread Cert.FeedRefIdeal.nD Cert.FeedRefIdeal.τ).loc Cert.FeedRefIdeal.main_arg1)) (m ((c.tc : Thread Cert.FeedRefIdeal.nD Cert.FeedRefIdeal.τ).loc Cert.FeedRefIdeal.main_arg2)) (m ((c.tc : Thread Cert.FeedRefIdeal.nD Cert.FeedRefIdeal.τ).loc Cert.FeedRefIdeal.main_arg3)) (m ((c.tc : Thread Cert.FeedRefIdeal.nD Cert.FeedRefIdeal.τ).loc Cert.FeedRefIdeal.main_arg4))).2.1 = (fun _ => 1#1)
    ∧ (Cert.Pre_finite_ff.fn (F := Ideal) (m ((c.tc : Thread Cert.FeedRefIdeal.nD Cert.FeedRefIdeal.τ).loc Cert.FeedRefIdeal.main_arg0)) (m ((c.tc : Thread Cert.FeedRefIdeal.nD Cert.FeedRefIdeal.τ).loc Cert.FeedRefIdeal.main_arg1)) (m ((c.tc : Thread Cert.FeedRefIdeal.nD Cert.FeedRefIdeal.τ).loc Cert.FeedRefIdeal.main_arg2)) (m ((c.tc : Thread Cert.FeedRefIdeal.nD Cert.FeedRefIdeal.τ).loc Cert.FeedRefIdeal.main_arg3)) (m ((c.tc : Thread Cert.FeedRefIdeal.nD Cert.FeedRefIdeal.τ).loc Cert.FeedRefIdeal.main_arg4))).2.2.1 = (fun _ => 1#1)
    ∧ (Cert.Pre_finite_ff.fn (F := Ideal) (m ((c.tc : Thread Cert.FeedRefIdeal.nD Cert.FeedRefIdeal.τ).loc Cert.FeedRefIdeal.main_arg0)) (m ((c.tc : Thread Cert.FeedRefIdeal.nD Cert.FeedRefIdeal.τ).loc Cert.FeedRefIdeal.main_arg1)) (m ((c.tc : Thread Cert.FeedRefIdeal.nD Cert.FeedRefIdeal.τ).loc Cert.FeedRefIdeal.main_arg2)) (m ((c.tc : Thread Cert.FeedRefIdeal.nD Cert.FeedRefIdeal.τ).loc Cert.FeedRefIdeal.main_arg3)) (m ((c.tc : Thread Cert.FeedRefIdeal.nD Cert.FeedRefIdeal.τ).loc Cert.FeedRefIdeal.main_arg4))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjU (m : (ℓ : Loc Cert.ProjU.nD Cert.ProjU.τ Cert.ProjU.sig) → Buf (Elt Bits) ℓ) : Prop :=
  True

def Pre_ProjUIdeal (m : (ℓ : Loc Cert.ProjUIdeal.nD Cert.ProjUIdeal.τ Cert.ProjUIdeal.sig) → Buf (Elt Ideal) ℓ) : Prop :=
  True

def Pre_ProjURefIdeal (m : (ℓ : Loc Cert.ProjURefIdeal.nD Cert.ProjURefIdeal.τ Cert.ProjURefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OptGlu (m : (ℓ : Loc Cert.OptGlu.nD Cert.OptGlu.τ Cert.OptGlu.sig) → Buf (Elt Bits) ℓ) : Prop :=
  True

def Pre_OptGluIdeal (m : (ℓ : Loc Cert.OptGluIdeal.nD Cert.OptGluIdeal.τ Cert.OptGluIdeal.sig) → Buf (Elt Ideal) ℓ) : Prop :=
  True

def Pre_OptGluRefIdeal (m : (ℓ : Loc Cert.OptGluRefIdeal.nD Cert.OptGluRefIdeal.τ Cert.OptGluRefIdeal.sig) → Buf (Elt Ideal) ℓ) : Prop :=
  True

def Pre_OptMeta (m : (ℓ : Loc Cert.OptMeta.nD Cert.OptMeta.τ Cert.OptMeta.sig) → Buf (Elt Bits) ℓ) : Prop :=
  True

def Pre_OptMetaIdeal (m : (ℓ : Loc Cert.OptMetaIdeal.nD Cert.OptMetaIdeal.τ Cert.OptMetaIdeal.sig) → Buf (Elt Ideal) ℓ) : Prop :=
  True

def Pre_OptMetaRefIdeal (m : (ℓ : Loc Cert.OptMetaRefIdeal.nD Cert.OptMetaRefIdeal.τ Cert.OptMetaRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ r.2.sem = fun _ => 0)

def quiescent_FeedIdeal_pre_finite_ff [hFeedIdeal : Cert.FeedIdeal.Facts] [hPre_finite_ff : Cert.Pre_finite_ff.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal_finite_ff m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ r.2.sem = fun _ => 0)

def quiescent_FeedRefIdeal [hFeedRefIdeal : Cert.FeedRefIdeal.Facts] : Prop :=
  ∀ (m : (ℓ : Loc Cert.FeedRefIdeal.nD Cert.FeedRefIdeal.τ Cert.FeedRefIdeal.sig) → Buf (Elt Ideal) ℓ) (g : Dev Cert.FeedRefIdeal.nD → PrngReg), Pre_FeedRefIdeal m →
    θ_run (Cert.FeedRefIdeal.defs (F := Ideal)) (onTc (τ := Cert.FeedRefIdeal.τ) (Cert.FeedRefIdeal.main (F := Ideal))) ⟨m, fun _ => 0, g⟩ (fun r => (∀ c : Dev Cert.FeedRefIdeal.nD,
      r.2.mem ((c.tc : Thread Cert.FeedRefIdeal.nD Cert.FeedRefIdeal.τ).loc Cert.FeedRefIdeal.main_arg0) = m ((c.tc : Thread Cert.FeedRefIdeal.nD Cert.FeedRefIdeal.τ).loc Cert.FeedRefIdeal.main_arg0)
      ∧ r.2.mem ((c.tc : Thread Cert.FeedRefIdeal.nD Cert.FeedRefIdeal.τ).loc Cert.FeedRefIdeal.main_arg1) = m ((c.tc : Thread Cert.FeedRefIdeal.nD Cert.FeedRefIdeal.τ).loc Cert.FeedRefIdeal.main_arg1)
      ∧ r.2.mem ((c.tc : Thread Cert.FeedRefIdeal.nD Cert.FeedRefIdeal.τ).loc Cert.FeedRefIdeal.main_arg2) = m ((c.tc : Thread Cert.FeedRefIdeal.nD Cert.FeedRefIdeal.τ).loc Cert.FeedRefIdeal.main_arg2)
      ∧ r.2.mem ((c.tc : Thread Cert.FeedRefIdeal.nD Cert.FeedRefIdeal.τ).loc Cert.FeedRefIdeal.main_arg3) = m ((c.tc : Thread Cert.FeedRefIdeal.nD Cert.FeedRefIdeal.τ).loc Cert.FeedRefIdeal.main_arg3)
      ∧ r.2.mem ((c.tc : Thread Cert.FeedRefIdeal.nD Cert.FeedRefIdeal.τ).loc Cert.FeedRefIdeal.main_arg4) = m ((c.tc : Thread Cert.FeedRefIdeal.nD Cert.FeedRefIdeal.τ).loc Cert.FeedRefIdeal.main_arg4))
      ∧ r.2.sem = fun _ => 0)

def quiescent_FeedRefIdeal_pre_finite_ff [hFeedRefIdeal : Cert.FeedRefIdeal.Facts] [hPre_finite_ff : Cert.Pre_finite_ff.Facts] : Prop :=
  ∀ (m : (ℓ : Loc Cert.FeedRefIdeal.nD Cert.FeedRefIdeal.τ Cert.FeedRefIdeal.sig) → Buf (Elt Ideal) ℓ) (g : Dev Cert.FeedRefIdeal.nD → PrngReg), Pre_FeedRefIdeal_finite_ff m →
    θ_run (Cert.FeedRefIdeal.defs (F := Ideal)) (onTc (τ := Cert.FeedRefIdeal.τ) (Cert.FeedRefIdeal.main (F := Ideal))) ⟨m, fun _ => 0, g⟩ (fun r => (∀ c : Dev Cert.FeedRefIdeal.nD,
      r.2.mem ((c.tc : Thread Cert.FeedRefIdeal.nD Cert.FeedRefIdeal.τ).loc Cert.FeedRefIdeal.main_arg0) = m ((c.tc : Thread Cert.FeedRefIdeal.nD Cert.FeedRefIdeal.τ).loc Cert.FeedRefIdeal.main_arg0)
      ∧ r.2.mem ((c.tc : Thread Cert.FeedRefIdeal.nD Cert.FeedRefIdeal.τ).loc Cert.FeedRefIdeal.main_arg1) = m ((c.tc : Thread Cert.FeedRefIdeal.nD Cert.FeedRefIdeal.τ).loc Cert.FeedRefIdeal.main_arg1)
      ∧ r.2.mem ((c.tc : Thread Cert.FeedRefIdeal.nD Cert.FeedRefIdeal.τ).loc Cert.FeedRefIdeal.main_arg2) = m ((c.tc : Thread Cert.FeedRefIdeal.nD Cert.FeedRefIdeal.τ).loc Cert.FeedRefIdeal.main_arg2)
      ∧ r.2.mem ((c.tc : Thread Cert.FeedRefIdeal.nD Cert.FeedRefIdeal.τ).loc Cert.FeedRefIdeal.main_arg3) = m ((c.tc : Thread Cert.FeedRefIdeal.nD Cert.FeedRefIdeal.τ).loc Cert.FeedRefIdeal.main_arg3)
      ∧ r.2.mem ((c.tc : Thread Cert.FeedRefIdeal.nD Cert.FeedRefIdeal.τ).loc Cert.FeedRefIdeal.main_arg4) = m ((c.tc : Thread Cert.FeedRefIdeal.nD Cert.FeedRefIdeal.τ).loc Cert.FeedRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjU [hProjU : Cert.ProjU.Facts] : Prop :=
  ∀ (m : (ℓ : Loc Cert.ProjU.nD Cert.ProjU.τ Cert.ProjU.sig) → Buf (Elt Bits) ℓ) (g : Dev Cert.ProjU.nD → PrngReg), Pre_ProjU m →
    θ_run (Cert.ProjU.defs (F := Bits)) (onTc (τ := Cert.ProjU.τ) (Cert.ProjU.main (F := Bits))) ⟨m, fun _ => 0, g⟩ (fun r => (∀ c : Dev Cert.ProjU.nD,
      r.2.mem ((c.tc : Thread Cert.ProjU.nD Cert.ProjU.τ).loc Cert.ProjU.main_arg0) = m ((c.tc : Thread Cert.ProjU.nD Cert.ProjU.τ).loc Cert.ProjU.main_arg0)
      ∧ r.2.mem ((c.tc : Thread Cert.ProjU.nD Cert.ProjU.τ).loc Cert.ProjU.main_arg1) = m ((c.tc : Thread Cert.ProjU.nD Cert.ProjU.τ).loc Cert.ProjU.main_arg1))
      ∧ r.2.sem = fun _ => 0)

def quiescent_ProjUIdeal [hProjUIdeal : Cert.ProjUIdeal.Facts] : Prop :=
  ∀ (m : (ℓ : Loc Cert.ProjUIdeal.nD Cert.ProjUIdeal.τ Cert.ProjUIdeal.sig) → Buf (Elt Ideal) ℓ) (g : Dev Cert.ProjUIdeal.nD → PrngReg), Pre_ProjUIdeal m →
    θ_run (Cert.ProjUIdeal.defs (F := Ideal)) (onTc (τ := Cert.ProjUIdeal.τ) (Cert.ProjUIdeal.main (F := Ideal))) ⟨m, fun _ => 0, g⟩ (fun r => (∀ c : Dev Cert.ProjUIdeal.nD,
      r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
      ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ r.2.sem = fun _ => 0)

def quiescent_ProjURefIdeal [hProjURefIdeal : Cert.ProjURefIdeal.Facts] : Prop :=
  ∀ (m : (ℓ : Loc Cert.ProjURefIdeal.nD Cert.ProjURefIdeal.τ Cert.ProjURefIdeal.sig) → Buf (Elt Ideal) ℓ) (g : Dev Cert.ProjURefIdeal.nD → PrngReg), Pre_ProjURefIdeal m →
    θ_run (Cert.ProjURefIdeal.defs (F := Ideal)) (onTc (τ := Cert.ProjURefIdeal.τ) (Cert.ProjURefIdeal.main (F := Ideal))) ⟨m, fun _ => 0, g⟩ (fun r => (∀ c : Dev Cert.ProjURefIdeal.nD,
      r.2.mem ((c.tc : Thread Cert.ProjURefIdeal.nD Cert.ProjURefIdeal.τ).loc Cert.ProjURefIdeal.main_arg0) = m ((c.tc : Thread Cert.ProjURefIdeal.nD Cert.ProjURefIdeal.τ).loc Cert.ProjURefIdeal.main_arg0)
      ∧ r.2.mem ((c.tc : Thread Cert.ProjURefIdeal.nD Cert.ProjURefIdeal.τ).loc Cert.ProjURefIdeal.main_arg1) = m ((c.tc : Thread Cert.ProjURefIdeal.nD Cert.ProjURefIdeal.τ).loc Cert.ProjURefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OptGlu [hOptGlu : Cert.OptGlu.Facts] : Prop :=
  ∀ (m : (ℓ : Loc Cert.OptGlu.nD Cert.OptGlu.τ Cert.OptGlu.sig) → Buf (Elt Bits) ℓ) (g : Dev Cert.OptGlu.nD → PrngReg), Pre_OptGlu m →
    θ_run (Cert.OptGlu.defs (F := Bits)) (onTc (τ := Cert.OptGlu.τ) (Cert.OptGlu.main (F := Bits))) ⟨m, fun _ => 0, g⟩ (fun r => (∀ c : Dev Cert.OptGlu.nD,
      r.2.mem ((c.tc : Thread Cert.OptGlu.nD Cert.OptGlu.τ).loc Cert.OptGlu.main_arg0) = m ((c.tc : Thread Cert.OptGlu.nD Cert.OptGlu.τ).loc Cert.OptGlu.main_arg0)
      ∧ r.2.mem ((c.tc : Thread Cert.OptGlu.nD Cert.OptGlu.τ).loc Cert.OptGlu.main_arg1) = m ((c.tc : Thread Cert.OptGlu.nD Cert.OptGlu.τ).loc Cert.OptGlu.main_arg1)
      ∧ r.2.mem ((c.tc : Thread Cert.OptGlu.nD Cert.OptGlu.τ).loc Cert.OptGlu.main_arg2) = m ((c.tc : Thread Cert.OptGlu.nD Cert.OptGlu.τ).loc Cert.OptGlu.main_arg2)
      ∧ r.2.mem ((c.tc : Thread Cert.OptGlu.nD Cert.OptGlu.τ).loc Cert.OptGlu.main_arg3) = m ((c.tc : Thread Cert.OptGlu.nD Cert.OptGlu.τ).loc Cert.OptGlu.main_arg3))
      ∧ r.2.sem = fun _ => 0)

def quiescent_OptGluIdeal [hOptGluIdeal : Cert.OptGluIdeal.Facts] : Prop :=
  ∀ (m : (ℓ : Loc Cert.OptGluIdeal.nD Cert.OptGluIdeal.τ Cert.OptGluIdeal.sig) → Buf (Elt Ideal) ℓ) (g : Dev Cert.OptGluIdeal.nD → PrngReg), Pre_OptGluIdeal m →
    θ_run (Cert.OptGluIdeal.defs (F := Ideal)) (onTc (τ := Cert.OptGluIdeal.τ) (Cert.OptGluIdeal.main (F := Ideal))) ⟨m, fun _ => 0, g⟩ (fun r => (∀ c : Dev Cert.OptGluIdeal.nD,
      r.2.mem ((c.tc : Thread Cert.OptGluIdeal.nD Cert.OptGluIdeal.τ).loc Cert.OptGluIdeal.main_arg0) = m ((c.tc : Thread Cert.OptGluIdeal.nD Cert.OptGluIdeal.τ).loc Cert.OptGluIdeal.main_arg0)
      ∧ r.2.mem ((c.tc : Thread Cert.OptGluIdeal.nD Cert.OptGluIdeal.τ).loc Cert.OptGluIdeal.main_arg1) = m ((c.tc : Thread Cert.OptGluIdeal.nD Cert.OptGluIdeal.τ).loc Cert.OptGluIdeal.main_arg1)
      ∧ r.2.mem ((c.tc : Thread Cert.OptGluIdeal.nD Cert.OptGluIdeal.τ).loc Cert.OptGluIdeal.main_arg2) = m ((c.tc : Thread Cert.OptGluIdeal.nD Cert.OptGluIdeal.τ).loc Cert.OptGluIdeal.main_arg2)
      ∧ r.2.mem ((c.tc : Thread Cert.OptGluIdeal.nD Cert.OptGluIdeal.τ).loc Cert.OptGluIdeal.main_arg3) = m ((c.tc : Thread Cert.OptGluIdeal.nD Cert.OptGluIdeal.τ).loc Cert.OptGluIdeal.main_arg3))
      ∧ r.2.sem = fun _ => 0)

def quiescent_OptGluRefIdeal [hOptGluRefIdeal : Cert.OptGluRefIdeal.Facts] : Prop :=
  ∀ (m : (ℓ : Loc Cert.OptGluRefIdeal.nD Cert.OptGluRefIdeal.τ Cert.OptGluRefIdeal.sig) → Buf (Elt Ideal) ℓ) (g : Dev Cert.OptGluRefIdeal.nD → PrngReg), Pre_OptGluRefIdeal m →
    θ_run (Cert.OptGluRefIdeal.defs (F := Ideal)) (onTc (τ := Cert.OptGluRefIdeal.τ) (Cert.OptGluRefIdeal.main (F := Ideal))) ⟨m, fun _ => 0, g⟩ (fun r => (∀ c : Dev Cert.OptGluRefIdeal.nD,
      r.2.mem ((c.tc : Thread Cert.OptGluRefIdeal.nD Cert.OptGluRefIdeal.τ).loc Cert.OptGluRefIdeal.main_arg0) = m ((c.tc : Thread Cert.OptGluRefIdeal.nD Cert.OptGluRefIdeal.τ).loc Cert.OptGluRefIdeal.main_arg0)
      ∧ r.2.mem ((c.tc : Thread Cert.OptGluRefIdeal.nD Cert.OptGluRefIdeal.τ).loc Cert.OptGluRefIdeal.main_arg1) = m ((c.tc : Thread Cert.OptGluRefIdeal.nD Cert.OptGluRefIdeal.τ).loc Cert.OptGluRefIdeal.main_arg1)
      ∧ r.2.mem ((c.tc : Thread Cert.OptGluRefIdeal.nD Cert.OptGluRefIdeal.τ).loc Cert.OptGluRefIdeal.main_arg2) = m ((c.tc : Thread Cert.OptGluRefIdeal.nD Cert.OptGluRefIdeal.τ).loc Cert.OptGluRefIdeal.main_arg2)
      ∧ r.2.mem ((c.tc : Thread Cert.OptGluRefIdeal.nD Cert.OptGluRefIdeal.τ).loc Cert.OptGluRefIdeal.main_arg3) = m ((c.tc : Thread Cert.OptGluRefIdeal.nD Cert.OptGluRefIdeal.τ).loc Cert.OptGluRefIdeal.main_arg3))
      ∧ r.2.sem = fun _ => 0)

def quiescent_OptMeta [hOptMeta : Cert.OptMeta.Facts] : Prop :=
  ∀ (m : (ℓ : Loc Cert.OptMeta.nD Cert.OptMeta.τ Cert.OptMeta.sig) → Buf (Elt Bits) ℓ) (g : Dev Cert.OptMeta.nD → PrngReg), Pre_OptMeta m →
    θ_run (Cert.OptMeta.defs (F := Bits)) (onTc (τ := Cert.OptMeta.τ) (Cert.OptMeta.main (F := Bits))) ⟨m, fun _ => 0, g⟩ (fun r => (∀ c : Dev Cert.OptMeta.nD,
      r.2.mem ((c.tc : Thread Cert.OptMeta.nD Cert.OptMeta.τ).loc Cert.OptMeta.main_arg0) = m ((c.tc : Thread Cert.OptMeta.nD Cert.OptMeta.τ).loc Cert.OptMeta.main_arg0)
      ∧ r.2.mem ((c.tc : Thread Cert.OptMeta.nD Cert.OptMeta.τ).loc Cert.OptMeta.main_arg1) = m ((c.tc : Thread Cert.OptMeta.nD Cert.OptMeta.τ).loc Cert.OptMeta.main_arg1)
      ∧ r.2.mem ((c.tc : Thread Cert.OptMeta.nD Cert.OptMeta.τ).loc Cert.OptMeta.main_arg2) = m ((c.tc : Thread Cert.OptMeta.nD Cert.OptMeta.τ).loc Cert.OptMeta.main_arg2)
      ∧ r.2.mem ((c.tc : Thread Cert.OptMeta.nD Cert.OptMeta.τ).loc Cert.OptMeta.main_arg3) = m ((c.tc : Thread Cert.OptMeta.nD Cert.OptMeta.τ).loc Cert.OptMeta.main_arg3))
      ∧ r.2.sem = fun _ => 0)

def quiescent_OptMetaIdeal [hOptMetaIdeal : Cert.OptMetaIdeal.Facts] : Prop :=
  ∀ (m : (ℓ : Loc Cert.OptMetaIdeal.nD Cert.OptMetaIdeal.τ Cert.OptMetaIdeal.sig) → Buf (Elt Ideal) ℓ) (g : Dev Cert.OptMetaIdeal.nD → PrngReg), Pre_OptMetaIdeal m →
    θ_run (Cert.OptMetaIdeal.defs (F := Ideal)) (onTc (τ := Cert.OptMetaIdeal.τ) (Cert.OptMetaIdeal.main (F := Ideal))) ⟨m, fun _ => 0, g⟩ (fun r => (∀ c : Dev Cert.OptMetaIdeal.nD,
      r.2.mem ((c.tc : Thread Cert.OptMetaIdeal.nD Cert.OptMetaIdeal.τ).loc Cert.OptMetaIdeal.main_arg0) = m ((c.tc : Thread Cert.OptMetaIdeal.nD Cert.OptMetaIdeal.τ).loc Cert.OptMetaIdeal.main_arg0)
      ∧ r.2.mem ((c.tc : Thread Cert.OptMetaIdeal.nD Cert.OptMetaIdeal.τ).loc Cert.OptMetaIdeal.main_arg1) = m ((c.tc : Thread Cert.OptMetaIdeal.nD Cert.OptMetaIdeal.τ).loc Cert.OptMetaIdeal.main_arg1)
      ∧ r.2.mem ((c.tc : Thread Cert.OptMetaIdeal.nD Cert.OptMetaIdeal.τ).loc Cert.OptMetaIdeal.main_arg2) = m ((c.tc : Thread Cert.OptMetaIdeal.nD Cert.OptMetaIdeal.τ).loc Cert.OptMetaIdeal.main_arg2)
      ∧ r.2.mem ((c.tc : Thread Cert.OptMetaIdeal.nD Cert.OptMetaIdeal.τ).loc Cert.OptMetaIdeal.main_arg3) = m ((c.tc : Thread Cert.OptMetaIdeal.nD Cert.OptMetaIdeal.τ).loc Cert.OptMetaIdeal.main_arg3))
      ∧ r.2.sem = fun _ => 0)

def quiescent_OptMetaRefIdeal [hOptMetaRefIdeal : Cert.OptMetaRefIdeal.Facts] : Prop :=
  ∀ (m : (ℓ : Loc Cert.OptMetaRefIdeal.nD Cert.OptMetaRefIdeal.τ Cert.OptMetaRefIdeal.sig) → Buf (Elt Ideal) ℓ) (g : Dev Cert.OptMetaRefIdeal.nD → PrngReg), Pre_OptMetaRefIdeal m →
    θ_run (Cert.OptMetaRefIdeal.defs (F := Ideal)) (onTc (τ := Cert.OptMetaRefIdeal.τ) (Cert.OptMetaRefIdeal.main (F := Ideal))) ⟨m, fun _ => 0, g⟩ (fun r => (∀ c : Dev Cert.OptMetaRefIdeal.nD,
      r.2.mem ((c.tc : Thread Cert.OptMetaRefIdeal.nD Cert.OptMetaRefIdeal.τ).loc Cert.OptMetaRefIdeal.main_arg0) = m ((c.tc : Thread Cert.OptMetaRefIdeal.nD Cert.OptMetaRefIdeal.τ).loc Cert.OptMetaRefIdeal.main_arg0)
      ∧ r.2.mem ((c.tc : Thread Cert.OptMetaRefIdeal.nD Cert.OptMetaRefIdeal.τ).loc Cert.OptMetaRefIdeal.main_arg1) = m ((c.tc : Thread Cert.OptMetaRefIdeal.nD Cert.OptMetaRefIdeal.τ).loc Cert.OptMetaRefIdeal.main_arg1)
      ∧ r.2.mem ((c.tc : Thread Cert.OptMetaRefIdeal.nD Cert.OptMetaRefIdeal.τ).loc Cert.OptMetaRefIdeal.main_arg2) = m ((c.tc : Thread Cert.OptMetaRefIdeal.nD Cert.OptMetaRefIdeal.τ).loc Cert.OptMetaRefIdeal.main_arg2)
      ∧ r.2.mem ((c.tc : Thread Cert.OptMetaRefIdeal.nD Cert.OptMetaRefIdeal.τ).loc Cert.OptMetaRefIdeal.main_arg3) = m ((c.tc : Thread Cert.OptMetaRefIdeal.nD Cert.OptMetaRefIdeal.τ).loc Cert.OptMetaRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2)
      ∧ r.2.mem ((c.tc : Thread Cert.SumIn.nD Cert.SumIn.τ).loc Cert.SumIn.main_arg3) = m ((c.tc : Thread Cert.SumIn.nD Cert.SumIn.τ).loc Cert.SumIn.main_arg3)
      ∧ r.2.mem ((c.tc : Thread Cert.SumIn.nD Cert.SumIn.τ).loc Cert.SumIn.main_arg4) = m ((c.tc : Thread Cert.SumIn.nD Cert.SumIn.τ).loc Cert.SumIn.main_arg4))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
      ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3)
      ∧ r.2.mem ((c.tc : Thread Cert.SumInIdeal.nD Cert.SumInIdeal.τ).loc Cert.SumInIdeal.main_arg4) = m ((c.tc : Thread Cert.SumInIdeal.nD Cert.SumInIdeal.τ).loc Cert.SumInIdeal.main_arg4))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2)
      ∧ r.2.mem ((c.tc : Thread Cert.SumInRefIdeal.nD Cert.SumInRefIdeal.τ).loc Cert.SumInRefIdeal.main_arg3) = m ((c.tc : Thread Cert.SumInRefIdeal.nD Cert.SumInRefIdeal.τ).loc Cert.SumInRefIdeal.main_arg3)
      ∧ r.2.mem ((c.tc : Thread Cert.SumInRefIdeal.nD Cert.SumInRefIdeal.τ).loc Cert.SumInRefIdeal.main_arg4) = m ((c.tc : Thread Cert.SumInRefIdeal.nD Cert.SumInRefIdeal.τ).loc Cert.SumInRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Feed_FeedIdeal : Prop :=
  True

def algebraic_FeedIdeal_FeedRefIdeal_pre_finite_ff [hFeedIdeal : Cert.FeedIdeal.Facts] [hFeedRefIdeal : Cert.FeedRefIdeal.Facts] [hPre_finite_ff : Cert.Pre_finite_ff.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedRefIdeal.nD Cert.FeedRefIdeal.τ Cert.FeedRefIdeal.sig) → Buf (Elt Ideal) ℓ) (g' : Dev Cert.FeedRefIdeal.nD → PrngReg), Pre_FeedIdeal_finite_ff m →
    (∀ c : Dev Cert.FeedIdeal.nD,
      m' ((c.tc : Thread Cert.FeedRefIdeal.nD Cert.FeedRefIdeal.τ).loc Cert.FeedRefIdeal.main_arg0) = m ((c.tc : Thread Cert.FeedIdeal.nD Cert.FeedIdeal.τ).loc Cert.FeedIdeal.main_arg0)
      ∧ m' ((c.tc : Thread Cert.FeedRefIdeal.nD Cert.FeedRefIdeal.τ).loc Cert.FeedRefIdeal.main_arg1) = m ((c.tc : Thread Cert.FeedIdeal.nD Cert.FeedIdeal.τ).loc Cert.FeedIdeal.main_arg1)
      ∧ m' ((c.tc : Thread Cert.FeedRefIdeal.nD Cert.FeedRefIdeal.τ).loc Cert.FeedRefIdeal.main_arg2) = m ((c.tc : Thread Cert.FeedIdeal.nD Cert.FeedIdeal.τ).loc Cert.FeedIdeal.main_arg2)
      ∧ m' ((c.tc : Thread Cert.FeedRefIdeal.nD Cert.FeedRefIdeal.τ).loc Cert.FeedRefIdeal.main_arg3) = m ((c.tc : Thread Cert.FeedIdeal.nD Cert.FeedIdeal.τ).loc Cert.FeedIdeal.main_arg3)
      ∧ m' ((c.tc : Thread Cert.FeedRefIdeal.nD Cert.FeedRefIdeal.τ).loc Cert.FeedRefIdeal.main_arg4) = m ((c.tc : Thread Cert.FeedIdeal.nD Cert.FeedIdeal.τ).loc Cert.FeedIdeal.main_arg4)) →
    ∃ (v0 : (c : Dev Cert.FeedIdeal.nD) → Buf (Elt Ideal) ((c.tc : Thread Cert.FeedIdeal.nD Cert.FeedIdeal.τ).loc Cert.FeedIdeal.main_v11)) (v1 : (c : Dev Cert.FeedIdeal.nD) → Buf (Elt Ideal) ((c.tc : Thread Cert.FeedIdeal.nD Cert.FeedIdeal.τ).loc Cert.FeedIdeal.main_v13_0)) (v2 : (c : Dev Cert.FeedIdeal.nD) → Buf (Elt Ideal) ((c.tc : Thread Cert.FeedIdeal.nD Cert.FeedIdeal.τ).loc Cert.FeedIdeal.main_v21)) (v3 : (c : Dev Cert.FeedIdeal.nD) → Buf (Elt Ideal) ((c.tc : Thread Cert.FeedIdeal.nD Cert.FeedIdeal.τ).loc Cert.FeedIdeal.main_v15)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v11) = v0 c
          ∧ r.2.mem ((c.tc : Thread Cert.FeedIdeal.nD Cert.FeedIdeal.τ).loc Cert.FeedIdeal.main_v13_0) = v1 c
          ∧ r.2.mem ((c.tc : Thread Cert.FeedIdeal.nD Cert.FeedIdeal.τ).loc Cert.FeedIdeal.main_v21) = v2 c
          ∧ r.2.mem ((c.tc : Thread Cert.FeedIdeal.nD Cert.FeedIdeal.τ).loc Cert.FeedIdeal.main_v15) = v3 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ θ_run (Cert.FeedRefIdeal.defs (F := Ideal)) (onTc (τ := Cert.FeedRefIdeal.τ) (Cert.FeedRefIdeal.main (F := Ideal))) ⟨m', fun _ => 0, g'⟩ (fun r => ∀ c : Dev Cert.FeedRefIdeal.nD,
          r.2.mem ((c.tc : Thread Cert.FeedRefIdeal.nD Cert.FeedRefIdeal.τ).loc Cert.FeedRefIdeal.main_v28) = v0 c
          ∧ r.2.mem ((c.tc : Thread Cert.FeedRefIdeal.nD Cert.FeedRefIdeal.τ).loc Cert.FeedRefIdeal.main_v16) = v1 c
          ∧ r.2.mem ((c.tc : Thread Cert.FeedRefIdeal.nD Cert.FeedRefIdeal.τ).loc Cert.FeedRefIdeal.main_v26) = v2 c
          ∧ r.2.mem ((c.tc : Thread Cert.FeedRefIdeal.nD Cert.FeedRefIdeal.τ).loc Cert.FeedRefIdeal.main_v29) = v3 c
          ∧ r.2.mem ((c.tc : Thread Cert.FeedRefIdeal.nD Cert.FeedRefIdeal.τ).loc Cert.FeedRefIdeal.main_arg0) = m' ((c.tc : Thread Cert.FeedRefIdeal.nD Cert.FeedRefIdeal.τ).loc Cert.FeedRefIdeal.main_arg0)
          ∧ r.2.mem ((c.tc : Thread Cert.FeedRefIdeal.nD Cert.FeedRefIdeal.τ).loc Cert.FeedRefIdeal.main_arg1) = m' ((c.tc : Thread Cert.FeedRefIdeal.nD Cert.FeedRefIdeal.τ).loc Cert.FeedRefIdeal.main_arg1)
          ∧ r.2.mem ((c.tc : Thread Cert.FeedRefIdeal.nD Cert.FeedRefIdeal.τ).loc Cert.FeedRefIdeal.main_arg2) = m' ((c.tc : Thread Cert.FeedRefIdeal.nD Cert.FeedRefIdeal.τ).loc Cert.FeedRefIdeal.main_arg2)
          ∧ r.2.mem ((c.tc : Thread Cert.FeedRefIdeal.nD Cert.FeedRefIdeal.τ).loc Cert.FeedRefIdeal.main_arg3) = m' ((c.tc : Thread Cert.FeedRefIdeal.nD Cert.FeedRefIdeal.τ).loc Cert.FeedRefIdeal.main_arg3)
          ∧ r.2.mem ((c.tc : Thread Cert.FeedRefIdeal.nD Cert.FeedRefIdeal.τ).loc Cert.FeedRefIdeal.main_arg4) = m' ((c.tc : Thread Cert.FeedRefIdeal.nD Cert.FeedRefIdeal.τ).loc Cert.FeedRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v7)) (v1 : (c : Dev Cert.ProjIdeal.nD) → Buf (Elt Ideal) ((c.tc : Thread Cert.ProjIdeal.nD Cert.ProjIdeal.τ).loc Cert.ProjIdeal.main_v12)) (v2 : (c : Dev Cert.ProjIdeal.nD) → Buf (Elt Ideal) ((c.tc : Thread Cert.ProjIdeal.nD Cert.ProjIdeal.τ).loc Cert.ProjIdeal.main_v11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_v12) = v1 c
          ∧ r.2.mem ((c.tc : Thread Cert.ProjIdeal.nD Cert.ProjIdeal.τ).loc Cert.ProjIdeal.main_v11) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v6) = v1 c
          ∧ r.2.mem ((c.tc : Thread Cert.ProjRefIdeal.nD Cert.ProjRefIdeal.τ).loc Cert.ProjRefIdeal.main_v8) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_ProjU_ProjUIdeal : Prop :=
  True

def algebraic_ProjUIdeal_ProjURefIdeal [hProjUIdeal : Cert.ProjUIdeal.Facts] [hProjURefIdeal : Cert.ProjURefIdeal.Facts] : Prop :=
  ∀ (m : (ℓ : Loc Cert.ProjUIdeal.nD Cert.ProjUIdeal.τ Cert.ProjUIdeal.sig) → Buf (Elt Ideal) ℓ) (g : Dev Cert.ProjUIdeal.nD → PrngReg)
    (m' : (ℓ : Loc Cert.ProjURefIdeal.nD Cert.ProjURefIdeal.τ Cert.ProjURefIdeal.sig) → Buf (Elt Ideal) ℓ) (g' : Dev Cert.ProjURefIdeal.nD → PrngReg), Pre_ProjUIdeal m →
    (∀ c : Dev Cert.ProjUIdeal.nD,
      m' ((c.tc : Thread Cert.ProjURefIdeal.nD Cert.ProjURefIdeal.τ).loc Cert.ProjURefIdeal.main_arg0) = m ((c.tc : Thread Cert.ProjUIdeal.nD Cert.ProjUIdeal.τ).loc Cert.ProjUIdeal.main_arg0)
      ∧ m' ((c.tc : Thread Cert.ProjURefIdeal.nD Cert.ProjURefIdeal.τ).loc Cert.ProjURefIdeal.main_arg1) = m ((c.tc : Thread Cert.ProjUIdeal.nD Cert.ProjUIdeal.τ).loc Cert.ProjUIdeal.main_arg1)) →
    ∃ (v0 : (c : Dev Cert.ProjUIdeal.nD) → Buf (Elt Ideal) ((c.tc : Thread Cert.ProjUIdeal.nD Cert.ProjUIdeal.τ).loc Cert.ProjUIdeal.main_v7)),
      θ_run (Cert.ProjUIdeal.defs (F := Ideal)) (onTc (τ := Cert.ProjUIdeal.τ) (Cert.ProjUIdeal.main (F := Ideal))) ⟨m, fun _ => 0, g⟩ (fun r => ∀ c : Dev Cert.ProjUIdeal.nD,
          r.2.mem ((c.tc : Thread Cert.ProjUIdeal.nD Cert.ProjUIdeal.τ).loc Cert.ProjUIdeal.main_v7) = v0 c
          ∧ r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
          ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ θ_run (Cert.ProjURefIdeal.defs (F := Ideal)) (onTc (τ := Cert.ProjURefIdeal.τ) (Cert.ProjURefIdeal.main (F := Ideal))) ⟨m', fun _ => 0, g'⟩ (fun r => ∀ c : Dev Cert.ProjURefIdeal.nD,
          r.2.mem ((c.tc : Thread Cert.ProjURefIdeal.nD Cert.ProjURefIdeal.τ).loc Cert.ProjURefIdeal.main_v2) = v0 c
          ∧ r.2.mem ((c.tc : Thread Cert.ProjURefIdeal.nD Cert.ProjURefIdeal.τ).loc Cert.ProjURefIdeal.main_arg0) = m' ((c.tc : Thread Cert.ProjURefIdeal.nD Cert.ProjURefIdeal.τ).loc Cert.ProjURefIdeal.main_arg0)
          ∧ r.2.mem ((c.tc : Thread Cert.ProjURefIdeal.nD Cert.ProjURefIdeal.τ).loc Cert.ProjURefIdeal.main_arg1) = m' ((c.tc : Thread Cert.ProjURefIdeal.nD Cert.ProjURefIdeal.τ).loc Cert.ProjURefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v7)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v7) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v7)) (v1 : (c : Dev Cert.MixIdeal.nD) → Buf (Elt Ideal) ((c.tc : Thread Cert.MixIdeal.nD Cert.MixIdeal.τ).loc Cert.MixIdeal.main_v8_0)) (v2 : (c : Dev Cert.MixIdeal.nD) → Buf (Elt Ideal) ((c.tc : Thread Cert.MixIdeal.nD Cert.MixIdeal.τ).loc Cert.MixIdeal.main_v8_1)) (v3 : (c : Dev Cert.MixIdeal.nD) → Buf (Elt Ideal) ((c.tc : Thread Cert.MixIdeal.nD Cert.MixIdeal.τ).loc Cert.MixIdeal.main_v9)) (v4 : (c : Dev Cert.MixIdeal.nD) → Buf (Elt Ideal) ((c.tc : Thread Cert.MixIdeal.nD Cert.MixIdeal.τ).loc Cert.MixIdeal.main_v10_0)) (v5 : (c : Dev Cert.MixIdeal.nD) → Buf (Elt Ideal) ((c.tc : Thread Cert.MixIdeal.nD Cert.MixIdeal.τ).loc Cert.MixIdeal.main_v11)) (v6 : (c : Dev Cert.MixIdeal.nD) → Buf (Elt Ideal) ((c.tc : Thread Cert.MixIdeal.nD Cert.MixIdeal.τ).loc Cert.MixIdeal.main_v13)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_v8_0) = v1 c
          ∧ r.2.mem ((c.tc : Thread Cert.MixIdeal.nD Cert.MixIdeal.τ).loc Cert.MixIdeal.main_v8_1) = v2 c
          ∧ r.2.mem ((c.tc : Thread Cert.MixIdeal.nD Cert.MixIdeal.τ).loc Cert.MixIdeal.main_v9) = v3 c
          ∧ r.2.mem ((c.tc : Thread Cert.MixIdeal.nD Cert.MixIdeal.τ).loc Cert.MixIdeal.main_v10_0) = v4 c
          ∧ r.2.mem ((c.tc : Thread Cert.MixIdeal.nD Cert.MixIdeal.τ).loc Cert.MixIdeal.main_v11) = v5 c
          ∧ r.2.mem ((c.tc : Thread Cert.MixIdeal.nD Cert.MixIdeal.τ).loc Cert.MixIdeal.main_v13) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v21) = v0 c
          ∧ r.2.mem ((c.tc : Thread Cert.MixRefIdeal.nD Cert.MixRefIdeal.τ).loc Cert.MixRefIdeal.main_v5) = v1 c
          ∧ r.2.mem ((c.tc : Thread Cert.MixRefIdeal.nD Cert.MixRefIdeal.τ).loc Cert.MixRefIdeal.main_v22) = v2 c
          ∧ r.2.mem ((c.tc : Thread Cert.MixRefIdeal.nD Cert.MixRefIdeal.τ).loc Cert.MixRefIdeal.main_v23) = v3 c
          ∧ r.2.mem ((c.tc : Thread Cert.MixRefIdeal.nD Cert.MixRefIdeal.τ).loc Cert.MixRefIdeal.main_v7) = v4 c
          ∧ r.2.mem ((c.tc : Thread Cert.MixRefIdeal.nD Cert.MixRefIdeal.τ).loc Cert.MixRefIdeal.main_v24) = v5 c
          ∧ r.2.mem ((c.tc : Thread Cert.MixRefIdeal.nD Cert.MixRefIdeal.τ).loc Cert.MixRefIdeal.main_v2) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v34) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_v17) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)) (v2 : (c : Dev Cert.MergeIdeal.nD) → Buf (Elt Ideal) ((c.tc : Thread Cert.MergeIdeal.nD Cert.MergeIdeal.τ).loc Cert.MergeIdeal.main_v4)) (v3 : (c : Dev Cert.MergeIdeal.nD) → Buf (Elt Ideal) ((c.tc : Thread Cert.MergeIdeal.nD Cert.MergeIdeal.τ).loc Cert.MergeIdeal.main_v3_3)) (v4 : (c : Dev Cert.MergeIdeal.nD) → Buf (Elt Ideal) ((c.tc : Thread Cert.MergeIdeal.nD Cert.MergeIdeal.τ).loc Cert.MergeIdeal.main_v3_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_v4) = v2 c
          ∧ r.2.mem ((c.tc : Thread Cert.MergeIdeal.nD Cert.MergeIdeal.τ).loc Cert.MergeIdeal.main_v3_3) = v3 c
          ∧ r.2.mem ((c.tc : Thread Cert.MergeIdeal.nD Cert.MergeIdeal.τ).loc Cert.MergeIdeal.main_v3_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v116) = v0 c
          ∧ r.2.mem ((c.tc : Thread Cert.MergeRefIdeal.nD Cert.MergeRefIdeal.τ).loc Cert.MergeRefIdeal.main_v117) = v1 c
          ∧ r.2.mem ((c.tc : Thread Cert.MergeRefIdeal.nD Cert.MergeRefIdeal.τ).loc Cert.MergeRefIdeal.main_v118) = v2 c
          ∧ r.2.mem ((c.tc : Thread Cert.MergeRefIdeal.nD Cert.MergeRefIdeal.τ).loc Cert.MergeRefIdeal.main_v93) = v3 c
          ∧ r.2.mem ((c.tc : Thread Cert.MergeRefIdeal.nD Cert.MergeRefIdeal.τ).loc Cert.MergeRefIdeal.main_v71) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OptGlu_OptGluIdeal : Prop :=
  True

def algebraic_OptGluIdeal_OptGluRefIdeal [hOptGluIdeal : Cert.OptGluIdeal.Facts] [hOptGluRefIdeal : Cert.OptGluRefIdeal.Facts] : Prop :=
  ∀ (m : (ℓ : Loc Cert.OptGluIdeal.nD Cert.OptGluIdeal.τ Cert.OptGluIdeal.sig) → Buf (Elt Ideal) ℓ) (g : Dev Cert.OptGluIdeal.nD → PrngReg)
    (m' : (ℓ : Loc Cert.OptGluRefIdeal.nD Cert.OptGluRefIdeal.τ Cert.OptGluRefIdeal.sig) → Buf (Elt Ideal) ℓ) (g' : Dev Cert.OptGluRefIdeal.nD → PrngReg), Pre_OptGluIdeal m →
    (∀ c : Dev Cert.OptGluIdeal.nD,
      m' ((c.tc : Thread Cert.OptGluRefIdeal.nD Cert.OptGluRefIdeal.τ).loc Cert.OptGluRefIdeal.main_arg0) = m ((c.tc : Thread Cert.OptGluIdeal.nD Cert.OptGluIdeal.τ).loc Cert.OptGluIdeal.main_arg0)
      ∧ m' ((c.tc : Thread Cert.OptGluRefIdeal.nD Cert.OptGluRefIdeal.τ).loc Cert.OptGluRefIdeal.main_arg1) = m ((c.tc : Thread Cert.OptGluIdeal.nD Cert.OptGluIdeal.τ).loc Cert.OptGluIdeal.main_arg1)
      ∧ m' ((c.tc : Thread Cert.OptGluRefIdeal.nD Cert.OptGluRefIdeal.τ).loc Cert.OptGluRefIdeal.main_arg2) = m ((c.tc : Thread Cert.OptGluIdeal.nD Cert.OptGluIdeal.τ).loc Cert.OptGluIdeal.main_arg2)
      ∧ m' ((c.tc : Thread Cert.OptGluRefIdeal.nD Cert.OptGluRefIdeal.τ).loc Cert.OptGluRefIdeal.main_arg3) = m ((c.tc : Thread Cert.OptGluIdeal.nD Cert.OptGluIdeal.τ).loc Cert.OptGluIdeal.main_arg3)) →
    ∃ (v0 : (c : Dev Cert.OptGluIdeal.nD) → Buf (Elt Ideal) ((c.tc : Thread Cert.OptGluIdeal.nD Cert.OptGluIdeal.τ).loc Cert.OptGluIdeal.main_v0_0)) (v1 : (c : Dev Cert.OptGluIdeal.nD) → Buf (Elt Ideal) ((c.tc : Thread Cert.OptGluIdeal.nD Cert.OptGluIdeal.τ).loc Cert.OptGluIdeal.main_v0_1)) (v2 : (c : Dev Cert.OptGluIdeal.nD) → Buf (Elt Ideal) ((c.tc : Thread Cert.OptGluIdeal.nD Cert.OptGluIdeal.τ).loc Cert.OptGluIdeal.main_v0_2)),
      θ_run (Cert.OptGluIdeal.defs (F := Ideal)) (onTc (τ := Cert.OptGluIdeal.τ) (Cert.OptGluIdeal.main (F := Ideal))) ⟨m, fun _ => 0, g⟩ (fun r => ∀ c : Dev Cert.OptGluIdeal.nD,
          r.2.mem ((c.tc : Thread Cert.OptGluIdeal.nD Cert.OptGluIdeal.τ).loc Cert.OptGluIdeal.main_v0_0) = v0 c
          ∧ r.2.mem ((c.tc : Thread Cert.OptGluIdeal.nD Cert.OptGluIdeal.τ).loc Cert.OptGluIdeal.main_v0_1) = v1 c
          ∧ r.2.mem ((c.tc : Thread Cert.OptGluIdeal.nD Cert.OptGluIdeal.τ).loc Cert.OptGluIdeal.main_v0_2) = v2 c
          ∧ r.2.mem ((c.tc : Thread Cert.OptGluIdeal.nD Cert.OptGluIdeal.τ).loc Cert.OptGluIdeal.main_arg0) = m ((c.tc : Thread Cert.OptGluIdeal.nD Cert.OptGluIdeal.τ).loc Cert.OptGluIdeal.main_arg0)
          ∧ r.2.mem ((c.tc : Thread Cert.OptGluIdeal.nD Cert.OptGluIdeal.τ).loc Cert.OptGluIdeal.main_arg1) = m ((c.tc : Thread Cert.OptGluIdeal.nD Cert.OptGluIdeal.τ).loc Cert.OptGluIdeal.main_arg1)
          ∧ r.2.mem ((c.tc : Thread Cert.OptGluIdeal.nD Cert.OptGluIdeal.τ).loc Cert.OptGluIdeal.main_arg2) = m ((c.tc : Thread Cert.OptGluIdeal.nD Cert.OptGluIdeal.τ).loc Cert.OptGluIdeal.main_arg2)
          ∧ r.2.mem ((c.tc : Thread Cert.OptGluIdeal.nD Cert.OptGluIdeal.τ).loc Cert.OptGluIdeal.main_arg3) = m ((c.tc : Thread Cert.OptGluIdeal.nD Cert.OptGluIdeal.τ).loc Cert.OptGluIdeal.main_arg3))
      ∧ θ_run (Cert.OptGluRefIdeal.defs (F := Ideal)) (onTc (τ := Cert.OptGluRefIdeal.τ) (Cert.OptGluRefIdeal.main (F := Ideal))) ⟨m', fun _ => 0, g'⟩ (fun r => ∀ c : Dev Cert.OptGluRefIdeal.nD,
          r.2.mem ((c.tc : Thread Cert.OptGluRefIdeal.nD Cert.OptGluRefIdeal.τ).loc Cert.OptGluRefIdeal.main_v23) = v0 c
          ∧ r.2.mem ((c.tc : Thread Cert.OptGluRefIdeal.nD Cert.OptGluRefIdeal.τ).loc Cert.OptGluRefIdeal.main_v4) = v1 c
          ∧ r.2.mem ((c.tc : Thread Cert.OptGluRefIdeal.nD Cert.OptGluRefIdeal.τ).loc Cert.OptGluRefIdeal.main_v10) = v2 c
          ∧ r.2.mem ((c.tc : Thread Cert.OptGluRefIdeal.nD Cert.OptGluRefIdeal.τ).loc Cert.OptGluRefIdeal.main_arg0) = m' ((c.tc : Thread Cert.OptGluRefIdeal.nD Cert.OptGluRefIdeal.τ).loc Cert.OptGluRefIdeal.main_arg0)
          ∧ r.2.mem ((c.tc : Thread Cert.OptGluRefIdeal.nD Cert.OptGluRefIdeal.τ).loc Cert.OptGluRefIdeal.main_arg1) = m' ((c.tc : Thread Cert.OptGluRefIdeal.nD Cert.OptGluRefIdeal.τ).loc Cert.OptGluRefIdeal.main_arg1)
          ∧ r.2.mem ((c.tc : Thread Cert.OptGluRefIdeal.nD Cert.OptGluRefIdeal.τ).loc Cert.OptGluRefIdeal.main_arg2) = m' ((c.tc : Thread Cert.OptGluRefIdeal.nD Cert.OptGluRefIdeal.τ).loc Cert.OptGluRefIdeal.main_arg2)
          ∧ r.2.mem ((c.tc : Thread Cert.OptGluRefIdeal.nD Cert.OptGluRefIdeal.τ).loc Cert.OptGluRefIdeal.main_arg3) = m' ((c.tc : Thread Cert.OptGluRefIdeal.nD Cert.OptGluRefIdeal.τ).loc Cert.OptGluRefIdeal.main_arg3))

def preserves_OptMeta_OptMetaIdeal : Prop :=
  True

def algebraic_OptMetaIdeal_OptMetaRefIdeal [hOptMetaIdeal : Cert.OptMetaIdeal.Facts] [hOptMetaRefIdeal : Cert.OptMetaRefIdeal.Facts] : Prop :=
  ∀ (m : (ℓ : Loc Cert.OptMetaIdeal.nD Cert.OptMetaIdeal.τ Cert.OptMetaIdeal.sig) → Buf (Elt Ideal) ℓ) (g : Dev Cert.OptMetaIdeal.nD → PrngReg)
    (m' : (ℓ : Loc Cert.OptMetaRefIdeal.nD Cert.OptMetaRefIdeal.τ Cert.OptMetaRefIdeal.sig) → Buf (Elt Ideal) ℓ) (g' : Dev Cert.OptMetaRefIdeal.nD → PrngReg), Pre_OptMetaIdeal m →
    (∀ c : Dev Cert.OptMetaIdeal.nD,
      m' ((c.tc : Thread Cert.OptMetaRefIdeal.nD Cert.OptMetaRefIdeal.τ).loc Cert.OptMetaRefIdeal.main_arg0) = m ((c.tc : Thread Cert.OptMetaIdeal.nD Cert.OptMetaIdeal.τ).loc Cert.OptMetaIdeal.main_arg0)
      ∧ m' ((c.tc : Thread Cert.OptMetaRefIdeal.nD Cert.OptMetaRefIdeal.τ).loc Cert.OptMetaRefIdeal.main_arg1) = m ((c.tc : Thread Cert.OptMetaIdeal.nD Cert.OptMetaIdeal.τ).loc Cert.OptMetaIdeal.main_arg1)
      ∧ m' ((c.tc : Thread Cert.OptMetaRefIdeal.nD Cert.OptMetaRefIdeal.τ).loc Cert.OptMetaRefIdeal.main_arg2) = m ((c.tc : Thread Cert.OptMetaIdeal.nD Cert.OptMetaIdeal.τ).loc Cert.OptMetaIdeal.main_arg2)
      ∧ m' ((c.tc : Thread Cert.OptMetaRefIdeal.nD Cert.OptMetaRefIdeal.τ).loc Cert.OptMetaRefIdeal.main_arg3) = m ((c.tc : Thread Cert.OptMetaIdeal.nD Cert.OptMetaIdeal.τ).loc Cert.OptMetaIdeal.main_arg3)) →
    ∃ (v0 : (c : Dev Cert.OptMetaIdeal.nD) → Buf (Elt Ideal) ((c.tc : Thread Cert.OptMetaIdeal.nD Cert.OptMetaIdeal.τ).loc Cert.OptMetaIdeal.main_v0_0)) (v1 : (c : Dev Cert.OptMetaIdeal.nD) → Buf (Elt Ideal) ((c.tc : Thread Cert.OptMetaIdeal.nD Cert.OptMetaIdeal.τ).loc Cert.OptMetaIdeal.main_v0_1)) (v2 : (c : Dev Cert.OptMetaIdeal.nD) → Buf (Elt Ideal) ((c.tc : Thread Cert.OptMetaIdeal.nD Cert.OptMetaIdeal.τ).loc Cert.OptMetaIdeal.main_v0_2)),
      θ_run (Cert.OptMetaIdeal.defs (F := Ideal)) (onTc (τ := Cert.OptMetaIdeal.τ) (Cert.OptMetaIdeal.main (F := Ideal))) ⟨m, fun _ => 0, g⟩ (fun r => ∀ c : Dev Cert.OptMetaIdeal.nD,
          r.2.mem ((c.tc : Thread Cert.OptMetaIdeal.nD Cert.OptMetaIdeal.τ).loc Cert.OptMetaIdeal.main_v0_0) = v0 c
          ∧ r.2.mem ((c.tc : Thread Cert.OptMetaIdeal.nD Cert.OptMetaIdeal.τ).loc Cert.OptMetaIdeal.main_v0_1) = v1 c
          ∧ r.2.mem ((c.tc : Thread Cert.OptMetaIdeal.nD Cert.OptMetaIdeal.τ).loc Cert.OptMetaIdeal.main_v0_2) = v2 c
          ∧ r.2.mem ((c.tc : Thread Cert.OptMetaIdeal.nD Cert.OptMetaIdeal.τ).loc Cert.OptMetaIdeal.main_arg0) = m ((c.tc : Thread Cert.OptMetaIdeal.nD Cert.OptMetaIdeal.τ).loc Cert.OptMetaIdeal.main_arg0)
          ∧ r.2.mem ((c.tc : Thread Cert.OptMetaIdeal.nD Cert.OptMetaIdeal.τ).loc Cert.OptMetaIdeal.main_arg1) = m ((c.tc : Thread Cert.OptMetaIdeal.nD Cert.OptMetaIdeal.τ).loc Cert.OptMetaIdeal.main_arg1)
          ∧ r.2.mem ((c.tc : Thread Cert.OptMetaIdeal.nD Cert.OptMetaIdeal.τ).loc Cert.OptMetaIdeal.main_arg2) = m ((c.tc : Thread Cert.OptMetaIdeal.nD Cert.OptMetaIdeal.τ).loc Cert.OptMetaIdeal.main_arg2)
          ∧ r.2.mem ((c.tc : Thread Cert.OptMetaIdeal.nD Cert.OptMetaIdeal.τ).loc Cert.OptMetaIdeal.main_arg3) = m ((c.tc : Thread Cert.OptMetaIdeal.nD Cert.OptMetaIdeal.τ).loc Cert.OptMetaIdeal.main_arg3))
      ∧ θ_run (Cert.OptMetaRefIdeal.defs (F := Ideal)) (onTc (τ := Cert.OptMetaRefIdeal.τ) (Cert.OptMetaRefIdeal.main (F := Ideal))) ⟨m', fun _ => 0, g'⟩ (fun r => ∀ c : Dev Cert.OptMetaRefIdeal.nD,
          r.2.mem ((c.tc : Thread Cert.OptMetaRefIdeal.nD Cert.OptMetaRefIdeal.τ).loc Cert.OptMetaRefIdeal.main_v23) = v0 c
          ∧ r.2.mem ((c.tc : Thread Cert.OptMetaRefIdeal.nD Cert.OptMetaRefIdeal.τ).loc Cert.OptMetaRefIdeal.main_v4) = v1 c
          ∧ r.2.mem ((c.tc : Thread Cert.OptMetaRefIdeal.nD Cert.OptMetaRefIdeal.τ).loc Cert.OptMetaRefIdeal.main_v10) = v2 c
          ∧ r.2.mem ((c.tc : Thread Cert.OptMetaRefIdeal.nD Cert.OptMetaRefIdeal.τ).loc Cert.OptMetaRefIdeal.main_arg0) = m' ((c.tc : Thread Cert.OptMetaRefIdeal.nD Cert.OptMetaRefIdeal.τ).loc Cert.OptMetaRefIdeal.main_arg0)
          ∧ r.2.mem ((c.tc : Thread Cert.OptMetaRefIdeal.nD Cert.OptMetaRefIdeal.τ).loc Cert.OptMetaRefIdeal.main_arg1) = m' ((c.tc : Thread Cert.OptMetaRefIdeal.nD Cert.OptMetaRefIdeal.τ).loc Cert.OptMetaRefIdeal.main_arg1)
          ∧ r.2.mem ((c.tc : Thread Cert.OptMetaRefIdeal.nD Cert.OptMetaRefIdeal.τ).loc Cert.OptMetaRefIdeal.main_arg2) = m' ((c.tc : Thread Cert.OptMetaRefIdeal.nD Cert.OptMetaRefIdeal.τ).loc Cert.OptMetaRefIdeal.main_arg2)
          ∧ r.2.mem ((c.tc : Thread Cert.OptMetaRefIdeal.nD Cert.OptMetaRefIdeal.τ).loc Cert.OptMetaRefIdeal.main_arg3) = m' ((c.tc : Thread Cert.OptMetaRefIdeal.nD Cert.OptMetaRefIdeal.τ).loc Cert.OptMetaRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)
      ∧ m' ((c.tc : Thread Cert.SumInRefIdeal.nD Cert.SumInRefIdeal.τ).loc Cert.SumInRefIdeal.main_arg3) = m ((c.tc : Thread Cert.SumInIdeal.nD Cert.SumInIdeal.τ).loc Cert.SumInIdeal.main_arg3)
      ∧ m' ((c.tc : Thread Cert.SumInRefIdeal.nD Cert.SumInRefIdeal.τ).loc Cert.SumInRefIdeal.main_arg4) = m ((c.tc : Thread Cert.SumInIdeal.nD Cert.SumInIdeal.τ).loc Cert.SumInIdeal.main_arg4)) →
    ∃ (v0 : (c : Dev Cert.SumInIdeal.nD) → Buf (Elt Ideal) ((c.tc : Thread Cert.SumInIdeal.nD Cert.SumInIdeal.τ).loc Cert.SumInIdeal.main_v0_0)) (v1 : (c : Dev Cert.SumInIdeal.nD) → Buf (Elt Ideal) ((c.tc : Thread Cert.SumInIdeal.nD Cert.SumInIdeal.τ).loc Cert.SumInIdeal.main_v0_1)) (v2 : (c : Dev Cert.SumInIdeal.nD) → Buf (Elt Ideal) ((c.tc : Thread Cert.SumInIdeal.nD Cert.SumInIdeal.τ).loc Cert.SumInIdeal.main_v0_2)) (v3 : (c : Dev Cert.SumInIdeal.nD) → Buf (Elt Ideal) ((c.tc : Thread Cert.SumInIdeal.nD Cert.SumInIdeal.τ).loc Cert.SumInIdeal.main_v0_3)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0_0) = v0 c
          ∧ r.2.mem ((c.tc : Thread Cert.SumInIdeal.nD Cert.SumInIdeal.τ).loc Cert.SumInIdeal.main_v0_1) = v1 c
          ∧ r.2.mem ((c.tc : Thread Cert.SumInIdeal.nD Cert.SumInIdeal.τ).loc Cert.SumInIdeal.main_v0_2) = v2 c
          ∧ r.2.mem ((c.tc : Thread Cert.SumInIdeal.nD Cert.SumInIdeal.τ).loc Cert.SumInIdeal.main_v0_3) = v3 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
          ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3)
          ∧ r.2.mem ((c.tc : Thread Cert.SumInIdeal.nD Cert.SumInIdeal.τ).loc Cert.SumInIdeal.main_arg4) = m ((c.tc : Thread Cert.SumInIdeal.nD Cert.SumInIdeal.τ).loc Cert.SumInIdeal.main_arg4))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v4) = v0 c
          ∧ r.2.mem ((c.tc : Thread Cert.SumInRefIdeal.nD Cert.SumInRefIdeal.τ).loc Cert.SumInRefIdeal.main_v28) = v1 c
          ∧ r.2.mem ((c.tc : Thread Cert.SumInRefIdeal.nD Cert.SumInRefIdeal.τ).loc Cert.SumInRefIdeal.main_v9) = v2 c
          ∧ r.2.mem ((c.tc : Thread Cert.SumInRefIdeal.nD Cert.SumInRefIdeal.τ).loc Cert.SumInRefIdeal.main_v15) = v3 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2)
          ∧ r.2.mem ((c.tc : Thread Cert.SumInRefIdeal.nD Cert.SumInRefIdeal.τ).loc Cert.SumInRefIdeal.main_arg3) = m' ((c.tc : Thread Cert.SumInRefIdeal.nD Cert.SumInRefIdeal.τ).loc Cert.SumInRefIdeal.main_arg3)
          ∧ r.2.mem ((c.tc : Thread Cert.SumInRefIdeal.nD Cert.SumInRefIdeal.τ).loc Cert.SumInRefIdeal.main_arg4) = m' ((c.tc : Thread Cert.SumInRefIdeal.nD Cert.SumInRefIdeal.τ).loc Cert.SumInRefIdeal.main_arg4))

def Claim : Prop :=
  ∃ (hKernel : Cert.Kernel.Facts) (hKernelIdeal : Cert.KernelIdeal.Facts) (hReferenceIdeal : Cert.ReferenceIdeal.Facts) (hFeed : Cert.Feed.Facts) (hFeedIdeal : Cert.FeedIdeal.Facts) (hFeedRefIdeal : Cert.FeedRefIdeal.Facts) (hProj : Cert.Proj.Facts) (hProjIdeal : Cert.ProjIdeal.Facts) (hProjRefIdeal : Cert.ProjRefIdeal.Facts) (hProjU : Cert.ProjU.Facts) (hProjUIdeal : Cert.ProjUIdeal.Facts) (hProjURefIdeal : Cert.ProjURefIdeal.Facts) (hProjGates : Cert.ProjGates.Facts) (hProjGatesIdeal : Cert.ProjGatesIdeal.Facts) (hProjGatesRefIdeal : Cert.ProjGatesRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hMerge : Cert.Merge.Facts) (hMergeIdeal : Cert.MergeIdeal.Facts) (hMergeRefIdeal : Cert.MergeRefIdeal.Facts) (hOptGlu : Cert.OptGlu.Facts) (hOptGluIdeal : Cert.OptGluIdeal.Facts) (hOptGluRefIdeal : Cert.OptGluRefIdeal.Facts) (hOptMeta : Cert.OptMeta.Facts) (hOptMetaIdeal : Cert.OptMetaIdeal.Facts) (hOptMetaRefIdeal : Cert.OptMetaRefIdeal.Facts) (hSumIn : Cert.SumIn.Facts) (hSumInIdeal : Cert.SumInIdeal.Facts) (hSumInRefIdeal : Cert.SumInRefIdeal.Facts) (hPre_finite : Cert.Pre_finite.Facts) (hPre_finite_ff : Cert.Pre_finite_ff.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Feed (hFeed := hFeed)
    ∧ quiescent_FeedIdeal (hFeedIdeal := hFeedIdeal)
    ∧ quiescent_FeedIdeal_pre_finite_ff (hFeedIdeal := hFeedIdeal) (hPre_finite_ff := hPre_finite_ff)
    ∧ quiescent_FeedRefIdeal (hFeedRefIdeal := hFeedRefIdeal)
    ∧ quiescent_FeedRefIdeal_pre_finite_ff (hFeedRefIdeal := hFeedRefIdeal) (hPre_finite_ff := hPre_finite_ff)
    ∧ quiescent_Proj (hProj := hProj)
    ∧ quiescent_ProjIdeal (hProjIdeal := hProjIdeal)
    ∧ quiescent_ProjRefIdeal (hProjRefIdeal := hProjRefIdeal)
    ∧ quiescent_ProjU (hProjU := hProjU)
    ∧ quiescent_ProjUIdeal (hProjUIdeal := hProjUIdeal)
    ∧ quiescent_ProjURefIdeal (hProjURefIdeal := hProjURefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_Merge (hMerge := hMerge)
    ∧ quiescent_MergeIdeal (hMergeIdeal := hMergeIdeal)
    ∧ quiescent_MergeRefIdeal (hMergeRefIdeal := hMergeRefIdeal)
    ∧ quiescent_OptGlu (hOptGlu := hOptGlu)
    ∧ quiescent_OptGluIdeal (hOptGluIdeal := hOptGluIdeal)
    ∧ quiescent_OptGluRefIdeal (hOptGluRefIdeal := hOptGluRefIdeal)
    ∧ quiescent_OptMeta (hOptMeta := hOptMeta)
    ∧ quiescent_OptMetaIdeal (hOptMetaIdeal := hOptMetaIdeal)
    ∧ quiescent_OptMetaRefIdeal (hOptMetaRefIdeal := hOptMetaRefIdeal)
    ∧ quiescent_SumIn (hSumIn := hSumIn)
    ∧ quiescent_SumInIdeal (hSumInIdeal := hSumInIdeal)
    ∧ quiescent_SumInRefIdeal (hSumInRefIdeal := hSumInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Feed_FeedIdeal
    ∧ algebraic_FeedIdeal_FeedRefIdeal_pre_finite_ff (hFeedIdeal := hFeedIdeal) (hFeedRefIdeal := hFeedRefIdeal) (hPre_finite_ff := hPre_finite_ff)
    ∧ preserves_Proj_ProjIdeal
    ∧ algebraic_ProjIdeal_ProjRefIdeal (hProjIdeal := hProjIdeal) (hProjRefIdeal := hProjRefIdeal)
    ∧ preserves_ProjU_ProjUIdeal
    ∧ algebraic_ProjUIdeal_ProjURefIdeal (hProjUIdeal := hProjUIdeal) (hProjURefIdeal := hProjURefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_Merge_MergeIdeal
    ∧ algebraic_MergeIdeal_MergeRefIdeal (hMergeIdeal := hMergeIdeal) (hMergeRefIdeal := hMergeRefIdeal)
    ∧ preserves_OptGlu_OptGluIdeal
    ∧ algebraic_OptGluIdeal_OptGluRefIdeal (hOptGluIdeal := hOptGluIdeal) (hOptGluRefIdeal := hOptGluRefIdeal)
    ∧ preserves_OptMeta_OptMetaIdeal
    ∧ algebraic_OptMetaIdeal_OptMetaRefIdeal (hOptMetaIdeal := hOptMetaIdeal) (hOptMetaRefIdeal := hOptMetaRefIdeal)
    ∧ preserves_SumIn_SumInIdeal
    ∧ algebraic_SumInIdeal_SumInRefIdeal (hSumInIdeal := hSumInIdeal) (hSumInRefIdeal := hSumInRefIdeal)
-- ==== Pre_finite.lean ====
abbrev S8208x1024 : Shape := ⟨2, ![8208, 1024]⟩
abbrev S8208x256 : Shape := ⟨2, ![8208, 256]⟩
abbrev S1x16 : Shape := ⟨2, ![1, 16]⟩
abbrev S_ : Shape := ⟨0, ![]⟩

class Facts : Prop where
  bcast_S_S8208x1024 : S_.BroadcastsInDim S8208x1024 (![] : Fin 0 → Fin S8208x1024.rank)
  bcast_S_S8208x256 : S_.BroadcastsInDim S8208x256 (![] : Fin 0 → Fin S8208x256.rank)
  bcast_S_S1x16 : S_.BroadcastsInDim S1x16 (![] : Fin 0 → Fin S1x16.rank)

variable [Facts]

def fn {F : FTy → Type} [FloatOps F] (main_arg0 : FVec F S8208x1024 .f32) (main_arg1 : FVec F S8208x256 .f32) (main_arg2 : FVec F S8208x256 .f32) (main_arg3 : FVec F S1x16 .f32) (main_arg4 : FVec F S8208x1024 .f32) : IVec S8208x1024 1 × IVec S8208x256 1 × IVec S8208x256 1 × IVec S1x16 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x256 .f32 := Host.absf main_arg1
  let main_cst_0 : FVec F S_ .f32 := constant S_ .f32 0x7F800000#32
  let main_v4 : FVec F S8208x256 .f32 := broadcastInDim S8208x256 ![] bcast_S_S8208x256 main_cst_0
  let main_v5 : IVec S8208x256 1 := cmpf .olt main_v3 main_v4
  let main_v6 : FVec F S8208x256 .f32 := Host.absf main_arg2
  let main_cst_1 : FVec F S_ .f32 := constant S_ .f32 0x7F800000#32
  let main_v7 : FVec F S8208x256 .f32 := broadcastInDim S8208x256 ![] bcast_S_S8208x256 main_cst_1
  let main_v8 : IVec S8208x256 1 := cmpf .olt main_v6 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_v12 : FVec F S8208x1024 .f32 := Host.absf main_arg4
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Pre_finite_ff.lean ====
abbrev S8320x1024 : Shape := ⟨2, ![8320, 1024]⟩
abbrev S1024x5632 : Shape := ⟨2, ![1024, 5632]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8320x1024 .f32) (main_arg1 : FVec F S1024x5632 .f32) (main_arg2 : FVec F S2816x1024 .f32) (main_arg3 : FVec F S8320x1024 .f32) (main_arg4 : FVec F S8320x1024 .f32) : IVec S8320x1024 1 × IVec S1024x5632 1 × IVec S2816x1024 1 × IVec S8320x1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8320x1024 .f32 := Host.absf main_arg4
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  (main_v2, main_v5, main_v8, main_v11)
-- ==== Kernel.lean ====
abbrev S8208x1024 : Shape := ⟨2, ![8208, 1024]⟩
abbrev S8208x256 : Shape := ⟨2, ![8208, 256]⟩
abbrev S1x16 : Shape := ⟨2, ![1, 16]⟩
abbrev S_ : Shape := ⟨0, ![]⟩
abbrev S8208x4x4x64 : Shape := ⟨4, ![8208, 4, 4, 64]⟩
abbrev S8208x4x64 : Shape := ⟨3, ![8208, 4, 64]⟩
abbrev S4x4x1 : Shape := ⟨3, ![4, 4, 1]⟩
abbrev S4x8208x8208x4 : Shape := ⟨4, ![4, 8208, 8208, 4]⟩
abbrev S4x4x8208x8208 : Shape := ⟨4, ![4, 4, 8208, 8208]⟩
abbrev S8208x8208 : Shape := ⟨2, ![8208, 8208]⟩
abbrev S1x1x8208x8208 : Shape := ⟨4, ![1, 1, 8208, 8208]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S8208x16x64 : Shape := ⟨3, ![8208, 16, 64]⟩
abbrev S8208x16 : Shape := ⟨2, ![8208, 16]⟩
abbrev S16x8208 : Shape := ⟨2, ![16, 8208]⟩
abbrev S8320x128 : Shape := ⟨2, ![8320, 128]⟩
abbrev S8320x1024 : Shape := ⟨2, ![8320, 1024]⟩
abbrev S8320x256 : Shape := ⟨2, ![8320, 256]⟩
abbrev S8320x4x1x1x64 : Shape := ⟨5, ![8320, 4, 1, 1, 64]⟩
abbrev S2x2 : Shape := ⟨2, ![2, 2]⟩
abbrev S1x1x2x2x1 : Shape := ⟨5, ![1, 1, 2, 2, 1]⟩
abbrev S8320x4x2x2x64 : Shape := ⟨5, ![8320, 4, 2, 2, 64]⟩
abbrev S3x256x384 : Shape := ⟨3, ![3, 256, 384]⟩
abbrev S128x256 : Shape := ⟨2, ![128, 256]⟩
abbrev S128x1024 : Shape := ⟨2, ![128, 1024]⟩
abbrev S1x256x384 : Shape := ⟨3, ![1, 256, 384]⟩
abbrev S128x128 : Shape := ⟨2, ![128, 128]⟩
abbrev S256x384 : Shape := ⟨2, ![256, 384]⟩
abbrev S256x128 : Shape := ⟨2, ![256, 128]⟩
abbrev S384x128 : Shape := ⟨2, ![384, 128]⟩
abbrev S128x1 : Shape := ⟨2, ![128, 1]⟩
abbrev S256x1 : Shape := ⟨2, ![256, 1]⟩
abbrev S128x16 : Shape := ⟨2, ![128, 16]⟩
abbrev S16 : Shape := ⟨1, ![16]⟩

abbrev nBuf : Space → Nat
  | .hbm => 167
  | .vmem => 34
  | .smem => 0
  | _ => 0

abbrev hbmTy0_0 (i : Nat) : BufTy := match i % 128 with
  | 0 => ⟨S8208x1024, .f32⟩
  | 1 => ⟨S8208x256, .f32⟩
  | 2 => ⟨S8208x256, .f32⟩
  | 3 => ⟨S1x16, .f32⟩
  | 4 => ⟨S8208x1024, .f32⟩
  | 5 => ⟨S_, .f32⟩
  | 6 => ⟨S8208x1024, .f32⟩
  | 7 => ⟨S8208x1024, .f32⟩
  | 8 => ⟨S8208x4x4x64, .f32⟩
  | 9 => ⟨S8208x4x64, .f32⟩
  | 10 => ⟨S8208x4x64, .f32⟩
  | 11 => ⟨S4x4x1, .f32⟩
  | 12 => ⟨S4x8208x8208x4, .f32⟩
  | 13 => ⟨S4x4x8208x8208, .f32⟩
  | 14 => ⟨S8208x8208, .i32⟩
  | 15 => ⟨S8208x8208, .i32⟩
  | 16 => ⟨S8208x8208, .i1⟩
  | 17 => ⟨S_, .i32⟩
  | 18 => ⟨S8208x8208, .i32⟩
  | 19 => ⟨S8208x8208, .i1⟩
  | 20 => ⟨S8208x8208, .i32⟩
  | 21 => ⟨S_, .i32⟩
  | 22 => ⟨S8208x8208, .i32⟩
  | 23 => ⟨S8208x8208, .i1⟩
  | 24 => ⟨S8208x8208, .i1⟩
  | 25 => ⟨S8208x8208, .i1⟩
  | 26 => ⟨S1x1x8208x8208, .i1⟩
  | 27 => ⟨S_, .f32⟩
  | 28 => ⟨S_, .f32⟩
  | 29 => ⟨S4x4x8208x8208, .i1⟩
  | 30 => ⟨S4x4x8208x8208, .f32⟩
  | 31 => ⟨S4x4x8208x8208, .f32⟩
  | 32 => ⟨S_, .f32⟩
  | 33 => ⟨S4x4x8208, .f32⟩
  | 34 => ⟨S4x4x8208, .f32⟩
  | 35 => ⟨S4x4x8208, .f32⟩
  | 36 => ⟨S4x4x8208x1, .f32⟩
  | 37 => ⟨S4x4x8208x8208, .f32⟩
  | 38 => ⟨S4x4x8208x8208, .f32⟩
  | 39 => ⟨S4x4x8208x8208, .f32⟩
  | 40 => ⟨S_, .f32⟩
  | 41 => ⟨S4x4x8208, .f32⟩
  | 42 => ⟨S4x4x8208, .f32⟩
  | 43 => ⟨S4x4x8208, .f32⟩
  | 44 => ⟨S4x4x8208, .f32⟩
  | 45 => ⟨S4x4x8208, .f32⟩
  | 46 => ⟨S4x4x8208x1, .f32⟩
  | 47 => ⟨S4x4x8208x8208, .f32⟩
  | 48 => ⟨S4x4x8208x8208, .f32⟩
  | 49 => ⟨S4x64x4x8208, .f32⟩
  | 50 => ⟨S8208x4x4x64, .f32⟩
  | 51 => ⟨S8208x1024, .f32⟩
  | 52 => ⟨S4x4x8208, .f32⟩
  | 53 => ⟨S4x4x8208, .f32⟩
  | 54 => ⟨S8208x1024, .f32⟩
  | 55 => ⟨S8208x16x64, .f32⟩
  | 56 => ⟨S_, .f32⟩
  | 57 => ⟨S8208x16, .f32⟩
  | 58 => ⟨S16x8208, .f32⟩
  | 59 => ⟨S8208x16, .f32⟩
  | 60 => ⟨S_, .i32⟩
  | 61 => ⟨S_, .f32⟩
  | 62 => ⟨S8320x128, .f32⟩
  | 63 => ⟨S_, .i32⟩
  | 64 => ⟨S_, .f32⟩
  | 65 => ⟨S8320x128, .f32⟩
  | 66 => ⟨S_, .i32⟩
  | 67 => ⟨S_, .f32⟩
  | 68 => ⟨S8320x1024, .f32⟩
  | 69 => ⟨S8320x1024, .bf16⟩
  | 70 => ⟨S_, .i32⟩
  | 71 => ⟨S_, .f32⟩
  | 72 => ⟨S8320x1024, .f32⟩
  | 73 => ⟨S8320x1024, .bf16⟩
  | 74 => ⟨S_, .i32⟩
  | 75 => ⟨S_, .f32⟩
  | 76 => ⟨S8320x256, .f32⟩
  | 77 => ⟨S8320x4x1x1x64, .f32⟩
  | 78 => ⟨S2x2, .i32⟩
  | 79 => ⟨S2x2, .i32⟩
  | 80 => ⟨S2x2, .i1⟩
  | 81 => ⟨S1x1x2x2x1, .i1⟩
  | 82 => ⟨S_, .f32⟩
  | 83 => ⟨S_, .f32⟩
  | 84 => ⟨S8320x4x2x2x64, .i1⟩
  | 85 => ⟨S8320x4x2x2x64, .f32⟩
  | 86 => ⟨S8320x4x2x2x64, .f32⟩
  | 87 => ⟨S8320x4x2x2x64, .f32⟩
  | 88 => ⟨S8320x1024, .f32⟩
  | 89 => ⟨S8320x1024, .bf16⟩
  | 90 => ⟨S_, .i32⟩
  | 91 => ⟨S_, .f32⟩
  | 92 => ⟨S8320x256, .f32⟩
  | 93 => ⟨S8320x4x1x1x64, .f32⟩
  | 94 => ⟨S2x2, .i32⟩
  | 95 => ⟨S2x2, .i32⟩
  | 96 => ⟨S2x2, .i1⟩
  | 97 => ⟨S1x1x2x2x1, .i1⟩
  | 98 => ⟨S_, .f32⟩
  | 99 => ⟨S_, .f32⟩
  | 100 => ⟨S8320x4x2x2x64, .i1⟩
  | 101 => ⟨S8320x4x2x2x64, .f32⟩
  | 102 => ⟨S8320x4x2x2x64, .f32⟩
  | 103 => ⟨S8320x4x2x2x64, .f32⟩
  | 104 => ⟨S8320x1024, .f32⟩
  | 105 => ⟨S8320x1024, .bf16⟩
  | 106 => ⟨S3x256x384, .i32⟩
  | 107 => ⟨S3x256x384, .i32⟩
  | 108 => ⟨S3x256x384, .i32⟩
  | 109 => ⟨S_, .i32⟩
  | 110 => ⟨S3x256x384, .i32⟩
  | 111 => ⟨S3x256x384, .i32⟩
  | 112 => ⟨S_, .i32⟩
  | 113 => ⟨S3x256x384, .i32⟩
  | 114 => ⟨S3x256x384, .i32⟩
  | 115 => ⟨S_, .i32⟩
  | 116 => ⟨S3x256x384, .i32⟩
  | 117 => ⟨S3x256x384, .i1⟩
  | 118 => ⟨S_, .i32⟩
  | 119 => ⟨S3x256x384, .i32⟩
  | 120 => ⟨S3x256x384, .i1⟩
  | 121 => ⟨S3x256x384, .i1⟩
  | 122 => ⟨S_, .i32⟩
  | 123 => ⟨S3x256x384, .i32⟩
  | 124 => ⟨S3x256x384, .i1⟩
  | 125 => ⟨S3x256x384, .i1⟩
  | 126 => ⟨S_, .i32⟩
  | 127 => ⟨S3x256x384, .i32⟩
  | _ => ⟨S8208x1024, .f32⟩

abbrev hbmTy0_1 (i : Nat) : BufTy := match i % 128 with
  | 0 => ⟨S3x256x384, .i1⟩
  | 1 => ⟨S_, .i32⟩
  | 2 => ⟨S3x256x384, .i32⟩
  | 3 => ⟨S3x256x384, .i1⟩
  | 4 => ⟨S3x256x384, .i1⟩
  | 5 => ⟨S3x256x384, .i1⟩
  | 6 => ⟨S3x256x384, .i1⟩
  | 7 => ⟨S_, .i32⟩
  | 8 => ⟨S3x256x384, .i32⟩
  | 9 => ⟨S3x256x384, .i1⟩
  | 10 => ⟨S3x256x384, .i1⟩
  | 11 => ⟨S_, .i32⟩
  | 12 => ⟨S3x256x384, .i32⟩
  | 13 => ⟨S3x256x384, .i1⟩
  | 14 => ⟨S3x256x384, .i1⟩
  | 15 => ⟨S3x256x384, .i1⟩
  | 16 => ⟨S_, .i32⟩
  | 17 => ⟨S3x256x384, .i32⟩
  | 18 => ⟨S3x256x384, .i1⟩
  | 19 => ⟨S_, .i32⟩
  | 20 => ⟨S3x256x384, .i32⟩
  | 21 => ⟨S3x256x384, .i1⟩
  | 22 => ⟨S3x256x384, .i1⟩
  | 23 => ⟨S3x256x384, .i1⟩
  | 24 => ⟨S3x256x384, .i1⟩
  | 25 => ⟨S3x256x384, .i1⟩
  | 26 => ⟨S_, .f32⟩
  | 27 => ⟨S_, .f32⟩
  | 28 => ⟨S3x256x384, .f32⟩
  | 29 => ⟨S3x256x384, .f32⟩
  | 30 => ⟨S3x256x384, .f32⟩
  | 31 => ⟨S8320x1024, .bf16⟩
  | 32 => ⟨S8320x256, .bf16⟩
  | 33 => ⟨S8320x256, .bf16⟩
  | 34 => ⟨S128x256, .f32⟩
  | 35 => ⟨S8320x256, .bf16⟩
  | 36 => ⟨S8320x256, .bf16⟩
  | 37 => ⟨S128x256, .f32⟩
  | 38 => ⟨S1x16, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x16, .f32⟩
  | .local _ .vmem, ⟨13, _⟩ => ⟨S1x256x384, .f32⟩
  | .local _ .vmem, ⟨14, _⟩ => ⟨S1x256x384, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x256, .bf16⟩
  | .local _ .vmem, ⟨27, _⟩ => ⟨S128x256, .f32⟩
  | .local _ .vmem, ⟨28, _⟩ => ⟨S128x256, .bf16⟩
  | .local _ .vmem, ⟨29, _⟩ => ⟨S128x256, .bf16⟩
  | .local _ .vmem, ⟨30, _⟩ => ⟨S128x256, .bf16⟩
  | .local _ .vmem, ⟨31, _⟩ => ⟨S128x256, .bf16⟩
  | .local _ .vmem, ⟨32, _⟩ => ⟨S128x256, .f32⟩
  | .local _ .vmem, ⟨33, _⟩ => ⟨S1x16, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_call1_v0 : Ref sig .tc := ⟨.hbm, 61, rfl⟩
abbrev main_v45 : Ref sig .tc := ⟨.hbm, 62, rfl⟩
abbrev main_c_6 : Ref sig .tc := ⟨.hbm, 63, rfl⟩
abbrev main_call2_v0 : Ref sig .tc := ⟨.hbm, 64, rfl⟩
abbrev main_v46 : Ref sig .tc := ⟨.hbm, 65, rfl⟩
abbrev main_c_7 : Ref sig .tc := ⟨.hbm, 66, rfl⟩
abbrev main_call3_v0 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_call4_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_call5_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_call7_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_call8_v0 : Ref sig .tc := ⟨.hbm, 99, rfl⟩
abbrev main_call8_v1 : Ref sig .tc := ⟨.hbm, 100, rfl⟩
abbrev main_call8_v2 : Ref sig .tc := ⟨.hbm, 101, rfl⟩
abbrev main_call8_v3 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_c_14 : Ref sig .tc := ⟨.hbm, 112, rfl⟩
abbrev main_v74 : Ref sig .tc := ⟨.hbm, 113, rfl⟩
abbrev main_v75 : Ref sig .tc := ⟨.hbm, 114, rfl⟩
abbrev main_c_15 : Ref sig .tc := ⟨.hbm, 115, rfl⟩
abbrev main_v76 : Ref sig .tc := ⟨.hbm, 116, rfl⟩
abbrev main_v77 : Ref sig .tc := ⟨.hbm, 117, rfl⟩
abbrev main_c_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_18 : Ref sig .tc := ⟨.hbm, 126, rfl⟩
abbrev main_v84 : Ref sig .tc := ⟨.hbm, 127, rfl⟩
abbrev main_v85 : Ref sig .tc := ⟨.hbm, 128, rfl⟩
abbrev main_c_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_20 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_22 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_24 : Ref sig .tc := ⟨.hbm, 154, rfl⟩
abbrev main_cst_25 : Ref sig .tc := ⟨.hbm, 155, rfl⟩
abbrev main_call9_v0 : Ref sig .tc := ⟨.hbm, 156, rfl⟩
abbrev main_call9_v1 : Ref sig .tc := ⟨.hbm, 157, rfl⟩
abbrev main_v106 : Ref sig .tc := ⟨.hbm, 158, rfl⟩
abbrev main_v107_0 : Ref sig .tc := ⟨.hbm, 159, rfl⟩
abbrev main_v107_1 : Ref sig .tc := ⟨.hbm, 160, rfl⟩
abbrev main_v107_2 : Ref sig .tc := ⟨.hbm, 161, rfl⟩
abbrev main_v107_3 : Ref sig .tc := ⟨.hbm, 162, rfl⟩
abbrev main_v107_4 : Ref sig .tc := ⟨.hbm, 163, rfl⟩
abbrev main_v107_5 : Ref sig .tc := ⟨.hbm, 164, rfl⟩
abbrev main_v107_6 : Ref sig .tc := ⟨.hbm, 165, rfl⟩
abbrev main_v107_7 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8208x1024 : Shape := ⟨2, ![8208, 1024]⟩
abbrev S8208x256 : Shape := ⟨2, ![8208, 256]⟩
abbrev S1x16 : Shape := ⟨2, ![1, 16]⟩
abbrev S_ : Shape := ⟨0, ![]⟩
abbrev S8208x4x4x64 : Shape := ⟨4, ![8208, 4, 4, 64]⟩
abbrev S8208x4x64 : Shape := ⟨3, ![8208, 4, 64]⟩
abbrev S4x4x1 : Shape := ⟨3, ![4, 4, 1]⟩
abbrev S4x8208x8208x4 : Shape := ⟨4, ![4, 8208, 8208, 4]⟩
abbrev S4x4x8208x8208 : Shape := ⟨4, ![4, 4, 8208, 8208]⟩
abbrev S8208x8208 : Shape := ⟨2, ![8208, 8208]⟩
abbrev S1x1x8208x8208 : Shape := ⟨4, ![1, 1, 8208, 8208]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x64x8208 : Shape := ⟨3, ![4, 64, 8208]⟩
abbrev S4x4 : Shape := ⟨2, ![4, 4]⟩
abbrev S4x8208x4x64 : Shape := ⟨4, ![4, 8208, 4, 64]⟩
abbrev S4x8208x64 : Shape := ⟨3, ![4, 8208, 64]⟩
abbrev S8320x1024 : Shape := ⟨2, ![8320, 1024]⟩

abbrev nBuf : Space → Nat
  | .hbm => 147
  | .vmem => 0
  | .smem => 0
  | _ => 0

abbrev hbmTy0_0 (i : Nat) : BufTy := match i % 128 with
  | 0 => ⟨S8208x1024, .f32⟩
  | 1 => ⟨S8208x256, .f32⟩
  | 2 => ⟨S8208x256, .f32⟩
  | 3 => ⟨S1x16, .f32⟩
  | 4 => ⟨S8208x1024, .f32⟩
  | 5 => ⟨S_, .f32⟩
  | 6 => ⟨S8208x1024, .f32⟩
  | 7 => ⟨S8208x1024, .f32⟩
  | 8 => ⟨S8208x4x4x64, .f32⟩
  | 9 => ⟨S8208x4x64, .f32⟩
  | 10 => ⟨S8208x4x64, .f32⟩
  | 11 => ⟨S4x4x1, .f32⟩
  | 12 => ⟨S4x8208x8208x4, .f32⟩
  | 13 => ⟨S4x4x8208x8208, .f32⟩
  | 14 => ⟨S8208x8208, .i32⟩
  | 15 => ⟨S8208x8208, .i32⟩
  | 16 => ⟨S8208x8208, .i1⟩
  | 17 => ⟨S_, .i32⟩
  | 18 => ⟨S8208x8208, .i32⟩
  | 19 => ⟨S8208x8208, .i1⟩
  | 20 => ⟨S8208x8208, .i32⟩
  | 21 => ⟨S_, .i32⟩
  | 22 => ⟨S8208x8208, .i32⟩
  | 23 => ⟨S8208x8208, .i1⟩
  | 24 => ⟨S8208x8208, .i1⟩
  | 25 => ⟨S8208x8208, .i1⟩
  | 26 => ⟨S1x1x8208x8208, .i1⟩
  | 27 => ⟨S_, .f32⟩
  | 28 => ⟨S_, .f32⟩
  | 29 => ⟨S4x4x8208x8208, .i1⟩
  | 30 => ⟨S4x4x8208x8208, .f32⟩
  | 31 => ⟨S4x4x8208x8208, .f32⟩
  | 32 => ⟨S_, .f32⟩
  | 33 => ⟨S4x4x8208x8208, .f32⟩
  | 34 => ⟨S_, .f32⟩
  | 35 => ⟨S4x4x8208, .f32⟩
  | 36 => ⟨S4x4x8208x1, .f32⟩
  | 37 => ⟨S4x4x8208x8208, .f32⟩
  | 38 => ⟨S4x4x8208x8208, .i1⟩
  | 39 => ⟨S4x4x8208x8208, .f32⟩
  | 40 => ⟨S_, .f32⟩
  | 41 => ⟨S4x4x8208, .f32⟩
  | 42 => ⟨S4x4x8208, .f32⟩
  | 43 => ⟨S4x4x8208, .f32⟩
  | 44 => ⟨S4x4x8208, .f32⟩
  | 45 => ⟨S4x4x8208, .i1⟩
  | 46 => ⟨S4x4x8208, .f32⟩
  | 47 => ⟨S4x4x8208, .i1⟩
  | 48 => ⟨S_, .f32⟩
  | 49 => ⟨S4x4x8208, .f32⟩
  | 50 => ⟨S_, .f32⟩
  | 51 => ⟨S4x4x8208, .f32⟩
  | 52 => ⟨S_, .f32⟩
  | 53 => ⟨S4x4x8208, .f32⟩
  | 54 => ⟨S4x4x8208, .f32⟩
  | 55 => ⟨S4x4x8208, .f32⟩
  | 56 => ⟨S4x4x8208, .f32⟩
  | 57 => ⟨S4x4x8208, .i1⟩
  | 58 => ⟨S4x4x8208, .f32⟩
  | 59 => ⟨S4x4x8208, .i1⟩
  | 60 => ⟨S_, .f32⟩
  | 61 => ⟨S4x4x8208, .f32⟩
  | 62 => ⟨S_, .f32⟩
  | 63 => ⟨S4x4x8208, .f32⟩
  | 64 => ⟨S_, .f32⟩
  | 65 => ⟨S4x4x8208, .f32⟩
  | 66 => ⟨S4x4x8208, .f32⟩
  | 67 => ⟨S4x4x8208, .f32⟩
  | 68 => ⟨S4x4x8208x1, .f32⟩
  | 69 => ⟨S4x4x8208x8208, .f32⟩
  | 70 => ⟨S4x4x8208x8208, .f32⟩
  | 71 => ⟨S4x4x8208x8208, .f32⟩
  | 72 => ⟨S_, .f32⟩
  | 73 => ⟨S4x4x8208, .f32⟩
  | 74 => ⟨S4x4x8208, .f32⟩
  | 75 => ⟨S4x4x8208, .f32⟩
  | 76 => ⟨S4x4x8208, .f32⟩
  | 77 => ⟨S4x4x8208, .f32⟩
  | 78 => ⟨S4x4x8208x1, .f32⟩
  | 79 => ⟨S4x4x8208x8208, .f32⟩
  | 80 => ⟨S4x4x8208x8208, .f32⟩
  | 81 => ⟨S4x4x8208x1, .f32⟩
  | 82 => ⟨S_, .f32⟩
  | 83 => ⟨S4x4x8208x1, .f32⟩
  | 84 => ⟨S4x4x8208x1, .f32⟩
  | 85 => ⟨S4x64x4x8208, .f32⟩
  | 86 => ⟨S8208x4x4x64, .f32⟩
  | 87 => ⟨S8208x1024, .f32⟩
  | 88 => ⟨S4x4x8208, .f32⟩
  | 89 => ⟨S4x4x8208, .f32⟩
  | 90 => ⟨S8208x4x4x64, .f32⟩
  | 91 => ⟨S4x64x4x8208, .f32⟩
  | 92 => ⟨S4x4x8208x8208, .f32⟩
  | 93 => ⟨S4x64x8208, .f32⟩
  | 94 => ⟨S8208x4x64, .f32⟩
  | 95 => ⟨S4x4x8208x8208, .f32⟩
  | 96 => ⟨S4x4x8208x8208, .f32⟩
  | 97 => ⟨S4x4x8208x8208, .f32⟩
  | 98 => ⟨S_, .f32⟩
  | 99 => ⟨S4x4x8208, .f32⟩
  | 100 => ⟨S4x4x8208x1, .f32⟩
  | 101 => ⟨S4x4x8208x1, .f32⟩
  | 102 => ⟨S4x4x8208x8208, .f32⟩
  | 103 => ⟨S4x4x8208x8208, .f32⟩
  | 104 => ⟨S_, .f32⟩
  | 105 => ⟨S4x4x8208, .f32⟩
  | 106 => ⟨S4x4x8208, .f32⟩
  | 107 => ⟨S_, .f32⟩
  | 108 => ⟨S4x4, .f32⟩
  | 109 => ⟨S4x4x1, .f32⟩
  | 110 => ⟨S4x4x8208, .f32⟩
  | 111 => ⟨S4x4x8208x8208, .f32⟩
  | 112 => ⟨S4x4x8208x8208, .f32⟩
  | 113 => ⟨S4x4x8208x8208, .f32⟩
  | 114 => ⟨S4x4x8208x8208, .f32⟩
  | 115 => ⟨S_, .f32⟩
  | 116 => ⟨S4x4x8208, .f32⟩
  | 117 => ⟨S4x4x8208x1, .f32⟩
  | 118 => ⟨S_, .f32⟩
  | 119 => ⟨S4x4x8208, .f32⟩
  | 120 => ⟨S4x4x8208, .f32⟩
  | 121 => ⟨S4x4x8208, .f32⟩
  | 122 => ⟨S_, .f32⟩
  | 123 => ⟨S4x4, .f32⟩
  | 124 => ⟨S4x4x1, .f32⟩
  | 125 => ⟨S4x4x1, .f32⟩
  | 126 => ⟨S4x4x8208, .f32⟩
  | 127 => ⟨S4x4x8208, .f32⟩
  | _ => ⟨S8208x1024, .f32⟩

abbrev hbmTy0_1 (i : Nat) : BufTy := match i % 128 with
  | 0 => ⟨S4x4x8208x8208, .f32⟩
  | 1 => ⟨S4x4x8208x8208, .f32⟩
  | 2 => ⟨S4x4x8208x8208, .f32⟩
  | 3 => ⟨S_, .f32⟩
  | 4 => ⟨S4x4x8208x8208, .f32⟩
  | 5 => ⟨S4x4x8208x8208, .f32⟩
  | 6 => ⟨S4x8208x8208x4, .f32⟩
  | 7 => ⟨S4x8208x4x64, .f32⟩
  | 8 => ⟨S8208x4x4x64, .f32⟩
  | 9 => ⟨S4x8208x64, .f32⟩
  | 10 => ⟨S8208x4x64, .f32⟩
  | 11 => ⟨S1x16, .f32⟩
  | 12 => ⟨S8208x256, .f32⟩
  | 13 => ⟨S8208x256, .f32⟩
  | 14 => ⟨S8208x1024, .f32⟩
  | 15 => ⟨S_, .i32⟩
  | 16 => ⟨S_, .f32⟩
  | 17 => ⟨S8320x1024, .f32⟩
  | 18 => ⟨S8320x1024, .bf16⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call0_v0 : Ref sig .tc := ⟨.hbm, 28, rfl⟩
abbrev main_v19_1 : Ref sig .tc := ⟨.hbm, 29, rfl⟩
abbrev main_call0_v2 : Ref sig .tc := ⟨.hbm, 30, rfl⟩
abbrev main_v19_0 : Ref sig .tc := ⟨.hbm, 31, rfl⟩
abbrev main_call0_cst : Ref sig .tc := ⟨.hbm, 32, rfl⟩
abbrev main_v19_2 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_cst_16 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_17 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_call1_cst : Ref sig .tc := ⟨.hbm, 131, rfl⟩
abbrev main_call1_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_18 : Ref sig .tc := ⟨.hbm, 143, rfl⟩
abbrev main_call2_v0 : Ref sig .tc := ⟨.hbm, 144, rfl⟩
abbrev main_v111 : Ref sig .tc := ⟨.hbm, 145, rfl⟩
abbrev main_v112 : Ref sig .tc := ⟨.hbm, 146, rfl⟩

abbrev nD : Nat := 1
abbrev τ : Topo := Topo.v7x

variable {F : FTy → Type} [FloatOps F]
-- ==== Feed.lean ====
abbrev S8320x1024 : Shape := ⟨2, ![8320, 1024]⟩
abbrev S1024x5632 : Shape := ⟨2, ![1024, 5632]⟩
abbrev S2816x1024 : Shape := ⟨2, ![2816, 1024]⟩
abbrev S5632x1024 : Shape := ⟨2, ![5632, 1024]⟩
abbrev S1408x1024 : Shape := ⟨2, ![1408, 1024]⟩
abbrev S8320x5632 : Shape := ⟨2, ![8320, 5632]⟩
abbrev S8320x2816 : Shape := ⟨2, ![8320, 2816]⟩
abbrev S640x1024 : Shape := ⟨2, ![640, 1024]⟩
abbrev S640x2816 : Shape := ⟨2, ![640, 2816]⟩
abbrev S640x1408 : Shape := ⟨2, ![640, 1408]⟩
abbrev S1040x2816 : Shape := ⟨2, ![1040, 2816]⟩
abbrev S1040x1024 : Shape := ⟨2, ![1040, 1024]⟩
abbrev S2080x1408 : Shape := ⟨2, ![2080, 1408]⟩
abbrev S2080x1024 : Shape := ⟨2, ![2080, 1024]⟩
abbrev S640x5632 : Shape := ⟨2, ![640, 5632]⟩

abbrev nBuf : Space → Nat
  | .hbm => 30
  | .vmem => 44
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S2816x1024, .f32⟩
  | .hbm, ⟨3, _⟩ => ⟨S8320x1024, .f32⟩
  | .hbm, ⟨4, _⟩ => ⟨S8320x1024, .f32⟩
  | .hbm, ⟨5, _⟩ => ⟨S5632x1024, .f32⟩
  | .hbm, ⟨6, _⟩ => ⟨S5632x1024, .bf16⟩
  | .hbm, ⟨7, _⟩ => ⟨S1408x1024, .bf16⟩
  | .hbm, ⟨8, _⟩ => ⟨S1408x1024, .bf16⟩
  | .hbm, ⟨9, _⟩ => ⟨S1408x1024, .bf16⟩
  | .hbm, ⟨10, _⟩ => ⟨S1408x1024, .bf16⟩
  | .hbm, ⟨11, _⟩ => ⟨S5632x1024, .bf16⟩
  | .hbm, ⟨12, _⟩ => ⟨S8320x1024, .bf16⟩
  | .hbm, ⟨13, _⟩ => ⟨S2816x1024, .bf16⟩
  | .hbm, ⟨14, _⟩ => ⟨S8320x1024, .bf16⟩
  | .hbm, ⟨15, _⟩ => ⟨S8320x5632, .bf16⟩
  | .hbm, ⟨16, _⟩ => ⟨S8320x2816, .bf16⟩
  | .hbm, ⟨17, _⟩ => ⟨S8320x1024, .f32⟩
  | .hbm, ⟨18, _⟩ => ⟨S8320x5632, .bf16⟩
  | .hbm, ⟨19, _⟩ => ⟨S2816x1024, .f32⟩
  | .hbm, ⟨20, _⟩ => ⟨S2816x1024, .bf16⟩
  | .hbm, ⟨21, _⟩ => ⟨S5632x1024, .f32⟩
  | .hbm, ⟨22, _⟩ => ⟨S5632x1024, .bf16⟩
  | .hbm, ⟨23, _⟩ => ⟨S8320x1024, .bf16⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S5632x1024, .f32⟩
  | .hbm, ⟨29, _⟩ => ⟨S1024x5632, .f32⟩
  | .local _ .vmem, ⟨0, _⟩ => ⟨S640x1024, .bf16⟩
  | .local _ .vmem, ⟨1, _⟩ => ⟨S640x1024, .bf16⟩
  | .local _ .vmem, ⟨2, _⟩ => ⟨S2816x1024, .bf16⟩
  | .local _ .vmem, ⟨3, _⟩ => ⟨S2816x1024, .bf16⟩
  | .local _ .vmem, ⟨4, _⟩ => ⟨S640x2816, .bf16⟩
  | .local _ .vmem, ⟨5, _⟩ => ⟨S640x2816, .bf16⟩
  | .local _ .vmem, ⟨6, _⟩ => ⟨S640x1408, .bf16⟩
  | .local _ .vmem, ⟨7, _⟩ => ⟨S640x1408, .bf16⟩
  | .local _ .vmem, ⟨8, _⟩ => ⟨S1040x2816, .bf16⟩
  | .local _ .vmem, ⟨9, _⟩ => ⟨S1040x2816, .bf16⟩
  | .local _ .vmem, ⟨10, _⟩ => ⟨S2816x1024, .bf16⟩
  | .local _ .vmem, ⟨11, _⟩ => ⟨S1040x1024, .f32⟩
  | .local _ .vmem, ⟨12, _⟩ => ⟨S1040x1024, .f32⟩
  | .local _ .vmem, ⟨13, _⟩ => ⟨S1040x1024, .f32⟩
  | .local _ .vmem, ⟨14, _⟩ => ⟨S1040x1024, .f32⟩
  | .local _ .vmem, ⟨15, _⟩ => ⟨S640x1024, .bf16⟩
  | .local _ .vmem, ⟨16, _⟩ => ⟨S640x1024, .bf16⟩
  | .local _ .vmem, ⟨17, _⟩ => ⟨S1408x1024, .bf16⟩
  | .local _ .vmem, ⟨18, _⟩ => ⟨S1408x1024, .bf16⟩
  | .local _ .vmem, ⟨19, _⟩ => ⟨S640x2816, .bf16⟩
  | .local _ .vmem, ⟨20, _⟩ => ⟨S640x2816, .bf16⟩
  | .local _ .vmem, ⟨21, _⟩ => ⟨S640x2816, .bf16⟩
  | .local _ .vmem, ⟨22, _⟩ => ⟨S640x2816, .bf16⟩
  | .local _ .vmem, ⟨23, _⟩ => ⟨S2080x1408, .bf16⟩
  | .local _ .vmem, ⟨24, _⟩ => ⟨S2080x1408, .bf16⟩
  | .local _ .vmem, ⟨25, _⟩ => ⟨S2080x1024, .bf16⟩
  | .local _ .vmem, ⟨26, _⟩ => ⟨S2080x1024, .bf16⟩
  | .local _ .vmem, ⟨27, _⟩ => ⟨S1408x1024, .f32⟩
  | .local _ .vmem, ⟨28, _⟩ => ⟨S1408x1024, .f32⟩
  | .local _ .vmem, ⟨29, _⟩ => ⟨S1408x1024, .bf16⟩
  | .local _ .vmem, ⟨30, _⟩ => ⟨S1408x1024, .bf16⟩
  | .local _ .vmem, ⟨31, _⟩ => ⟨S2080x1408, .bf16⟩
  | .local _ .vmem, ⟨32, _⟩ => ⟨S2080x1408, .bf16⟩
  | .local _ .vmem, ⟨33, _⟩ => ⟨S2080x1024, .bf16⟩
  | .local _ .vmem, ⟨34, _⟩ => ⟨S2080x1024, .bf16⟩
  | .local _ .vmem, ⟨35, _⟩ => ⟨S1408x1024, .f32⟩
  | .local _ .vmem, ⟨36, _⟩ => ⟨S1408x1024, .f32⟩
  | .local _ .vmem, ⟨37, _⟩ => ⟨S1408x1024, .bf16⟩
  | .local _ .vmem, ⟨38, _⟩ => ⟨S1408x1024, .bf16⟩
  | .local _ .vmem, ⟨39, _⟩ => ⟨S640x5632, .bf16⟩
  | .local _ .vmem, ⟨40, _⟩ => ⟨S640x5632, .bf16⟩
  | .local _ .vmem, ⟨41, _⟩ => ⟨S5632x1024, .bf16⟩
  | .local _ .vmem, ⟨42, _⟩ => ⟨S640x1024, .bf16⟩
  | .local _ .vmem, ⟨43, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1040x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1040x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1040x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![13, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S640x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S640x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S640x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![2, 1, 4], ![false, false, false]⟩

def k3_cond2 (i : grid3.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2080x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2080x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1408x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 4], ![false, false, false]⟩

def k4_cond2 (i : grid4.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2080x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2080x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1408x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![13, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S640x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S5632x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S640x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== FeedRefIdeal.lean ====
abbrev S8320x1024 : Shape := ⟨2, ![8320, 1024]⟩
abbrev S1024x5632 : Shape := ⟨2, ![1024, 5632]⟩
abbrev S2816x1024 : Shape := ⟨2, ![2816, 1024]⟩
abbrev S8320x5632 : Shape := ⟨2, ![8320, 5632]⟩
abbrev S8320x2816 : Shape := ⟨2, ![8320, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S2816x1024, .f32⟩
  | .hbm, ⟨3, _⟩ => ⟨S8320x1024, .f32⟩
  | .hbm, ⟨4, _⟩ => ⟨S8320x1024, .f32⟩
  | .hbm, ⟨5, _⟩ => ⟨S8320x5632, .f32⟩
  | .hbm, ⟨6, _⟩ => ⟨S8320x2816, .f32⟩
  | .hbm, ⟨7, _⟩ => ⟨S8320x2816, .f32⟩
  | .hbm, ⟨8, _⟩ => ⟨S8320x2816, .f32⟩
  | .hbm, ⟨9, _⟩ => ⟨S8320x2816, .f32⟩
  | .hbm, ⟨10, _⟩ => ⟨S_, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x2816, .f32⟩
  | .hbm, ⟨15, _⟩ => ⟨S8320x2816, .f32⟩
  | .hbm, ⟨16, _⟩ => ⟨S_, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S8320x1024, .f32⟩
  | .hbm, ⟨23, _⟩ => ⟨S1024x2816, .f32⟩
  | .hbm, ⟨24, _⟩ => ⟨S2816x1024, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S8320x5632, .f32⟩
  | .hbm, ⟨33, _⟩ => ⟨S5632x1024, .f32⟩
  | .hbm, ⟨34, _⟩ => ⟨S1024x5632, .f32⟩
  | .hbm, ⟨35, _⟩ => ⟨S8320x1024, .f32⟩
  | .hbm, ⟨36, _⟩ => ⟨S8320x1024, .f32⟩
  | .hbm, ⟨37, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proj.lean ====
abbrev S8320x1024 : Shape := ⟨2, ![8320, 1024]⟩
abbrev S1024x4608 : Shape := ⟨2, ![1024, 4608]⟩
abbrev S8320x1536 : Shape := ⟨2, ![8320, 1536]⟩
abbrev S8320x2048 : Shape := ⟨2, ![8320, 2048]⟩
abbrev S4608x1024 : Shape := ⟨2, ![4608, 1024]⟩
abbrev S2048x1024 : Shape := ⟨2, ![2048, 1024]⟩
abbrev S1024x1024 : Shape := ⟨2, ![1024, 1024]⟩
abbrev S1536x1024 : Shape := ⟨2, ![1536, 1024]⟩
abbrev S2080x1024 : Shape := ⟨2, ![2080, 1024]⟩
abbrev S2080x1536 : Shape := ⟨2, ![2080, 1536]⟩
abbrev S8320x4608 : Shape := ⟨2, ![8320, 4608]⟩
abbrev S2080x512 : Shape := ⟨2, ![2080, 512]⟩
abbrev S512x1024 : Shape := ⟨2, ![512, 1024]⟩
abbrev S640x4608 : Shape := ⟨2, ![640, 4608]⟩
abbrev S640x1024 : Shape := ⟨2, ![640, 1024]⟩

abbrev nBuf : Space → Nat
  | .hbm => 19
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x1536, .f32⟩
  | .hbm, ⟨3, _⟩ => ⟨S8320x1024, .f32⟩
  | .hbm, ⟨4, _⟩ => ⟨S8320x2048, .f32⟩
  | .hbm, ⟨5, _⟩ => ⟨S4608x1024, .f32⟩
  | .hbm, ⟨6, _⟩ => ⟨S4608x1024, .bf16⟩
  | .hbm, ⟨7, _⟩ => ⟨S2048x1024, .bf16⟩
  | .hbm, ⟨8, _⟩ => ⟨S1024x1024, .bf16⟩
  | .hbm, ⟨9, _⟩ => ⟨S1536x1024, .bf16⟩
  | .hbm, ⟨10, _⟩ => ⟨S4608x1024, .bf16⟩
  | .hbm, ⟨11, _⟩ => ⟨S8320x1024, .bf16⟩
  | .hbm, ⟨12, _⟩ => ⟨S8320x1536, .f32⟩
  | .hbm, ⟨13, _⟩ => ⟨S8320x4608, .f32⟩
  | .hbm, ⟨14, _⟩ => ⟨S8320x4608, .bf16⟩
  | .hbm, ⟨15, _⟩ => ⟨S4608x1024, .f32⟩
  | .hbm, ⟨16, _⟩ => ⟨S4608x1024, .bf16⟩
  | .hbm, ⟨17, _⟩ => ⟨S8320x1024, .bf16⟩
  | .hbm, ⟨18, _⟩ => ⟨S1024x4608, .f32⟩
  | .local _ .vmem, ⟨0, _⟩ => ⟨S2080x1024, .bf16⟩
  | .local _ .vmem, ⟨1, _⟩ => ⟨S2080x1024, .bf16⟩
  | .local _ .vmem, ⟨2, _⟩ => ⟨S1536x1024, .bf16⟩
  | .local _ .vmem, ⟨3, _⟩ => ⟨S2080x1536, .f32⟩
  | .local _ .vmem, ⟨4, _⟩ => ⟨S2080x1536, .f32⟩
  | .local _ .vmem, ⟨5, _⟩ => ⟨S2080x512, .bf16⟩
  | .local _ .vmem, ⟨6, _⟩ => ⟨S2080x512, .bf16⟩
  | .local _ .vmem, ⟨7, _⟩ => ⟨S2080x1024, .bf16⟩
  | .local _ .vmem, ⟨8, _⟩ => ⟨S2080x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S640x4608, .bf16⟩
  | .local _ .vmem, ⟨14, _⟩ => ⟨S640x4608, .bf16⟩
  | .local _ .vmem, ⟨15, _⟩ => ⟨S4608x1024, .bf16⟩
  | .local _ .vmem, ⟨16, _⟩ => ⟨S640x1024, .bf16⟩
  | .local _ .vmem, ⟨17, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2080x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![9, 1, 4], ![false, false, false]⟩

def k1_cond2 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c3_i32 : BitVec 32 := 3#32
  let v1 : BitVec 32 := Scalar.addi arg0 c3_i32
  let c2_i32 : BitVec 32 := 2#32
  let v2 : BitVec 32 := Scalar.addi v1 c2_i32
  let c6_i32 : BitVec 32 := 6#32
  let v3 : BitVec 1 := Scalar.cmpi .slt arg0 c6_i32
  let c4_i32_0 : BitVec 32 := 4#32
  let v4 : BitVec 32 := Scalar.subi arg0 c4_i32_0
  let c3_i32_1 : BitVec 32 := 3#32
  let v5 : BitVec 32 := Scalar.addi v4 c3_i32_1
  let c4_i32_2 : BitVec 32 := 4#32
  let v6 : BitVec 32 := Scalar.subi arg0 c4_i32_2
  let c2_i32_3 : BitVec 32 := 2#32
  let v7 : BitVec 32 := Scalar.subi v6 c2_i32_3
  let v8 : BitVec 32 := Scalar.select v3 v5 v7
  let v9 : BitVec 32 := Scalar.select v0 v2 v8
  let c0_i32 : BitVec 32 := 0#32
  ![v9.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c3_i32 : BitVec 32 := 3#32
  let v1 : BitVec 32 := Scalar.addi arg0 c3_i32
  let c2_i32 : BitVec 32 := 2#32
  let v2 : BitVec 32 := Scalar.addi v1 c2_i32
  let c6_i32 : BitVec 32 := 6#32
  let v3 : BitVec 1 := Scalar.cmpi .slt arg0 c6_i32
  let c4_i32_0 : BitVec 32 := 4#32
  let v4 : BitVec 32 := Scalar.subi arg0 c4_i32_0
  let c3_i32_1 : BitVec 32 := 3#32
  let v5 : BitVec 32 := Scalar.addi v4 c3_i32_1
  let c4_i32_2 : BitVec 32 := 4#32
  let v6 : BitVec 32 := Scalar.subi arg0 c4_i32_2
  let c2_i32_3 : BitVec 32 := 2#32
  let v7 : BitVec 32 := Scalar.subi v6 c2_i32_3
  let v8 : BitVec 32 := Scalar.select v3 v5 v7
  let v9 : BitVec 32 := Scalar.select v0 v2 v8
  let c0_i32 : BitVec 32 := 0#32
  ![v9.toNat, arg1.toNat]

abbrev stage1_0 : Fin 2 → Memref sig .tc .vmem S2080x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2080x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![13, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S640x4608 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4608x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S640x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjRefIdeal.lean ====
abbrev S8320x1024 : Shape := ⟨2, ![8320, 1024]⟩
abbrev S1024x4608 : Shape := ⟨2, ![1024, 4608]⟩
abbrev S8320x1536 : Shape := ⟨2, ![8320, 1536]⟩
abbrev S8320x2048 : Shape := ⟨2, ![8320, 2048]⟩
abbrev S8320x4608 : Shape := ⟨2, ![8320, 4608]⟩
abbrev S4608x1024 : Shape := ⟨2, ![4608, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x1536, .f32⟩
  | .hbm, ⟨3, _⟩ => ⟨S8320x1024, .f32⟩
  | .hbm, ⟨4, _⟩ => ⟨S8320x2048, .f32⟩
  | .hbm, ⟨5, _⟩ => ⟨S8320x4608, .f32⟩
  | .hbm, ⟨6, _⟩ => ⟨S8320x1536, .f32⟩
  | .hbm, ⟨7, _⟩ => ⟨S8320x1024, .f32⟩
  | .hbm, ⟨8, _⟩ => ⟨S8320x2048, .f32⟩
  | .hbm, ⟨9, _⟩ => ⟨S8320x4608, .f32⟩
  | .hbm, ⟨10, _⟩ => ⟨S4608x1024, .f32⟩
  | .hbm, ⟨11, _⟩ => ⟨S1024x4608, .f32⟩
  | .hbm, ⟨12, _⟩ => ⟨S8320x1024, .f32⟩
  | .hbm, ⟨13, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== ProjU.lean ====
abbrev S8320x1024 : Shape := ⟨2, ![8320, 1024]⟩
abbrev S1024x4608 : Shape := ⟨2, ![1024, 4608]⟩
abbrev S4608x1024 : Shape := ⟨2, ![4608, 1024]⟩
abbrev S2048x1024 : Shape := ⟨2, ![2048, 1024]⟩
abbrev S1024x1024 : Shape := ⟨2, ![1024, 1024]⟩
abbrev S1536x1024 : Shape := ⟨2, ![1536, 1024]⟩
abbrev S2080x1024 : Shape := ⟨2, ![2080, 1024]⟩

abbrev nBuf : Space → Nat
  | .hbm => 10
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x1024, .bf16⟩
  | .hbm, ⟨3, _⟩ => ⟨S4608x1024, .f32⟩
  | .hbm, ⟨4, _⟩ => ⟨S4608x1024, .bf16⟩
  | .hbm, ⟨5, _⟩ => ⟨S2048x1024, .bf16⟩
  | .hbm, ⟨6, _⟩ => ⟨S1024x1024, .bf16⟩
  | .hbm, ⟨7, _⟩ => ⟨S1536x1024, .bf16⟩
  | .hbm, ⟨8, _⟩ => ⟨S4608x1024, .bf16⟩
  | .hbm, ⟨9, _⟩ => ⟨S8320x1024, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S2080x1024, .f32⟩
  | .local _ .vmem, ⟨4, _⟩ => ⟨S2080x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjURefIdeal.lean ====
abbrev S8320x1024 : Shape := ⟨2, ![8320, 1024]⟩
abbrev S1024x4608 : Shape := ⟨2, ![1024, 4608]⟩
abbrev S8320x4608 : Shape := ⟨2, ![8320, 4608]⟩
abbrev S8320x1536 : Shape := ⟨2, ![8320, 1536]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x4608, .f32⟩
  | .hbm, ⟨3, _⟩ => ⟨S8320x1536, .f32⟩
  | .hbm, ⟨4, _⟩ => ⟨S8320x1024, .f32⟩
  | .hbm, ⟨5, _⟩ => ⟨S8320x2048, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGates.lean ====
abbrev S8320x1024 : Shape := ⟨2, ![8320, 1024]⟩
abbrev S1024x4608 : Shape := ⟨2, ![1024, 4608]⟩
abbrev S4608x1024 : Shape := ⟨2, ![4608, 1024]⟩
abbrev S2048x1024 : Shape := ⟨2, ![2048, 1024]⟩
abbrev S1024x1024 : Shape := ⟨2, ![1024, 1024]⟩
abbrev S1536x1024 : Shape := ⟨2, ![1536, 1024]⟩
abbrev S8320x2048 : Shape := ⟨2, ![8320, 2048]⟩
abbrev S2080x1024 : Shape := ⟨2, ![2080, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x1024, .bf16⟩
  | .hbm, ⟨3, _⟩ => ⟨S4608x1024, .f32⟩
  | .hbm, ⟨4, _⟩ => ⟨S4608x1024, .bf16⟩
  | .hbm, ⟨5, _⟩ => ⟨S2048x1024, .bf16⟩
  | .hbm, ⟨6, _⟩ => ⟨S1024x1024, .bf16⟩
  | .hbm, ⟨7, _⟩ => ⟨S1536x1024, .bf16⟩
  | .hbm, ⟨8, _⟩ => ⟨S4608x1024, .bf16⟩
  | .hbm, ⟨9, _⟩ => ⟨S8320x2048, .bf16⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .bf16⟩
  | .local _ .vmem, ⟨5, _⟩ => ⟨S2080x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S8320x1024 : Shape := ⟨2, ![8320, 1024]⟩
abbrev S1024x4608 : Shape := ⟨2, ![1024, 4608]⟩
abbrev S8320x4608 : Shape := ⟨2, ![8320, 4608]⟩
abbrev S8320x1536 : Shape := ⟨2, ![8320, 1536]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x4608, .f32⟩
  | .hbm, ⟨2, _⟩ => ⟨S8320x4608, .f32⟩
  | .hbm, ⟨3, _⟩ => ⟨S8320x1536, .f32⟩
  | .hbm, ⟨4, _⟩ => ⟨S8320x1024, .f32⟩
  | .hbm, ⟨5, _⟩ => ⟨S8320x2048, .f32⟩
  | .hbm, ⟨6, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix.lean ====
abbrev S8320x1024 : Shape := ⟨2, ![8320, 1024]⟩
abbrev S1024x2048 : Shape := ⟨2, ![1024, 2048]⟩
abbrev S8320x2048 : Shape := ⟨2, ![8320, 2048]⟩
abbrev S1024x1024 : Shape := ⟨2, ![1024, 1024]⟩
abbrev S1x1024 : Shape := ⟨2, ![1, 1024]⟩
abbrev S2048x1024 : Shape := ⟨2, ![2048, 1024]⟩
abbrev S2080x1024 : Shape := ⟨2, ![2080, 1024]⟩
abbrev S1040x1024 : Shape := ⟨2, ![1040, 1024]⟩
abbrev S1040 : Shape := ⟨1, ![1040]⟩
abbrev S1040x1 : Shape := ⟨2, ![1040, 1]⟩
abbrev S1040x2048 : Shape := ⟨2, ![1040, 2048]⟩

abbrev nBuf : Space → Nat
  | .hbm => 25
  | .vmem => 40
  | .smem => 0
  | _ => 0

abbrev bufTy : (tb : Table) → Fin (tcTables nBuf tb) → BufTy
  | .hbm, ⟨0, _⟩ => ⟨S8320x1024, .f32⟩
  | .hbm, ⟨1, _⟩ => ⟨S1024x2048, .f32⟩
  | .hbm, ⟨2, _⟩ => ⟨S8320x2048, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S1x1024, .f32⟩
  | .hbm, ⟨7, _⟩ => ⟨S8320x1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S8320x1024, .bf16⟩
  | .hbm, ⟨12, _⟩ => ⟨S8320x2048, .bf16⟩
  | .hbm, ⟨13, _⟩ => ⟨S8320x1024, .bf16⟩
  | .hbm, ⟨14, _⟩ => ⟨S8320x1024, .bf16⟩
  | .hbm, ⟨15, _⟩ => ⟨S8320x2048, .bf16⟩
  | .hbm, ⟨16, _⟩ => ⟨S8320x1024, .f32⟩
  | .hbm, ⟨17, _⟩ => ⟨S8320x1024, .bf16⟩
  | .hbm, ⟨18, _⟩ => ⟨S8320x1024, .bf16⟩
  | .hbm, ⟨19, _⟩ => ⟨S1024x1024, .f32⟩
  | .hbm, ⟨20, _⟩ => ⟨S1024x1024, .bf16⟩
  | .hbm, ⟨21, _⟩ => ⟨S8320x1024, .bf16⟩
  | .hbm, ⟨22, _⟩ => ⟨S2048x1024, .f32⟩
  | .hbm, ⟨23, _⟩ => ⟨S2048x1024, .bf16⟩
  | .hbm, ⟨24, _⟩ => ⟨S1024x2048, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .bf16⟩
  | .local _ .vmem, ⟨5, _⟩ => ⟨S2080x1024, .bf16⟩
  | .local _ .vmem, ⟨6, _⟩ => ⟨S1040x1024, .bf16⟩
  | .local _ .vmem, ⟨7, _⟩ => ⟨S1040x1024, .bf16⟩
  | .local _ .vmem, ⟨8, _⟩ => ⟨S1024x1024, .bf16⟩
  | .local _ .vmem, ⟨9, _⟩ => ⟨S1040x1024, .f32⟩
  | .local _ .vmem, ⟨10, _⟩ => ⟨S1040x1024, .f32⟩
  | .local _ .vmem, ⟨11, _⟩ => ⟨S1x1024, .f32⟩
  | .local _ .vmem, ⟨12, _⟩ => ⟨S1040x1024, .f32⟩
  | .local _ .vmem, ⟨13, _⟩ => ⟨S1040x1024, .f32⟩
  | .local _ .vmem, ⟨14, _⟩ => ⟨S1040x1024, .bf16⟩
  | .local _ .vmem, ⟨15, _⟩ => ⟨S1040x1024, .bf16⟩
  | .local _ .vmem, ⟨16, _⟩ => ⟨S2080x1024, .bf16⟩
  | .local _ .vmem, ⟨17, _⟩ => ⟨S2080x1024, .bf16⟩
  | .local _ .vmem, ⟨18, _⟩ => ⟨S1024x1024, .bf16⟩
  | .local _ .vmem, ⟨19, _⟩ => ⟨S2080x1024, .bf16⟩
  | .local _ .vmem, ⟨20, _⟩ => ⟨S2080x1024, .bf16⟩
  | .local _ .vmem, ⟨21, _⟩ => ⟨S2080x1024, .bf16⟩
  | .local _ .vmem, ⟨22, _⟩ => ⟨S2080x1024, .bf16⟩
  | .local _ .vmem, ⟨23, _⟩ => ⟨S2080x1024, .bf16⟩
  | .local _ .vmem, ⟨24, _⟩ => ⟨S2080x1024, .bf16⟩
  | .local _ .vmem, ⟨25, _⟩ => ⟨S1024x1024, .f32⟩
  | .local _ .vmem, ⟨26, _⟩ => ⟨S1024x1024, .bf16⟩
  | .local _ .vmem, ⟨27, _⟩ => ⟨S1040x2048, .bf16⟩
  | .local _ .vmem, ⟨28, _⟩ => ⟨S1040x2048, .bf16⟩
  | .local _ .vmem, ⟨29, _⟩ => ⟨S2048x1024, .bf16⟩
  | .local _ .vmem, ⟨30, _⟩ => ⟨S1040x1024, .bf16⟩
  | .local _ .vmem, ⟨31, _⟩ => ⟨S1040x1024, .bf16⟩
  | .local _ .vmem, ⟨32, _⟩ => ⟨S2080x1024, .bf16⟩
  | .local _ .vmem, ⟨33, _⟩ => ⟨S2080x1024, .bf16⟩
  | .local _ .vmem, ⟨34, _⟩ => ⟨S2080x1024, .bf16⟩
  | .local _ .vmem, ⟨35, _⟩ => ⟨S2080x1024, .bf16⟩
  | .local _ .vmem, ⟨36, _⟩ => ⟨S1024x1024, .f32⟩
  | .local _ .vmem, ⟨37, _⟩ => ⟨S1024x1024, .f32⟩
  | .local _ .vmem, ⟨38, _⟩ => ⟨S1024x1024, .bf16⟩
  | .local _ .vmem, ⟨39, _⟩ => ⟨S1024x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1040x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1040x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1040x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1040x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2080x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2080x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 4], ![false, false, false]⟩

def k3_cond2 (i : grid3.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2080x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2080x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1040x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1040x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 4], ![false, false, false]⟩

def k5_cond2 (i : grid5.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2080x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2080x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== MixRefIdeal.lean ====
abbrev S8320x1024 : Shape := ⟨2, ![8320, 1024]⟩
abbrev S1024x2048 : Shape := ⟨2, ![1024, 2048]⟩
abbrev S8320x2048 : Shape := ⟨2, ![8320, 2048]⟩
abbrev S1024x1024 : Shape := ⟨2, ![1024, 1024]⟩
abbrev S1x1024 : Shape := ⟨2, ![1, 1024]⟩
abbrev S2048x1024 : Shape := ⟨2, ![2048, 1024]⟩
abbrev S_ : Shape := ⟨0, ![]⟩
abbrev S8320 : Shape := ⟨1, ![8320]⟩
abbrev S8320x1 : Shape := ⟨2, ![8320, 1]⟩

abbrev nBuf : Space → Nat
  | .hbm => 36
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x2048, .f32⟩
  | .hbm, ⟨2, _⟩ => ⟨S8320x2048, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S1x1024, .f32⟩
  | .hbm, ⟨7, _⟩ => ⟨S8320x1024, .f32⟩
  | .hbm, ⟨8, _⟩ => ⟨S8320x2048, .f32⟩
  | .hbm, ⟨9, _⟩ => ⟨S2048x1024, .f32⟩
  | .hbm, ⟨10, _⟩ => ⟨S1024x2048, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S1024x1024, .f32⟩
  | .hbm, ⟨15, _⟩ => ⟨S1024x1024, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S_, .f32⟩
  | .hbm, ⟨25, _⟩ => ⟨S8320x1, .f32⟩
  | .hbm, ⟨26, _⟩ => ⟨S8320x1, .f32⟩
  | .hbm, ⟨27, _⟩ => ⟨S8320x1, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x2048, .bf16⟩
  | .hbm, ⟨33, _⟩ => ⟨S8320x1024, .bf16⟩
  | .hbm, ⟨34, _⟩ => ⟨S8320x1024, .bf16⟩
  | .hbm, ⟨35, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Norm.lean ====
abbrev S8320x1024 : Shape := ⟨2, ![8320, 1024]⟩
abbrev S1x1024 : Shape := ⟨2, ![1, 1024]⟩
abbrev S320x1024 : Shape := ⟨2, ![320, 1024]⟩
abbrev S320 : Shape := ⟨1, ![320]⟩
abbrev S320x1 : Shape := ⟨2, ![320, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .bf16⟩
  | .hbm, ⟨5, _⟩ => ⟨S8320x1024, .f32⟩
  | .hbm, ⟨6, _⟩ => ⟨S8320x1024, .bf16⟩
  | .hbm, ⟨7, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S320x1024, .bf16⟩
  | .local _ .vmem, ⟨4, _⟩ => ⟨S320x1024, .bf16⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .bf16⟩
  | .local _ .vmem, ⟨10, _⟩ => ⟨S320x1024, .bf16⟩
  | .local _ .vmem, ⟨11, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S_, .f32⟩
  | .hbm, ⟨40, _⟩ => ⟨S8320, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Merge.lean ====
abbrev S8320x1024 : Shape := ⟨2, ![8320, 1024]⟩
abbrev S8320x2048 : Shape := ⟨2, ![8320, 2048]⟩
abbrev S1x1024 : Shape := ⟨2, ![1, 1024]⟩
abbrev S8320x4608 : Shape := ⟨2, ![8320, 4608]⟩
abbrev S8320x128 : Shape := ⟨2, ![8320, 128]⟩
abbrev S320x1024 : Shape := ⟨2, ![320, 1024]⟩
abbrev S320x2048 : Shape := ⟨2, ![320, 2048]⟩
abbrev S320x128 : Shape := ⟨2, ![320, 128]⟩
abbrev S320 : Shape := ⟨1, ![320]⟩
abbrev S320x1 : Shape := ⟨2, ![320, 1]⟩
abbrev S1024 : Shape := ⟨1, ![1024]⟩
abbrev S1024x128 : Shape := ⟨2, ![1024, 128]⟩

abbrev nBuf : Space → Nat
  | .hbm => 16
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S8320x2048, .f32⟩
  | .hbm, ⟨3, _⟩ => ⟨S1x1024, .f32⟩
  | .hbm, ⟨4, _⟩ => ⟨S1x1024, .f32⟩
  | .hbm, ⟨5, _⟩ => ⟨S8320x1024, .f32⟩
  | .hbm, ⟨6, _⟩ => ⟨S8320x2048, .bf16⟩
  | .hbm, ⟨7, _⟩ => ⟨S8320x2048, .bf16⟩
  | .hbm, ⟨8, _⟩ => ⟨S8320x1024, .bf16⟩
  | .hbm, ⟨9, _⟩ => ⟨S8320x1024, .bf16⟩
  | .hbm, ⟨10, _⟩ => ⟨S8320x2048, .bf16⟩
  | .hbm, ⟨11, _⟩ => ⟨S8320x4608, .bf16⟩
  | .hbm, ⟨12, _⟩ => ⟨S1x1024, .f32⟩
  | .hbm, ⟨13, _⟩ => ⟨S1x1024, .f32⟩
  | .hbm, ⟨14, _⟩ => ⟨S8320x128, .f32⟩
  | .hbm, ⟨15, _⟩ => ⟨S8320x2048, .bf16⟩
  | .local _ .vmem, ⟨0, _⟩ => ⟨S320x1024, .f32⟩
  | .local _ .vmem, ⟨1, _⟩ => ⟨S320x1024, .f32⟩
  | .local _ .vmem, ⟨2, _⟩ => ⟨S320x2048, .bf16⟩
  | .local _ .vmem, ⟨3, _⟩ => ⟨S320x2048, .bf16⟩
  | .local _ .vmem, ⟨4, _⟩ => ⟨S320x2048, .bf16⟩
  | .local _ .vmem, ⟨5, _⟩ => ⟨S320x2048, .bf16⟩
  | .local _ .vmem, ⟨6, _⟩ => ⟨S1x1024, .f32⟩
  | .local _ .vmem, ⟨7, _⟩ => ⟨S1x1024, .f32⟩
  | .local _ .vmem, ⟨8, _⟩ => ⟨S320x1024, .bf16⟩
  | .local _ .vmem, ⟨9, _⟩ => ⟨S320x1024, .bf16⟩
  | .local _ .vmem, ⟨10, _⟩ => ⟨S320x1024, .bf16⟩
  | .local _ .vmem, ⟨11, _⟩ => ⟨S320x1024, .bf16⟩
  | .local _ .vmem, ⟨12, _⟩ => ⟨S320x2048, .bf16⟩
  | .local _ .vmem, ⟨13, _⟩ => ⟨S320x2048, .bf16⟩
  | .local _ .vmem, ⟨14, _⟩ => ⟨S320x2048, .bf16⟩
  | .local _ .vmem, ⟨15, _⟩ => ⟨S320x2048, .bf16⟩
  | .local _ .vmem, ⟨16, _⟩ => ⟨S1x1024, .f32⟩
  | .local _ .vmem, ⟨17, _⟩ => ⟨S1x1024, .f32⟩
  | .local _ .vmem, ⟨18, _⟩ => ⟨S320x128, .f32⟩
  | .local _ .vmem, ⟨19, _⟩ => ⟨S320x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S320x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8320x1024 : Shape := ⟨2, ![8320, 1024]⟩
abbrev S8320x2048 : Shape := ⟨2, ![8320, 2048]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 150
  | .vmem => 0
  | .smem => 0
  | _ => 0

abbrev hbmTy0_0 (i : Nat) : BufTy := match i % 128 with
  | 0 => ⟨S8320x1024, .f32⟩
  | 1 => ⟨S8320x2048, .f32⟩
  | 2 => ⟨S8320x2048, .f32⟩
  | 3 => ⟨S1x1024, .f32⟩
  | 4 => ⟨S1x1024, .f32⟩
  | 5 => ⟨S8320x1024, .f32⟩
  | 6 => ⟨S8320x1024, .f32⟩
  | 7 => ⟨S8320x1024, .f32⟩
  | 8 => ⟨S8320x1024, .f32⟩
  | 9 => ⟨S8320x1024, .f32⟩
  | 10 => ⟨S8320x1024, .f32⟩
  | 11 => ⟨S8320x1024, .f32⟩
  | 12 => ⟨S_, .f32⟩
  | 13 => ⟨S8320x1024, .f32⟩
  | 14 => ⟨S8320x1024, .f32⟩
  | 15 => ⟨S_, .f32⟩
  | 16 => ⟨S8320x1024, .f32⟩
  | 17 => ⟨S8320x1024, .f32⟩
  | 18 => ⟨S_, .f32⟩
  | 19 => ⟨S8320x1024, .f32⟩
  | 20 => ⟨S8320x1024, .f32⟩
  | 21 => ⟨S8320x1024, .f32⟩
  | 22 => ⟨S8320x1024, .f32⟩
  | 23 => ⟨S8320x1024, .f32⟩
  | 24 => ⟨S8320x1024, .f32⟩
  | 25 => ⟨S_, .f32⟩
  | 26 => ⟨S8320x1024, .f32⟩
  | 27 => ⟨S8320x1024, .f32⟩
  | 28 => ⟨S_, .f32⟩
  | 29 => ⟨S8320x1024, .f32⟩
  | 30 => ⟨S8320x1024, .f32⟩
  | 31 => ⟨S_, .f32⟩
  | 32 => ⟨S8320x1024, .f32⟩
  | 33 => ⟨S8320x1024, .f32⟩
  | 34 => ⟨S8320x1024, .f32⟩
  | 35 => ⟨S8320x1024, .f32⟩
  | 36 => ⟨S_, .f32⟩
  | 37 => ⟨S8320, .f32⟩
  | 38 => ⟨S8320x1, .f32⟩
  | 39 => ⟨S_, .f32⟩
  | 40 => ⟨S8320x1, .f32⟩
  | 41 => ⟨S8320x1, .f32⟩
  | 42 => ⟨S_, .f32⟩
  | 43 => ⟨S8320x1, .f32⟩
  | 44 => ⟨S8320x1, .f32⟩
  | 45 => ⟨S8320x1, .f32⟩
  | 46 => ⟨S8320x1, .f32⟩
  | 47 => ⟨S_, .f32⟩
  | 48 => ⟨S8320x1, .f32⟩
  | 49 => ⟨S8320x1, .f32⟩
  | 50 => ⟨S8320x1024, .f32⟩
  | 51 => ⟨S8320x1024, .f32⟩
  | 52 => ⟨S8320x1024, .f32⟩
  | 53 => ⟨S8320x1024, .f32⟩
  | 54 => ⟨S8320x1024, .f32⟩
  | 55 => ⟨S8320x1024, .f32⟩
  | 56 => ⟨S8320x1024, .f32⟩
  | 57 => ⟨S_, .f32⟩
  | 58 => ⟨S8320x1024, .f32⟩
  | 59 => ⟨S8320x1024, .f32⟩
  | 60 => ⟨S_, .f32⟩
  | 61 => ⟨S8320x1024, .f32⟩
  | 62 => ⟨S8320x1024, .f32⟩
  | 63 => ⟨S_, .f32⟩
  | 64 => ⟨S8320x1024, .f32⟩
  | 65 => ⟨S8320x1024, .f32⟩
  | 66 => ⟨S8320x1024, .f32⟩
  | 67 => ⟨S8320x1024, .f32⟩
  | 68 => ⟨S_, .f32⟩
  | 69 => ⟨S8320, .f32⟩
  | 70 => ⟨S8320x1, .f32⟩
  | 71 => ⟨S_, .f32⟩
  | 72 => ⟨S8320x1, .f32⟩
  | 73 => ⟨S8320x1, .f32⟩
  | 74 => ⟨S_, .f32⟩
  | 75 => ⟨S8320x1, .f32⟩
  | 76 => ⟨S8320x1, .f32⟩
  | 77 => ⟨S8320x1, .f32⟩
  | 78 => ⟨S8320x1, .f32⟩
  | 79 => ⟨S_, .f32⟩
  | 80 => ⟨S8320x1, .f32⟩
  | 81 => ⟨S8320x1, .f32⟩
  | 82 => ⟨S8320x1024, .f32⟩
  | 83 => ⟨S8320x1024, .f32⟩
  | 84 => ⟨S8320x1024, .f32⟩
  | 85 => ⟨S8320x1024, .f32⟩
  | 86 => ⟨S8320x1024, .f32⟩
  | 87 => ⟨S8320x1024, .f32⟩
  | 88 => ⟨S8320x1024, .f32⟩
  | 89 => ⟨S8320x1024, .f32⟩
  | 90 => ⟨S8320x1024, .f32⟩
  | 91 => ⟨S8320x1024, .f32⟩
  | 92 => ⟨S8320x1024, .f32⟩
  | 93 => ⟨S_, .f32⟩
  | 94 => ⟨S1024, .f32⟩
  | 95 => ⟨S1x1024, .f32⟩
  | 96 => ⟨S8320x1024, .f32⟩
  | 97 => ⟨S8320x1024, .f32⟩
  | 98 => ⟨S8320x1024, .f32⟩
  | 99 => ⟨S_, .f32⟩
  | 100 => ⟨S8320, .f32⟩
  | 101 => ⟨S8320x1, .f32⟩
  | 102 => ⟨S8320x1024, .f32⟩
  | 103 => ⟨S8320x1024, .f32⟩
  | 104 => ⟨S8320x1, .f32⟩
  | 105 => ⟨S_, .f32⟩
  | 106 => ⟨S8320x1, .f32⟩
  | 107 => ⟨S8320x1, .f32⟩
  | 108 => ⟨S_, .f32⟩
  | 109 => ⟨S8320, .f32⟩
  | 110 => ⟨S8320x1024, .f32⟩
  | 111 => ⟨S8320x1024, .f32⟩
  | 112 => ⟨S8320x1024, .f32⟩
  | 113 => ⟨S8320x1024, .f32⟩
  | 114 => ⟨S8320x1024, .f32⟩
  | 115 => ⟨S8320x1024, .f32⟩
  | 116 => ⟨S8320x1024, .f32⟩
  | 117 => ⟨S8320x1024, .f32⟩
  | 118 => ⟨S8320x1024, .f32⟩
  | 119 => ⟨S_, .f32⟩
  | 120 => ⟨S1024, .f32⟩
  | 121 => ⟨S1x1024, .f32⟩
  | 122 => ⟨S8320x1024, .f32⟩
  | 123 => ⟨S8320x1024, .f32⟩
  | 124 => ⟨S8320x1024, .f32⟩
  | 125 => ⟨S_, .f32⟩
  | 126 => ⟨S8320, .f32⟩
  | 127 => ⟨S8320x1, .f32⟩
  | _ => ⟨S8320x1024, .f32⟩

abbrev hbmTy0_1 (i : Nat) : BufTy := match i % 128 with
  | 0 => ⟨S8320x1024, .f32⟩
  | 1 => ⟨S8320x1024, .f32⟩
  | 2 => ⟨S8320x1, .f32⟩
  | 3 => ⟨S_, .f32⟩
  | 4 => ⟨S8320x1, .f32⟩
  | 5 => ⟨S8320x1, .f32⟩
  | 6 => ⟨S_, .f32⟩
  | 7 => ⟨S8320, .f32⟩
  | 8 => ⟨S8320x1024, .f32⟩
  | 9 => ⟨S8320x1024, .f32⟩
  | 10 => ⟨S8320x1024, .f32⟩
  | 11 => ⟨S8320x1024, .f32⟩
  | 12 => ⟨S8320x1024, .f32⟩
  | 13 => ⟨S8320x1024, .f32⟩
  | 14 => ⟨S8320x1024, .f32⟩
  | 15 => ⟨S8320x1024, .f32⟩
  | 16 => ⟨S8320x1024, .f32⟩
  | 17 => ⟨S8320x2048, .f32⟩
  | 18 => ⟨S8320x2048, .f32⟩
  | 19 => ⟨S8320x1024, .bf16⟩
  | 20 => ⟨S8320x2048, .bf16⟩
  | 21 => ⟨S8320x2048, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_21 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_22 : Ref sig .tc := ⟨.hbm, 131, rfl⟩
abbrev main_v102 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩

abbrev nD : Nat := 1
abbrev τ : Topo := Topo.v7x

variable {F : FTy → Type} [FloatOps F]
-- ==== OptGlu.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptGluRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptMeta.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OptMetaRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S4608x1024 : Shape := ⟨2, ![4608, 1024]⟩
abbrev S576x1024 : Shape := ⟨2, ![576, 1024]⟩
abbrev S288x1024 : Shape := ⟨2, ![288, 1024]⟩

abbrev nBuf : Space → Nat
  | .hbm => 9
  | .vmem => 32
  | .smem => 0
  | _ => 0

abbrev bufTy : (tb : Table) → Fin (tcTables nBuf tb) → BufTy
  | .hbm, ⟨0, _⟩ => ⟨S4608x1024, .bf16⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .hbm, ⟨8, _⟩ => ⟨S576x1024, .f32⟩
  | .local _ .vmem, ⟨0, _⟩ => ⟨S288x1024, .bf16⟩
  | .local _ .vmem, ⟨1, _⟩ => ⟨S288x1024, .bf16⟩
  | .local _ .vmem, ⟨2, _⟩ => ⟨S288x1024, .bf16⟩
  | .local _ .vmem, ⟨3, _⟩ => ⟨S288x1024, .bf16⟩
  | .local _ .vmem, ⟨4, _⟩ => ⟨S288x1024, .bf16⟩
  | .local _ .vmem, ⟨5, _⟩ => ⟨S288x1024, .bf16⟩
  | .local _ .vmem, ⟨6, _⟩ => ⟨S288x1024, .bf16⟩
  | .local _ .vmem, ⟨7, _⟩ => ⟨S288x1024, .bf16⟩
  | .local _ .vmem, ⟨8, _⟩ => ⟨S288x1024, .bf16⟩
  | .local _ .vmem, ⟨9, _⟩ => ⟨S288x1024, .bf16⟩
  | .local _ .vmem, ⟨10, _⟩ => ⟨S288x1024, .bf16⟩
  | .local _ .vmem, ⟨11, _⟩ => ⟨S288x1024, .bf16⟩
  | .local _ .vmem, ⟨12, _⟩ => ⟨S288x1024, .bf16⟩
  | .local _ .vmem, ⟨13, _⟩ => ⟨S288x1024, .bf16⟩
  | .local _ .vmem, ⟨14, _⟩ => ⟨S288x1024, .bf16⟩
  | .local _ .vmem, ⟨15, _⟩ => ⟨S288x1024, .bf16⟩
  | .local _ .vmem, ⟨16, _⟩ => ⟨S288x1024, .f32⟩
  | .local _ .vmem, ⟨17, _⟩ => ⟨S288x1024, .f32⟩
  | .local _ .vmem, ⟨18, _⟩ => ⟨S288x1024, .f32⟩
  | .local _ .vmem, ⟨19, _⟩ => ⟨S288x1024, .f32⟩
  | .local _ .vmem, ⟨20, _⟩ => ⟨S288x1024, .f32⟩
  | .local _ .vmem, ⟨21, _⟩ => ⟨S288x1024, .f32⟩
  | .local _ .vmem, ⟨22, _⟩ => ⟨S288x1024, .f32⟩
  | .local _ .vmem, ⟨23, _⟩ => ⟨S288x1024, .f32⟩
  | .local _ .vmem, ⟨24, _⟩ => ⟨S288x1024, .f32⟩
  | .local _ .vmem, ⟨25, _⟩ => ⟨S288x1024, .f32⟩
  | .local _ .vmem, ⟨26, _⟩ => ⟨S288x1024, .f32⟩
  | .local _ .vmem, ⟨27, _⟩ => ⟨S288x1024, .f32⟩
  | .local _ .vmem, ⟨28, _⟩ => ⟨S288x1024, .f32⟩
  | .local _ .vmem, ⟨29, _⟩ => ⟨S288x1024, .f32⟩
  | .local _ .vmem, ⟨30, _⟩ => ⟨S288x1024, .f32⟩
  | .local _ .vmem, ⟨31, _⟩ => ⟨S288x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S288x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S288x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S288x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S288x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S288x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S288x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S288x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S288x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S288x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SumInRefIdeal.lean ====
abbrev S4608x1024 : Shape := ⟨2, ![4608, 1024]⟩
abbrev S576x1024 : Shape := ⟨2, ![576, 1024]⟩
abbrev S8x576x1024 : Shape := ⟨3, ![8, 576, 1024]⟩
abbrev S7x576x1024 : Shape := ⟨3, ![7, 576, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S4608x1024, .f32⟩
  | .hbm, ⟨6, _⟩ => ⟨S8x576x1024, .f32⟩
  | .hbm, ⟨7, _⟩ => ⟨S7x576x1024, .f32⟩
  | .hbm, ⟨8, _⟩ => ⟨S_, .f32⟩
  | .hbm, ⟨9, _⟩ => ⟨S576x1024, .f32⟩
  | .hbm, ⟨10, _⟩ => ⟨S576x1024, .f32⟩
  | .hbm, ⟨11, _⟩ => ⟨S_, .f32⟩
  | .hbm, ⟨12, _⟩ => ⟨S576x1024, .f32⟩
  | .hbm, ⟨13, _⟩ => ⟨S576x1024, .f32⟩
  | .hbm, ⟨14, _⟩ => ⟨S_, .f32⟩
  | .hbm, ⟨15, _⟩ => ⟨S576x1024, .f32⟩
  | .hbm, ⟨16, _⟩ => ⟨S576x1024, .f32⟩
  | .hbm, ⟨17, _⟩ => ⟨S576x1024, .f32⟩
  | .hbm, ⟨18, _⟩ => ⟨S_, .f32⟩
  | .hbm, ⟨19, _⟩ => ⟨S576x1024, .f32⟩
  | .hbm, ⟨20, _⟩ => ⟨S576x1024, .f32⟩
  | .hbm, ⟨21, _⟩ => ⟨S576x1024, .f32⟩
  | .hbm, ⟨22, _⟩ => ⟨S_, .f32⟩
  | .hbm, ⟨23, _⟩ => ⟨S576x1024, .f32⟩
  | .hbm, ⟨24, _⟩ => ⟨S576x1024, .f32⟩
  | .hbm, ⟨25, _⟩ => ⟨S576x1024, .f32⟩
  | .hbm, ⟨26, _⟩ => ⟨S_, .f32⟩
  | .hbm, ⟨27, _⟩ => ⟨S576x1024, .f32⟩
  | .hbm, ⟨28, _⟩ => ⟨S576x1024, .f32⟩
  | .hbm, ⟨29, _⟩ => ⟨S_, .f32⟩
  | .hbm, ⟨30, _⟩ => ⟨S576x1024, .f32⟩
  | .hbm, ⟨31, _⟩ => ⟨S576x1024, .f32⟩
  | .hbm, ⟨32, _⟩ => ⟨S576x1024, .f32⟩
  | .hbm, ⟨33, _⟩ => ⟨S_, .f32⟩
  | .hbm, ⟨34, _⟩ => ⟨S576x1024, .f32⟩
  | .hbm, ⟨35, _⟩ => ⟨S576x1024, .f32⟩
  | .hbm, ⟨36, _⟩ => ⟨S576x1024, .f32⟩
  | .hbm, ⟨37, _⟩ => ⟨S_, .f32⟩
  | .hbm, ⟨38, _⟩ => ⟨S576x1024, .f32⟩
  | .hbm, ⟨39, _⟩ => ⟨S576x1024, .f32⟩
  | .hbm, ⟨40, _⟩ => ⟨S576x1024, .f32⟩
  | .hbm, ⟨41, _⟩ => ⟨S_, .f32⟩
  | .hbm, ⟨42, _⟩ => ⟨S576x1024, .f32⟩
  | .hbm, ⟨43, _⟩ => ⟨S576x1024, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Row.lean ====
/-
  One row of causal attention with a sink, over the real numbers: the weights of the visible keys, their normaliser, and
  the backward pass of the row in the two forms the two programs use. The last section carries sums of real numbers into
  the extended reals.
-/
module

public import Idealize.ShloMosaic.PureOps.Ideal.Laws
public import Idealize.ShloMosaic.Lib.IdealHost

@[expose] public section

noncomputable section

namespace Attn

/-! ## The extended reals on real values -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers, each taken as an extended real, is that real sum. -/
theorem sum_coe_mul {ι : Type} (s : Finset ι) (f g : ι → EReal) (f' g' : ι → ℝ) (hf : ∀ i, f i = f' i) (hg : ∀ i, g i = g' i) :
    ∑ i ∈ s, f i * g i = ((∑ i ∈ s, f' i * g' i : ℝ) : EReal) := by
  rw [coe_sum]
  exact Finset.sum_congr rfl fun i _ => by rw [hf, hg, EReal.coe_mul]

theorem sum_coe {ι : Type} (s : Finset ι) (f : ι → EReal) (f' : ι → ℝ) (hf : ∀ i, f i = f' i) :
    ∑ i ∈ s, f i = ((∑ i ∈ s, f' i : ℝ) : EReal) := by
  rw [coe_sum]
  exact Finset.sum_congr rfl fun i _ => hf i

/-- Division of real numbers by a divisor other than zero. -/
theorem div_coe (x y : ℝ) (h : y ≠ 0) : Idealize.ShloMosaic.Ideal.div (x : EReal) (y : EReal) = ((x / y : ℝ) : EReal) := by
  unfold Idealize.ShloMosaic.Ideal.div
  rw [if_neg (by exact_mod_cast h), ← EReal.coe_inv, ← EReal.coe_mul, div_eq_mul_inv]

theorem exp_sub (x m : ℝ) : Idealize.ShloMosaic.Ideal.exp ((x : EReal) - (m : EReal)) = ((Real.exp (x - m) : ℝ) : EReal) := by
  rw [← EReal.coe_sub, Idealize.ShloMosaic.Ideal.exp_coe]

theorem exp_bot_sub (m : ℝ) : Idealize.ShloMosaic.Ideal.exp ((⊥ : EReal) - (m : EReal)) = ((0 : ℝ) : EReal) := by
  rw [EReal.bot_sub]; simp

/-! ## A row -/

section Row

variable {ι : Type} [Fintype ι] (vis : ι → Prop) [DecidablePred vis] (s : ι → ℝ) (sink M : ℝ) (dp : ι → ℝ)

/-- The weight of key `j`, relative to the row's maximum `M`: nothing for a key the row does not see. -/
def wt (j : ι) : ℝ := if vis j then Real.exp (s j - M) else 0

/-- The row's normaliser: the weights of the keys and of the sink. -/
def den : ℝ := ∑ j, wt vis s M j + Real.exp (sink - M)

/-- The attention of the row to key `j`. -/
def prob (j : ι) : ℝ := wt vis s M j / den vis s sink M

/-- The row's mean of `dp` under its attention. -/
def delta : ℝ := ∑ j, prob vis s sink M j * dp j

/-- The gradient at the score of key `j`. -/
def dscore (j : ι) : ℝ := prob vis s sink M j * (dp j - delta vis s sink M dp)

/-- The gradient at the row's sink. -/
def dsink : ℝ := -(Real.exp (sink - M) / den vis s sink M * delta vis s sink M dp)

/-- The gradient at the row's normaliser. -/
def dden : ℝ := -∑ j, dp j * (1 / (den vis s sink M * den vis s sink M)) * wt vis s M j

theorem wt_nonneg (j : ι) : 0 ≤ wt vis s M j := by
  unfold wt; split_ifs
  · exact (Real.exp_pos _).le
  · exact le_refl 0

theorem den_pos : 0 < den vis s sink M :=
  add_pos_of_nonneg_of_pos (Finset.sum_nonneg fun j _ => wt_nonneg vis s M j) (Real.exp_pos _)

theorem den_ne : den vis s sink M ≠ 0 := (den_pos vis s sink M).ne'

theorem dden_eq : dden vis s sink M dp = -(delta vis s sink M dp / den vis s sink M) := by
  unfold dden delta prob
  have h := den_ne vis s sink M
  rw [Finset.sum_div]
  refine congrArg _ (Finset.sum_congr rfl fun j _ => ?_)
  field_simp

theorem dscore_eq (j : ι) :
    (dp j / den vis s sink M + dden vis s sink M dp) * wt vis s M j = dscore vis s sink M dp j := by
  rw [dden_eq]; unfold dscore prob
  have h := den_ne vis s sink M
  field_simp
  ring

theorem dsink_eq : dden vis s sink M dp * Real.exp (sink - M) = dsink vis s sink M dp := by
  rw [dden_eq]; unfold dsink
  ring

theorem sum_dscore : ∑ j, dscore vis s sink M dp j = -dsink vis s sink M dp := by
  have h := den_ne vis s sink M
  have h1 : ∑ j, prob vis s sink M j = 1 - Real.exp (sink - M) / den vis s sink M := by
    have : ∑ j, prob vis s sink M j = (∑ j, wt vis s M j) / den vis s sink M := by
      unfold prob; rw [Finset.sum_div]
    rw [this, eq_sub_iff_add_eq, ← add_div]
    exact div_self h
  have h2 : ∀ j, dscore vis s sink M dp j
      = prob vis s sink M j * dp j - prob vis s sink M j * delta vis s sink M dp := fun j => by
    unfold dscore; ring
  rw [Finset.sum_congr rfl fun j _ => h2 j, Finset.sum_sub_distrib, ← Finset.sum_mul, h1]
  unfold dsink
  have h3 : ∑ j, prob vis s sink M j * dp j = delta vis s sink M dp := rfl
  rw [h3]; ring

/-- The gradient that would flow to the row's maximum is zero: the row does not depend on it. -/
theorem dmax_zero : -(dden vis s sink M dp * Real.exp (sink - M)) + ∑ j, -((dp j / den vis s sink M
    + dden vis s sink M dp) * wt vis s M j) = 0 := by
  rw [dsink_eq, Finset.sum_neg_distrib, Finset.sum_congr rfl fun j _ => dscore_eq vis s sink M dp j, sum_dscore]
  ring

theorem dscore_of_not_vis (j : ι) (h : ¬vis j) : dscore vis s sink M dp j = 0 := by
  unfold dscore prob wt; rw [if_neg h]; simp

/-- The attention out of the logarithm of the normaliser, for a visible key. -/
theorem exp_sub_lse (j : ι) (h : vis j) :
    Real.exp (s j - (M + Real.log (den vis s sink M))) = prob vis s sink M j := by
  unfold prob wt
  rw [if_pos h, ← sub_sub, Real.exp_sub, Real.exp_log (den_pos vis s sink M)]

theorem exp_sink_sub_lse :
    Real.exp (sink - (M + Real.log (den vis s sink M))) = Real.exp (sink - M) / den vis s sink M := by
  rw [← sub_sub, Real.exp_sub, Real.exp_log (den_pos vis s sink M)]

end Row

end Attn
-- ==== Proof.Ref.lean ====
/-
  What the reference's stages hold when its arguments are real numbers: the scaled queries, the scores, the row's
  maximum (a real number, and attained, so that the count of the keys attaining it is not zero), the attention, and
  then the backward stages. The stages of the forward attention also read the kernel's saved forward values.
-/
module

public import proofs.«01_k».proof.Proof.Row
public import proofs.«01_k».proof.Proof.Gen.ReferenceIdeal.Read
public import Idealize.ShloMosaic.PureOps.Reduce
public import Idealize.ShloMosaic.Lib.KernelVsHost

@[expose] public section

noncomputable section

open Idealize.ShloMosaic Idealize.ShloMosaic.ValueIdx Cert.ReferenceIdeal Cert.ReferenceIdeal.Read
open Cert.ReferenceIdeal.Gen (h_S_)

namespace Attn

/-! ## The arguments by head -/

/-- Real contents as contents. -/
abbrev up {s : Shape} (x : s.Idx → ℝ) : (⟨s, .f32⟩ : BufTy).Contents (Elt Ideal) := fun i => ((x i : ℝ) : EReal)

/-- The lane of query head `4a + b`, coordinate `d`. -/
abbrev lane (a b : Fin 4) (d : Fin 64) : Fin 1024 := ⟨256 * a.val + 64 * b.val + d.val, by omega⟩
/-- The lane of key head `a`, coordinate `d`. -/
abbrev klane (a : Fin 4) (d : Fin 64) : Fin 256 := ⟨64 * a.val + d.val, by omega⟩
/-- The query head `4a + b`. -/
abbrev head (a b : Fin 4) : Fin 16 := ⟨4 * a.val + b.val, by omega⟩

section
variable (x0 : S8208x1024.Idx → ℝ) (x1 x2 : S8208x256.Idx → ℝ) (x3 : S1x16.Idx → ℝ) (x4 : S8208x1024.Idx → ℝ)

def qv (t : Fin 8208) (a b : Fin 4) (d : Fin 64) : ℝ := x0 (ix2 t (lane a b d)) * (1 / 8)
def kv (j : Fin 8208) (a : Fin 4) (d : Fin 64) : ℝ := x1 (ix2 j (klane a d))
def gv (t : Fin 8208) (a b : Fin 4) (d : Fin 64) : ℝ := x4 (ix2 t (lane a b d))
def snk (a b : Fin 4) : ℝ := x3 (ix2 (0 : Fin 1) (head a b))

/-- The keys row `t` sees: the sixteen meta tokens and the last 128 positions. -/
def Sees (t j : Nat) : Prop := j ≤ t ∧ (j < 16 ∨ t < j + 128)

instance (t j : Nat) : Decidable (Sees t j) := by unfold Sees; infer_instance

abbrev Vis (t j : Fin 8208) : Prop := Sees t.val j.val

def score (a b : Fin 4) (t j : Fin 8208) : ℝ := ∑ d, kv x1 j a d * qv x0 t a b d
/-- The incoming gradient against the value of key `j`. -/
def gdot (a b : Fin 4) (t j : Fin 8208) : ℝ := ∑ d, gv x4 t a b d * kv x2 j a d

/-- The row's maximum over its visible keys and its sink. -/
def mx (a b : Fin 4) (t : Fin 8208) : ℝ :=
  EReal.toReal (val_main_v27 (F := Ideal) (up x0) (up x1) (up x3) (ix3 a b t))

def W (a b : Fin 4) (t j : Fin 8208) : ℝ := wt (Vis t) (score x0 x1 a b t) (mx x0 x1 x3 a b t) j
def DEN (a b : Fin 4) (t : Fin 8208) : ℝ := den (Vis t) (score x0 x1 a b t) (snk x3 a b) (mx x0 x1 x3 a b t)
def PR (a b : Fin 4) (t j : Fin 8208) : ℝ := prob (Vis t) (score x0 x1 a b t) (snk x3 a b) (mx x0 x1 x3 a b t) j
def DL (a b : Fin 4) (t : Fin 8208) : ℝ :=
  delta (Vis t) (score x0 x1 a b t) (snk x3 a b) (mx x0 x1 x3 a b t) (gdot x2 x4 a b t)
def DDEN (a b : Fin 4) (t : Fin 8208) : ℝ :=
  dden (Vis t) (score x0 x1 a b t) (snk x3 a b) (mx x0 x1 x3 a b t) (gdot x2 x4 a b t)
def DS (a b : Fin 4) (t j : Fin 8208) : ℝ :=
  dscore (Vis t) (score x0 x1 a b t) (snk x3 a b) (mx x0 x1 x3 a b t) (gdot x2 x4 a b t) j
def DSK (a b : Fin 4) (t : Fin 8208) : ℝ :=
  dsink (Vis t) (score x0 x1 a b t) (snk x3 a b) (mx x0 x1 x3 a b t) (gdot x2 x4 a b t)

/-! ## The forward stages -/

theorem eighth : Ideal.ofBits .f32 0x3E000000#32 = (((1 / 8 : ℝ)) : EReal) := by
  simp [Ideal.ofBits, Ideal.ieee, -EReal.coe_mul]; norm_num

theorem neg_inf : Ideal.ofBits .f32 0xFF800000#32 = (⊥ : EReal) := by
  simp [Ideal.ofBits, Ideal.ieee, BitVec.toNat]

theorem v1_val (i : S8208x1024.Idx) : val_main_v1 (F := Ideal) (up x0) i = ((x0 i * (1 / 8) : ℝ) : EReal) := by
  rw [val_main_v1_apply, val_main_v0_apply]
  show (x0 i : EReal) * Ideal.ofBits .f32 0x3E000000#32 = _
  rw [eighth, EReal.coe_mul]

theorem v2_val (i : S8208x4x4x64.Idx) : val_main_v2 (F := Ideal) (up x0) i = (qv x0 (i 0) (i 1) (i 2) (i 3) : EReal) := by
  rw [val_main_v2_apply, v1_val]
  have : idx_main_v2 i = ix2 (i 0 : Fin 8208) (lane (i 1) (i 2) (i 3)) := by
    have h1 : (i 1).val < 4 := (i 1).isLt
    have h2 : (i 2).val < 4 := (i 2).isLt
    have h3 : (i 3).val < 64 := (i 3).isLt
    funext a; match a with
    | ⟨0, _⟩ => exact Fin.ext (by show ((((i 0).val * 4 + (i 1).val) * 4 + (i 2).val) * 64 + (i 3).val) / 1024 = (i 0).val; omega)
    | ⟨1, _⟩ => exact Fin.ext (by show ((((i 0).val * 4 + (i 1).val) * 4 + (i 2).val) * 64 + (i 3).val) % 1024 = 256 * (i 1).val + 64 * (i 2).val + (i 3).val; omega)
  rw [this]; rfl

theorem v3_val (i : S8208x4x64.Idx) : val_main_v3 (F := Ideal) (up x1) i = (kv x1 (i 0) (i 1) (i 2) : EReal) := by
  rw [val_main_v3_apply]
  have : idx_main_v3 i = ix2 (i 0 : Fin 8208) (klane (i 1) (i 2)) := by
    have h1 : (i 1).val < 4 := (i 1).isLt
    have h3 : (i 2).val < 64 := (i 2).isLt
    funext a; match a with
    | ⟨0, _⟩ => exact Fin.ext (by show (((i 0).val * 4 + (i 1).val) * 64 + (i 2).val) / 256 = (i 0).val; omega)
    | ⟨1, _⟩ => exact Fin.ext (by show (((i 0).val * 4 + (i 1).val) * 64 + (i 2).val) % 256 = 64 * (i 1).val + (i 2).val; omega)
  rw [this]; rfl

theorem v4_val (i : S8208x4x64.Idx) : val_main_v4 (F := Ideal) (up x2) i = (kv x2 (i 0) (i 1) (i 2) : EReal) :=
  v3_val x2 i

theorem v5_val (i : S4x4x1.Idx) : val_main_v5 (F := Ideal) (up x3) i = (snk x3 (i 0) (i 1) : EReal) := by
  rw [val_main_v5_apply]
  have : idx_main_v5 i = ix2 (0 : Fin 1) (head (i 0) (i 1)) := by
    have h0 : (i 0).val < 4 := (i 0).isLt
    have h1 : (i 1).val < 4 := (i 1).isLt
    have h3 : (i 2).val < 1 := (i 2).isLt
    funext a; match a with
    | ⟨0, _⟩ => rfl
    | ⟨1, _⟩ => exact Fin.ext (by show (((i 0).val * 4 + (i 1).val) * 1 + (i 2).val) % 16 = 4 * (i 0).val + (i 1).val; omega)
  rw [this]; rfl

theorem v7_val (i : S4x4x8208x8208.Idx) :
    val_main_v7 (F := Ideal) (up x0) (up x1) i = (score x0 x1 (i 0) (i 1) (i 2) (i 3) : EReal) := by
  rw [val_main_v7_apply, val_main_v6_apply]
  exact sum_coe_mul _ _ _ _ _ (fun d => v3_val x1 _) (fun d => v2_val x0 _)

theorem ofBool_and_or (p q r v : Prop) [Decidable p] [Decidable q] [Decidable r] [Decidable v] (h : p ∧ (q ∨ r) ↔ v) :
    BitVec.ofBool (decide p) &&& (BitVec.ofBool (decide q) ||| BitVec.ofBool (decide r)) = BitVec.ofBool (decide v) := by
  rw [show decide v = decide (p ∧ (q ∨ r)) from decide_eq_decide.mpr h.symm]
  by_cases hp : p <;> by_cases hq : q <;> by_cases hr : r <;> simp [hp, hq, hr]

theorem toInt_small (n : Nat) (h : n < 8208) : (BitVec.ofNat 32 n).toInt = (n : Int) := by
  rw [BitVec.toInt_eq_toNat_of_lt (by rw [BitVec.toNat_ofNat]; omega), BitVec.toNat_ofNat]; omega

/-- The mask: which key a row sees. -/
theorem v17_val (i : S8208x8208.Idx) : val_main_v17 (F := Ideal) i = BitVec.ofBool (decide (Sees (i 0).val (i 1).val)) := by
  rw [val_main_v17_apply, val_main_v10_apply, val_main_v16_apply, val_main_v12_apply, val_main_v15_apply,
    val_main_v13_apply, val_main_v11_apply, val_main_v14_apply, val_main_v8_apply, val_main_v9_apply]
  have h0 : (i 0).val < 8208 := (i 0).isLt
  have h1 : (i 1).val < 8208 := (i 1).isLt
  show BitVec.ofBool ((BitVec.ofNat 32 (i 1).val).sle (BitVec.ofNat 32 (i 0).val))
    &&& (BitVec.ofBool ((BitVec.ofNat 32 (i 1).val).slt 16#32)
      ||| BitVec.ofBool ((BitVec.ofNat 32 (i 0).val - BitVec.ofNat 32 (i 1).val).slt 128#32)) = _
  have e : (BitVec.ofNat 32 (i 0).val - BitVec.ofNat 32 (i 1).val).toInt = (i 0).val - ((i 1).val : Int) := by
    rw [BitVec.toInt_sub, toInt_small _ h0, toInt_small _ h1, Int.bmod_def]; omega
  unfold BitVec.sle BitVec.slt
  rw [toInt_small _ h0, toInt_small _ h1, e]
  refine ofBool_and_or _ _ _ _ ?_
  rw [show (16#32).toInt = 16 by decide, show (128#32).toInt = 128 by decide]
  unfold Sees
  omega

theorem v19m_val (i : S4x4x8208x8208.Idx) :
    val_main_v19_1 (F := Ideal) i = BitVec.ofBool (decide (Sees (i 2).val (i 3).val)) := by
  rw [val_main_v19_1_apply, val_main_v18_apply, v17_val]

theorem select_ofBool {α : Type} (p : Prop) [Decidable p] (x y : α) :
    Scalar.select (BitVec.ofBool (decide p)) x y = if p then x else y := by
  by_cases h : p <;> simp [h, Scalar.select]

theorem v19_val (i : S4x4x8208x8208.Idx) :
    val_main_v19_0 (F := Ideal) (up x0) (up x1) i
      = if Sees (i 2).val (i 3).val then (score x0 x1 (i 0) (i 1) (i 2) (i 3) : EReal) else ⊥ := by
  rw [val_main_v19_0_apply, v19m_val, select_ofBool, v7_val, val_main_call0_v2_apply, val_main_call0_v0_apply,
    val_main_cst_1_apply]
  exact congrArg _ neg_inf

/-! ## The row's maximum -/

theorem self_sees (t : Nat) : Sees t t := ⟨le_refl t, by omega⟩

theorem v20_eq (i : S4x4x8208.Idx) :
    val_main_v20 (F := Ideal) (up x0) (up x1) i
      = (Finset.univ : Finset (Fin 8208)).fold max (⊥ : EReal)
          (fun k => val_main_v19_0 (F := Ideal) (up x0) (up x1) (idx_main_v25 i k)) := by
  unfold val_main_v20
  have hr : S4x4x8208x8208.Reduces [3] S4x4x8208 := by decide
  rw [Host.reduce_eq_fold_single (FloatOps.maximumf (F := Ideal) (φ := .f32)) _ _ _ hr h_S_ i]
  have e : (val_main_cst_2 (F := Ideal)) (Shape.Idx.first h_S_) = (⊥ : EReal) := by
    rw [val_main_cst_2_apply]; exact neg_inf
  rw [e]
  have e2 : ∀ k : Fin 8208, hr.lift i k = idx_main_v25 i k := fun k => by
    funext a; match a with
    | ⟨0, _⟩ => rfl
    | ⟨1, _⟩ => rfl
    | ⟨2, _⟩ => rfl
    | ⟨3, _⟩ => rfl
  have e3 : (val_main_v19_0 (F := Ideal) (up x0) (up x1)) ∘ hr.lift i
      = fun k : Fin 8208 => val_main_v19_0 (F := Ideal) (up x0) (up x1) (idx_main_v25 i k) := by
    funext k; exact congrArg (val_main_v19_0 (F := Ideal) (up x0) (up x1)) (e2 k)
  rw [e3]; rfl

theorem v20_real (i : S4x4x8208.Idx) :
    (∃ r : ℝ, val_main_v20 (F := Ideal) (up x0) (up x1) i = r)
      ∧ ∃ k, val_main_v19_0 (F := Ideal) (up x0) (up x1) (idx_main_v25 i k) = val_main_v20 (F := Ideal) (up x0) (up x1) i := by
  have hs : val_main_v20 (F := Ideal) (up x0) (up x1) i
      = (Finset.univ : Finset (Fin 8208)).sup
          (fun k => val_main_v19_0 (F := Ideal) (up x0) (up x1) (idx_main_v25 i k)) := v20_eq x0 x1 i
  have f : ∀ k : Fin 8208, val_main_v19_0 (F := Ideal) (up x0) (up x1) (idx_main_v25 i k)
      = if Sees (i 2).val k.val then (score x0 x1 (i 0) (i 1) (i 2) k : EReal) else ⊥ := fun k => v19_val x0 x1 _
  obtain ⟨k, -, hk⟩ := Finset.exists_mem_eq_sup (Finset.univ : Finset (Fin 8208)) ⟨⟨0, by omega⟩, Finset.mem_univ _⟩
    (fun k => val_main_v19_0 (F := Ideal) (up x0) (up x1) (idx_main_v25 i k))
  refine ⟨?_, k, by rw [hs, hk]⟩
  have hb : (score x0 x1 (i 0) (i 1) (i 2) (i 2) : EReal) ≤ val_main_v20 (F := Ideal) (up x0) (up x1) i := by
    rw [hs]
    have := Finset.le_sup (f := fun k => val_main_v19_0 (F := Ideal) (up x0) (up x1) (idx_main_v25 i k))
      (Finset.mem_univ (i 2 : Fin 8208))
    have e := f (i 2)
    rw [if_pos (self_sees _)] at e
    exact le_of_eq_of_le e.symm this
  rw [hs, hk, f k] at hb ⊢
  by_cases h : Sees (i 2).val k.val
  · exact ⟨_, by rw [if_pos h]⟩
  · rw [if_neg h] at hb
    exact absurd (le_bot_iff.mp hb) (EReal.coe_ne_bot _)

theorem v27_val (i : S4x4x8208.Idx) :
    val_main_v27 (F := Ideal) (up x0) (up x1) (up x3) i = (mx x0 x1 x3 (i 0) (i 1) (i 2) : EReal) := by
  obtain ⟨⟨r, hr⟩, -⟩ := v20_real x0 x1 i
  have e : ∃ r' : ℝ, val_main_v27 (F := Ideal) (up x0) (up x1) (up x3) i = r' := by
    refine ⟨max r (snk x3 (i 0) (i 1)), ?_⟩
    rw [val_main_v27_apply, val_main_v26_apply, v5_val, hr]
    exact (Monotone.map_max EReal.coe_strictMono.monotone).symm
  obtain ⟨r', h⟩ := e
  have key : ∀ i', i' = i → val_main_v27 (F := Ideal) (up x0) (up x1) (up x3) i
      = ((EReal.toReal (val_main_v27 (F := Ideal) (up x0) (up x1) (up x3) i') : ℝ) : EReal) := by
    rintro _ rfl; rw [h]; rfl
  exact key _ (eq_ix3 i).symm

theorem v49_val (i : S4x4x8208x8208.Idx) :
    val_main_v49 (F := Ideal) (up x0) (up x1) (up x3) i = (W x0 x1 x3 (i 0) (i 1) (i 2) (i 3) : EReal) := by
  rw [val_main_v49_apply, val_main_v48_apply, val_main_v47_apply, val_main_v46_apply, v27_val, v19_val]
  show Ideal.exp (_ - _) = _
  unfold W wt Vis
  split_ifs
  · exact exp_sub _ _
  · exact exp_bot_sub _

theorem v53_val (i : S4x4x8208.Idx) :
    val_main_v53 (F := Ideal) (up x0) (up x1) (up x3) i
      = ((Real.exp (snk x3 (i 0) (i 1) - mx x0 x1 x3 (i 0) (i 1) (i 2)) : ℝ) : EReal) := by
  rw [val_main_v53_apply, val_main_v52_apply, val_main_v51_apply, v27_val, v5_val]
  exact exp_sub _ _

theorem zero_const (z : EReal) : Ideal.ofBits .f32 0x00000000#32 + z = z := by
  rw [Ideal.ofBits_zero_f32, zero_add]

theorem v54_val (i : S4x4x8208.Idx) :
    val_main_v54 (F := Ideal) (up x0) (up x1) (up x3) i = (DEN x0 x1 x3 (i 0) (i 1) (i 2) : EReal) := by
  rw [val_main_v54_apply, v53_val, val_main_v50_apply, sum_coe _ _ _ (fun k => v49_val x0 x1 x3 (idx_main_v50 i k)),
    val_main_cst_10_apply]
  show (Ideal.ofBits .f32 0x00000000#32 + _) + _ = _
  rw [zero_const, ← EReal.coe_add]; rfl

theorem log_coe_pos (r : ℝ) (h : 0 < r) : Ideal.log (r : EReal) = ((Real.log r : ℝ) : EReal) := by
  rw [Ideal.log_coe, if_neg (not_le.mpr h)]

theorem DEN_pos (a b : Fin 4) (t : Fin 8208) : 0 < DEN x0 x1 x3 a b t := den_pos _ _ _ _

theorem DEN_ne (a b : Fin 4) (t : Fin 8208) : DEN x0 x1 x3 a b t ≠ 0 := den_ne _ _ _ _

theorem v57_val (i : S4x4x8208x8208.Idx) :
    val_main_v57 (F := Ideal) (up x0) (up x1) (up x3) i = (PR x0 x1 x3 (i 0) (i 1) (i 2) (i 3) : EReal) := by
  rw [val_main_v57_apply, val_main_v56_apply, val_main_v55_apply, v54_val, v49_val]
  exact div_coe _ _ (DEN_ne x0 x1 x3 _ _ _)

/-- The logarithm of the normaliser, with the maximum put back. -/
theorem v65_val (i : S4x4x8208.Idx) :
    val_main_v65 (F := Ideal) (up x0) (up x1) (up x3) i
      = ((mx x0 x1 x3 (i 0) (i 1) (i 2) + Real.log (DEN x0 x1 x3 (i 0) (i 1) (i 2)) : ℝ) : EReal) := by
  rw [val_main_v65_apply, v27_val, val_main_v64_apply, v54_val, EReal.coe_add]
  have h : Ideal.log (DEN x0 x1 x3 (i 0) (i 1) (i 2) : EReal) = ((Real.log (DEN x0 x1 x3 (i 0) (i 1) (i 2)) : ℝ) : EReal) :=
    log_coe_pos _ (DEN_pos x0 x1 x3 _ _ _)
  exact congrArg (fun z : EReal => (mx x0 x1 x3 (i 0) (i 1) (i 2) : EReal) + z) h

/-- The attention's output. -/
theorem v62_val (i : S8208x4x4x64.Idx) :
    val_main_v62 (F := Ideal) (up x0) (up x1) (up x2) (up x3) i
      = ((∑ j, kv x2 j (i 1) (i 3) * PR x0 x1 x3 (i 1) (i 2) (i 0) j : ℝ) : EReal) := by
  rw [val_main_v62_apply, val_main_v61_apply]
  exact sum_coe_mul _ _ _ _ _ (fun d => v4_val x2 _) (fun d => v57_val x0 x1 x3 _)

end

end Attn
-- ==== Proof.Block.lean ====
/-
  What one block computes for one half of a key head: the scores of 256 rows against a window of 384 columns, the
  probabilities, the gradient of the scores, and the three products taken from it — first as the operations, then, for
  real blocks, as real numbers.
-/
module

public import proofs.«01_k».proof.Proof.Gen.KernelIdeal.Skeleton
public import Idealize.ShloMosaic.Lib.Pipeline.ValueKit
public import Idealize.ShloMosaic.Lib.Pointwise
public import Idealize.ShloMosaic.Lib.ValueIdx
public import proofs.«01_k».proof.Proof.Row
public import proofs.«01_k».proof.Proof.Ref

@[expose] public section

noncomputable section

namespace Attn

open Cert.KernelIdeal Cert.KernelIdeal.Gen Idealize.ShloMosaic
open Idealize.ShloMosaic.ValueIdx (eq_ix2)

/-! ## The operations -/

/-- Two blocks of 128 rows, one above the other. -/
def cat2 (x y : FVec Ideal S128x128 .bf16) : FVec Ideal S256x128 .bf16 :=
  concatenate S256x128 0 [⟨S128x128, shapeCast S128x128 x shapeCasts_S128x128_S128x128⟩,
    ⟨S128x128, shapeCast S128x128 y shapeCasts_S128x128_S128x128⟩] concatenates_S128x128_S128x128_S256x128_d0

/-- A window: three blocks of 128 rows. -/
def cat3 (x y z : FVec Ideal S128x128 .bf16) : FVec Ideal S384x128 .bf16 :=
  concatenate S384x128 0 [⟨S128x128, shapeCast S128x128 x shapeCasts_S128x128_S128x128⟩,
    ⟨S128x128, shapeCast S128x128 y shapeCasts_S128x128_S128x128⟩,
    ⟨S128x128, shapeCast S128x128 z shapeCasts_S128x128_S128x128⟩] concatenates_S128x128_S128x128_S128x128_S384x128_d0

def cols2 (x y : FVec Ideal S128x1 .f32) : FVec Ideal S256x1 .f32 :=
  concatenate S256x1 0 [⟨S128x1, shapeCast S128x1 x shapeCasts_S128x1_S128x1⟩,
    ⟨S128x1, shapeCast S128x1 y shapeCasts_S128x1_S128x1⟩] concatenates_S128x1_S128x1_S256x1_d0

section Ops
variable (bias : FVec Ideal S256x384 .f32) (dos : FVec Ideal S256x128 .bf16) (kw vw : FVec Ideal S384x128 .bf16)
  (qs : FVec Ideal S256x128 .bf16) (ls dl : FVec Ideal S256x1 .f32)

/-- The probabilities. -/
def opP : FVec Ideal S256x384 .f32 :=
  exp (subf (addf (matmul dot_S256x128_S384x128_S256x384_1_1_0_0_n_n none qs kw (constant S256x384 .f32 0x00000000#32)) bias)
    (broadcastTo S256x384 ls broadcasts_S256x1_S256x384))

/-- The gradient of the scores. -/
def opDS : FVec Ideal S256x384 .bf16 :=
  truncf .bf16 (mulf (opP bias kw qs ls)
    (subf (matmul dot_S256x128_S384x128_S256x384_1_1_0_0_n_n none dos vw (constant S256x384 .f32 0x00000000#32))
      (broadcastTo S256x384 dl broadcasts_S256x1_S256x384))) bitsLt_bf16_f32

def opDQ : FVec Ideal S256x128 .f32 :=
  matmul dot_S256x384_S384x128_S256x128_1_0_0_1_n_n none (opDS bias dos kw vw qs ls dl) kw (constant S256x128 .f32 0x00000000#32)

def opDK : FVec Ideal S384x128 .f32 :=
  matmul dot_S256x384_S256x128_S384x128_0_0_1_1_n_n none (opDS bias dos kw vw qs ls dl) qs (constant S384x128 .f32 0x00000000#32)

def opDV : FVec Ideal S384x128 .f32 :=
  matmul dot_S256x384_S256x128_S384x128_0_0_1_1_n_n none (truncf .bf16 (opP bias kw qs ls) bitsLt_bf16_f32) dos
    (constant S384x128 .f32 0x00000000#32)

end Ops

/-- The gradient of the queries from the two halves: lanes below 64 from the first. -/
def opPick (x y : FVec Ideal S256x128 .f32) : FVec Ideal S256x128 .f32 :=
  select (cmpi .eq k0_pay6 (broadcast S256x128 0#32)) x y

def opTop (x : FVec Ideal S256x128 .f32) : FVec Ideal S128x128 .bf16 :=
  truncf .bf16 (extractStridedSlice S128x128 ![0, 0] x slices_S256x128_o0_0_S128x128) bitsLt_bf16_f32

def opBottom (x : FVec Ideal S256x128 .f32) : FVec Ideal S128x128 .bf16 :=
  truncf .bf16 (extractStridedSlice S128x128 ![128, 0] x slices_S256x128_o128_0_S128x128) bitsLt_bf16_f32

/-! ## For real blocks -/

theorem cat2_top (x y : FVec Ideal S128x128 .bf16) (i : Fin 256) (l : Fin 128) (r : Fin 128) (h : i.val = r.val) :
    cat2 x y (ix2 i l) = x (ix2 r l) := by
  unfold cat2
  rw [concatenate_apply_piece (0 : Fin 2) _ _ (ix2 i l) 0 (by simp) S128x128 _ rfl rfl 0 rfl (ix2 r l) (by
      intro b hb; match b with
      | ⟨0, _⟩ => exact absurd rfl hb
      | ⟨1, _⟩ => rfl) (by show 0 + r.val = i.val; omega)]
  exact shapeCast_apply _ _ _ _ rfl

theorem cat2_bottom (x y : FVec Ideal S128x128 .bf16) (i : Fin 256) (l : Fin 128) (r : Fin 128) (h : i.val = 128 + r.val) :
    cat2 x y (ix2 i l) = y (ix2 r l) := by
  unfold cat2
  rw [concatenate_apply_piece (0 : Fin 2) _ _ (ix2 i l) 1 (by simp) S128x128 _ rfl rfl 128 rfl (ix2 r l) (by
      intro b hb; match b with
      | ⟨0, _⟩ => exact absurd rfl hb
      | ⟨1, _⟩ => rfl) (by show 128 + r.val = i.val; omega)]
  exact shapeCast_apply _ _ _ _ rfl

theorem cols2_top (x y : FVec Ideal S128x1 .f32) (i : Fin 256) (r : Fin 128) (h : i.val = r.val) :
    cols2 x y (ix2 i (0 : Fin 1)) = x (ix2 r (0 : Fin 1)) := by
  unfold cols2
  rw [concatenate_apply_piece (0 : Fin 2) _ _ (ix2 i (0 : Fin 1)) 0 (by simp) S128x1 _ rfl rfl 0 rfl (ix2 r (0 : Fin 1)) (by
      intro b hb; match b with
      | ⟨0, _⟩ => exact absurd rfl hb
      | ⟨1, _⟩ => rfl) (by show 0 + r.val = i.val; omega)]
  exact shapeCast_apply _ _ _ _ rfl

theorem cols2_bottom (x y : FVec Ideal S128x1 .f32) (i : Fin 256) (r : Fin 128) (h : i.val = 128 + r.val) :
    cols2 x y (ix2 i (0 : Fin 1)) = y (ix2 r (0 : Fin 1)) := by
  unfold cols2
  rw [concatenate_apply_piece (0 : Fin 2) _ _ (ix2 i (0 : Fin 1)) 1 (by simp) S128x1 _ rfl rfl 128 rfl (ix2 r (0 : Fin 1)) (by
      intro b hb; match b with
      | ⟨0, _⟩ => exact absurd rfl hb
      | ⟨1, _⟩ => rfl) (by show 128 + r.val = i.val; omega)]
  exact shapeCast_apply _ _ _ _ rfl

theorem cat3_apply (x : Fin 3 → FVec Ideal S128x128 .bf16) (i : Fin 384) (l : Fin 128) (p : Fin 3) (r : Fin 128)
    (h : i.val = 128 * p.val + r.val) : cat3 (x 0) (x 1) (x 2) (ix2 i l) = x p (ix2 r l) := by
  unfold cat3
  match p, h with
  | ⟨0, _⟩, h =>
    rw [concatenate_apply_piece (0 : Fin 2) _ _ (ix2 i l) 0 (by simp) S128x128 _ rfl rfl 0 rfl (ix2 r l) (by
      intro b hb; match b with
      | ⟨0, _⟩ => exact absurd rfl hb
      | ⟨1, _⟩ => rfl) (by show 0 + r.val = i.val; simp at h; omega)]
    exact shapeCast_apply _ _ _ _ rfl
  | ⟨1, _⟩, h =>
    rw [concatenate_apply_piece (0 : Fin 2) _ _ (ix2 i l) 1 (by simp) S128x128 _ rfl rfl 128 rfl (ix2 r l) (by
      intro b hb; match b with
      | ⟨0, _⟩ => exact absurd rfl hb
      | ⟨1, _⟩ => rfl) (by show 128 + r.val = i.val; simp at h; omega)]
    exact shapeCast_apply _ _ _ _ rfl
  | ⟨2, _⟩, h =>
    rw [concatenate_apply_piece (0 : Fin 2) _ _ (ix2 i l) 2 (by simp) S128x128 _ rfl rfl 256 rfl (ix2 r l) (by
      intro b hb; match b with
      | ⟨0, _⟩ => exact absurd rfl hb
      | ⟨1, _⟩ => rfl) (by show 256 + r.val = i.val; simp at h; omega)]
    exact shapeCast_apply _ _ _ _ rfl

/-- Rows times rows: the contraction over the lanes. -/
theorem mm_lanes (x : FVec Ideal S256x128 .bf16) (y : FVec Ideal S384x128 .bf16) (i : Fin 256) (k : Fin 384) :
    matmul dot_S256x128_S384x128_S256x384_1_1_0_0_n_n none x y (constant S256x384 .f32 0x00000000#32) (ix2 i k)
      = ∑ l : Fin 128, (x (ix2 i l) * y (ix2 k l) : EReal) := by
  refine (Ideal.matmul_apply₁_of dot_S256x128_S384x128_S256x384_1_1_0_0_n_n rfl (K := 128) rfl x y _ (ix2 i k)
    (fun l => ix2 i l) (fun l => ix2 k l) ?_ ?_).trans ?_
  · intro l; funext a; refine Fin.ext ?_
    match a with
    | ⟨0, _⟩ => rfl
    | ⟨1, _⟩ => rfl
  · intro l; funext a; refine Fin.ext ?_
    match a with
    | ⟨0, _⟩ => rfl
    | ⟨1, _⟩ => rfl
  · exact zero_const _

theorem mm_cols (x : FVec Ideal S256x384 .bf16) (y : FVec Ideal S384x128 .bf16) (i : Fin 256) (l : Fin 128) :
    matmul dot_S256x384_S384x128_S256x128_1_0_0_1_n_n none x y (constant S256x128 .f32 0x00000000#32) (ix2 i l)
      = ∑ k : Fin 384, (x (ix2 i k) * y (ix2 k l) : EReal) := by
  refine (Ideal.matmul_apply₁_of dot_S256x384_S384x128_S256x128_1_0_0_1_n_n rfl (K := 384) rfl x y _ (ix2 i l)
    (fun k => ix2 i k) (fun k => ix2 k l) ?_ ?_).trans ?_
  · intro l; funext a; refine Fin.ext ?_
    match a with
    | ⟨0, _⟩ => rfl
    | ⟨1, _⟩ => rfl
  · intro l; funext a; refine Fin.ext ?_
    match a with
    | ⟨0, _⟩ => rfl
    | ⟨1, _⟩ => rfl
  · exact zero_const _

theorem mm_rows (x : FVec Ideal S256x384 .bf16) (y : FVec Ideal S256x128 .bf16) (k : Fin 384) (l : Fin 128) :
    matmul dot_S256x384_S256x128_S384x128_0_0_1_1_n_n none x y (constant S384x128 .f32 0x00000000#32) (ix2 k l)
      = ∑ i : Fin 256, (x (ix2 i k) * y (ix2 i l) : EReal) := by
  refine (Ideal.matmul_apply₁_of dot_S256x384_S256x128_S384x128_0_0_1_1_n_n rfl (K := 256) rfl x y _ (ix2 k l)
    (fun i => ix2 i k) (fun i => ix2 i l) ?_ ?_).trans ?_
  · intro l; funext a; refine Fin.ext ?_
    match a with
    | ⟨0, _⟩ => rfl
    | ⟨1, _⟩ => rfl
  · intro l; funext a; refine Fin.ext ?_
    match a with
    | ⟨0, _⟩ => rfl
    | ⟨1, _⟩ => rfl
  · exact zero_const _

theorem spread (x : FVec Ideal S256x1 .f32) (i : Fin 256) (k : Fin 384) :
    broadcastTo S256x384 x broadcasts_S256x1_S256x384 (ix2 i k) = x (ix2 i (0 : Fin 1)) :=
  broadcastTo_apply _ _ _ _ (fun a => by
    match a with
    | ⟨0, _⟩ => rfl
    | ⟨1, _⟩ => rfl)

section Real
variable (Q G : Fin 256 → Fin 128 → ℝ) (K W : Fin 384 → Fin 128 → ℝ) (ok : Fin 256 → Fin 384 → Prop) [∀ i, DecidablePred (ok i)]
  (L D : Fin 256 → ℝ)

def rS (i : Fin 256) (k : Fin 384) : ℝ := ∑ l, Q i l * K k l
def rP (i : Fin 256) (k : Fin 384) : ℝ := if ok i k then Real.exp (rS Q K i k - L i) else 0
def rDS (i : Fin 256) (k : Fin 384) : ℝ := rP Q K ok L i k * (rS G W i k - D i)

variable {bias : FVec Ideal S256x384 .f32} {dos : FVec Ideal S256x128 .bf16} {kw vw : FVec Ideal S384x128 .bf16}
  {qs : FVec Ideal S256x128 .bf16} {ls dl : FVec Ideal S256x1 .f32}
  (hb : ∀ i k, bias (ix2 i k) = if ok i k then (0 : EReal) else ⊥)
  (hg : ∀ i l, dos (ix2 i l) = (G i l : EReal)) (hk : ∀ k l, kw (ix2 k l) = (K k l : EReal))
  (hv : ∀ k l, vw (ix2 k l) = (W k l : EReal)) (hq : ∀ i l, qs (ix2 i l) = (Q i l : EReal))
  (hl : ∀ i, ls (ix2 i (0 : Fin 1)) = (L i : EReal)) (hd : ∀ i, dl (ix2 i (0 : Fin 1)) = (D i : EReal))

theorem scores_val {x : FVec Ideal S256x128 .bf16} {y : FVec Ideal S384x128 .bf16} {X : Fin 256 → Fin 128 → ℝ}
    {Y : Fin 384 → Fin 128 → ℝ} (hx : ∀ i l, x (ix2 i l) = (X i l : EReal)) (hy : ∀ k l, y (ix2 k l) = (Y k l : EReal))
    (i : Fin 256) (k : Fin 384) :
    matmul dot_S256x128_S384x128_S256x384_1_1_0_0_n_n none x y (constant S256x384 .f32 0x00000000#32) (ix2 i k)
      = (rS X Y i k : EReal) := by
  rw [mm_lanes]
  exact sum_coe_mul _ _ _ _ _ (fun l => hx i l) (fun l => hy k l)

theorem exp_masked (p : Prop) [Decidable p] (s m : ℝ) (b : EReal) (hb : b = if p then (0 : EReal) else ⊥) :
    Ideal.exp (((s : EReal) + b) - (m : EReal)) = ((if p then Real.exp (s - m) else 0 : ℝ) : EReal) := by
  subst hb
  by_cases h : p
  · rw [if_pos h, if_pos h, add_zero]; exact exp_sub s m
  · rw [if_neg h, if_neg h, EReal.add_bot]; exact exp_bot_sub m

include hb hk hq hl in
theorem opP_val (i : Fin 256) (k : Fin 384) : opP bias kw qs ls (ix2 i k) = (rP Q K ok L i k : EReal) := by
  show Ideal.exp ((matmul dot_S256x128_S384x128_S256x384_1_1_0_0_n_n none qs kw (constant S256x384 .f32 0x00000000#32) (ix2 i k)
    + bias (ix2 i k)) - broadcastTo S256x384 ls broadcasts_S256x1_S256x384 (ix2 i k)) = _
  rw [scores_val hq hk, spread, hl]
  exact exp_masked (ok i k) _ _ _ (hb i k)

include hb hk hq hl hg hv hd in
theorem opDS_val (i : Fin 256) (k : Fin 384) :
    opDS bias dos kw vw qs ls dl (ix2 i k) = (rDS Q G K W ok L D i k : EReal) := by
  show opP bias kw qs ls (ix2 i k) * (matmul dot_S256x128_S384x128_S256x384_1_1_0_0_n_n none dos vw
    (constant S256x384 .f32 0x00000000#32) (ix2 i k) - broadcastTo S256x384 dl broadcasts_S256x1_S256x384 (ix2 i k)) = _
  rw [opP_val Q K ok L hb hk hq hl, scores_val hg hv, spread, hd, ← EReal.coe_sub, ← EReal.coe_mul]
  rfl

include hb hk hq hl hg hv hd in
theorem opDQ_val (i : Fin 256) (l : Fin 128) :
    opDQ bias dos kw vw qs ls dl (ix2 i l) = ((∑ k, rDS Q G K W ok L D i k * K k l : ℝ) : EReal) := by
  unfold opDQ
  rw [mm_cols]
  exact sum_coe_mul _ _ _ _ _ (fun k => opDS_val Q G K W ok L D hb hg hk hv hq hl hd i k) (fun k => hk k l)

include hb hk hq hl hg hv hd in
theorem opDK_val (k : Fin 384) (l : Fin 128) :
    opDK bias dos kw vw qs ls dl (ix2 k l) = ((∑ i, rDS Q G K W ok L D i k * Q i l : ℝ) : EReal) := by
  unfold opDK
  rw [mm_rows]
  exact sum_coe_mul _ _ _ _ _ (fun i => opDS_val Q G K W ok L D hb hg hk hv hq hl hd i k) (fun i => hq i l)

include hb hk hq hl hg in
theorem opDV_val (k : Fin 384) (l : Fin 128) :
    opDV bias dos kw qs ls (ix2 k l) = ((∑ i, rP Q K ok L i k * G i l : ℝ) : EReal) := by
  unfold opDV
  rw [mm_rows]
  exact sum_coe_mul _ _ _ _ _ (fun i => opP_val Q K ok L hb hk hq hl i k) (fun i => hg i l)

end Real

/-- Which half of its 128 lanes a lane lies in. -/
theorem half_val (i : Fin 256) (l : Fin 128) :
    cmpi .eq k0_pay6 (broadcast S256x128 0#32) (ix2 i l) = BitVec.ofBool (decide (l.val < 64)) := by
  have h : ∀ l : Fin 128, IntOp.cmpi .eq (IntOp.andi (IntOp.shrsi .vector (BitVec.ofNat 32 l.val) 6#32) 1#32) 0#32
      = BitVec.ofBool (decide (l.val < 64)) := by decide
  show IntOp.cmpi .eq (IntOp.andi (IntOp.shrsi .vector (iota .tc S256x128 32 [1] iota_S256x128_d1_w32 (ix2 i l)) 6#32) 1#32) 0#32 = _
  rw [iota_single_apply]
  exact h l

theorem opPick_val (x y : FVec Ideal S256x128 .f32) (i : Fin 256) (l : Fin 128) :
    opPick x y (ix2 i l) = if l.val < 64 then x (ix2 i l) else y (ix2 i l) := by
  show Scalar.select (cmpi .eq k0_pay6 (broadcast S256x128 0#32) (ix2 i l)) _ _ = _
  rw [half_val, select_ofBool]

theorem opTop_val (x : FVec Ideal S256x128 .f32) (r l : Fin 128) (i : Fin 256) (h : i.val = r.val) :
    opTop x (ix2 r l) = x (ix2 i l) := by
  show extractStridedSlice S128x128 ![0, 0] x slices_S256x128_o0_0_S128x128 (ix2 r l) = _
  exact extractStridedSlice_apply _ _ _ _ _ (fun a => by
    match a with
    | ⟨0, _⟩ => show i.val = 0 + r.val; omega
    | ⟨1, _⟩ => show l.val = 0 + l.val; omega)

theorem opBottom_val (x : FVec Ideal S256x128 .f32) (r l : Fin 128) (i : Fin 256) (h : i.val = 128 + r.val) :
    opBottom x (ix2 r l) = x (ix2 i l) := by
  show extractStridedSlice S128x128 ![128, 0] x slices_S256x128_o128_0_S128x128 (ix2 r l) = _
  exact extractStridedSlice_apply _ _ _ _ _ (fun a => by
    match a with
    | ⟨0, _⟩ => show i.val = 128 + r.val; omega
    | ⟨1, _⟩ => show l.val = 0 + l.val; omega)

end Attn
-- ==== Proof.Pieces.lean ====
/-
  What a grid point leaves in its block of the queries' gradient: for each key head, the two halves picked and stored.
-/
module

public import proofs.«01_k».proof.Proof.Gen.KernelIdeal.Value
public import Idealize.ShloMosaic.Lib.Pipeline.ValueKit
public import proofs.«01_k».proof.Proof.Block

@[expose] public section

noncomputable section

namespace Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem lanes_in (o : Nat) (h : o + 128 ≤ 1024) : ∀ b, (![0, o] : Fin 2 → Nat) b + S128x128.size b ≤ S128x1024.size b := by
  intro b
  match b with
  | ⟨0, _⟩ => show 0 + 128 ≤ 128; omega
  | ⟨1, _⟩ => show o + 128 ≤ 1024; omega

theorem lane_in (o : Nat) (h : o + 1 ≤ 128) : ∀ b, (![0, o] : Fin 2 → Nat) b + S128x1.size b ≤ S128x128.size b := by
  intro b
  match b with
  | ⟨0, _⟩ => show 0 + 128 ≤ 128; omega
  | ⟨1, _⟩ => show o + 1 ≤ 128; omega

/-- 128 lanes of a block, from lane `o`. -/
def lanesAt (X : FVec Ideal S128x1024 .bf16) (o : Nat) (h : o + 128 ≤ 1024) : FVec Ideal S128x128 .bf16 :=
  View.ld (Val := Elt Ideal) (e' := .bf16) X (Rect.unit (s := S128x1024) ![0, o] S128x128.size (lanes_in o h))

/-- One lane of a block. -/
def laneAt (X : FVec Ideal S128x128 .f32) (o : Nat) (h : o + 1 ≤ 128) : FVec Ideal S128x1 .f32 :=
  View.ld (Val := Elt Ideal) (e' := .f32) X (Rect.unit (s := S128x128) ![0, o] S128x1.size (lane_in o h))

section Terms
variable (t : Fin cfg0.N) (a : Fin 4)

/-- The query rows of key head `a`: its first two query heads above its last two. -/
def qsB : FVec Ideal S256x128 .bf16 :=
  cat2 (lanesAt (iblk m c 0 t) (256 * a.val) (by omega)) (lanesAt (iblk m c 0 t) (256 * a.val + 128) (by omega))

def dosB : FVec Ideal S256x128 .bf16 :=
  cat2 (lanesAt (iblk m c 11 t) (256 * a.val) (by omega)) (lanesAt (iblk m c 11 t) (256 * a.val + 128) (by omega))

/-- The window of keys of key head `a`, spread for half `e`. -/
def kwB (e : Fin 2) : FVec Ideal S384x128 .bf16 :=
  cat3 (lanesAt (iblk m c 1 t) (256 * a.val + 128 * e.val) (by omega)) (lanesAt (iblk m c 2 t) (256 * a.val + 128 * e.val) (by omega))
    (lanesAt (iblk m c 3 t) (256 * a.val + 128 * e.val) (by omega))

def vwB (e : Fin 2) : FVec Ideal S384x128 .bf16 :=
  cat3 (lanesAt (iblk m c 4 t) (256 * a.val + 128 * e.val) (by omega)) (lanesAt (iblk m c 5 t) (256 * a.val + 128 * e.val) (by omega))
    (lanesAt (iblk m c 6 t) (256 * a.val + 128 * e.val) (by omega))

def lsB (e : Fin 2) : FVec Ideal S256x1 .f32 :=
  cols2 (laneAt (iblk m c 9 t) (4 * a.val + e.val) (by omega)) (laneAt (iblk m c 9 t) (4 * a.val + e.val + 2) (by omega))

def dlB (e : Fin 2) : FVec Ideal S256x1 .f32 :=
  cols2 (laneAt (iblk m c 10 t) (4 * a.val + e.val) (by omega)) (laneAt (iblk m c 10 t) (4 * a.val + e.val + 2) (by omega))

def biasB : FVec Ideal S256x384 .f32 := k0_pay5 (iblk m c 8 t)

def dqB (e : Fin 2) : FVec Ideal S256x128 .f32 :=
  opDQ (biasB m c t) (dosB m c t a) (kwB m c t a e) (vwB m c t a e) (qsB m c t a) (lsB m c t a e) (dlB m c t a e)

/-- Both halves, picked. -/
def dqPick : FVec Ideal S256x128 .f32 := opPick (dqB m c t a 0) (dqB m c t a 1)

end Terms

/-- The eight pieces stored, the last one first. -/
def dqPieces (t : Fin cfg0.N) : List (View.Piece (Elt Ideal) S128x1024 .bf16) := [
    ⟨Rect.unit ![0, 896] ![128, 128] inb_S128x1024_S128x128_0_896, opBottom (dqPick m c t 3)⟩,
    ⟨Rect.unit ![0, 768] ![128, 128] inb_S128x1024_S128x128_0_768, opTop (dqPick m c t 3)⟩,
    ⟨Rect.unit ![0, 640] ![128, 128] inb_S128x1024_S128x128_0_640, opBottom (dqPick m c t 2)⟩,
    ⟨Rect.unit ![0, 512] ![128, 128] inb_S128x1024_S128x128_0_512, opTop (dqPick m c t 2)⟩,
    ⟨Rect.unit ![0, 384] ![128, 128] inb_S128x1024_S128x128_0_384, opBottom (dqPick m c t 1)⟩,
    ⟨Rect.unit ![0, 256] ![128, 128] inb_S128x1024_S128x128_0_256, opTop (dqPick m c t 1)⟩,
    ⟨Rect.unit ![0, 128] ![128, 128] inb_S128x1024_S128x128_0_128, opBottom (dqPick m c t 0)⟩,
    ⟨Rect.unit ![0, 0] ![128, 128] inb_S128x1024_S128x128_0_0, opTop (dqPick m c t 0)⟩]

theorem block_dq_A (t : Fin cfg0.N) (h0 : t.val % 65 = 0) : (outsAt0 m c t.val t.isLt).1 = View.canon (dqPieces m c t) := by
  rw [outsAt0_A m c t h0]
  frame_out
  rfl

theorem block_dq_B (t : Fin cfg0.N) (h0 : ¬t.val % 65 = 0) : (outsAt0 m c t.val t.isLt).1 = View.canon (dqPieces m c t) := by
  rw [outsAt0_B m c t h0]
  frame_out
  rfl

end Attn
-- ==== Proof.Host.lean ====
/-
  What the arrays the kernel is launched on hold: the host operations before the launch, read as terms over the arguments
  and then at an index. Every array is the padded form of an array over the 8208 rows: 112 rows of zeros come first.
-/
module

public import proofs.«01_k».proof.Proof.Gen.KernelIdeal.Frame.Runs
public import Idealize.ShloMosaic.Lib.StableHlo.RunRead
public import Idealize.ShloMosaic.Lib.KernelVsHost
public import proofs.«01_k».proof.Proof.Ref

@[expose] public section

noncomputable section

namespace Attn

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v1 val_main_v62 val_main_v65)

variable (m : (ℓ : Loc nD τ sig) → Buf (Elt Ideal) ℓ) (c : Dev nD)

/-- The zero the host pads with. -/
abbrev padZero : FVec Ideal S_ .f32 := sitofp .f32 (constantI S_ 32 0#32)

/-- An array of 8208 rows below 112 rows of zeros. -/
abbrev padRows (x : FVec Ideal S8208x1024 .f32) : FVec Ideal S8320x1024 .f32 :=
  pad S8320x1024 ![112, 0] ![0, 0] ![0, 0] x padZero pads_S8208x1024_S8320x1024_11200_000 h_S_

abbrev padKeys (x : FVec Ideal S8208x256 .f32) : FVec Ideal S8320x256 .f32 :=
  pad S8320x256 ![112, 0] ![0, 0] ![0, 0] x padZero pads_S8208x256_S8320x256_11200_000 h_S_

/-- A column per head below 112 rows of zeros, with 112 columns of zeros to its right. -/
abbrev padHeads (x : FVec Ideal S8208x16 .f32) : FVec Ideal S8320x128 .f32 :=
  pad S8320x128 ![112, 0] ![0, 112] ![0, 0] x padZero pads_S8208x16_S8320x128_11200_01120 h_S_

abbrev eye2 : IVec S2x2 1 := cmpi .eq (iotaInDim S2x2 32 0) (iotaInDim S2x2 32 1)

/-- The keys (or values), each head's 64 lanes twice on the diagonal of a 2 x 2 arrangement. -/
abbrev widen (x : FVec Ideal S8208x256 .f32) : FVec Ideal S8320x1024 .f32 :=
  shapeCast S8320x1024
    (select
      (broadcastInDim S8320x4x2x2x64 ![0, 1, 2, 3, 4] bcast_S1x1x2x2x1_S8320x4x2x2x64_0_1_2_3_4
        (broadcastInDim S1x1x2x2x1 ![2, 3] bcast_S2x2_S1x1x2x2x1_2_3 eye2))
      (broadcastInDim S8320x4x2x2x64 ![0, 1, 2, 3, 4] bcast_S8320x4x1x1x64_S8320x4x2x2x64_0_1_2_3_4
        (shapeCast S8320x4x1x1x64 (padKeys x) shapeCasts_S8320x256_S8320x4x1x1x64))
      (broadcastInDim S8320x4x2x2x64 ![] bcast_S_S8320x4x2x2x64 (constant S_ .f32 0x00000000#32)))
    shapeCasts_S8320x4x2x2x64_S8320x1024

theorem V_q : V m c main_v48
    = truncf (F := Ideal) .bf16 (padRows (val_main_v1 (F := Ideal) (m (c, Proc.tc.devRef main_arg0)))) bitsLt_bf16_f32 := by
  after_reads_simp
  simp -implicitDefEqProofs only [StableHlo.TRef.toBuf, StableHlo.TRef.ofBuf, cast_cast, cast_eq]
  rfl

theorem V_do : V m c main_v50
    = truncf (F := Ideal) .bf16 (padRows (m (c, Proc.tc.devRef main_arg4))) bitsLt_bf16_f32 := by
  after_reads_simp
  simp -implicitDefEqProofs only [StableHlo.TRef.toBuf, StableHlo.TRef.ofBuf, cast_cast, cast_eq]

theorem V_k : V m c main_v59
    = truncf (F := Ideal) .bf16 (widen (m (c, Proc.tc.devRef main_arg1))) bitsLt_bf16_f32 := by
  after_reads_simp
  simp -implicitDefEqProofs only [StableHlo.TRef.toBuf, StableHlo.TRef.ofBuf, cast_cast, cast_eq]
  rfl

theorem V_v : V m c main_v68
    = truncf (F := Ideal) .bf16 (widen (m (c, Proc.tc.devRef main_arg2))) bitsLt_bf16_f32 := by
  after_reads_simp
  simp -implicitDefEqProofs only [StableHlo.TRef.toBuf, StableHlo.TRef.ofBuf, cast_cast, cast_eq]
  rfl

theorem V_sinks : V m c main_arg3 = m (c, Proc.tc.devRef main_arg3) := by
  after_reads_simp

theorem V_lse : V m c main_v45
    = padHeads (transpose S8208x16 [1, 0]
        (shapeCast S16x8208
          (val_main_v65 (F := Ideal) (m (c, Proc.tc.devRef main_arg0)) (m (c, Proc.tc.devRef main_arg1))
            (m (c, Proc.tc.devRef main_arg3)))
          shapeCasts_S4x4x8208_S16x8208)
        transposes_S16x8208_S8208x16_1_0) := by
  after_reads_simp
  simp -implicitDefEqProofs only [StableHlo.TRef.toBuf, StableHlo.TRef.ofBuf, cast_cast, cast_eq]
  rfl

theorem V_delta : V m c main_v46
    = padHeads (Host.reduceAdd (F := Ideal) (shapeCast S8208x16x64
        (mulf (m (c, Proc.tc.devRef main_arg4)) (shapeCast S8208x1024
          (val_main_v62 (F := Ideal) (m (c, Proc.tc.devRef main_arg0)) (m (c, Proc.tc.devRef main_arg1))
            (m (c, Proc.tc.devRef main_arg2)) (m (c, Proc.tc.devRef main_arg3)))
          shapeCasts_S8208x4x4x64_S8208x1024))
        shapeCasts_S8208x1024_S8208x16x64) (constant S_ .f32 0x00000000#32) reducesTo_S8208x16x64_S8208x16_d2 h_S_) := by
  after_reads_simp
  simp -implicitDefEqProofs only [StableHlo.TRef.toBuf, StableHlo.TRef.ofBuf, cast_cast, cast_eq]
  rfl

/-- Which columns of its window a row of block `n` sees: of the meta tokens' block all but its padding, of the block before
    the columns after the row, of its own block the columns up to the row (in block 0, without the padding). -/
def Ok (n r c : Nat) : Prop :=
  (c < 128 ∧ 112 ≤ c % 128 ∧ 1 ≤ n) ∨ (128 ≤ c ∧ c < 256 ∧ r % 128 < c % 128 ∧ 2 ≤ n)
    ∨ (256 ≤ c ∧ c % 128 ≤ r % 128 ∧ (1 ≤ n ∨ 112 ≤ c % 128))

instance (n r c : Nat) : Decidable (Ok n r c) := by unfold Ok; infer_instance

abbrev splat3 (w : BitVec 32) : IVec S3x256x384 32 := broadcastInDim S3x256x384 ![] bcast_S_S3x256x384 (constantI S_ 32 w)
abbrev colIn : IVec S3x256x384 32 := andi (iotaInDim S3x256x384 32 2) (splat3 127#32)
abbrev rowIn : IVec S3x256x384 32 := andi (iotaInDim S3x256x384 32 1) (splat3 127#32)

/-- The host's mask: a bit per block kind, row and column. -/
abbrev okBits : IVec S3x256x384 1 :=
  ori
    (ori
      (andi (andi (cmpi .slt (iotaInDim S3x256x384 32 2) (splat3 128#32)) (cmpi .sge colIn (splat3 112#32)))
        (cmpi .sge (iotaInDim S3x256x384 32 0) (splat3 1#32)))
      (andi
        (andi
          (andi (cmpi .sge (iotaInDim S3x256x384 32 2) (splat3 128#32)) (cmpi .slt (iotaInDim S3x256x384 32 2) (splat3 256#32)))
          (cmpi .sgt colIn rowIn))
        (cmpi .sge (iotaInDim S3x256x384 32 0) (splat3 2#32))))
    (andi
      (andi (cmpi .sge (iotaInDim S3x256x384 32 2) (splat3 256#32)) (cmpi .sle colIn rowIn))
      (ori (cmpi .sge (iotaInDim S3x256x384 32 0) (splat3 1#32)) (cmpi .sge colIn (splat3 112#32))))

theorem V_ok : V m c main_v106
    = select okBits (broadcastInDim S3x256x384 ![] bcast_S_S3x256x384 (constant (F := Ideal) S_ .f32 0x3F800000#32))
        (broadcastInDim S3x256x384 ![] bcast_S_S3x256x384 (constant (F := Ideal) S_ .f32 0x00000000#32)) := by
  after_reads_simp
  simp -implicitDefEqProofs only [StableHlo.TRef.toBuf, StableHlo.TRef.ofBuf, cast_cast, cast_eq]

end Attn
-- ==== Proof.RefBack.lean ====
/-
  The reference's backward stages at real arguments. The gradient at a row's maximum is zero, so the two terms that
  carry it (to the keys attaining the maximum and to the sink) vanish; what is left is `dscore` at every score, and the
  sum over the rows of `dsink` at every sink.
-/
module

public import proofs.«01_k».proof.Proof.Ref

@[expose] public section

noncomputable section

open Idealize.ShloMosaic Idealize.ShloMosaic.ValueIdx Cert.ReferenceIdeal Cert.ReferenceIdeal.Read
open Cert.ReferenceIdeal.Gen (h_S_)

namespace Attn

variable (x0 : S8208x1024.Idx → ℝ) (x1 x2 : S8208x256.Idx → ℝ) (x3 : S1x16.Idx → ℝ) (x4 : S8208x1024.Idx → ℝ)

theorem v25_ne (i : S4x4x8208.Idx) : val_main_v25 (F := Ideal) (up x0) (up x1) i ≠ 0 := by
  obtain ⟨-, k, hk⟩ := v20_real x0 x1 i
  have h24 : ∀ k', val_main_v24 (F := Ideal) (up x0) (up x1) (idx_main_v25 i k')
      = ((((Ideal.cmp .oeq (val_main_v19_0 (F := Ideal) (up x0) (up x1) (idx_main_v25 i k'))
          (val_main_v20 (F := Ideal) (up x0) (up x1) i)).toNat : ℝ)) : EReal) := fun k' => by
    rw [val_main_v24_apply, val_main_v23_apply, val_main_v22_apply, val_main_v21_apply]
    have e : idx_main_v21 (idx_main_v22 (idx_main_v25 i k')) = i := by
      have h1 : (i 1).val < 4 := (i 1).isLt
      have h2 : (i 2).val < 8208 := (i 2).isLt
      funext a; match a with
      | ⟨0, _⟩ => exact Fin.ext (by show ((((i 0).val * 4 + (i 1).val) * 8208 + (i 2).val) * 1 + 0) / 32832 = (i 0).val; omega)
      | ⟨1, _⟩ => exact Fin.ext (by show ((((i 0).val * 4 + (i 1).val) * 8208 + (i 2).val) * 1 + 0) / 8208 % 4 = (i 1).val; omega)
      | ⟨2, _⟩ => exact Fin.ext (by show ((((i 0).val * 4 + (i 1).val) * 8208 + (i 2).val) * 1 + 0) % 8208 = (i 2).val; omega)
    rw [e]; rfl
  have hp : (0 : EReal) < val_main_v25 (F := Ideal) (up x0) (up x1) i := by
    rw [val_main_v25_apply, val_main_cst_3_apply]
    show _ < Ideal.ofBits .f32 0x00000000#32 + _
    rw [zero_const]
    refine lt_of_lt_of_le ?_ (Finset.single_le_sum (fun k' _ => ?_) (Finset.mem_univ k))
    · rw [h24 k, hk]
      simp [Ideal.cmp]
    · rw [h24 k']; exact_mod_cast Nat.zero_le _
  exact hp.ne'

theorem v60_val (i : S4x4x8208x1.Idx) :
    val_main_v60 (F := Ideal) (up x0) (up x1) (up x3) i
      = ((1 / (DEN x0 x1 x3 (i 0) (i 1) (i 2) * DEN x0 x1 x3 (i 0) (i 1) (i 2)) : ℝ) : EReal) := by
  rw [val_main_v60_apply, val_main_v59_apply, val_main_v58_apply, val_main_v55_apply, v54_val, val_main_cst_11_apply]
  show Ideal.div (Ideal.ofBits .f32 0x3F800000#32) (_ * _) = _
  rw [Ideal.ofBits_one_f32, ← EReal.coe_mul, show (1 : EReal) = ((1 : ℝ) : EReal) by norm_cast]
  exact div_coe _ _ (mul_ne_zero (DEN_ne x0 x1 x3 _ _ _) (DEN_ne x0 x1 x3 _ _ _))

theorem v67_val (i : S4x64x4x8208.Idx) :
    val_main_v67 (F := Ideal) (up x4) i = (gv x4 (i 3) (i 0) (i 2) (i 1) : EReal) := by
  rw [val_main_v67_apply, val_main_v66_apply]
  have : idx_main_v66 (idx_main_v67 i) = ix2 (i 3 : Fin 8208) (lane (i 0) (i 2) (i 1)) := by
    have h0 : (i 0).val < 4 := (i 0).isLt
    have h1 : (i 1).val < 64 := (i 1).isLt
    have h2 : (i 2).val < 4 := (i 2).isLt
    funext a; match a with
    | ⟨0, _⟩ => exact Fin.ext (by show ((((i 3).val * 4 + (i 0).val) * 4 + (i 2).val) * 64 + (i 1).val) / 1024 = (i 3).val; omega)
    | ⟨1, _⟩ => exact Fin.ext (by show ((((i 3).val * 4 + (i 0).val) * 4 + (i 2).val) * 64 + (i 1).val) % 1024 = 256 * (i 0).val + 64 * (i 2).val + (i 1).val; omega)
  rw [this]; rfl

theorem v68_val (i : S4x4x8208x8208.Idx) :
    val_main_v68 (F := Ideal) (up x2) (up x4) i = (gdot x2 x4 (i 0) (i 1) (i 2) (i 3) : EReal) := by
  rw [val_main_v68_apply]
  exact sum_coe_mul _ _ _ _ _ (fun d => v67_val x4 _) (fun d => v4_val x2 _)

theorem v73_val (i : S4x4x8208x8208.Idx) :
    val_main_v73 (F := Ideal) (up x0) (up x1) (up x2) (up x3) (up x4) i
      = ((gdot x2 x4 (i 0) (i 1) (i 2) (i 3)
          * (1 / (DEN x0 x1 x3 (i 0) (i 1) (i 2) * DEN x0 x1 x3 (i 0) (i 1) (i 2))) * W x0 x1 x3 (i 0) (i 1) (i 2) (i 3) : ℝ) : EReal) := by
  rw [val_main_v73_apply, val_main_v72_apply, val_main_v71_apply, v68_val, v60_val, v49_val]
  show (_ * _) * _ = _
  rw [← EReal.coe_mul, ← EReal.coe_mul]; rfl

theorem v79_val (i : S4x4x8208.Idx) :
    val_main_v79 (F := Ideal) (up x0) (up x1) (up x2) (up x3) (up x4) i
      = (DDEN x0 x1 x2 x3 x4 (i 0) (i 1) (i 2) : EReal) := by
  have h74 : ∀ i, val_main_v74 (F := Ideal) (up x0) (up x1) (up x2) (up x3) (up x4) i
      = ((∑ k, gdot x2 x4 (i 0) (i 1) (i 2) k
          * (1 / (DEN x0 x1 x3 (i 0) (i 1) (i 2) * DEN x0 x1 x3 (i 0) (i 1) (i 2))) * W x0 x1 x3 (i 0) (i 1) (i 2) k : ℝ) : EReal) := fun i => by
    rw [val_main_v74_apply, sum_coe _ _ _ (fun k => v73_val x0 x1 x2 x3 x4 (idx_main_v74 i k)), val_main_cst_12_apply]
    exact zero_const _
  rw [val_main_v79_apply, val_main_cst_13_apply]
  show Ideal.ofBits .f32 0x00000000#32 + _ = _
  rw [zero_const, Fin.sum_univ_one, val_main_v76_apply, val_main_v75_apply, h74]
  have e : idx_main_v75 (idx_main_v79 i 0) = i := by
    have h1 : (i 1).val < 4 := (i 1).isLt
    have h2 : (i 2).val < 8208 := (i 2).isLt
    funext a; match a with
    | ⟨0, _⟩ => exact Fin.ext (by show ((((i 0).val * 4 + (i 1).val) * 8208 + (i 2).val) * 1 + 0) / 32832 = (i 0).val; omega)
    | ⟨1, _⟩ => exact Fin.ext (by show ((((i 0).val * 4 + (i 1).val) * 8208 + (i 2).val) * 1 + 0) / 8208 % 4 = (i 1).val; omega)
    | ⟨2, _⟩ => exact Fin.ext (by show ((((i 0).val * 4 + (i 1).val) * 8208 + (i 2).val) * 1 + 0) % 8208 = (i 2).val; omega)
  rw [e]
  show -_ = _
  rw [← EReal.coe_neg]; rfl

theorem v80_val (i : S4x4x8208.Idx) :
    val_main_v80 (F := Ideal) (up x0) (up x1) (up x2) (up x3) (up x4) i
      = (DSK x0 x1 x2 x3 x4 (i 0) (i 1) (i 2) : EReal) := by
  rw [val_main_v80_apply, v79_val, v53_val]
  show _ * _ = _
  rw [← EReal.coe_mul]
  exact congrArg _ (dsink_eq _ _ _ _ _)

theorem div_add_mul (g d z w : ℝ) (h : d ≠ 0) :
    (Ideal.div (g : EReal) (d : EReal) + (z : EReal)) * (w : EReal) = (((g / d + z) * w : ℝ) : EReal) := by
  rw [div_coe _ _ h, ← EReal.coe_add, ← EReal.coe_mul]

theorem v86_val' (i : S4x4x8208x8208.Idx) :
    val_main_v86 (F := Ideal) (up x0) (up x1) (up x2) (up x3) (up x4) i
      = (((gdot x2 x4 (i 0) (i 1) (i 2) (i 3) / DEN x0 x1 x3 (i 0) (i 1) (i 2) + DDEN x0 x1 x2 x3 x4 (i 0) (i 1) (i 2))
          * W x0 x1 x3 (i 0) (i 1) (i 2) (i 3) : ℝ) : EReal) := by
  rw [val_main_v86_apply, val_main_v85_apply, val_main_v84_apply, val_main_v78_apply, val_main_v77_apply,
    val_main_v55_apply, v68_val, v54_val, v79_val, v49_val]
  exact div_add_mul _ _ _ _ (DEN_ne x0 x1 x3 _ _ _)

theorem v86_val (i : S4x4x8208x8208.Idx) :
    val_main_v86 (F := Ideal) (up x0) (up x1) (up x2) (up x3) (up x4) i
      = (DS x0 x1 x2 x3 x4 (i 0) (i 1) (i 2) (i 3) : EReal) := by
  rw [v86_val']
  exact congrArg _ (dscore_eq _ _ _ _ _ _)

theorem v91_val (i : S4x4x8208.Idx) :
    val_main_v91 (F := Ideal) (up x0) (up x1) (up x2) (up x3) (up x4) i = 0 := by
  have h88 : ∀ i, val_main_v88 (F := Ideal) (up x0) (up x1) (up x2) (up x3) (up x4) i
      = ((∑ k, -((gdot x2 x4 (i 0) (i 1) (i 2) k / DEN x0 x1 x3 (i 0) (i 1) (i 2) + DDEN x0 x1 x2 x3 x4 (i 0) (i 1) (i 2))
          * W x0 x1 x3 (i 0) (i 1) (i 2) k) : ℝ) : EReal) := fun i => by
    rw [val_main_v88_apply, sum_coe _ _ _ (fun k => ?_), val_main_cst_15_apply]
    · exact zero_const _
    · rw [val_main_v87_apply, v86_val']
      show -_ = _
      rw [← EReal.coe_neg]; rfl
  rw [val_main_v91_apply, val_main_v90_apply, val_main_cst_16_apply, val_main_v83_apply, val_main_v80_apply, v79_val, v53_val]
  show -(_ * _) + (Ideal.ofBits .f32 0x00000000#32 + _) = _
  rw [zero_const, Fin.sum_univ_one, val_main_v89_apply, h88]
  have e : idx_main_v89 (idx_main_v90 i 0) = i := by
    have h1 : (i 1).val < 4 := (i 1).isLt
    have h2 : (i 2).val < 8208 := (i 2).isLt
    funext a; match a with
    | ⟨0, _⟩ => exact Fin.ext (by show ((((i 0).val * 4 + (i 1).val) * 8208 + (i 2).val) * 1 + 0) / 32832 = (i 0).val; omega)
    | ⟨1, _⟩ => exact Fin.ext (by show ((((i 0).val * 4 + (i 1).val) * 8208 + (i 2).val) * 1 + 0) / 8208 % 4 = (i 1).val; omega)
    | ⟨2, _⟩ => exact Fin.ext (by show ((((i 0).val * 4 + (i 1).val) * 8208 + (i 2).val) * 1 + 0) % 8208 = (i 2).val; omega)
  rw [e, ← EReal.coe_mul, ← EReal.coe_neg, ← EReal.coe_add]
  have := dmax_zero (Vis (i 2)) (score x0 x1 (i 0) (i 1) (i 2)) (snk x3 (i 0) (i 1)) (mx x0 x1 x3 (i 0) (i 1) (i 2))
    (gdot x2 x4 (i 0) (i 1) (i 2))
  exact congrArg (fun r : ℝ => (r : EReal)) this

theorem v101_val (i : S4x4x8208x8208.Idx) :
    val_main_v101 (F := Ideal) (up x0) (up x1) (up x2) (up x3) (up x4) i
      = (DS x0 x1 x2 x3 x4 (i 0) (i 1) (i 2) (i 3) : EReal) := by
  have h99 : val_main_v99 (F := Ideal) (up x0) (up x1) (up x2) (up x3) (up x4) i = 0 := by
    rw [val_main_v99_apply, val_main_v98_apply, val_main_v97_apply, val_main_v96_apply, v91_val]
    show Ideal.div (0 * _) _ * _ = _
    rw [zero_mul, Ideal.zero_div (v25_ne x0 x1 _), zero_mul]
  rw [val_main_v101_apply, v19m_val, select_ofBool, val_main_v100_apply, v86_val, h99, val_main_call1_v0_apply,
    val_main_call1_cst_apply]
  show (if _ then _ + (0 : EReal) else Ideal.ofBits .f32 0x00000000#32) = _
  rw [add_zero, Ideal.ofBits_zero_f32]
  split_ifs with h
  · rfl
  · exact congrArg (fun r : ℝ => (r : EReal)) (dscore_of_not_vis (Vis (i 2)) (score x0 x1 (i 0) (i 1) (i 2))
      (snk x3 (i 0) (i 1)) (mx x0 x1 x3 (i 0) (i 1) (i 2)) (gdot x2 x4 (i 0) (i 1) (i 2)) (i 3) h).symm

/-- The gradient at the scaled queries. -/
def DQ (t : Fin 8208) (a b : Fin 4) (d : Fin 64) : ℝ := ∑ j, DS x0 x1 x2 x3 x4 a b t j * kv x1 j a d

theorem v104_val (i : S8208x4x4x64.Idx) :
    val_main_v104 (F := Ideal) (up x0) (up x1) (up x2) (up x3) (up x4) i
      = (DQ x0 x1 x2 x3 x4 (i 0) (i 1) (i 2) (i 3) : EReal) := by
  rw [val_main_v104_apply, val_main_v103_apply]
  exact sum_coe_mul _ _ _ _ _ (fun j => by rw [val_main_v102_apply]; exact v101_val x0 x1 x2 x3 x4 _) (fun j => v3_val x1 _)

/-- The gradient at the sinks. -/
theorem v107_val (a b : Fin 4) :
    val_main_v107 (F := Ideal) (up x0) (up x1) (up x2) (up x3) (up x4) (ix2 (0 : Fin 1) (head a b))
      = ((∑ t, DSK x0 x1 x2 x3 x4 a b t : ℝ) : EReal) := by
  have h93 : ∀ i, val_main_v93 (F := Ideal) (up x0) (up x1) (up x2) (up x3) (up x4) i = 0 := fun i => by
    rw [val_main_v93_apply, val_main_cst_17_apply]
    show Ideal.ofBits .f32 0x00000000#32 + _ = _
    rw [zero_const]
    refine Finset.sum_eq_zero fun k _ => ?_
    rw [val_main_v92_apply, v91_val]
    exact zero_mul _
  rw [val_main_v107_apply, val_main_v95_apply, val_main_v94_apply, h93, val_main_v82_apply, val_main_v81_apply,
    sum_coe _ _ _ (fun k => v80_val x0 x1 x2 x3 x4 _), val_main_cst_14_apply]
  show (Ideal.ofBits .f32 0x00000000#32 + _) + (0 : EReal) = _
  rw [zero_const, add_zero]
  have ha : (((0 * 16 + (4 * a.val + b.val)) / 4 * 4 + (0 * 16 + (4 * a.val + b.val)) / 1 % 4) * 1 + 0) / 4 = a.val := by omega
  have hb : (((0 * 16 + (4 * a.val + b.val)) / 4 * 4 + (0 * 16 + (4 * a.val + b.val)) / 1 % 4) * 1 + 0) % 4 = b.val := by omega
  refine congrArg (fun r : ℝ => (r : EReal)) (Finset.sum_congr rfl fun t _ => ?_)
  exact congrArg₂ (fun a b => DSK x0 x1 x2 x3 x4 a b t) (Fin.ext ha) (Fin.ext hb)

/-- The gradient at the scaled queries as the reference lays it out: 112 rows of zeros, then the rows of the sequence. -/
theorem v112_val (t : Fin 8208) (a b : Fin 4) (d : Fin 64) (i : S8320x1024.Idx) (h0 : (i 0).val = 112 + t.val)
    (h1 : (i 1).val = (lane a b d).val) :
    val_main_v112 (F := Ideal) (up x0) (up x1) (up x2) (up x3) (up x4) i = (DQ x0 x1 x2 x3 x4 t a b d : EReal) := by
  rw [val_main_v112_apply]
  show val_main_v111 (F := Ideal) (up x0) (up x1) (up x2) (up x3) (up x4) i = _
  unfold val_main_v111
  rw [pad_apply_of_inside _ _ _ _ _ _ _ i (ix2 t (lane a b d)) (fun c => by
    match c with
    | ⟨0, _⟩ => show (i 0).val = 112 + t.val * 1; omega
    | ⟨1, _⟩ => show (i 1).val = 0 + (lane a b d).val * 1; omega), val_main_v110_apply, v104_val]
  have e0 : (t.val * 1024 + (256 * a.val + 64 * b.val + d.val)) / 1024 = t.val := by omega
  have e1 : (t.val * 1024 + (256 * a.val + 64 * b.val + d.val)) / 256 % 4 = a.val := by omega
  have e2 : (t.val * 1024 + (256 * a.val + 64 * b.val + d.val)) / 64 % 4 = b.val := by omega
  have e3 : (t.val * 1024 + (256 * a.val + 64 * b.val + d.val)) % 64 = d.val := by omega
  refine congrArg (fun r : ℝ => (r : EReal)) ?_
  show DQ x0 x1 x2 x3 x4 ⟨(t.val * 1024 + (256 * a.val + 64 * b.val + d.val)) / 1024, _⟩
    ⟨(t.val * 1024 + (256 * a.val + 64 * b.val + d.val)) / 256 % 4, _⟩
    ⟨(t.val * 1024 + (256 * a.val + 64 * b.val + d.val)) / 64 % 4, _⟩
    ⟨(t.val * 1024 + (256 * a.val + 64 * b.val + d.val)) % 64, _⟩ = _
  congr 1 <;> exact Fin.ext (by assumption)

theorem v112_pad (i : S8320x1024.Idx) (h0 : (i 0).val < 112) :
    val_main_v112 (F := Ideal) (up x0) (up x1) (up x2) (up x3) (up x4) i = 0 := by
  rw [val_main_v112_apply]
  show val_main_v111 (F := Ideal) (up x0) (up x1) (up x2) (up x3) (up x4) i = _
  unfold val_main_v111
  rw [pad_apply_of_not_inside _ _ _ _ _ _ _ i ⟨0, by decide⟩ (fun h => by
    have : 112 ≤ (i 0).val := h.1
    omega), val_main_call2_v0_apply, val_main_c_18_apply]
  show ((((0#32 : BitVec 32).toInt : ℝ)) : EReal) = 0
  simp

end Attn
-- ==== Proof.HostAt.lean ====
/-
  The launched arrays at an index, for real arguments: every entry is a real number, and the padding rows are zero.
-/
module

public import proofs.«01_k».proof.Proof.Host
public import proofs.«01_k».proof.Proof.RefBack

@[expose] public section

noncomputable section

namespace Attn

open Cert.KernelIdeal Cert.KernelIdeal.Gen Idealize.ShloMosaic Idealize.ShloMosaic.TcCoe
open Idealize.ShloMosaic.ValueIdx
open Cert.ReferenceIdeal.Read (val_main_v1 val_main_v62 val_main_v65)

/-- A function of the 8208 rows as one of the padded rows: zero on the first 112. -/
def padRow (f : Fin 8208 → ℝ) (ρ : Nat) : ℝ := if h : 112 ≤ ρ ∧ ρ < 8320 then f ⟨ρ - 112, by omega⟩ else 0

theorem padRow_of (f : Fin 8208 → ℝ) (t : Fin 8208) (ρ : Nat) (h : ρ = 112 + t.val) : padRow f ρ = f t := by
  have := t.isLt
  subst h
  unfold padRow
  rw [dif_pos (by omega)]
  exact congrArg f (Fin.ext (by show 112 + t.val - 112 = t.val; omega))

theorem padRow_lt (f : Fin 8208 → ℝ) (ρ : Nat) (h : ρ < 112) : padRow f ρ = 0 := dif_neg (by omega)

theorem padZero_val (i : S_.Idx) : padZero i = (0 : EReal) := by
  show (((0#32 : BitVec 32).toInt : ℝ) : EReal) = 0
  simp

section
variable (x0 : S8208x1024.Idx → ℝ) (x1 x2 : S8208x256.Idx → ℝ) (x3 : S1x16.Idx → ℝ) (x4 : S8208x1024.Idx → ℝ)

theorem padRows_val (x : FVec Ideal S8208x1024 .f32) (f : Fin 8208 → Fin 1024 → ℝ) (h : ∀ t l, x (ix2 t l) = (f t l : EReal))
    (ρ : Fin 8320) (l : Fin 1024) : padRows x (ix2 ρ l) = (padRow (fun t => f t l) ρ.val : EReal) := by
  by_cases hρ : 112 ≤ ρ.val
  · have hb := ρ.isLt
    refine (pad_apply_of_inside _ _ _ x padZero _ _ (ix2 ρ l) (ix2 (⟨ρ.val - 112, by omega⟩ : Fin 8208) l) ?_).trans ?_
    · intro a
      match a with
      | ⟨0, _⟩ => show ρ.val = 112 + (ρ.val - 112) * (0 + 1); omega
      | ⟨1, _⟩ => show l.val = 0 + l.val * (0 + 1); omega
    · rw [h, padRow_of _ ⟨ρ.val - 112, by omega⟩ ρ.val (by show ρ.val = 112 + (ρ.val - 112); omega)]
  · refine (pad_apply_of_not_inside _ _ _ x padZero _ _ (ix2 ρ l) (0 : Fin 2) ?_).trans ?_
    · intro hin
      exact hρ hin.1
    · rw [padZero_val, padRow_lt _ _ (by omega), EReal.coe_zero]

theorem padKeys_val (x : FVec Ideal S8208x256 .f32) (f : Fin 8208 → Fin 256 → ℝ) (h : ∀ t l, x (ix2 t l) = (f t l : EReal))
    (ρ : Fin 8320) (l : Fin 256) : padKeys x (ix2 ρ l) = (padRow (fun t => f t l) ρ.val : EReal) := by
  by_cases hρ : 112 ≤ ρ.val
  · have hb := ρ.isLt
    refine (pad_apply_of_inside _ _ _ x padZero _ _ (ix2 ρ l) (ix2 (⟨ρ.val - 112, by omega⟩ : Fin 8208) l) ?_).trans ?_
    · intro a
      match a with
      | ⟨0, _⟩ => show ρ.val = 112 + (ρ.val - 112) * (0 + 1); omega
      | ⟨1, _⟩ => show l.val = 0 + l.val * (0 + 1); omega
    · rw [h, padRow_of _ ⟨ρ.val - 112, by omega⟩ ρ.val (by show ρ.val = 112 + (ρ.val - 112); omega)]
  · refine (pad_apply_of_not_inside _ _ _ x padZero _ _ (ix2 ρ l) (0 : Fin 2) ?_).trans ?_
    · intro hin
      exact hρ hin.1
    · rw [padZero_val, padRow_lt _ _ (by omega), EReal.coe_zero]

theorem padHeads_val (x : FVec Ideal S8208x16 .f32) (f : Fin 8208 → Fin 16 → ℝ) (h : ∀ t l, x (ix2 t l) = (f t l : EReal))
    (ρ : Fin 8320) (l : Fin 128) (k : Fin 16) (hk : l.val = k.val) :
    padHeads x (ix2 ρ l) = (padRow (fun t => f t k) ρ.val : EReal) := by
  by_cases hρ : 112 ≤ ρ.val
  · have hb := ρ.isLt
    refine (pad_apply_of_inside _ _ _ x padZero _ _ (ix2 ρ l) (ix2 (⟨ρ.val - 112, by omega⟩ : Fin 8208) k) ?_).trans ?_
    · intro a
      match a with
      | ⟨0, _⟩ => show ρ.val = 112 + (ρ.val - 112) * (0 + 1); omega
      | ⟨1, _⟩ => show l.val = 0 + k.val * (0 + 1); omega
    · rw [h, padRow_of _ ⟨ρ.val - 112, by omega⟩ ρ.val (by show ρ.val = 112 + (ρ.val - 112); omega)]
  · refine (pad_apply_of_not_inside _ _ _ x padZero _ _ (ix2 ρ l) (0 : Fin 2) ?_).trans ?_
    · intro hin
      exact hρ hin.1
    · rw [padZero_val, padRow_lt _ _ (by omega), EReal.coe_zero]

theorem eye2_val (i : S2x2.Idx) : eye2 i = BitVec.ofBool (decide ((i 0).val = (i 1).val)) := by
  have h : ∀ a b : Fin 2, eye2 (ix2 a b) = BitVec.ofBool (decide (a.val = b.val)) := by decide
  rw [eq_ix2 i]
  exact h (i 0) (i 1)

theorem sel_apply {s : Shape} {α : Type} (c : IVec s 1) (x y : s.Idx → α) (i : s.Idx) :
    select c x y i = Scalar.select (c i) (x i) (y i) := rfl

/-- The widened array: lane `64 e' + d` of block `2 a + e` is lane `d` of key head `a` when `e = e'`, else zero. -/
theorem widen_val (ρ : Fin 8320) (a : Fin 4) (e e' : Fin 2) (d : Fin 64) (i : S8320x1024.Idx) (h0 : (i 0).val = ρ.val)
    (h1 : (i 1).val = 256 * a.val + 128 * e.val + 64 * e'.val + d.val) :
    widen (up x1) i = if e = e' then (padRow (fun t => kv x1 t a d) ρ.val : EReal) else 0 := by
  refine (shapeCast_apply _ _ i (ix5 ρ a e e' d) ?_).trans ?_
  · rw [Shape.rowMajor_val_two, Shape.rowMajor_val_five]
    show ((((ρ.val * 4 + a.val) * 2 + e.val) * 2 + e'.val) * 64 + d.val) = (i 0).val * 1024 + (i 1).val
    omega
  rw [sel_apply]
  rw [broadcastInDim_apply _ _ _ (ix5 ρ a e e' d) (ix5 (0 : Fin 1) (0 : Fin 1) e e' (0 : Fin 1)) (by
      intro b; match b with
      | ⟨0, _⟩ => rfl
      | ⟨1, _⟩ => rfl
      | ⟨2, _⟩ => rfl
      | ⟨3, _⟩ => rfl
      | ⟨4, _⟩ => rfl),
    broadcastInDim_apply _ _ _ (ix5 (0 : Fin 1) (0 : Fin 1) e e' (0 : Fin 1)) (ix2 e e') (by
      intro b; match b with
      | ⟨0, _⟩ => rfl
      | ⟨1, _⟩ => rfl),
    broadcastInDim_apply _ _ _ (ix5 ρ a e e' d) (ix5 ρ a (0 : Fin 1) (0 : Fin 1) d) (by
      intro b; match b with
      | ⟨0, _⟩ => rfl
      | ⟨1, _⟩ => rfl
      | ⟨2, _⟩ => rfl
      | ⟨3, _⟩ => rfl
      | ⟨4, _⟩ => rfl),
    shapeCast_apply _ _ (ix5 ρ a (0 : Fin 1) (0 : Fin 1) d) (ix2 ρ (klane a d)) (by
      rw [Shape.rowMajor_val_two, Shape.rowMajor_val_five]
      show ρ.val * 256 + (64 * a.val + d.val) = ((((ρ.val * 4 + a.val) * 1 + 0) * 1 + 0) * 64 + d.val)
      omega),
    padKeys_val (up x1) (fun t l => x1 (ix2 t l)) (fun t l => rfl), eye2_val, select_ofBool]
  by_cases h : e = e'
  · rw [if_pos (congrArg Fin.val h), if_pos h]; rfl
  · rw [if_neg (fun hh => h (Fin.ext hh)), if_neg h]
    exact Ideal.ofBits_zero_f32

/-! ## What each launched array holds -/

/-- The log of a row's normaliser with its maximum added back. -/
def LSE (a b : Fin 4) (t : Fin 8208) : ℝ := mx x0 x1 x3 a b t + Real.log (DEN x0 x1 x3 a b t)

variable (m : (ℓ : Loc nD τ sig) → Buf (Elt Ideal) ℓ) (c : Dev nD)

theorem q_val (h0 : m (c, Proc.tc.devRef main_arg0) = up x0) (ρ : Fin 8320) (a b : Fin 4) (d : Fin 64) (i : S8320x1024.Idx)
    (hi : i = ix2 ρ (lane a b d)) :
    (V m c main_v48 : S8320x1024.Idx → EReal) i = (padRow (fun t => qv x0 t a b d) ρ.val : EReal) := by
  subst hi
  rw [V_q, h0]
  exact padRows_val _ (fun t l => x0 (ix2 t l) * (1 / 8)) (fun t l => v1_val x0 _) ρ (lane a b d)

theorem do_val (h4 : m (c, Proc.tc.devRef main_arg4) = up x4) (ρ : Fin 8320) (a b : Fin 4) (d : Fin 64) (i : S8320x1024.Idx)
    (hi : i = ix2 ρ (lane a b d)) :
    (V m c main_v50 : S8320x1024.Idx → EReal) i = (padRow (fun t => gv x4 t a b d) ρ.val : EReal) := by
  subst hi
  rw [V_do, h4]
  exact padRows_val _ (fun t l => x4 (ix2 t l)) (fun t l => rfl) ρ (lane a b d)

theorem k_val (h1 : m (c, Proc.tc.devRef main_arg1) = up x1) (ρ : Fin 8320) (a : Fin 4) (e e' : Fin 2) (d : Fin 64)
    (i : S8320x1024.Idx) (h0 : (i 0).val = ρ.val) (hl : (i 1).val = 256 * a.val + 128 * e.val + 64 * e'.val + d.val) :
    (V m c main_v59 : S8320x1024.Idx → EReal) i = if e = e' then (padRow (fun t => kv x1 t a d) ρ.val : EReal) else 0 := by
  rw [V_k, h1]
  exact widen_val x1 ρ a e e' d i h0 hl

theorem v_val (h2 : m (c, Proc.tc.devRef main_arg2) = up x2) (ρ : Fin 8320) (a : Fin 4) (e e' : Fin 2) (d : Fin 64)
    (i : S8320x1024.Idx) (h0 : (i 0).val = ρ.val) (hl : (i 1).val = 256 * a.val + 128 * e.val + 64 * e'.val + d.val) :
    (V m c main_v68 : S8320x1024.Idx → EReal) i = if e = e' then (padRow (fun t => kv x2 t a d) ρ.val : EReal) else 0 := by
  rw [V_v, h2]
  exact widen_val x2 ρ a e e' d i h0 hl

theorem sinks_val (h3 : m (c, Proc.tc.devRef main_arg3) = up x3) (a b : Fin 4) (i : S1x16.Idx) (hi : (i 1).val = (head a b).val) :
    (V m c main_arg3 : S1x16.Idx → EReal) i = (snk x3 a b : EReal) := by
  have e : i = ix2 (0 : Fin 1) (head a b) := by
    rw [eq_ix2 i]
    have h0 : (i 0).val < 1 := (i 0).isLt
    exact congrArg₂ ix2 (Fin.ext (by show (i 0).val = 0; omega)) (Fin.ext hi)
  subst e
  rw [V_sinks, h3]
  rfl

theorem lse_val (h0 : m (c, Proc.tc.devRef main_arg0) = up x0) (h1 : m (c, Proc.tc.devRef main_arg1) = up x1)
    (h3 : m (c, Proc.tc.devRef main_arg3) = up x3) (ρ : Fin 8320) (a b : Fin 4) (l : Fin 128) (hl : l.val = (head a b).val) :
    (V m c main_v45 : S8320x128.Idx → EReal) (ix2 ρ l) = (padRow (LSE x0 x1 x3 a b) ρ.val : EReal) := by
  rw [V_lse, h0, h1, h3]
  refine (padHeads_val _ (fun t k => LSE x0 x1 x3 ⟨k.val / 4, by omega⟩ ⟨k.val % 4, by omega⟩ t) ?_ ρ l (head a b) hl).trans ?_
  · intro t k
    rw [transpose_apply _ _ _ (ix2 t k) (ix2 k t) (by
        intro x; match x with
        | ⟨0, _⟩ => rfl
        | ⟨1, _⟩ => rfl),
      shapeCast_apply _ _ (ix2 k t) (ix3 (⟨k.val / 4, by omega⟩ : Fin 4) (⟨k.val % 4, by omega⟩ : Fin 4) t) (by
        rw [Shape.rowMajor_val_two, Shape.rowMajor_val_three]
        show (k.val / 4 * 4 + k.val % 4) * 8208 + t.val = k.val * 8208 + t.val
        omega)]
    exact v65_val x0 x1 x3 _
  · have ea : (⟨(head a b).val / 4, by have := (head a b).isLt; omega⟩ : Fin 4) = a := Fin.ext (by show (4 * a.val + b.val) / 4 = a.val; omega)
    have eb : (⟨(head a b).val % 4, by omega⟩ : Fin 4) = b := Fin.ext (by show (4 * a.val + b.val) % 4 = b.val; omega)
    rw [ea, eb]

/-- The incoming gradient against the row's output is the probabilities' average of `gdot`. -/
theorem dl_eq (a b : Fin 4) (t : Fin 8208) :
    ∑ d, gv x4 t a b d * (∑ j, kv x2 j a d * PR x0 x1 x3 a b t j) = DL x0 x1 x2 x3 x4 a b t := by
  unfold DL delta
  simp only [Finset.mul_sum]
  rw [Finset.sum_comm]
  refine Finset.sum_congr rfl fun j _ => ?_
  show _ = PR x0 x1 x3 a b t j * gdot x2 x4 a b t j
  unfold gdot
  rw [Finset.mul_sum]
  exact Finset.sum_congr rfl fun d _ => by ring

theorem mul_apply {s : Shape} (x y : FVec Ideal s .f32) (i : s.Idx) : mulf x y i = (x i * y i : EReal) := rfl

theorem sum_lanes (y : FVec Ideal S8208x16x64 .f32) (v : FVec Ideal S_ .f32) (t : Fin 8208) (k : Fin 16) :
    Host.reduceAdd (F := Ideal) y v reducesTo_S8208x16x64_S8208x16_d2 h_S_ (ix2 t k)
      = v (Shape.Idx.first h_S_) + ∑ d : Fin 64, y (ix3 t k d) := by
  simp only [Host.reduceAdd, Ideal.hostReduceAdd_def]
  rw [Ideal.hostReduceAdd_single reducesTo_S8208x16x64_S8208x16_d2 (by decide)]
  refine congrArg (_ + ·) (Finset.sum_congr rfl fun d _ => ?_)
  exact congrArg y (funext fun a => Fin.ext (by match a with | ⟨0, _⟩ => rfl | ⟨1, _⟩ => rfl | ⟨2, _⟩ => rfl))

theorem delta_val (h0 : m (c, Proc.tc.devRef main_arg0) = up x0) (h1 : m (c, Proc.tc.devRef main_arg1) = up x1)
    (h2 : m (c, Proc.tc.devRef main_arg2) = up x2)
    (h3 : m (c, Proc.tc.devRef main_arg3) = up x3) (h4 : m (c, Proc.tc.devRef main_arg4) = up x4)
    (ρ : Fin 8320) (a b : Fin 4) (l : Fin 128) (hl : l.val = (head a b).val) :
    (V m c main_v46 : S8320x128.Idx → EReal) (ix2 ρ l) = (padRow (DL x0 x1 x2 x3 x4 a b) ρ.val : EReal) := by
  rw [V_delta, h0, h1, h2, h3, h4]
  refine (padHeads_val _ (fun t k => DL x0 x1 x2 x3 x4 ⟨k.val / 4, by omega⟩ ⟨k.val % 4, by omega⟩ t) ?_ ρ l (head a b) hl).trans ?_
  · intro t k
    rw [sum_lanes]
    have hz : (constant (F := Ideal) S_ .f32 0x00000000#32) (Shape.Idx.first h_S_) = (0 : EReal) := Ideal.ofBits_zero_f32
    rw [hz, zero_add]
    have key : ∀ d : Fin 64, (shapeCast S8208x16x64
        (mulf (F := Ideal) (φ := .f32) (up x4) (shapeCast S8208x1024
          (val_main_v62 (F := Ideal) (up x0) (up x1) (up x2) (up x3))
          shapeCasts_S8208x4x4x64_S8208x1024))
        shapeCasts_S8208x1024_S8208x16x64 : S8208x16x64.Idx → EReal) (ix3 t k d)
        = (((gv x4 t ⟨k.val / 4, by omega⟩ ⟨k.val % 4, by omega⟩ d
            * ∑ j, kv x2 j ⟨k.val / 4, by omega⟩ d * PR x0 x1 x3 ⟨k.val / 4, by omega⟩ ⟨k.val % 4, by omega⟩ t j : ℝ)) : EReal) := by
      intro d
      rw [shapeCast_apply _ _ (ix3 t k d) (ix2 t (lane ⟨k.val / 4, by omega⟩ ⟨k.val % 4, by omega⟩ d)) (by
        rw [Shape.rowMajor_val_two, Shape.rowMajor_val_three]
        show t.val * 1024 + (256 * (k.val / 4) + 64 * (k.val % 4) + d.val) = (t.val * 16 + k.val) * 64 + d.val
        omega), mul_apply,
        shapeCast_apply _ _ (ix2 t (lane ⟨k.val / 4, by omega⟩ ⟨k.val % 4, by omega⟩ d))
          (ix4 t (⟨k.val / 4, by omega⟩ : Fin 4) (⟨k.val % 4, by omega⟩ : Fin 4) d) (by
        rw [Shape.rowMajor_val_two, Shape.rowMajor_val_four]
        show ((t.val * 4 + k.val / 4) * 4 + k.val % 4) * 64 + d.val = t.val * 1024 + (256 * (k.val / 4) + 64 * (k.val % 4) + d.val)
        omega), v62_val, EReal.coe_mul]
      rfl
    rw [sum_coe _ _ _ key, dl_eq]
  · have ea : (⟨(head a b).val / 4, by have := (head a b).isLt; omega⟩ : Fin 4) = a := Fin.ext (by show (4 * a.val + b.val) / 4 = a.val; omega)
    have eb : (⟨(head a b).val % 4, by omega⟩ : Fin 4) = b := Fin.ext (by show (4 * a.val + b.val) % 4 = b.val; omega)
    rw [ea, eb]

/-! ### The mask -/

theorem word_toInt (n : Nat) (h : n < 1024) : (BitVec.ofNat 32 n).toInt = (n : Int) := toInt_small n (by omega)

theorem word_slt (a b : Nat) (ha : a < 1024) (hb : b < 1024) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [word_toInt a ha, word_toInt b hb]
  exact congrArg BitVec.ofBool (decide_eq_decide.mpr (by omega))

theorem word_sge (a b : Nat) (ha : a < 1024) (hb : b < 1024) :
    IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [word_toInt a ha, word_toInt b hb]
  exact congrArg BitVec.ofBool (decide_eq_decide.mpr (by omega))

theorem word_sle (a b : Nat) (ha : a < 1024) (hb : b < 1024) :
    IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [word_toInt a ha, word_toInt b hb]
  exact congrArg BitVec.ofBool (decide_eq_decide.mpr (by omega))

theorem word_sgt (a b : Nat) (ha : a < 1024) (hb : b < 1024) :
    IntOp.cmpi .sgt (BitVec.ofNat 32 a) (BitVec.ofNat 32 b) = BitVec.ofBool (decide (b < a)) := by
  show BitVec.ofBool (decide ((BitVec.ofNat 32 b).toInt < (BitVec.ofNat 32 a).toInt)) = _
  rw [word_toInt a ha, word_toInt b hb]
  exact congrArg BitVec.ofBool (decide_eq_decide.mpr (by omega))

theorem word_low (a : Nat) (ha : a < 1024) : BitVec.ofNat 32 a &&& 127#32 = BitVec.ofNat 32 (a % 128) := by
  apply BitVec.eq_of_toNat_eq
  rw [BitVec.toNat_and, BitVec.toNat_ofNat, BitVec.toNat_ofNat, BitVec.toNat_ofNat]
  rw [show 127 % 2 ^ 32 = 2 ^ 7 - 1 from rfl, Nat.and_two_pow_sub_one_eq_mod]
  omega

theorem okBits_val (n : Fin 3) (r : Fin 256) (k : Fin 384) :
    okBits (ix3 n r k) = BitVec.ofBool (decide (Ok n.val r.val k.val)) := by
  have hn := n.isLt
  have hr := r.isLt
  have hk := k.isLt
  show (((IntOp.cmpi .slt (BitVec.ofNat 32 k.val) (BitVec.ofNat 32 128)
          &&& IntOp.cmpi .sge (BitVec.ofNat 32 k.val &&& 127#32) (BitVec.ofNat 32 112))
          &&& IntOp.cmpi .sge (BitVec.ofNat 32 n.val) (BitVec.ofNat 32 1))
        ||| (((IntOp.cmpi .sge (BitVec.ofNat 32 k.val) (BitVec.ofNat 32 128)
            &&& IntOp.cmpi .slt (BitVec.ofNat 32 k.val) (BitVec.ofNat 32 256))
            &&& IntOp.cmpi .sgt (BitVec.ofNat 32 k.val &&& 127#32) (BitVec.ofNat 32 r.val &&& 127#32))
            &&& IntOp.cmpi .sge (BitVec.ofNat 32 n.val) (BitVec.ofNat 32 2)))
        ||| ((IntOp.cmpi .sge (BitVec.ofNat 32 k.val) (BitVec.ofNat 32 256)
            &&& IntOp.cmpi .sle (BitVec.ofNat 32 k.val &&& 127#32) (BitVec.ofNat 32 r.val &&& 127#32))
            &&& (IntOp.cmpi .sge (BitVec.ofNat 32 n.val) (BitVec.ofNat 32 1)
              ||| IntOp.cmpi .sge (BitVec.ofNat 32 k.val &&& 127#32) (BitVec.ofNat 32 112))) = _
  rw [word_low _ (by omega), word_low _ (by omega), word_slt _ _ (by omega) (by omega), word_slt _ _ (by omega) (by omega),
    word_sge _ _ (by omega) (by omega), word_sge _ _ (by omega) (by omega), word_sge _ _ (by omega) (by omega),
    word_sge _ _ (by omega) (by omega), word_sge _ _ (by omega) (by omega),
    word_sgt _ _ (by omega) (by omega), word_sle _ _ (by omega) (by omega)]
  simp only [BitVec.ofBool_and_ofBool, BitVec.ofBool_or_ofBool]
  refine congrArg BitVec.ofBool ?_
  rw [← Bool.coe_iff_coe]
  simp only [Bool.or_eq_true, Bool.and_eq_true, decide_eq_true_eq]
  unfold Ok
  omega

/-- The launched mask: one where a row sees a column, zero elsewhere. -/
theorem ok_val (n : Fin 3) (r : Fin 256) (k : Fin 384) :
    (V m c main_v106 : S3x256x384.Idx → EReal) (ix3 n r k) = if Ok n.val r.val k.val then (1 : EReal) else (0 : EReal) := by
  rw [V_ok, sel_apply, okBits_val, select_ofBool]
  have h1 : Ideal.ofBits .f32 0x3F800000#32 = (1 : EReal) := by
    simp [Ideal.ofBits, Ideal.ieee, -EReal.coe_mul]; norm_num
  by_cases h : Ok n.val r.val k.val
  · rw [if_pos h, if_pos h]; exact h1
  · rw [if_neg h, if_neg h]; exact Ideal.ofBits_zero_f32

end
end Attn
-- ==== Proof.Window.lean ====
/-
  A block's window of 384 columns holds every key its rows see, once each: the sum over the columns a row sees is the sum
  over the keys it sees.
-/
module

public import proofs.«01_k».proof.Proof.HostAt

@[expose] public section

noncomputable section

namespace Attn

/-- The padded row that column `c` of block `n`'s window shows. -/
def key (n c : Nat) : Nat := if c < 128 then c else if c < 256 then 128 * (n - 1) + (c - 128) else 128 * n + (c - 256)

theorem Ok_min (n r c : Nat) : Ok (min n 2) r c ↔ Ok n r c := by
  unfold Ok; omega

theorem ok_key (n r c : Nat) (hn : n < 65) (hr : r < 128) (hc : c < 384) (h : Ok n r c) :
    112 ≤ 128 * n + r ∧ 112 ≤ key n c ∧ key n c < 8320 ∧ Sees (128 * n + r - 112) (key n c - 112) := by
  unfold Ok at h
  unfold key Sees
  split
  · omega
  · split <;> omega

/-- The column that shows key `j`. -/
def col (n j : Nat) : Nat :=
  if j + 112 < 128 ∧ 1 ≤ n then j + 112 else if (j + 112) / 128 = n then 256 + (j + 112) % 128 else 128 + (j + 112) % 128

theorem sees_col (n r j : Nat) (hn : n < 65) (hr : r < 128) (h112 : 112 ≤ 128 * n + r) (hj : j < 8208)
    (h : Sees (128 * n + r - 112) j) : col n j < 384 ∧ Ok n r (col n j) ∧ key n (col n j) = j + 112 := by
  unfold Sees at h
  unfold col
  split
  · unfold Ok key
    refine ⟨by omega, by omega, ?_⟩
    split <;> omega
  · split
    · unfold Ok key
      refine ⟨by omega, by omega, ?_⟩
      split
      · omega
      · split <;> omega
    · unfold Ok key
      refine ⟨by omega, by omega, ?_⟩
      split
      · omega
      · split <;> omega

theorem col_key (n r c : Nat) (hn : n < 65) (hr : r < 128) (hc : c < 384) (h : Ok n r c) : col n (key n c - 112) = c := by
  unfold Ok at h
  unfold key
  split
  · unfold col; split <;> omega
  · split
    · unfold col; split
      · omega
      · split <;> omega
    · unfold col; split
      · omega
      · split <;> omega

theorem window_sum (n r : Nat) (hn : n < 65) (hr : r < 128) (t : Fin 8208) (ht : 128 * n + r = 112 + t.val) (F : Fin 8208 → ℝ) :
    ∑ c : Fin 384, (if Ok n r c.val then padRow F (key n c.val) else 0) = ∑ j : Fin 8208, if Sees t.val j.val then F j else 0 := by
  rw [← Finset.sum_filter, ← Finset.sum_filter]
  have e : 128 * n + r - 112 = t.val := by omega
  refine Finset.sum_bij' (fun c _ => (⟨min (key n c.val - 112) 8207, by omega⟩ : Fin 8208))
    (fun j _ => (⟨min (col n j.val) 383, by omega⟩ : Fin 384)) ?_ ?_ ?_ ?_ ?_
  · intro c hc
    have hc' : Ok n r c.val := (Finset.mem_filter.mp hc).2
    obtain ⟨-, h1, h2, h3⟩ := ok_key n r c.val hn hr c.isLt hc'
    refine Finset.mem_filter.mpr ⟨Finset.mem_univ _, ?_⟩
    show Sees t.val (min (key n c.val - 112) 8207)
    rw [e] at h3
    rwa [Nat.min_eq_left (by omega)]
  · intro j hj
    have hj' : Sees t.val j.val := (Finset.mem_filter.mp hj).2
    obtain ⟨h1, h2, h3⟩ := sees_col n r j.val hn hr (by omega) j.isLt (by rwa [e])
    refine Finset.mem_filter.mpr ⟨Finset.mem_univ _, ?_⟩
    show Ok n r (min (col n j.val) 383)
    rwa [Nat.min_eq_left (by omega)]
  · intro c hc
    have hc' : Ok n r c.val := (Finset.mem_filter.mp hc).2
    obtain ⟨-, h1, h2, h3⟩ := ok_key n r c.val hn hr c.isLt hc'
    have := col_key n r c.val hn hr c.isLt hc'
    refine Fin.ext ?_
    show min (col n (min (key n c.val - 112) 8207)) 383 = c.val
    rw [Nat.min_eq_left (show key n c.val - 112 ≤ 8207 by omega), this]
    have := c.isLt
    omega
  · intro j hj
    have hj' : Sees t.val j.val := (Finset.mem_filter.mp hj).2
    obtain ⟨h1, h2, h3⟩ := sees_col n r j.val hn hr (by omega) j.isLt (by rwa [e])
    refine Fin.ext ?_
    show min (key n (min (col n j.val) 383) - 112) 8207 = j.val
    rw [Nat.min_eq_left (show col n j.val ≤ 383 by omega), h3]
    have := j.isLt
    omega
  · intro c hc
    have hc' : Ok n r c.val := (Finset.mem_filter.mp hc).2
    obtain ⟨-, h1, h2, h3⟩ := ok_key n r c.val hn hr c.isLt hc'
    refine padRow_of F _ _ ?_
    show key n c.val = 112 + min (key n c.val - 112) 8207
    omega

end Attn
-- ==== Proof.Reads.lean ====
/-
  The blocks a grid point reads, element by element, from the arrays the host prepares.
-/
module

public import proofs.«01_k».proof.Proof.Pieces
public import proofs.«01_k».proof.Proof.Window

@[expose] public section

noncomputable section

namespace Attn

open Cert.KernelIdeal Cert.KernelIdeal.Gen Idealize.ShloMosaic Idealize.ShloMosaic.TcCoe Idealize.SL.Sem
open Idealize.ShloMosaic.Pipeline (Dat)
open Idealize.ShloMosaic.ValueIdx (eq_ix2)

variable (m : (ℓ : Loc nD τ sig) → Buf (Elt Ideal) ℓ) (c : Dev nD)

theorem N_lt (t : Fin cfg0.N) : t.val < 65 := t.isLt

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val - 1, 0] := (by decide +kernel : ∀ t : Fin grid0.N, win0_2.index t = ![t.val - 1, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val - 1, 0] := (by decide +kernel : ∀ t : Fin grid0.N, win0_5.index t = ![t.val - 1, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![min t.val 2, 0, 0] := (by decide +kernel : ∀ t : Fin grid0.N, win0_8.index t = ![min t.val 2, 0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])

section
variable (t : Fin cfg0.N)

theorem read0 (r : Fin 128) (l : Fin 1024) (ρ : Fin 8320) (h : ρ.val = 128 * t.val + r.val) :
    (iblk m c 0 t : S128x1024.Idx → EReal) (ix2 r l) = (V m c main_v48 : S8320x1024.Idx → EReal) (ix2 ρ l) := by
  blk_ext [iblk, idx0 t]

theorem read1 (r : Fin 128) (l : Fin 1024) (ρ : Fin 8320) (h : ρ.val = 128 * 0 + r.val) :
    (iblk m c 1 t : S128x1024.Idx → EReal) (ix2 r l) = (V m c main_v59 : S8320x1024.Idx → EReal) (ix2 ρ l) := by
  blk_ext [iblk, idx1 t]

theorem read2 (r : Fin 128) (l : Fin 1024) (ρ : Fin 8320) (h : ρ.val = 128 * (t.val - 1) + r.val) :
    (iblk m c 2 t : S128x1024.Idx → EReal) (ix2 r l) = (V m c main_v59 : S8320x1024.Idx → EReal) (ix2 ρ l) := by
  blk_ext [iblk, idx2 t]

theorem read3 (r : Fin 128) (l : Fin 1024) (ρ : Fin 8320) (h : ρ.val = 128 * t.val + r.val) :
    (iblk m c 3 t : S128x1024.Idx → EReal) (ix2 r l) = (V m c main_v59 : S8320x1024.Idx → EReal) (ix2 ρ l) := by
  blk_ext [iblk, idx3 t]

theorem read4 (r : Fin 128) (l : Fin 1024) (ρ : Fin 8320) (h : ρ.val = 128 * 0 + r.val) :
    (iblk m c 4 t : S128x1024.Idx → EReal) (ix2 r l) = (V m c main_v68 : S8320x1024.Idx → EReal) (ix2 ρ l) := by
  blk_ext [iblk, idx4 t]

theorem read5 (r : Fin 128) (l : Fin 1024) (ρ : Fin 8320) (h : ρ.val = 128 * (t.val - 1) + r.val) :
    (iblk m c 5 t : S128x1024.Idx → EReal) (ix2 r l) = (V m c main_v68 : S8320x1024.Idx → EReal) (ix2 ρ l) := by
  blk_ext [iblk, idx5 t]

theorem read6 (r : Fin 128) (l : Fin 1024) (ρ : Fin 8320) (h : ρ.val = 128 * t.val + r.val) :
    (iblk m c 6 t : S128x1024.Idx → EReal) (ix2 r l) = (V m c main_v68 : S8320x1024.Idx → EReal) (ix2 ρ l) := by
  blk_ext [iblk, idx6 t]

theorem read9 (r : Fin 128) (l : Fin 128) (ρ : Fin 8320) (h : ρ.val = 128 * t.val + r.val) :
    (iblk m c 9 t : S128x128.Idx → EReal) (ix2 r l) = (V m c main_v45 : S8320x128.Idx → EReal) (ix2 ρ l) := by
  blk_ext [iblk, idx9 t]

theorem read10 (r : Fin 128) (l : Fin 128) (ρ : Fin 8320) (h : ρ.val = 128 * t.val + r.val) :
    (iblk m c 10 t : S128x128.Idx → EReal) (ix2 r l) = (V m c main_v46 : S8320x128.Idx → EReal) (ix2 ρ l) := by
  blk_ext [iblk, idx10 t]

theorem read11 (r : Fin 128) (l : Fin 1024) (ρ : Fin 8320) (h : ρ.val = 128 * t.val + r.val) :
    (iblk m c 11 t : S128x1024.Idx → EReal) (ix2 r l) = (V m c main_v50 : S8320x1024.Idx → EReal) (ix2 ρ l) := by
  blk_ext [iblk, idx11 t]

theorem read7 (l : Fin 16) :
    (iblk m c 7 t : S1x16.Idx → EReal) (ix2 (0 : Fin 1) l) = (V m c main_arg3 : S1x16.Idx → EReal) (ix2 (0 : Fin 1) l) := by
  blk_ext [iblk, idx7 t]

theorem read8 (r : Fin 256) (k : Fin 384) (n : Fin 3) (h : n.val = min t.val 2) :
    (iblk m c 8 t : S1x256x384.Idx → EReal) (ix3 (0 : Fin 1) r k) = (V m c main_v106 : S3x256x384.Idx → EReal) (ix3 n r k) := by
  blk_ext [iblk, idx8 t]

end

theorem lanesAt_val (X : FVec Ideal S128x1024 .bf16) (o : Nat) (h : o + 128 ≤ 1024) (r l : Fin 128) (l' : Fin 1024)
    (hl : l'.val = o + l.val) : lanesAt X o h (ix2 r l) = X (ix2 r l') :=
  congrArg X (by
    refine Shape.idx_ext₂ ?_ ?_
    · show 0 + 1 * r.val = r.val; omega
    · show o + 1 * l.val = l'.val; omega)

theorem laneAt_val (X : FVec Ideal S128x128 .f32) (o : Nat) (h : o + 1 ≤ 128) (r : Fin 128) (l' : Fin 128)
    (hl : l'.val = o) : laneAt X o h (ix2 r (0 : Fin 1)) = X (ix2 r l') :=
  congrArg X (by
    refine Shape.idx_ext₂ ?_ ?_
    · show 0 + 1 * r.val = r.val; omega
    · show o + 1 * 0 = l'.val; omega)

end Attn
-- ==== Proof.BlockAt.lean ====
/-
  What a grid point's block of the queries' gradient holds: row by row and lane by lane, the reference's gradient.
-/
module

public import proofs.«01_k».proof.Proof.Reads
public import proofs.«01_k».proof.Proof.RefBack
public import proofs.«01_k».proof.Proof.HostAt

@[expose] public section

noncomputable section

namespace Attn

open Cert.KernelIdeal Cert.KernelIdeal.Gen Idealize.ShloMosaic Idealize.ShloMosaic.TcCoe Idealize.SL.Sem
open Idealize.ShloMosaic.Pipeline (Dat)
open Idealize.ShloMosaic.ValueIdx (eq_ix2)

/-! ## The real blocks -/

section RealBlocks
variable (x0 : S8208x1024.Idx → ℝ) (x1 x2 : S8208x256.Idx → ℝ) (x3 : S1x16.Idx → ℝ) (x4 : S8208x1024.Idx → ℝ)

/-- The query head of row `i` for half `e`. -/
def bh (i : Fin 256) (e : Fin 2) : Fin 4 := ⟨2 * (i.val / 128) + e.val, by omega⟩
def halfOf (l : Fin 128) : Fin 2 := ⟨l.val / 64, by omega⟩
def inHalf (l : Fin 128) : Fin 64 := ⟨l.val % 64, by omega⟩

variable (n : Nat) (a : Fin 4) (e : Fin 2)

def rowOf (i : Fin 256) : Nat := 128 * n + i.val % 128

def Qf (i : Fin 256) (l : Fin 128) : ℝ := padRow (fun t => qv x0 t a (bh i (halfOf l)) (inHalf l)) (rowOf n i)
def Gf (i : Fin 256) (l : Fin 128) : ℝ := padRow (fun t => gv x4 t a (bh i (halfOf l)) (inHalf l)) (rowOf n i)
/-- Keys (or values) of the window, on the lanes of half `e`. -/
def Kf (x : S8208x256.Idx → ℝ) (k : Fin 384) (l : Fin 128) : ℝ :=
  if e = halfOf l then padRow (fun j => kv x j a (inHalf l)) (key n k.val) else 0
def Lf (i : Fin 256) : ℝ := padRow (LSE x0 x1 x3 a (bh i e)) (rowOf n i)
def Df (i : Fin 256) : ℝ := padRow (DL x0 x1 x2 x3 x4 a (bh i e)) (rowOf n i)

abbrev okf (i : Fin 256) (k : Fin 384) : Prop := Ok n i.val k.val

/-- A sum over 128 lanes of what lives on one half. -/
theorem half_sum (f : Fin 128 → ℝ) (h : ∀ l, e ≠ halfOf l → f l = 0) :
    ∑ l, f l = ∑ d : Fin 64, f ⟨64 * e.val + d.val, by omega⟩ := by
  symm
  refine Fintype.sum_of_injective (fun d : Fin 64 => (⟨64 * e.val + d.val, by omega⟩ : Fin 128)) ?_ _ _ ?_ (fun d => rfl)
  · intro d d' hd
    have := congrArg Fin.val hd
    exact Fin.ext (by simpa using this)
  · intro l hl
    refine h l fun he => hl ⟨inHalf l, Fin.ext ?_⟩
    have : e.val = l.val / 64 := congrArg Fin.val he
    show 64 * e.val + l.val % 64 = l.val
    omega

theorem halfOf_at (d : Fin 64) : halfOf ⟨64 * e.val + d.val, by omega⟩ = e :=
  Fin.ext (by show (64 * e.val + d.val) / 64 = e.val; omega)
theorem inHalf_at (d : Fin 64) : inHalf ⟨64 * e.val + d.val, by omega⟩ = d :=
  Fin.ext (by show (64 * e.val + d.val) % 64 = d.val; omega)

theorem dot_half (x : S8208x256.Idx → ℝ) (A : Fin 256 → Fin 128 → ℝ) (i : Fin 256) (k : Fin 384) :
    rS A (Kf n a e x) i k = ∑ d : Fin 64, A i ⟨64 * e.val + d.val, by omega⟩ * padRow (fun j => kv x j a d) (key n k.val) := by
  unfold rS
  rw [half_sum e]
  · refine Finset.sum_congr rfl fun d _ => ?_
    unfold Kf
    rw [halfOf_at, if_pos rfl, inHalf_at]
  · intro l hl
    unfold Kf
    rw [if_neg hl, mul_zero]

variable {n} (hn : n < 65) (i : Fin 256) (t j : Fin 8208) (ht : rowOf n i = 112 + t.val) (k : Fin 384)

include ht in
theorem score_at (hj : key n k.val = 112 + j.val) : rS (Qf x0 n a) (Kf n a e x1) i k = score x0 x1 a (bh i e) t j := by
  rw [dot_half]
  refine Finset.sum_congr rfl fun d _ => ?_
  unfold Qf
  rw [padRow_of _ t _ ht, padRow_of _ j _ hj, halfOf_at, inHalf_at, mul_comm]

include ht in
theorem gdot_at (hj : key n k.val = 112 + j.val) : rS (Gf x4 n a) (Kf n a e x2) i k = gdot x2 x4 a (bh i e) t j := by
  rw [dot_half]
  refine Finset.sum_congr rfl fun d _ => ?_
  unfold Gf
  rw [padRow_of _ t _ ht, padRow_of _ j _ hj, halfOf_at, inHalf_at]

include ht in
theorem rP_at (hj : key n k.val = 112 + j.val) (hv : Vis t j) (ho : okf n i k) :
    rP (Qf x0 n a) (Kf n a e x1) (okf n) (Lf x0 x1 x3 n a e) i k = PR x0 x1 x3 a (bh i e) t j := by
  unfold rP
  rw [if_pos ho, score_at x0 x1 a e i t j ht k hj]
  unfold Lf
  rw [padRow_of _ t _ ht]
  exact exp_sub_lse (Vis t) (score x0 x1 a (bh i e) t) (snk x3 a (bh i e)) (mx x0 x1 x3 a (bh i e) t) j hv

include ht in
theorem rDS_at (hj : key n k.val = 112 + j.val) (hv : Vis t j) (ho : okf n i k) :
    rDS (Qf x0 n a) (Gf x4 n a) (Kf n a e x1) (Kf n a e x2) (okf n) (Lf x0 x1 x3 n a e) (Df x0 x1 x2 x3 x4 n a e) i k
      = DS x0 x1 x2 x3 x4 a (bh i e) t j := by
  unfold rDS
  rw [rP_at x0 x1 x3 a e i t j ht k hj hv ho, gdot_at x2 x4 a e i t j ht k hj]
  unfold Df
  rw [padRow_of _ t _ ht]
  rfl

theorem rDS_not (ho : ¬okf n i k) :
    rDS (Qf x0 n a) (Gf x4 n a) (Kf n a e x1) (Kf n a e x2) (okf n) (Lf x0 x1 x3 n a e) (Df x0 x1 x2 x3 x4 n a e) i k = 0 := by
  unfold rDS rP
  rw [if_neg ho, zero_mul]

theorem ok_mod : Ok n i.val k.val ↔ Ok n (i.val % 128) k.val := by
  unfold Ok
  rw [Nat.mod_mod]

include hn ht in
/-- A row of the queries' gradient: the window holds every key the row sees. -/
theorem dq_row (l : Fin 128) (hl : e = halfOf l) :
    ∑ k, rDS (Qf x0 n a) (Gf x4 n a) (Kf n a e x1) (Kf n a e x2) (okf n) (Lf x0 x1 x3 n a e) (Df x0 x1 x2 x3 x4 n a e) i k
        * Kf n a e x1 k l
      = DQ x0 x1 x2 x3 x4 t a (bh i e) (inHalf l) := by
  have h1 : ∀ k : Fin 384,
      rDS (Qf x0 n a) (Gf x4 n a) (Kf n a e x1) (Kf n a e x2) (okf n) (Lf x0 x1 x3 n a e) (Df x0 x1 x2 x3 x4 n a e) i k
        * Kf n a e x1 k l
      = if Ok n (i.val % 128) k.val
          then padRow (fun j => DS x0 x1 x2 x3 x4 a (bh i e) t j * kv x1 j a (inHalf l)) (key n k.val) else 0 := by
    intro k
    by_cases ho : okf n i k
    · have ho' := (ok_mod i k).mp ho
      obtain ⟨_, h2, h3, h4⟩ := ok_key n (i.val % 128) k.val hn (by omega) k.isLt ho'
      have hj : key n k.val = 112 + (⟨key n k.val - 112, by omega⟩ : Fin 8208).val := by
        show key n k.val = 112 + (key n k.val - 112); omega
      have e4 : 128 * n + i.val % 128 - 112 = t.val := by unfold rowOf at ht; omega
      rw [e4] at h4
      rw [rDS_at x0 x1 x2 x3 x4 a e i t _ ht k hj h4 ho, if_pos ho']
      unfold Kf
      rw [if_pos hl, padRow_of _ _ _ hj, padRow_of _ _ _ hj]
    · rw [rDS_not x0 x1 x2 x3 x4 a e i k ho, zero_mul, if_neg fun h => ho ((ok_mod i k).mpr h)]
  rw [Finset.sum_congr rfl fun k _ => h1 k, window_sum n (i.val % 128) hn (by omega) t ht]
  unfold DQ
  refine Finset.sum_congr rfl fun j _ => ?_
  by_cases hv : Sees t.val j.val
  · rw [if_pos hv]
  · rw [if_neg hv]
    unfold DS
    rw [dscore_of_not_vis (Vis t) _ _ _ _ j hv, zero_mul]

include hn in
/-- A padding row's gradient is zero. -/
theorem dq_row_pad (l : Fin 128) (hp : rowOf n i < 112) :
    ∑ k, rDS (Qf x0 n a) (Gf x4 n a) (Kf n a e x1) (Kf n a e x2) (okf n) (Lf x0 x1 x3 n a e) (Df x0 x1 x2 x3 x4 n a e) i k
        * Kf n a e x1 k l = 0 := by
  refine Finset.sum_eq_zero fun k _ => ?_
  rw [rDS_not, zero_mul]
  intro ho
  have := (ok_key n (i.val % 128) k.val hn (by omega) k.isLt ((ok_mod i k).mp ho)).1
  unfold rowOf at hp
  omega

end RealBlocks

/-! ## The blocks read -/

/-- The bias: the mask's infinity where the mask bit is off. -/
theorem bias_val (x : FVec Ideal S1x256x384 .f32) (i : Fin 256) (k : Fin 384) (p : Prop) [Decidable p]
    (hx : x (ix3 (0 : Fin 1) i k) = if p then (1 : EReal) else 0) : (k0_pay5 (F := Ideal) x (ix2 i k) : EReal) = if p then (0 : EReal) else ⊥ := by
  have hs : shapeCast S256x384 x shapeCasts_S1x256x384_S256x384 (ix2 i k) = x (ix3 (0 : Fin 1) i k) :=
    shapeCast_apply _ _ _ _ (by
      rw [Shape.rowMajor_val_two, Shape.rowMajor_val_three]
      show (0 * 256 + i.val) * 384 + k.val = i.val * 384 + k.val; omega)
  have hz : Scalar.ofBits (F := Ideal) .f32 0x00000000#32 = (0 : EReal) := Ideal.ofBits_zero_f32
  show Scalar.select (Ideal.cmp .ogt (shapeCast S256x384 x shapeCasts_S1x256x384_S256x384 (ix2 i k))
      (Scalar.ofBits (F := Ideal) .f32 0x00000000#32)) (Scalar.ofBits (F := Ideal) .f32 0x00000000#32)
      (Named.named (F := Ideal) (φ := .f32) κ "mask" 0xF149F2CA#32) = _
  have hm : Named.named (F := Ideal) (φ := .f32) κ "mask" 0xF149F2CA#32 = (⊥ : EReal) :=
    IdealRules.named_const.ideal_named_scalar _ _ _ _ rfl
  rw [hs, hx, hm, hz]
  by_cases h : p
  · rw [if_pos h, if_pos h]
    show Scalar.select (BitVec.ofBool (decide ((0 : EReal) < 1))) _ _ = _
    rw [select_ofBool, if_pos (by norm_num)]
  · rw [if_neg h, if_neg h]
    show Scalar.select (BitVec.ofBool (decide ((0 : EReal) < 0))) _ _ = _
    rw [select_ofBool, if_neg (lt_irrefl _)]

section Blocks
variable (m : (ℓ : Loc nD τ sig) → Buf (Elt Ideal) ℓ) (c : Dev nD)
variable (x0 : S8208x1024.Idx → ℝ) (x1 x2 : S8208x256.Idx → ℝ) (x3 : S1x16.Idx → ℝ) (x4 : S8208x1024.Idx → ℝ)
variable (h0 : m (c, Proc.tc.devRef main_arg0) = up x0) (h1 : m (c, Proc.tc.devRef main_arg1) = up x1)
  (h2 : m (c, Proc.tc.devRef main_arg2) = up x2) (h3 : m (c, Proc.tc.devRef main_arg3) = up x3)
  (h4 : m (c, Proc.tc.devRef main_arg4) = up x4)
variable (t : Fin cfg0.N) (a : Fin 4) (e : Fin 2)

theorem biasB_val (i : Fin 256) (k : Fin 384) :
    biasB m c t (ix2 i k) = if okf t.val i k then (0 : EReal) else ⊥ := by
  refine bias_val _ i k _ ?_
  refine (read8 m c t i k ⟨min t.val 2, by omega⟩ rfl).trans ?_
  refine (ok_val m c _ i k).trans ?_
  by_cases h : okf t.val i k
  · rw [if_pos h, if_pos ((Ok_min _ _ _).mpr h)]
  · rw [if_neg h, if_neg fun h' => h ((Ok_min _ _ _).mp h')]

include h0 in
theorem qsB_val (i : Fin 256) (l : Fin 128) : qsB m c t a (ix2 i l) = (Qf x0 t.val a i l : EReal) := by
  have ht := N_lt t
  have key : ∀ (r : Fin 128) (a' : Nat) (ha : a' < 2) (hi : i.val = 128 * a' + r.val),
      lanesAt (iblk m c 0 t) (256 * a.val + 128 * a') (by omega) (ix2 r l) = (Qf x0 t.val a i l : EReal) := by
    intro r a' ha hi
    refine (lanesAt_val _ _ _ r l ⟨256 * a.val + 128 * a' + l.val, by omega⟩ rfl).trans ?_
    refine (read0 m c t r _ ⟨rowOf t.val i, by unfold rowOf; omega⟩ (by show rowOf t.val i = _; unfold rowOf; omega)).trans ?_
    unfold Qf
    refine q_val x0 m c h0 ⟨rowOf t.val i, by unfold rowOf; omega⟩ a (bh i (halfOf l)) (inHalf l) _ ?_
    refine congrArg₂ ix2 rfl (Fin.ext ?_)
    show 256 * a.val + 128 * a' + l.val = 256 * a.val + 64 * (2 * (i.val / 128) + l.val / 64) + l.val % 64
    omega
  unfold qsB
  by_cases hi : i.val < 128
  · rw [cat2_top _ _ i l ⟨i.val, hi⟩ rfl]
    exact key _ 0 (by omega) (by show i.val = 128 * 0 + i.val; omega)
  · rw [cat2_bottom _ _ i l ⟨i.val - 128, by omega⟩ (by show i.val = 128 + (i.val - 128); omega)]
    exact key _ 1 (by omega) (by show i.val = 128 * 1 + (i.val - 128); omega)

include h4 in
theorem dosB_val (i : Fin 256) (l : Fin 128) : dosB m c t a (ix2 i l) = (Gf x4 t.val a i l : EReal) := by
  have ht := N_lt t
  have key : ∀ (r : Fin 128) (a' : Nat) (ha : a' < 2) (hi : i.val = 128 * a' + r.val),
      lanesAt (iblk m c 11 t) (256 * a.val + 128 * a') (by omega) (ix2 r l) = (Gf x4 t.val a i l : EReal) := by
    intro r a' ha hi
    refine (lanesAt_val _ _ _ r l ⟨256 * a.val + 128 * a' + l.val, by omega⟩ rfl).trans ?_
    refine (read11 m c t r _ ⟨rowOf t.val i, by unfold rowOf; omega⟩ (by show rowOf t.val i = _; unfold rowOf; omega)).trans ?_
    unfold Gf
    refine do_val x4 m c h4 ⟨rowOf t.val i, by unfold rowOf; omega⟩ a (bh i (halfOf l)) (inHalf l) _ ?_
    refine congrArg₂ ix2 rfl (Fin.ext ?_)
    show 256 * a.val + 128 * a' + l.val = 256 * a.val + 64 * (2 * (i.val / 128) + l.val / 64) + l.val % 64
    omega
  unfold dosB
  by_cases hi : i.val < 128
  · rw [cat2_top _ _ i l ⟨i.val, hi⟩ rfl]
    exact key _ 0 (by omega) (by show i.val = 128 * 0 + i.val; omega)
  · rw [cat2_bottom _ _ i l ⟨i.val - 128, by omega⟩ (by show i.val = 128 + (i.val - 128); omega)]
    exact key _ 1 (by omega) (by show i.val = 128 * 1 + (i.val - 128); omega)

/-- A window put together from the three blocks it shows. -/
theorem window_val (x : S8208x256.Idx → ℝ) (A : S8320x1024.Idx → EReal)
    (hA : ∀ (ρ : Fin 8320) (e e' : Fin 2) (d : Fin 64) (i : S8320x1024.Idx) (h0 : (i 0).val = ρ.val)
      (hl : (i 1).val = 256 * a.val + 128 * e.val + 64 * e'.val + d.val),
      A i = if e = e' then (padRow (fun t => kv x t a d) ρ.val : EReal) else 0)
    (B : Fin 3 → S128x1024.Idx → EReal)
    (hB : ∀ (p : Fin 3) (r : Fin 128) (l : Fin 1024) (k : Fin 384) (ρ : Fin 8320), k.val = 128 * p.val + r.val →
      ρ.val = key t.val k.val → B p (ix2 r l) = A (ix2 ρ l)) (k : Fin 384) (l : Fin 128) :
    cat3 (lanesAt (B 0) (256 * a.val + 128 * e.val) (by omega)) (lanesAt (B 1) (256 * a.val + 128 * e.val) (by omega))
      (lanesAt (B 2) (256 * a.val + 128 * e.val) (by omega)) (ix2 k l) = (Kf t.val a e x k l : EReal) := by
  have ht := N_lt t
  refine (cat3_apply (fun p => lanesAt (B p) (256 * a.val + 128 * e.val) (by omega)) k l ⟨k.val / 128, by omega⟩
    ⟨k.val % 128, by omega⟩ (by show k.val = 128 * (k.val / 128) + k.val % 128; omega)).trans ?_
  refine (lanesAt_val _ _ _ _ l ⟨256 * a.val + 128 * e.val + l.val, by omega⟩ rfl).trans ?_
  refine (hB _ _ _ k ⟨key t.val k.val, by unfold key; split <;> [omega; (split <;> omega)]⟩
    (by show k.val = 128 * (k.val / 128) + k.val % 128; omega) rfl).trans ?_
  refine (hA _ e (halfOf l) (inHalf l) _ rfl ?_).trans ?_
  · show 256 * a.val + 128 * e.val + l.val = 256 * a.val + 128 * e.val + 64 * (l.val / 64) + l.val % 64
    omega
  · unfold Kf
    by_cases h : e = halfOf l
    · rw [if_pos h, if_pos h]; rfl
    · rw [if_neg h, if_neg h, EReal.coe_zero]

include h1 in
theorem kwB_val (k : Fin 384) (l : Fin 128) : kwB m c t a e (ix2 k l) = (Kf t.val a e x1 k l : EReal) := by
  refine window_val t a e x1 (V m c main_v59 : S8320x1024.Idx → EReal) (fun ρ e e' d i h0 hl => k_val x1 m c h1 ρ a e e' d i h0 hl)
    (fun p => match p with
      | ⟨0, _⟩ => (iblk m c 1 t : S128x1024.Idx → EReal)
      | ⟨1, _⟩ => (iblk m c 2 t : S128x1024.Idx → EReal)
      | ⟨2, _⟩ => (iblk m c 3 t : S128x1024.Idx → EReal)) ?_ k l
  intro p r l k ρ hk hρ
  unfold key at hρ
  match p, hk with
  | ⟨0, _⟩, hk => exact read1 m c t r l ρ (by simp at hk; split at hρ <;> [omega; (split at hρ <;> omega)])
  | ⟨1, _⟩, hk => exact read2 m c t r l ρ (by simp at hk; split at hρ <;> [omega; (split at hρ <;> omega)])
  | ⟨2, _⟩, hk => exact read3 m c t r l ρ (by simp at hk; split at hρ <;> [omega; (split at hρ <;> omega)])

include h2 in
theorem vwB_val (k : Fin 384) (l : Fin 128) : vwB m c t a e (ix2 k l) = (Kf t.val a e x2 k l : EReal) := by
  refine window_val t a e x2 (V m c main_v68 : S8320x1024.Idx → EReal) (fun ρ e e' d i h0 hl => v_val x2 m c h2 ρ a e e' d i h0 hl)
    (fun p => match p with
      | ⟨0, _⟩ => (iblk m c 4 t : S128x1024.Idx → EReal)
      | ⟨1, _⟩ => (iblk m c 5 t : S128x1024.Idx → EReal)
      | ⟨2, _⟩ => (iblk m c 6 t : S128x1024.Idx → EReal)) ?_ k l
  intro p r l k ρ hk hρ
  unfold key at hρ
  match p, hk with
  | ⟨0, _⟩, hk => exact read4 m c t r l ρ (by simp at hk; split at hρ <;> [omega; (split at hρ <;> omega)])
  | ⟨1, _⟩, hk => exact read5 m c t r l ρ (by simp at hk; split at hρ <;> [omega; (split at hρ <;> omega)])
  | ⟨2, _⟩, hk => exact read6 m c t r l ρ (by simp at hk; split at hρ <;> [omega; (split at hρ <;> omega)])

include h0 h1 h3 in
theorem lsB_val (i : Fin 256) : lsB m c t a e (ix2 i (0 : Fin 1)) = (Lf x0 x1 x3 t.val a e i : EReal) := by
  have ht := N_lt t
  have key : ∀ (r : Fin 128) (o : Nat) (ho : o + 1 ≤ 128) (ho' : o = 4 * a.val + (2 * (i.val / 128) + e.val))
      (hi : i.val % 128 = r.val), laneAt (iblk m c 9 t) o ho (ix2 r (0 : Fin 1)) = (Lf x0 x1 x3 t.val a e i : EReal) := by
    intro r o ho ho' hi
    refine (laneAt_val _ _ _ r ⟨o, by omega⟩ rfl).trans ?_
    refine (read9 m c t r _ ⟨rowOf t.val i, by unfold rowOf; omega⟩ (by show rowOf t.val i = _; unfold rowOf; omega)).trans ?_
    exact lse_val x0 x1 x3 m c h0 h1 h3 _ a (bh i e) _ ho'
  unfold lsB
  by_cases hi : i.val < 128
  · rw [cols2_top _ _ i ⟨i.val, hi⟩ rfl]
    exact key _ _ _ (by omega) (by show i.val % 128 = i.val; omega)
  · rw [cols2_bottom _ _ i ⟨i.val - 128, by omega⟩ (by show i.val = 128 + (i.val - 128); omega)]
    exact key _ _ _ (by omega) (by show i.val % 128 = i.val - 128; omega)

include h0 h1 h2 h3 h4 in
theorem dlB_val (i : Fin 256) : dlB m c t a e (ix2 i (0 : Fin 1)) = (Df x0 x1 x2 x3 x4 t.val a e i : EReal) := by
  have ht := N_lt t
  have key : ∀ (r : Fin 128) (o : Nat) (ho : o + 1 ≤ 128) (ho' : o = 4 * a.val + (2 * (i.val / 128) + e.val))
      (hi : i.val % 128 = r.val), laneAt (iblk m c 10 t) o ho (ix2 r (0 : Fin 1)) = (Df x0 x1 x2 x3 x4 t.val a e i : EReal) := by
    intro r o ho ho' hi
    refine (laneAt_val _ _ _ r ⟨o, by omega⟩ rfl).trans ?_
    refine (read10 m c t r _ ⟨rowOf t.val i, by unfold rowOf; omega⟩ (by show rowOf t.val i = _; unfold rowOf; omega)).trans ?_
    exact delta_val x0 x1 x2 x3 x4 m c h0 h1 h2 h3 h4 _ a (bh i e) _ ho'
  unfold dlB
  by_cases hi : i.val < 128
  · rw [cols2_top _ _ i ⟨i.val, hi⟩ rfl]
    exact key _ _ _ (by omega) (by show i.val % 128 = i.val; omega)
  · rw [cols2_bottom _ _ i ⟨i.val - 128, by omega⟩ (by show i.val = 128 + (i.val - 128); omega)]
    exact key _ _ _ (by omega) (by show i.val % 128 = i.val - 128; omega)

/-- What a row of a block's gradient is: zero on padding, the reference's gradient elsewhere. -/
def dqAt (n : Nat) (i : Fin 256) (l : Fin 128) : ℝ :=
  padRow (fun t => DQ x0 x1 x2 x3 x4 t a (bh i (halfOf l)) (inHalf l)) (rowOf n i)

include h0 h1 h2 h3 h4 in
theorem dqB_val (i : Fin 256) (l : Fin 128) (hl : e = halfOf l) :
    dqB m c t a e (ix2 i l) = (dqAt x0 x1 x2 x3 x4 a t.val i l : EReal) := by
  have ht := N_lt t
  unfold dqB
  rw [opDQ_val (Qf x0 t.val a) (Gf x4 t.val a) (Kf t.val a e x1) (Kf t.val a e x2) (okf t.val) (Lf x0 x1 x3 t.val a e)
    (Df x0 x1 x2 x3 x4 t.val a e) (biasB_val m c t) (dosB_val m c x4 h4 t a) (kwB_val m c x1 h1 t a e) (vwB_val m c x2 h2 t a e)
    (qsB_val m c x0 h0 t a) (lsB_val m c x0 x1 x3 h0 h1 h3 t a e) (dlB_val m c x0 x1 x2 x3 x4 h0 h1 h2 h3 h4 t a e)]
  refine congrArg _ ?_
  unfold dqAt
  by_cases hp : rowOf t.val i < 112
  · rw [dq_row_pad x0 x1 x2 x3 x4 a e ht i l hp, padRow_lt _ _ hp]
  · have hr : rowOf t.val i = 112 + (⟨rowOf t.val i - 112, by unfold rowOf; omega⟩ : Fin 8208).val := by
      show rowOf t.val i = 112 + (rowOf t.val i - 112); omega
    rw [dq_row x0 x1 x2 x3 x4 a e ht i _ hr l hl, padRow_of _ _ _ hr, hl]

include h0 h1 h2 h3 h4 in
theorem dqPick_val (i : Fin 256) (l : Fin 128) : dqPick m c t a (ix2 i l) = (dqAt x0 x1 x2 x3 x4 a t.val i l : EReal) := by
  unfold dqPick
  rw [opPick_val]
  by_cases h : l.val < 64
  · rw [if_pos h]
    exact dqB_val m c x0 x1 x2 x3 x4 h0 h1 h2 h3 h4 t a 0 i l (Fin.ext (by show 0 = l.val / 64; omega))
  · rw [if_neg h]
    exact dqB_val m c x0 x1 x2 x3 x4 h0 h1 h2 h3 h4 t a 1 i l (Fin.ext (by show 1 = l.val / 64; omega))

end Blocks

end Attn
-- ==== Proof.Out.lean ====
/-
  The two results as arrays: the queries' gradient block by block, the sinks' gradient accumulated over the grid.
-/
module

public import proofs.«01_k».proof.Proof.BlockAt

@[expose] public section

noncomputable section

namespace Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable (x0 : S8208x1024.Idx → ℝ) (x1 x2 : S8208x256.Idx → ℝ) (x3 : S1x16.Idx → ℝ) (x4 : S8208x1024.Idx → ℝ)

/-- The padded gradient of the queries. -/
def dqPad (ρ l : Nat) (hl : l < 1024) : ℝ :=
  padRow (fun t => DQ x0 x1 x2 x3 x4 t ⟨l / 256, by omega⟩ ⟨l / 64 % 4, by omega⟩ ⟨l % 64, by omega⟩) ρ

variable (h0 : m (c, Proc.tc.devRef main_arg0) = up x0) (h1 : m (c, Proc.tc.devRef main_arg1) = up x1)
  (h2 : m (c, Proc.tc.devRef main_arg2) = up x2) (h3 : m (c, Proc.tc.devRef main_arg3) = up x3)
  (h4 : m (c, Proc.tc.devRef main_arg4) = up x4)

theorem dqPad_at (a : Fin 4) (n : Nat) (i : Fin 256) (l : Fin 128) (ρ L : Nat) (hL : L < 1024) (hρ : ρ = rowOf n i)
    (h : L = 256 * a.val + 128 * (i.val / 128) + l.val) :
    dqPad x0 x1 x2 x3 x4 ρ L hL = dqAt x0 x1 x2 x3 x4 a n i l := by
  have ha : (⟨L / 256, by omega⟩ : Fin 4) = a := Fin.ext (by show L / 256 = a.val; omega)
  have hb : (⟨L / 64 % 4, by omega⟩ : Fin 4) = bh i (halfOf l) :=
    Fin.ext (by show L / 64 % 4 = 2 * (i.val / 128) + l.val / 64; omega)
  have hd : (⟨L % 64, by omega⟩ : Fin 64) = inHalf l := Fin.ext (by show L % 64 = l.val % 64; omega)
  subst hρ
  unfold dqPad dqAt
  rw [ha, hb, hd]

include h0 h1 h2 h3 h4 in
theorem dqPieces_val (t : Fin cfg0.N) (y : S128x1024.Idx) :
    View.canon (dqPieces m c t) y = (dqPad x0 x1 x2 x3 x4 (128 * t.val + (y 0).val) (y 1).val (y 1).isLt : EReal) := by
  have top : ∀ (a : Fin 4) (x : S128x128.Idx), (y 0).val = (x 0).val → (y 1).val = 256 * a.val + (x 1).val →
      opTop (dqPick m c t a) x = (dqPad x0 x1 x2 x3 x4 (128 * t.val + (y 0).val) (y 1).val (y 1).isLt : EReal) := by
    intro a x e0 e1
    have b0 : (x 0).val < 128 := (x 0).isLt
    rw [eq_ix2 x]
    refine (opTop_val _ (x 0) (x 1) ⟨(x 0).val, by omega⟩ rfl).trans ?_
    refine (dqPick_val m c x0 x1 x2 x3 x4 h0 h1 h2 h3 h4 t a _ (x 1)).trans (congrArg _ (dqPad_at x0 x1 x2 x3 x4 a t.val _ _ _ _ _ ?_ ?_).symm)
    · show _ = 128 * t.val + (x 0).val % 128
      omega
    · show _ = 256 * a.val + 128 * ((x 0).val / 128) + (x 1).val
      omega
  have bot : ∀ (a : Fin 4) (x : S128x128.Idx), (y 0).val = (x 0).val → (y 1).val = 256 * a.val + 128 + (x 1).val →
      opBottom (dqPick m c t a) x = (dqPad x0 x1 x2 x3 x4 (128 * t.val + (y 0).val) (y 1).val (y 1).isLt : EReal) := by
    intro a x e0 e1
    have b0 : (x 0).val < 128 := (x 0).isLt
    rw [eq_ix2 x]
    refine (opBottom_val _ (x 0) (x 1) ⟨128 + (x 0).val, by omega⟩ rfl).trans ?_
    refine (dqPick_val m c x0 x1 x2 x3 x4 h0 h1 h2 h3 h4 t a _ (x 1)).trans (congrArg _ (dqPad_at x0 x1 x2 x3 x4 a t.val _ _ _ _ _ ?_ ?_).symm)
    · show _ = 128 * t.val + (128 + (x 0).val) % 128
      omega
    · show _ = 256 * a.val + 128 * ((128 + (x 0).val) / 128) + (x 1).val
      omega
  unfold dqPieces
  canon_tiles x h
  · exact bot 3 x (by omega) (by show _ = 256 * 3 + 128 + _; omega)
  · exact top 3 x (by omega) (by show _ = 256 * 3 + _; omega)
  · exact bot 2 x (by omega) (by show _ = 256 * 2 + 128 + _; omega)
  · exact top 2 x (by omega) (by show _ = 256 * 2 + _; omega)
  · exact bot 1 x (by omega) (by show _ = 256 * 1 + 128 + _; omega)
  · exact top 1 x (by omega) (by show _ = 256 * 1 + _; omega)
  · exact bot 0 x (by omega) (by show _ = 256 * 0 + 128 + _; omega)
  · exact top 0 x (by omega) (by show _ = 256 * 0 + _; omega)

theorem idx12 : ∀ t : Fin cfg0.N, win0_12.index t = ![t.val, 0] :=
  (by decide +kernel : ∀ t : Fin grid0.N, win0_12.index t = ![t.val, 0])

/-- The padded gradient as an array. -/
def dqArr : S8320x1024.Idx → EReal := fun i => (dqPad x0 x1 x2 x3 x4 (i 0).val (i 1).val (i 1).isLt : EReal)

theorem dqArr_of (i : S8320x1024.Idx) (ρ l : Nat) (hl : l < 1024) (e0 : (i 0).val = ρ) (e1 : (i 1).val = l) :
    dqArr x0 x1 x2 x3 x4 i = (dqPad x0 x1 x2 x3 x4 ρ l hl : EReal) := by
  subst e0 e1; rfl

include h0 h1 h2 h3 h4 in
theorem dq_array : (dats m 0 c).arrAt 12 cfg0.N = dqArr x0 x1 x2 x3 x4 := by
  refine (dats m 0 c).arrAt_eq_of_covers 12 _ (by decide +kernel) fun t hf y => ?_
  have e : (outsAt0 m c t.val t.isLt).1 = View.canon (dqPieces m c t) := by
    by_cases h : t.val % 65 = 0
    · exact block_dq_A m c t h
    · exact block_dq_B m c t h
  have hy : ((dats m 0 c).after 12 t : S128x1024.Idx → EReal) = View.canon (dqPieces m c t) := by
    rw [after0_12, e]
  refine (congrFun hy y).trans ((dqPieces_val m c x0 x1 x2 x3 x4 h0 h1 h2 h3 h4 t y).trans (dqArr_of x0 x1 x2 x3 x4 _ _ _ _ ?_ ?_).symm)
  · blk_simp [idx12 t]
    omega
  · blk_simp [idx12 t]

end Attn
-- ==== Proof.Sinks.lean ====
/-
  The sinks' gradient: each grid point takes its 128 rows' share off what the points before it left.
-/
module

public import proofs.«01_k».proof.Proof.BlockAt
public import Idealize.ShloMosaic.Lib.Pipeline.ValueKit.Acc

@[expose] public section

noncomputable section

namespace Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable (x0 : S8208x1024.Idx → ℝ) (x1 x2 : S8208x256.Idx → ℝ) (x3 : S1x16.Idx → ℝ) (x4 : S8208x1024.Idx → ℝ)
variable (h0 : m (c, Proc.tc.devRef main_arg0) = up x0) (h1 : m (c, Proc.tc.devRef main_arg1) = up x1)
  (h2 : m (c, Proc.tc.devRef main_arg2) = up x2) (h3 : m (c, Proc.tc.devRef main_arg3) = up x3)
  (h4 : m (c, Proc.tc.devRef main_arg4) = up x4)

/-- The first sixteen lanes of a block. -/
def headsOf (X : FVec Ideal S128x128 .f32) : FVec Ideal S128x16 .f32 :=
  View.ld (Val := Elt Ideal) (e' := .f32) X (Rect.unit (s := S128x128) ![0, 0] S128x16.size inb_S128x128_S128x16_0_0)

theorem headsOf_val (X : FVec Ideal S128x128 .f32) (r : Fin 128) (h : Fin 16) :
    headsOf X (ix2 r h) = X (ix2 r (⟨h.val, by omega⟩ : Fin 128)) :=
  congrArg X (Shape.idx_ext₂ (by show 0 + 1 * r.val = r.val; omega) (by show 0 + 1 * h.val = h.val; omega))

theorem sinks_A (t : Fin cfg0.N) (h : t.val % 65 = 0) : (outsAt0 m c t.val t.isLt).2.2.2.2.2.2.2
    = k0_pay1 (iblk m c 7 t) (headsOf (iblk m c 9 t)) (k0_pay4 (F := Ideal)) (headsOf (iblk m c 10 t)) := by
  rw [outsAt0_A m c t h]
  frame_out
  rfl

theorem sinks_B (t : Fin cfg0.N) (h : ¬t.val % 65 = 0) : (outsAt0 m c t.val t.isLt).2.2.2.2.2.2.2
    = k0_pay1 (iblk m c 7 t) (headsOf (iblk m c 9 t)) (outsAt0 m c (t.val - 1) (by have := t.isLt; omega)).2.2.2.2.2.2.2
        (headsOf (iblk m c 10 t)) := by
  rw [outsAt0_B m c t h]
  frame_out
  rfl

theorem pay1_val (sk : FVec Ideal S1x16 .f32) (ls : FVec Ideal S128x16 .f32) (old : FVec Ideal S1x16 .f32)
    (dl : FVec Ideal S128x16 .f32) (h : Fin 16) (s o : ℝ) (L D : Fin 128 → ℝ) (hs : sk (ix2 (0 : Fin 1) h) = (s : EReal))
    (hl : ∀ r, ls (ix2 r h) = (L r : EReal)) (ho : old (ix2 (0 : Fin 1) h) = (o : EReal)) (hd : ∀ r, dl (ix2 r h) = (D r : EReal)) :
    k0_pay1 (F := Ideal) sk ls old dl (ix2 (0 : Fin 1) h) = ((o - ∑ r, Real.exp (s - L r) * D r : ℝ) : EReal) := by
  have e1 : shapeCast S1x16 old shapeCasts_S1x16_S1x16 (ix2 (0 : Fin 1) h) = (o : EReal) :=
    (shapeCast_apply _ _ _ _ rfl).trans ho
  have e2 : ∀ r, mulf (exp (subf (broadcastTo S128x16 sk broadcasts_S1x16_S128x16)
      (shapeCast S128x16 ls shapeCasts_S128x16_S128x16))) (shapeCast S128x16 dl shapeCasts_S128x16_S128x16) (ix2 r h)
      = ((Real.exp (s - L r) * D r : ℝ) : EReal) := by
    intro r
    have b : broadcastTo S128x16 sk broadcasts_S1x16_S128x16 (ix2 r h) = (s : EReal) :=
      (broadcastTo_apply _ _ _ (ix2 (0 : Fin 1) h) (fun a => by
        match a with
        | ⟨0, _⟩ => rfl
        | ⟨1, _⟩ => rfl)).trans hs
    have l : shapeCast S128x16 ls shapeCasts_S128x16_S128x16 (ix2 r h) = (L r : EReal) := (shapeCast_apply _ _ _ _ rfl).trans (hl r)
    have d : shapeCast S128x16 dl shapeCasts_S128x16_S128x16 (ix2 r h) = (D r : EReal) := (shapeCast_apply _ _ _ _ rfl).trans (hd r)
    show Ideal.exp (broadcastTo S128x16 sk broadcasts_S1x16_S128x16 (ix2 r h)
      - shapeCast S128x16 ls shapeCasts_S128x16_S128x16 (ix2 r h)) * shapeCast S128x16 dl shapeCasts_S128x16_S128x16 (ix2 r h) = _
    rw [b, l, d, exp_sub, ← EReal.coe_mul]
  have e3 : shapeCast S1x16 (multiReduction (F := Ideal) (φ := .f32) .add [0] S16
      (mulf (exp (subf (broadcastTo S128x16 sk broadcasts_S1x16_S128x16)
        (shapeCast S128x16 ls shapeCasts_S128x16_S128x16))) (shapeCast S128x16 dl shapeCasts_S128x16_S128x16))
      0x00000000#32 reduces_S128x16_S16 (.inl rfl) rfl) shapeCasts_S16_S1x16 (ix2 (0 : Fin 1) h)
      = ((∑ r, Real.exp (s - L r) * D r : ℝ) : EReal) := by
    refine (shapeCast_apply _ _ _ (ix1 h) (by
      rw [Shape.rowMajor_val_two, Shape.rowMajor_val_one]
      show h.val = 0 * 16 + h.val; omega)).trans ?_
    refine (Ideal.multiReduction_add_single _ _ _ _ _ _).trans ?_
    refine sum_coe _ _ _ fun r => ?_
    refine Eq.trans (congrArg _ ?_) (e2 r)
    refine Shape.idx_ext₂ ?_ ?_
    · rfl
    · rfl
  show shapeCast S1x16 old shapeCasts_S1x16_S1x16 (ix2 (0 : Fin 1) h) - shapeCast S1x16 (multiReduction (F := Ideal) (φ := .f32) .add [0] S16
      (mulf (exp (subf (broadcastTo S128x16 sk broadcasts_S1x16_S128x16)
        (shapeCast S128x16 ls shapeCasts_S128x16_S128x16))) (shapeCast S128x16 dl shapeCasts_S128x16_S128x16))
      0x00000000#32 reduces_S128x16_S16 (.inl rfl) rfl) shapeCasts_S16_S1x16 (ix2 (0 : Fin 1) h) = _
  rw [e1, e3, EReal.coe_sub]

/-- A row's share. -/
def share (a b : Fin 4) (ρ : Nat) : ℝ :=
  Real.exp (snk x3 a b - padRow (LSE x0 x1 x3 a b) ρ) * padRow (DL x0 x1 x2 x3 x4 a b) ρ

theorem share_eq (a b : Fin 4) (ρ : Nat) : share x0 x1 x2 x3 x4 a b ρ = padRow (fun t => -DSK x0 x1 x2 x3 x4 a b t) ρ := by
  unfold share
  by_cases h : 112 ≤ ρ ∧ ρ < 8320
  · have e : ρ = 112 + (⟨ρ - 112, by omega⟩ : Fin 8208).val := by show ρ = 112 + (ρ - 112); omega
    rw [padRow_of _ _ _ e, padRow_of _ _ _ e, padRow_of _ _ _ e]
    unfold LSE DSK dsink DL
    rw [neg_neg]
    exact congrArg (· * _) (exp_sink_sub_lse _ _ _ _)
  · unfold padRow
    rw [dif_neg h, dif_neg h, dif_neg h, mul_zero]

/-- All rows' shares, block by block. -/
theorem share_total (a b : Fin 4) :
    ∑ s ∈ Finset.range 65, ∑ r : Fin 128, share x0 x1 x2 x3 x4 a b (128 * s + r.val) = -∑ t, DSK x0 x1 x2 x3 x4 a b t := by
  have e : ∀ s, ∑ r : Fin 128, share x0 x1 x2 x3 x4 a b (128 * s + r.val)
      = ∑ k ∈ Finset.range 128, (fun ρ => padRow (fun t => -DSK x0 x1 x2 x3 x4 a b t) ρ) (s * 128 + k) := by
    intro s
    rw [Finset.sum_range]
    refine Finset.sum_congr rfl fun r _ => ?_
    rw [share_eq, Nat.mul_comm]
  rw [Finset.sum_congr rfl fun s _ => e s, Finset.sum_range_range_mul_add 65 128, ← Finset.sum_neg_distrib]
  rw [show 65 * 128 = 112 + 8208 from rfl, Finset.sum_range_add, Finset.sum_eq_zero, zero_add, Finset.sum_range]
  · exact Finset.sum_congr rfl fun t _ => padRow_of _ t _ rfl
  · intro ρ hρ
    exact padRow_lt _ _ (Finset.mem_range.mp hρ)

include h0 h1 h2 h3 h4 in
theorem sinks_at (a b : Fin 4) : ∀ (n : Nat) (hn : n < cfg0.N), (outsAt0 m c n hn).2.2.2.2.2.2.2 (ix2 (0 : Fin 1) (head a b))
    = ((-∑ s ∈ Finset.range (n + 1), ∑ r : Fin 128, share x0 x1 x2 x3 x4 a b (128 * s + r.val) : ℝ) : EReal) := by
  have hs : ∀ t : Fin cfg0.N, (iblk m c 7 t : S1x16.Idx → EReal) (ix2 (0 : Fin 1) (head a b)) = (snk x3 a b : EReal) :=
    fun t => (read7 m c t (head a b)).trans (sinks_val x3 m c h3 a b _ rfl)
  have hl : ∀ (t : Fin cfg0.N) (r : Fin 128), headsOf (iblk m c 9 t) (ix2 r (head a b))
      = (padRow (LSE x0 x1 x3 a b) (128 * t.val + r.val) : EReal) := fun t r => by
    have ht := N_lt t
    refine (headsOf_val _ r _).trans ?_
    refine (read9 m c t r _ ⟨128 * t.val + r.val, by omega⟩ rfl).trans ?_
    exact lse_val x0 x1 x3 m c h0 h1 h3 ⟨128 * t.val + r.val, by omega⟩ a b _ rfl
  have hd : ∀ (t : Fin cfg0.N) (r : Fin 128), headsOf (iblk m c 10 t) (ix2 r (head a b))
      = (padRow (DL x0 x1 x2 x3 x4 a b) (128 * t.val + r.val) : EReal) := fun t r => by
    have ht := N_lt t
    refine (headsOf_val _ r _).trans ?_
    refine (read10 m c t r _ ⟨128 * t.val + r.val, by omega⟩ rfl).trans ?_
    exact delta_val x0 x1 x2 x3 x4 m c h0 h1 h2 h3 h4 ⟨128 * t.val + r.val, by omega⟩ a b _ rfl
  intro n
  induction n with
  | zero =>
    intro hn
    refine (congrFun (sinks_A m c ⟨0, hn⟩ rfl) _).trans ?_
    have hz : k0_pay4 (F := Ideal) (ix2 (0 : Fin 1) (head a b)) = ((0 : ℝ) : EReal) := Ideal.ofBits_zero_f32
    refine (pay1_val _ _ _ _ (head a b) _ _ _ _ (hs ⟨0, hn⟩) (hl ⟨0, hn⟩) hz (hd ⟨0, hn⟩)).trans ?_
    refine congrArg _ ?_
    rw [Finset.sum_range_one, zero_sub]
    rfl
  | succ n ih =>
    intro hn
    have hn' : n + 1 < 65 := hn
    refine (congrFun (sinks_B m c ⟨n + 1, hn⟩ (by show ¬(n + 1) % 65 = 0; omega)) _).trans ?_
    refine (pay1_val _ _ _ _ (head a b) _ _ _ _ (hs ⟨n + 1, hn⟩) (hl ⟨n + 1, hn⟩) (ih (Nat.lt_of_succ_lt hn)) (hd ⟨n + 1, hn⟩)).trans ?_
    refine congrArg _ ?_
    rw [Finset.sum_range_succ _ (n + 1), neg_add, sub_eq_add_neg]
    rfl

/-- The sinks' gradient as an array. -/
def skArr : S1x16.Idx → EReal := fun i =>
  ((∑ t, DSK x0 x1 x2 x3 x4 ⟨(i 1).val / 4, by have : (i 1).val < 16 := (i 1).isLt; omega⟩ ⟨(i 1).val % 4, by omega⟩ t : ℝ) : EReal)

include h0 h1 h2 h3 h4 in
theorem sinks_last (n : Nat) (hn : n < cfg0.N) (h : n + 1 = 65) (i : S1x16.Idx) :
    (outsAt0 m c n hn).2.2.2.2.2.2.2 i = skArr x0 x1 x2 x3 x4 i := by
  have b1 : (i 1).val < 16 := (i 1).isLt
  have b0 : (i 0).val < 1 := (i 0).isLt
  have e : i = ix2 (0 : Fin 1) (head ⟨(i 1).val / 4, by omega⟩ ⟨(i 1).val % 4, by omega⟩) :=
    Shape.idx_ext₂ (by show (i 0).val = 0; omega) (by show (i 1).val = 4 * ((i 1).val / 4) + (i 1).val % 4; omega)
  refine (congrArg _ e).trans ((sinks_at m c x0 x1 x2 x3 x4 h0 h1 h2 h3 h4 _ _ n hn).trans ?_)
  rw [h, share_total, neg_neg]
  rfl

theorem idx19 : ∀ t : Fin cfg0.N, win0_19.index t = ![0, 0] :=
  (by decide +kernel : ∀ t : Fin grid0.N, win0_19.index t = ![0, 0])

include h0 h1 h2 h3 h4 in
theorem sinks_array : (dats m 0 c).arrAt 19 cfg0.N = skArr x0 x1 x2 x3 x4 := by
  refine (dats m 0 c).arrAt_eq_of_covers 19 _ (by decide +kernel) fun t hf y => ?_
  have h64 : t.val + 1 = 65 := by
    have := (flush0_19 t).mp hf
    have := N_lt t
    omega
  have hy : ((dats m 0 c).after 19 t : S1x16.Idx → EReal) = (outsAt0 m c t.val t.isLt).2.2.2.2.2.2.2 := by
    rw [after0_19]
  refine (congrFun hy y).trans ((sinks_last m c x0 x1 x2 x3 x4 h0 h1 h2 h3 h4 t.val t.isLt h64 y).trans (congrArg _ ?_))
  refine Shape.idx_ext₂ ?_ ?_
  · blk_simp [idx19]
  · blk_simp [idx19]

end Attn
-- ==== Proof.Equal.lean ====
/-
  The reference's two results as the same arrays as the kernel's, and the precondition read: an array every entry of
  which is below infinity in absolute value is an array of reals.
-/
module

public import proofs.«01_k».proof.Proof.Out
public import proofs.«01_k».proof.Proof.Sinks
public import proofs.«01_k».proof.Proof.RefBack

@[expose] public section

noncomputable section

namespace Attn

open Idealize.ShloMosaic
open Cert.KernelIdeal (S8208x1024 S8208x256 S1x16)

/-! ## The precondition -/

theorem inf_const : Ideal.ofBits .f32 0x7F800000#32 = ⊤ := by simp [Ideal.ofBits, Ideal.ieee]

theorem real_of_olt (x : EReal) (h : Ideal.cmp .olt (max x (-x)) (Ideal.ofBits .f32 0x7F800000#32) = 1#1) :
    x = ((x.toReal : ℝ) : EReal) := by
  rw [inf_const] at h
  have hlt : max x (-x) < ⊤ := by
    by_contra hn
    have : Ideal.cmp .olt (max x (-x)) ⊤ = 0#1 := by
      unfold Ideal.cmp
      simp only [hn, decide_false]
      rfl
    rw [this] at h
    exact absurd h (by decide)
  refine (EReal.coe_toReal (fun e => ?_) (fun e => ?_)).symm
  · subst e
    simp at hlt
  · subst e
    simp at hlt

/-- An array whose comparison with infinity is one everywhere, as an array of reals. -/
theorem up_of_finite {s : Shape} (x : FVec Ideal s .f32) (b : (⟨0, ![]⟩ : Shape).BroadcastsInDim s (![] : Fin 0 → Fin s.rank))
    (h : cmpf .olt (Host.absf x) (broadcastInDim s ![] b (constant (F := Ideal) ⟨0, ![]⟩ .f32 0x7F800000#32)) = fun _ => 1#1) :
    x = up (fun i => (x i : EReal).toReal) :=
  funext fun i => real_of_olt (x i) (congrFun h i)

/-! ## The reference's results -/

variable (x0 : S8208x1024.Idx → ℝ) (x1 x2 : S8208x256.Idx → ℝ) (x3 : S1x16.Idx → ℝ) (x4 : S8208x1024.Idx → ℝ)

theorem ref_dq : Cert.ReferenceIdeal.Read.val_main_v112 (F := Ideal) (up x0) (up x1) (up x2) (up x3) (up x4)
    = dqArr x0 x1 x2 x3 x4 := by
  funext i
  have b0 : (i 0).val < 8320 := (i 0).isLt
  have b1 : (i 1).val < 1024 := (i 1).isLt
  by_cases h : (i 0).val < 112
  · refine (v112_pad x0 x1 x2 x3 x4 i h).trans ?_
    show (0 : EReal) = ((dqPad x0 x1 x2 x3 x4 (i 0).val (i 1).val (i 1).isLt : ℝ) : EReal)
    unfold dqPad
    rw [padRow_lt _ _ h]
    rfl
  · refine (v112_val x0 x1 x2 x3 x4 ⟨(i 0).val - 112, by omega⟩ ⟨(i 1).val / 256, by omega⟩ ⟨(i 1).val / 64 % 4, by omega⟩
      ⟨(i 1).val % 64, by omega⟩ i (by show (i 0).val = 112 + ((i 0).val - 112); omega) ?_).trans ?_
    · show (i 1).val = 256 * ((i 1).val / 256) + 64 * ((i 1).val / 64 % 4) + (i 1).val % 64
      omega
    · show _ = ((dqPad x0 x1 x2 x3 x4 (i 0).val (i 1).val (i 1).isLt : ℝ) : EReal)
      unfold dqPad
      rw [padRow_of _ _ _ (show (i 0).val = 112 + (⟨(i 0).val - 112, by omega⟩ : Fin 8208).val by
        show (i 0).val = 112 + ((i 0).val - 112); omega)]

theorem ref_sinks : Cert.ReferenceIdeal.Read.val_main_v107 (F := Ideal) (up x0) (up x1) (up x2) (up x3) (up x4)
    = skArr x0 x1 x2 x3 x4 := by
  funext i
  have b0 : (i 0).val < 1 := (i 0).isLt
  have b1 : (i 1).val < 16 := (i 1).isLt
  have e : i = ix2 (0 : Fin 1) (head ⟨(i 1).val / 4, by omega⟩ ⟨(i 1).val % 4, by omega⟩) :=
    Shape.idx_ext₂ (by show (i 0).val = 0; omega) (by show (i 1).val = 4 * ((i 1).val / 4) + (i 1).val % 4; omega)
  refine (congrArg _ e).trans ?_
  exact v107_val x0 x1 x2 x3 x4 ⟨(i 1).val / 4, by omega⟩ ⟨(i 1).val % 4, by omega⟩

end Attn

end
-- ==== Proof.OptGlu.lean ====
/-
  The optimiser's call on the part of the gated linear unit's weight that a device keeps: it computes what its reference does, entry by
  entry, in the same order.
-/
module

public import proofs.«01_k».proof.Defs
public import proofs.«01_k».proof.Proof.Gen.OptGlu
public import proofs.«01_k».proof.Proof.Gen.OptGlu.Frame
public import proofs.«01_k».proof.Proof.Gen.OptGluIdeal
public import proofs.«01_k».proof.Proof.Gen.OptGluIdeal.Value
public import proofs.«01_k».proof.Proof.Gen.OptGluRefIdeal
public import proofs.«01_k».proof.Proof.Gen.OptGluRefIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The optimiser's results are its reference's. -/
theorem algebraic_opt_glu : Cert.algebraic_OptGluIdeal_OptGluRefIdeal := by
  intro m ρ m' ρ' _ hagree
  refine ⟨_, _, _, Cert.OptGluIdeal.Value.run m ρ, ?_⟩
  refine (θ_run Cert.OptGluRefIdeal.defs _ _).mono (fun r h c => ?_) (Cert.OptGluRefIdeal.Value.run m' ρ')
  refine (?_ : _ → _) (h c)
  iterate 3 refine And.imp (fun e => e.trans (by simp only [hagree c]; rfl)) ?_
  exact id

end Cert.Proof
end
-- ==== Proof.OptMeta.lean ====
/-
  The optimiser's call on the part of the meta tokens that a device keeps: it computes what its reference does, entry by entry, in
  the same order.
-/
module

public import proofs.«01_k».proof.Defs
public import proofs.«01_k».proof.Proof.Gen.OptMeta
public import proofs.«01_k».proof.Proof.Gen.OptMeta.Frame
public import proofs.«01_k».proof.Proof.Gen.OptMetaIdeal
public import proofs.«01_k».proof.Proof.Gen.OptMetaIdeal.Value
public import proofs.«01_k».proof.Proof.Gen.OptMetaRefIdeal
public import proofs.«01_k».proof.Proof.Gen.OptMetaRefIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The optimiser's results are its reference's. -/
theorem algebraic_opt_meta : Cert.algebraic_OptMetaIdeal_OptMetaRefIdeal := by
  intro m ρ m' ρ' _ hagree
  refine ⟨_, _, _, Cert.OptMetaIdeal.Value.run m ρ, ?_⟩
  refine (θ_run Cert.OptMetaRefIdeal.defs _ _).mono (fun r h c => ?_) (Cert.OptMetaRefIdeal.Value.run m' ρ')
  refine (?_ : _ → _) (h c)
  iterate 3 refine And.imp (fun e => e.trans (by simp only [hagree c]; rfl)) ?_
  exact id

end Cert.Proof
end
-- ==== Proof.Products.lean ====
/-
  Matrix products read at an index, and a sum cut into stretches of its range.
-/
module

public import Idealize.ShloMosaic.Lib.MatmulPlain
public import Idealize.ShloMosaic.Lib.KernelVsHost
public import Idealize.ShloMosaic.Lib.Pointwise.Contract
public import Idealize.ShloMosaic.Lib.Pipeline.ValueKit

@[expose] public section

noncomputable section

namespace Attn

open Idealize.ShloMosaic

/-- The entries of `x · y`. -/
def mulAt {M K N : ℕ} (x : Shape.Idx ⟨2, ![M, K]⟩ → EReal) (y : Shape.Idx ⟨2, ![K, N]⟩ → EReal) (r : Fin M) (c : Fin N) : EReal :=
  ∑ k : Fin K, x (ix2 r k) * y (ix2 k c)

/-- The entries of `xᵀ · y`. -/
def mulTAt {M K N : ℕ} (x : Shape.Idx ⟨2, ![K, M]⟩ → EReal) (y : Shape.Idx ⟨2, ![K, N]⟩ → EReal) (r : Fin M) (c : Fin N) : EReal :=
  ∑ k : Fin K, x (ix2 k r) * y (ix2 k c)

/-- The entries of `x · yᵀ`. -/
def mulAtT {M K N : ℕ} (x : Shape.Idx ⟨2, ![M, K]⟩ → EReal) (y : Shape.Idx ⟨2, ![N, K]⟩ → EReal) (r : Fin M) (c : Fin N) : EReal :=
  ∑ k : Fin K, x (ix2 r k) * y (ix2 c k)

theorem mulAt_congr {M M' N N' K : ℕ} {x : Shape.Idx ⟨2, ![M, K]⟩ → EReal} {y : Shape.Idx ⟨2, ![K, N]⟩ → EReal}
    {x' : Shape.Idx ⟨2, ![M', K]⟩ → EReal} {y' : Shape.Idx ⟨2, ![K, N']⟩ → EReal} {r : Fin M} {r' : Fin M'} {c : Fin N} {c' : Fin N'}
    (hx : ∀ k : Fin K, x (ix2 r k) = x' (ix2 r' k)) (hy : ∀ k : Fin K, y (ix2 k c) = y' (ix2 k c')) : mulAt x y r c = mulAt x' y' r' c' :=
  Finset.sum_congr rfl fun k _ => congr (congrArg _ (hx k)) (hy k)

theorem mulAtT_congr {M M' N N' K : ℕ} {x : Shape.Idx ⟨2, ![M, K]⟩ → EReal} {y : Shape.Idx ⟨2, ![N, K]⟩ → EReal}
    {x' : Shape.Idx ⟨2, ![M', K]⟩ → EReal} {y' : Shape.Idx ⟨2, ![N', K]⟩ → EReal} {r : Fin M} {r' : Fin M'} {c : Fin N} {c' : Fin N'}
    (hx : ∀ k : Fin K, x (ix2 r k) = x' (ix2 r' k)) (hy : ∀ k : Fin K, y (ix2 c k) = y' (ix2 c' k)) : mulAtT x y r c = mulAtT x' y' r' c' :=
  Finset.sum_congr rfl fun k _ => congr (congrArg _ (hx k)) (hy k)

theorem mulTAt_congr {M M' N N' K : ℕ} {x : Shape.Idx ⟨2, ![K, M]⟩ → EReal} {y : Shape.Idx ⟨2, ![K, N]⟩ → EReal}
    {x' : Shape.Idx ⟨2, ![K, M']⟩ → EReal} {y' : Shape.Idx ⟨2, ![K, N']⟩ → EReal} {r : Fin M} {r' : Fin M'} {c : Fin N} {c' : Fin N'}
    (hx : ∀ k : Fin K, x (ix2 k r) = x' (ix2 k r')) (hy : ∀ k : Fin K, y (ix2 k c) = y' (ix2 k c')) : mulTAt x y r c = mulTAt x' y' r' c' :=
  Finset.sum_congr rfl fun k _ => congr (congrArg _ (hx k)) (hy k)

/-- Adding to a block of zeros. -/
theorem zero_from {S : Shape} (j : S.Idx) (e : EReal) : (constant (F := Ideal) S .f32 0x00000000#32 j : EReal) + e = e := by
  have h : (constant (F := Ideal) S .f32 0x00000000#32 j : EReal) = 0 := Ideal.ofBits_zero_f32
  rw [h, zero_add]

/-- A product started from zeros, read at an index. -/
theorem matmul_nn {M K N : ℕ} {φ₁ φ₂ : FTy} {d : DotDims ⟨2, ![M, K]⟩ ⟨2, ![K, N]⟩ ⟨2, ![M, N]⟩} (h : d = DotDims.plain M K N)
    (x : FVec Ideal ⟨2, ![M, K]⟩ φ₁) (y : FVec Ideal ⟨2, ![K, N]⟩ φ₂) (j : Shape.Idx ⟨2, ![M, N]⟩) :
    matmul d none x y (constant ⟨2, ![M, N]⟩ .f32 0x00000000#32) j = mulAt x y (j 0) (j 1) := by
  subst h
  obtain ⟨r, c, rfl⟩ : ∃ (r : Fin M) (c : Fin N), j = ix2 r c := ⟨j 0, j 1, eq_ix2 j⟩
  exact (Ideal.matmul_plain_apply none x y _ r c).trans (zero_from _ _)

/-- The same against a transposed right operand. -/
theorem matmul_nt {M K N : ℕ} {φ₁ φ₂ : FTy} {d : DotDims ⟨2, ![M, K]⟩ ⟨2, ![N, K]⟩ ⟨2, ![M, N]⟩} (h : d = DotDims.transposedRhs M K N)
    (x : FVec Ideal ⟨2, ![M, K]⟩ φ₁) (y : FVec Ideal ⟨2, ![N, K]⟩ φ₂) (j : Shape.Idx ⟨2, ![M, N]⟩) :
    matmul d none x y (constant ⟨2, ![M, N]⟩ .f32 0x00000000#32) j = mulAtT x y (j 0) (j 1) := by
  subst h
  obtain ⟨r, c, rfl⟩ : ∃ (r : Fin M) (c : Fin N), j = ix2 r c := ⟨j 0, j 1, eq_ix2 j⟩
  exact (Ideal.matmul_transposedRhs_apply none x y _ r c).trans (zero_from _ _)

/-- A product over the first axes of both operands. -/
def firstAxes (K M N : ℕ) (wf : DotDims.WF (sl := ⟨2, ![K, M]⟩) (sr := ⟨2, ![K, N]⟩) (so := ⟨2, ![M, N]⟩) [0] [0] [1] [1] [] []) :
    DotDims ⟨2, ![K, M]⟩ ⟨2, ![K, N]⟩ ⟨2, ![M, N]⟩ := ⟨[0], [0], [1], [1], [], [], wf⟩

/-- Such a product started from zeros, read at an index. -/
theorem matmul_tn {M K N : ℕ} {φ₁ φ₂ : FTy} {d : DotDims ⟨2, ![K, M]⟩ ⟨2, ![K, N]⟩ ⟨2, ![M, N]⟩} {wf} (h : d = firstAxes K M N wf)
    (x : FVec Ideal ⟨2, ![K, M]⟩ φ₁) (y : FVec Ideal ⟨2, ![K, N]⟩ φ₂) (j : Shape.Idx ⟨2, ![M, N]⟩) :
    matmul d none x y (constant ⟨2, ![M, N]⟩ .f32 0x00000000#32) j = mulTAt x y (j 0) (j 1) := by
  subst h
  refine (Ideal.matmul_apply₁_of (firstAxes K M N wf) rfl (K := K) rfl x y _ j
    (fun k => ix2 k (j 0)) (fun k => ix2 k (j 1)) ?_ ?_).trans (zero_from _ _)
  · intro k; funext a; refine Fin.ext ?_
    match a with
    | ⟨0, _⟩ => rfl
    | ⟨1, _⟩ => rfl
  · intro k; funext a; refine Fin.ext ?_
    match a with
    | ⟨0, _⟩ => rfl
    | ⟨1, _⟩ => rfl

/-- The host's products are the same. -/
theorem dot_nn {M K N : ℕ} {φ₁ φ₂ : FTy} {d : DotDims ⟨2, ![M, K]⟩ ⟨2, ![K, N]⟩ ⟨2, ![M, N]⟩} (h : d = DotDims.plain M K N)
    (x : FVec Ideal ⟨2, ![M, K]⟩ φ₁) (y : FVec Ideal ⟨2, ![K, N]⟩ φ₂) (j : Shape.Idx ⟨2, ![M, N]⟩) :
    Host.dotGeneral d none x y j = mulAt x y (j 0) (j 1) :=
  (congrFun (matmul_zero_eq_dotGeneral d none x y) j).symm.trans (matmul_nn h x y j)

theorem dot_tn {M K N : ℕ} {φ₁ φ₂ : FTy} {d : DotDims ⟨2, ![K, M]⟩ ⟨2, ![K, N]⟩ ⟨2, ![M, N]⟩} {wf} (h : d = firstAxes K M N wf)
    (x : FVec Ideal ⟨2, ![K, M]⟩ φ₁) (y : FVec Ideal ⟨2, ![K, N]⟩ φ₂) (j : Shape.Idx ⟨2, ![M, N]⟩) :
    Host.dotGeneral d none x y j = mulTAt x y (j 0) (j 1) :=
  (congrFun (matmul_zero_eq_dotGeneral d none x y) j).symm.trans (matmul_tn h x y j)

/-- The sum of the first `n` terms. -/
def part {N : ℕ} (f : Fin N → EReal) (n : ℕ) : EReal := ∑ k : Fin N, if k.val < n then f k else 0

theorem part_zero {N : ℕ} (f : Fin N → EReal) : part f 0 = 0 := by simp [part]

theorem part_all {N : ℕ} (f : Fin N → EReal) : part f N = ∑ k, f k := by simp [part]

/-- The first `n` terms and the next `T` are the first `n + T`. -/
theorem part_add {N T : ℕ} (f : Fin N → EReal) (n : ℕ) (h : n + T ≤ N) (g : Fin T → EReal)
    (hg : ∀ (r : Fin T) (k : Fin N), k.val = n + r.val → g r = f k) : part f n + ∑ r, g r = part f (n + T) := by
  have e : ∑ r, g r = ∑ k : Fin N, if n ≤ k.val ∧ k.val < n + T then f k else 0 := by
    rw [← Finset.sum_filter]
    refine Finset.sum_bij' (fun r _ => (⟨n + r.val, by omega⟩ : Fin N)) (fun k hk => ⟨k.val - n, ?_⟩) ?_ ?_ ?_ ?_ ?_
    · have := (Finset.mem_filter.mp hk).2; omega
    · intro r _; simp
    · intro k hk; simp
    · intro r _; simp
    · intro k hk
      have := (Finset.mem_filter.mp hk).2
      refine Fin.ext ?_
      show n + (k.val - n) = k.val
      omega
    · intro r _; exact hg r _ rfl
  rw [e, part, part, ← Finset.sum_add_distrib]
  refine Finset.sum_congr rfl fun k _ => ?_
  by_cases h1 : k.val < n
  · rw [if_pos h1, if_neg (by omega), if_pos (by omega), add_zero]
  · by_cases h2 : k.val < n + T
    · rw [if_neg h1, if_pos ⟨by omega, h2⟩, if_pos h2, zero_add]
    · rw [if_neg h1, if_neg (by omega), if_neg h2, add_zero]

/-- A block that is reset at every `J`-th step and otherwise added to, each step adding the next `T` terms of the block's sum,
    holds after a step the terms so far. -/
theorem accumulate {ι : Type} {N K : ℕ} (J T : ℕ) (hJ : 0 < J) (hK : T * J = K) (f : (n : ℕ) → n < N → ι → EReal)
    (g : (n : ℕ) → n < N → ι → Fin K → EReal) (s : (n : ℕ) → n < N → ι → Fin T → EReal)
    (h0 : ∀ n h i, n % J = 0 → f n h i = ∑ r, s n h i r)
    (h1 : ∀ n h i, ¬(n + 1) % J = 0 → f (n + 1) h i = f n (Nat.lt_of_succ_lt h) i + ∑ r, s (n + 1) h i r)
    (hg : ∀ n h, ¬(n + 1) % J = 0 → g (n + 1) h = g n (Nat.lt_of_succ_lt h))
    (hs : ∀ n h i (r : Fin T) (k : Fin K), k.val = T * (n % J) + r.val → s n h i r = g n h i k) :
    ∀ n h i, f n h i = part (g n h i) (T * (n % J + 1)) := by
  have bound : ∀ n, T * (n % J) + T ≤ K := fun n => by
    rw [← hK, ← Nat.mul_succ]; exact Nat.mul_le_mul_left T (Nat.mod_lt n hJ)
  have first : ∀ n h i, n % J = 0 → f n h i = part (g n h i) (T * (n % J + 1)) := fun n h i e => by
    have a := part_add (g n h i) (T * (n % J)) (bound n) (s n h i) (hs n h i)
    rw [h0 n h i e, Nat.mul_succ, ← a, e, Nat.mul_zero, part_zero, zero_add]
  intro n
  induction n with
  | zero => intro h i; exact first 0 h i (Nat.zero_mod _)
  | succ n ih =>
    intro h i
    by_cases e : (n + 1) % J = 0
    · exact first _ h i e
    · have e' : (n + 1) % J = n % J + 1 := by
        obtain ⟨b, rfl⟩ : ∃ b, J = b + 1 := ⟨J - 1, by omega⟩
        have a : n % (b + 1) ≠ b := fun a => e (Nat.succ_mod_succ_eq_zero_iff.mpr a)
        have a' := Nat.mod_lt n hJ
        rw [← Nat.mod_add_mod, Nat.mod_eq_of_lt (by omega)]
      rw [h1 n h i e, ih, ← hg n h e, ← e', Nat.mul_succ]
      exact part_add _ _ (bound _) _ (hs _ h i)

/-- A product over the rows computed tile by tile: a tile that is started every `J`-th step, each step adding the products of
    the next `T` rows, holds at its last step its entries of the whole product. -/
theorem sum_rows {N K M C P : ℕ} (J T : ℕ) (hJ : 0 < J) (hK : T * J = K) (x : Shape.Idx ⟨2, ![K, M]⟩ → EReal)
    (y : Shape.Idx ⟨2, ![K, C]⟩ → EReal) (row : (n : ℕ) → n < N → Fin P → Fin M)
    (hrow : ∀ n h r, ¬(n + 1) % J = 0 → row (n + 1) h r = row n (Nat.lt_of_succ_lt h) r)
    (f : (n : ℕ) → n < N → Shape.Idx ⟨2, ![P, C]⟩ → EReal)
    (xb : (n : ℕ) → n < N → Shape.Idx ⟨2, ![T, P]⟩ → EReal) (yb : (n : ℕ) → n < N → Shape.Idx ⟨2, ![T, C]⟩ → EReal)
    (h0 : ∀ n h j, n % J = 0 → f n h j = mulTAt (xb n h) (yb n h) (j 0) (j 1))
    (h1 : ∀ n h j, ¬(n + 1) % J = 0 → f (n + 1) h j = f n (Nat.lt_of_succ_lt h) j + mulTAt (xb (n + 1) h) (yb (n + 1) h) (j 0) (j 1))
    (hx : ∀ n h (r : Fin T) (k : Fin K) p, k.val = T * (n % J) + r.val → xb n h (ix2 r p) = x (ix2 k (row n h p)))
    (hy : ∀ n h (r : Fin T) (k : Fin K) q, k.val = T * (n % J) + r.val → yb n h (ix2 r q) = y (ix2 k q))
    (n : ℕ) (h : n < N) (e : n % J + 1 = J) (j : Shape.Idx ⟨2, ![P, C]⟩) : f n h j = mulTAt x y (row n h (j 0)) (j 1) := by
  have a := accumulate J T hJ hK f (fun n h j k => x (ix2 k (row n h (j 0))) * y (ix2 k (j 1)))
    (fun n h j r => xb n h (ix2 r (j 0)) * yb n h (ix2 r (j 1))) h0 h1
    (fun n h e => by
      funext j k
      exact congrArg (fun r => x (ix2 k r) * y (ix2 k (j 1))) (hrow n h (j 0) e))
    (fun n h j r k e => congr (congrArg _ (hx n h r k (j 0) e)) (hy n h r k (j 1) e)) n h j
  rw [a, e, hK]
  exact part_all _

end Attn
-- ==== Proof.Norm.lean ====
/-
  A row's norm: each entry times the reciprocal root of the row's mean square, and times its gain.
-/
module

public import proofs.«01_k».proof.Proof.Products

@[expose] public section

noncomputable section

namespace Attn

open Idealize.ShloMosaic

/-- Entry `q` of the norm of a row of 1024, whose mean square has 10⁻⁶ (as a float) added. -/
def normAt (f : Fin 1024 → EReal) (g : EReal) (q : Fin 1024) : EReal :=
  f q * Ideal.rsqrt (Ideal.div (∑ k, f k * f k) (FloatOps.ofBits (F := Ideal) .f32 0x44800000#32 : EReal)
    + (FloatOps.ofBits (F := Ideal) .f32 0x358637BD#32 : EReal)) * g

theorem normAt_congr {f f' : Fin 1024 → EReal} {g g' : EReal} {q q' : Fin 1024} (hf : ∀ k, f k = f' k) (hg : g = g') (hq : q = q') :
    normAt f g q = normAt f' g' q' := by
  rw [funext hf, hg, hq]

end Attn
-- ==== Proof.NormBack.lean ====
/-
  The gradient of a row's norm: as the chain rule gives it, through the quotient of the reciprocal root by the mean square and
  twice through each square, it is the difference of two products. That holds for infinite entries too.
-/
module

public import proofs.«01_k».proof.Proof.Norm

@[expose] public section

noncomputable section

namespace Attn

open Idealize.ShloMosaic

/-- The constants 1024, 10⁻⁶ (as a float) and -1/2. -/
def cols : EReal := FloatOps.ofBits (F := Ideal) .f32 0x44800000#32
def small : EReal := FloatOps.ofBits (F := Ideal) .f32 0x358637BD#32
def minusHalf : EReal := FloatOps.ofBits (F := Ideal) .f32 0xBF000000#32

theorem cols_eq : cols = ((1024 : ℝ) : EReal) := by
  show Ideal.ofBits .f32 0x44800000#32 = _
  simp [Ideal.ofBits, Ideal.ieee]
  rw [← EReal.coe_mul]
  norm_num

theorem minusHalf_eq : minusHalf = ((-(1 / 2) : ℝ) : EReal) := by
  show Ideal.ofBits .f32 0xBF000000#32 = _
  simp [Ideal.ofBits, Ideal.ieee]
  rw [← EReal.coe_mul]
  norm_num

theorem small_pos : ∃ e : ℝ, 0 < e ∧ small = (e : EReal) := by
  refine ⟨_, ?_, show Ideal.ofBits .f32 0x358637BD#32 = _ by
    simp [Ideal.ofBits, Ideal.ieee]
    rfl⟩
  norm_num

/-- A row's mean square with the small constant added, and its reciprocal root. -/
def squareAt (f : Fin 1024 → EReal) : EReal := Ideal.div (∑ k, f k * f k) cols + small
def rootAt (f : Fin 1024 → EReal) : EReal := Ideal.rsqrt (squareAt f)

/-- Entry `q` of the gradient of a row's norm, `t` being the cotangent times the gain. -/
def backAt (f t : Fin 1024 → EReal) (q : Fin 1024) : EReal :=
  rootAt f * t q - f q * (rootAt f * rootAt f * rootAt f) * Ideal.div (∑ k, t k * f k) cols

theorem rootAt_congr {f f' : Fin 1024 → EReal} (hf : ∀ k, f k = f' k) : rootAt f = rootAt f' := by rw [funext hf]

theorem backAt_congr {f f' t t' : Fin 1024 → EReal} {q q' : Fin 1024} (hf : ∀ k, f k = f' k) (ht : ∀ k, t k = t' k) (hq : q = q') :
    backAt f t q = backAt f' t' q' := by
  rw [funext hf, funext ht, hq]

theorem div_cols (x : EReal) : Ideal.div x cols = x * (((1024 : ℝ)⁻¹ : ℝ) : EReal) := by
  unfold Ideal.div
  rw [cols_eq, if_neg (by norm_num), EReal.coe_inv]

theorem square_nonneg (x : EReal) : 0 ≤ x * x := by
  induction x using EReal.rec with
  | bot => simp
  | top => simp
  | coe a => rw [← EReal.coe_mul]; exact_mod_cast mul_self_nonneg a

theorem squareAt_pos (f : Fin 1024 → EReal) : 0 < squareAt f := by
  obtain ⟨e, he, hs⟩ := small_pos
  have a : (0 : EReal) ≤ Ideal.div (∑ k, f k * f k) cols := by
    rw [div_cols]
    exact mul_nonneg (Finset.sum_nonneg fun k _ => square_nonneg (f k)) (by exact_mod_cast (by norm_num : (0 : ℝ) ≤ 1024⁻¹))
  unfold squareAt
  rw [hs]
  exact lt_of_lt_of_le (by exact_mod_cast he) (le_add_of_nonneg_left a)

/-- Twice a multiple by a negative number. -/
theorem twice_neg (y : EReal) (b : ℝ) (hb : 0 < b) : y * ((-b : ℝ) : EReal) + y * ((-b : ℝ) : EReal) = -(y * ((b + b : ℝ) : EReal)) := by
  have n : -b < 0 := by linarith
  have p : 0 < b + b := by linarith
  induction y using EReal.rec with
  | bot => rw [EReal.bot_mul_coe_of_neg n, EReal.bot_mul_coe_of_pos p]; rfl
  | top => rw [EReal.top_mul_coe_of_neg n, EReal.top_mul_coe_of_pos p]; rfl
  | coe a =>
    rw [← EReal.coe_mul, ← EReal.coe_mul, ← EReal.coe_add, ← EReal.coe_neg]
    exact congrArg _ (by ring)

/-- The chain rule's sum is the difference. -/
theorem chain_eq (v x t s : EReal) (hv : 0 < v) :
    t * Ideal.rsqrt v + x * Ideal.div (s * (minusHalf * Ideal.div (Ideal.rsqrt v) v)) cols
      + Ideal.div (s * (minusHalf * Ideal.div (Ideal.rsqrt v) v)) cols * x
    = Ideal.rsqrt v * t - x * (Ideal.rsqrt v * Ideal.rsqrt v * Ideal.rsqrt v) * Ideal.div s cols := by
  rw [div_cols, div_cols, minusHalf_eq]
  induction v using EReal.rec with
  | bot => exact absurd hv (by simp)
  | top =>
    have r : Ideal.rsqrt (⊤ : EReal) = 0 := rfl
    have d : Ideal.div (0 : EReal) ⊤ = 0 := by
      unfold Ideal.div
      rw [if_neg (by simp), zero_mul]
    rw [r, d]
    simp
  | coe w =>
    have hw : 0 < w := by exact_mod_cast hv
    have hn : Real.sqrt w ≠ 0 := (Real.sqrt_pos.mpr hw).ne'
    have r : Ideal.rsqrt (w : EReal) = (((Real.sqrt w)⁻¹ : ℝ) : EReal) := by
      show (if w < 0 then (⊥ : EReal) else if w = 0 then ⊤ else (((Real.sqrt w)⁻¹ : ℝ) : EReal)) = _
      rw [if_neg (by linarith), if_neg hw.ne']
    have d : Ideal.div (((Real.sqrt w)⁻¹ : ℝ) : EReal) (w : EReal) = (((Real.sqrt w)⁻¹ * w⁻¹ : ℝ) : EReal) := by
      unfold Ideal.div
      rw [if_neg (by exact_mod_cast hw.ne'), EReal.coe_mul, EReal.coe_inv w]
    rw [r, d, ← EReal.coe_mul, ← EReal.coe_mul, ← EReal.coe_mul]
    have c : (-(1 / 2) * ((Real.sqrt w)⁻¹ * w⁻¹) : ℝ) * (1024 : ℝ)⁻¹
        = -((Real.sqrt w)⁻¹ * (Real.sqrt w)⁻¹ * (Real.sqrt w)⁻¹ * (2048 : ℝ)⁻¹) := by
      have e : w⁻¹ = (Real.sqrt w)⁻¹ * (Real.sqrt w)⁻¹ := by
        rw [← mul_inv, Real.mul_self_sqrt hw.le]
      rw [e]; ring
    have c2 : (Real.sqrt w)⁻¹ * (Real.sqrt w)⁻¹ * (Real.sqrt w)⁻¹ * (1024 : ℝ)⁻¹
        = (Real.sqrt w)⁻¹ * (Real.sqrt w)⁻¹ * (Real.sqrt w)⁻¹ * (2048 : ℝ)⁻¹
          + (Real.sqrt w)⁻¹ * (Real.sqrt w)⁻¹ * (Real.sqrt w)⁻¹ * (2048 : ℝ)⁻¹ := by ring
    have p : 0 < (Real.sqrt w)⁻¹ * (Real.sqrt w)⁻¹ * (Real.sqrt w)⁻¹ * (2048 : ℝ)⁻¹ := by
      have := inv_pos.mpr (Real.sqrt_pos.mpr hw)
      positivity
    have a : s * ((-(1 / 2) * ((Real.sqrt w)⁻¹ * w⁻¹) : ℝ) : EReal) * (((1024 : ℝ)⁻¹ : ℝ) : EReal)
        = s * ((-((Real.sqrt w)⁻¹ * (Real.sqrt w)⁻¹ * (Real.sqrt w)⁻¹ * (2048 : ℝ)⁻¹) : ℝ) : EReal) := by
      rw [mul_assoc, ← EReal.coe_mul, c]
    have b : x * (((Real.sqrt w)⁻¹ * (Real.sqrt w)⁻¹ * (Real.sqrt w)⁻¹ : ℝ) : EReal) * (s * (((1024 : ℝ)⁻¹ : ℝ) : EReal))
        = x * s * (((Real.sqrt w)⁻¹ * (Real.sqrt w)⁻¹ * (Real.sqrt w)⁻¹ * (1024 : ℝ)⁻¹ : ℝ) : EReal) := by
      rw [EReal.coe_mul _ ((1024 : ℝ)⁻¹), mul_mul_mul_comm]
    rw [a, b, c2, mul_comm (s * _) x, ← mul_assoc, add_assoc, twice_neg _ _ p, mul_comm t, sub_eq_add_neg]

/-- The gradient of a row's norm as the chain rule gives it. -/
theorem backAt_eq (f t : Fin 1024 → EReal) (q : Fin 1024) :
    t q * rootAt f + f q * Ideal.div ((∑ k, f k * t k) * (minusHalf * Ideal.div (rootAt f) (squareAt f))) cols
      + Ideal.div ((∑ k, f k * t k) * (minusHalf * Ideal.div (rootAt f) (squareAt f))) cols * f q = backAt f t q := by
  unfold backAt
  rw [Finset.sum_congr rfl fun k _ => mul_comm (t k) (f k)]
  exact chain_eq (squareAt f) (f q) (t q) _ (squareAt_pos f)

end Attn
-- ==== Proof.Sum.lean ====
/-
  The sum of the eight devices' parts of a large weight's gradient, and AdamW's step, entry by entry.
-/
module

public import Idealize.ShloMosaic.Lib.Pipeline
public import proofs.«01_k».proof.Proof.NormBack

@[expose] public section

noncomputable section

namespace Attn.Sum

open Idealize.ShloMosaic

/-- A literal of the step. -/
abbrev lit (w : BitVec 32) : EReal := Scalar.ofBits (F := Ideal) .f32 w

/-- AdamW's new moments, and its change of the weight. -/
def firstAt (m g : EReal) : EReal := lit 0x3F666666#32 * m + lit 0x3DCCCCCD#32 * g
def secondAt (v g : EReal) : EReal := lit 0x3F7FBE77#32 * v + lit 0x3A83126F#32 * (g * g)
def deltaAt (w g m v : EReal) : EReal :=
  lit 0xBA83126F#32 * (Ideal.div (Ideal.div (firstAt m g) (lit 0x3F26BD02#32))
    (Ideal.sqrt (Ideal.div (secondAt v g) (lit 0x3C231ACC#32)) + lit 0x322BCC77#32) + lit 0x3C23D70A#32 * w)

theorem delta_congr {w w' g g' m m' v v' : EReal} (hw : w = w') (hg : g = g') (hm : m = m') (hv : v = v') :
    deltaAt w g m v = deltaAt w' g' m' v' := by
  rw [hw, hg, hm, hv]

variable {K M : ℕ} (h : K = 8 * M)

/-- The row of part `s + 1`, of the eight parts one above the other, that belongs to row `r`. -/
def partRow (s : Fin 7) (r : Fin M) : Fin K := ⟨(1 + s.val) * M + r.val, by
  have := s.isLt
  have := r.isLt
  have : (1 + s.val) * M ≤ 7 * M := Nat.mul_le_mul_right _ (by omega)
  omega⟩

/-- The device's own part with the seven others added. -/
def gradArr (recv : Shape.Idx ⟨2, ![K, 1024]⟩ → EReal) (own : Shape.Idx ⟨2, ![M, 1024]⟩ → EReal) :
    Shape.Idx ⟨2, ![M, 1024]⟩ → EReal := fun i =>
  own i + ∑ s : Fin 7, recv (ix2 (partRow h s (i 0)) (i 1))

/-- The parts in a device's order, its own first. -/
theorem grad_eq (recv : Shape.Idx ⟨2, ![K, 1024]⟩ → EReal) (own : Shape.Idx ⟨2, ![M, 1024]⟩ → EReal)
    (i : Shape.Idx ⟨2, ![M, 1024]⟩) (o : EReal) (r : Fin 7 → EReal) (e : o = own i)
    (p : ∀ s, r s = recv (ix2 (partRow h s (i 0)) (i 1))) :
    o + r 0 + r 1 + r 2 + r 3 + r 4 + r 5 + r 6 = gradArr h recv own i := by
  unfold gradArr
  rw [← e, ← Finset.sum_congr rfl fun s _ => p s, Fin.sum_univ_seven]
  simp only [add_assoc]

def firstArr (m g : Shape.Idx ⟨2, ![M, 1024]⟩ → EReal) : Shape.Idx ⟨2, ![M, 1024]⟩ → EReal := fun i => firstAt (m i) (g i)
def secondArr (v g : Shape.Idx ⟨2, ![M, 1024]⟩ → EReal) : Shape.Idx ⟨2, ![M, 1024]⟩ → EReal := fun i => secondAt (v i) (g i)
def deltaArr (w g m v : Shape.Idx ⟨2, ![M, 1024]⟩ → EReal) : Shape.Idx ⟨2, ![M, 1024]⟩ → EReal := fun i =>
  deltaAt (w i) (g i) (m i) (v i)

end Attn.Sum

end
-- ==== Proof.SumIn.lean ====
/-
  The call that adds up the devices' parts of the input projection's weight's gradient and takes AdamW's step with the sum: its
  four arrays, and those of its reference.
-/
module

public import proofs.«01_k».proof.Defs
public import proofs.«01_k».proof.Proof.Gen.SumIn
public import proofs.«01_k».proof.Proof.Gen.SumIn.Frame
public import proofs.«01_k».proof.Proof.Gen.SumInIdeal
public import proofs.«01_k».proof.Proof.Gen.SumInIdeal.Value
public import proofs.«01_k».proof.Proof.Gen.SumInRefIdeal
public import proofs.«01_k».proof.Proof.Gen.SumInRefIdeal.Run
public import proofs.«01_k».proof.Proof.Gen.SumInRefIdeal.Read
public import proofs.«01_k».proof.Proof.Ref
public import proofs.«01_k».proof.Proof.Sum

@[expose] public section

noncomputable section

namespace Attn.SumIn

open Idealize.ShloMosaic Idealize.ShloMosaic.TcCoe Idealize.SL.Sem
open Attn.Sum

section Kernel

open Cert.SumInIdeal Cert.SumInIdeal.Gen
open Idealize.ShloMosaic.Pipeline (Dat)

variable (m : (ℓ : Loc nD τ sig) → Buf (Elt Ideal) ℓ) (c : Dev nD)

theorem part_idx : ∀ t : Fin cfg0.N, win0_1.index t = ![2 + t.val, 0] ∧ win0_2.index t = ![4 + t.val, 0]
    ∧ win0_3.index t = ![6 + t.val, 0] ∧ win0_4.index t = ![8 + t.val, 0] ∧ win0_5.index t = ![10 + t.val, 0]
    ∧ win0_6.index t = ![12 + t.val, 0] ∧ win0_7.index t = ![14 + t.val, 0] :=
  (by decide +kernel : ∀ t : Fin grid0.N, _)
theorem row_idx : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

section Tile

variable (x0 x1 x2 x3 x4 x5 x6 x7 : Vec Ideal S288x1024 .bf16) (x8 x9 x10 x11 : Vec Ideal S288x1024 .f32) (y : S288x1024.Idx)

theorem zeros : (![0, 0] : Fin 2 → ℕ) = fun _ => 0 := funext fun a => by fin_cases a <;> rfl

theorem tile_grad : out0_12 x0 x1 x2 x3 x4 x5 x6 x7 x8 x9 x10 x11 y
    = (x8 y + x1 y + x2 y + x3 y + x4 y + x5 y + x6 y + x7 y : EReal) := by
  unfold_out out0_12
  rw [View.canon_unit_zero zeros]
  simp only [View.ld_unit_zero (S := S288x1024) zeros]
  rfl

theorem tile_first : out0_14 x0 x1 x2 x3 x4 x5 x6 x7 x8 x9 x10 x11 y
    = firstAt (x10 y) (out0_12 x0 x1 x2 x3 x4 x5 x6 x7 x8 x9 x10 x11 y) := by
  unfold_out out0_14
  unfold_out out0_12
  rw [View.canon_unit_zero zeros, View.canon_unit_zero zeros]
  simp only [View.ld_unit_zero (S := S288x1024) zeros]
  rfl

theorem tile_second : out0_15 x0 x1 x2 x3 x4 x5 x6 x7 x8 x9 x10 x11 y
    = secondAt (x11 y) (out0_12 x0 x1 x2 x3 x4 x5 x6 x7 x8 x9 x10 x11 y) := by
  unfold_out out0_15
  unfold_out out0_12
  rw [View.canon_unit_zero zeros, View.canon_unit_zero zeros]
  simp only [View.ld_unit_zero (S := S288x1024) zeros]
  rfl

theorem tile_delta : out0_13 x0 x1 x2 x3 x4 x5 x6 x7 x8 x9 x10 x11 y
    = deltaAt (x9 y) (out0_12 x0 x1 x2 x3 x4 x5 x6 x7 x8 x9 x10 x11 y) (x10 y) (x11 y) := by
  unfold_out out0_13
  unfold_out out0_12
  rw [View.canon_unit_zero zeros, View.canon_unit_zero zeros]
  simp only [View.ld_unit_zero (S := S288x1024) zeros]
  rfl

end Tile

/-- A grid point's block of the sum. -/
theorem grad_block (t : Fin cfg0.N) (y : S288x1024.Idx) (i : S576x1024.Idx) (e0 : (i 0).val = t.val * 288 + (y 0).val)
    (e1 : (i 1).val = (y 1).val) :
    (out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y : EReal)
      = gradArr (K := 4608) (M := 576) rfl (V m c main_arg0) (V m c main_arg1) i := by
  obtain ⟨h1, h2, h3, h4, h5, h6, h7⟩ := part_idx t
  have h8 := (row_idx t).1
  refine (tile_grad _ _ _ _ _ _ _ _ _ _ _ _ y).trans (grad_eq rfl _ _ i _
    ![iblk m c 1 t y, iblk m c 2 t y, iblk m c 3 t y, iblk m c 4 t y, iblk m c 5 t y, iblk m c 6 t y, iblk m c 7 t y] ?_ fun s => ?_)
  · blk_ext [iblk, h8]
  · fin_cases s
    · show iblk m c 1 t y = _
      blk_ext [iblk, h1, partRow]
    · show iblk m c 2 t y = _
      blk_ext [iblk, h2, partRow]
    · show iblk m c 3 t y = _
      blk_ext [iblk, h3, partRow]
    · show iblk m c 4 t y = _
      blk_ext [iblk, h4, partRow]
    · show iblk m c 5 t y = _
      blk_ext [iblk, h5, partRow]
    · show iblk m c 6 t y = _
      blk_ext [iblk, h6, partRow]
    · show iblk m c 7 t y = _
      blk_ext [iblk, h7, partRow]

theorem grad_array : (dats m 0 c).arrAt 12 cfg0.N = gradArr (K := 4608) (M := 576) rfl (V m c main_arg0) (V m c main_arg1) := by
  refine (dats m 0 c).arrAt_eq_of_covers 12 _ (by decide +kernel) fun t hf y => ?_
  obtain ⟨-, -, -, -, h, -⟩ := row_idx t
  rw [after0_12]
  refine (cast_eq _ _).trans ?_
  refine grad_block m c t y _ ?_ ?_ <;> blk_simp [h]

/-- Its block of the new first moment. -/
theorem first_block (t : Fin cfg0.N) (y : S288x1024.Idx) (i : S576x1024.Idx) (e0 : (i 0).val = t.val * 288 + (y 0).val)
    (e1 : (i 1).val = (y 1).val) :
    (out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y : EReal)
      = firstArr (V m c main_arg3)
        (gradArr (K := 4608) (M := 576) rfl (V m c main_arg0) (V m c main_arg1)) i := by
  obtain ⟨-, h9, h10, h11, -⟩ := row_idx t
  refine (tile_first _ _ _ _ _ _ _ _ _ _ _ _ y).trans ?_
  refine (congrArg (firstAt _) (grad_block m c t y i e0 e1)).trans ?_
  refine congrArg (firstAt · _) ?_
  blk_ext [iblk, h10]

/-- Its block of the new second moment. -/
theorem second_block (t : Fin cfg0.N) (y : S288x1024.Idx) (i : S576x1024.Idx) (e0 : (i 0).val = t.val * 288 + (y 0).val)
    (e1 : (i 1).val = (y 1).val) :
    (out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y : EReal)
      = secondArr (V m c main_arg4)
        (gradArr (K := 4608) (M := 576) rfl (V m c main_arg0) (V m c main_arg1)) i := by
  obtain ⟨-, h9, h10, h11, -⟩ := row_idx t
  refine (tile_second _ _ _ _ _ _ _ _ _ _ _ _ y).trans ?_
  refine (congrArg (secondAt _) (grad_block m c t y i e0 e1)).trans ?_
  refine congrArg (secondAt · _) ?_
  blk_ext [iblk, h11]

/-- Its block of the weight's change. -/
theorem delta_block (t : Fin cfg0.N) (y : S288x1024.Idx) (i : S576x1024.Idx) (e0 : (i 0).val = t.val * 288 + (y 0).val)
    (e1 : (i 1).val = (y 1).val) :
    (out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y : EReal)
      = deltaArr (V m c main_arg2)
        (gradArr (K := 4608) (M := 576) rfl (V m c main_arg0) (V m c main_arg1)) (V m c main_arg3) (V m c main_arg4) i := by
  obtain ⟨-, h9, h10, h11, -⟩ := row_idx t
  have w : iblk m c 9 t y = V m c main_arg2 i := by blk_ext [iblk, h9]
  have n : iblk m c 10 t y = V m c main_arg3 i := by blk_ext [iblk, h10]
  have v : iblk m c 11 t y = V m c main_arg4 i := by blk_ext [iblk, h11]
  exact (tile_delta _ _ _ _ _ _ _ _ _ _ _ _ y).trans (delta_congr w (grad_block m c t y i e0 e1) n v)

theorem delta_array : (dats m 0 c).arrAt 13 cfg0.N
    = deltaArr (V m c main_arg2)
        (gradArr (K := 4608) (M := 576) rfl (V m c main_arg0) (V m c main_arg1)) (V m c main_arg3) (V m c main_arg4) := by
  refine (dats m 0 c).arrAt_eq_of_covers 13 _ (by decide +kernel) fun t hf y => ?_
  obtain ⟨-, -, -, -, -, h, -⟩ := row_idx t
  rw [after0_13]
  refine (cast_eq _ _).trans ?_
  refine delta_block m c t y _ ?_ ?_ <;> blk_simp [h]

theorem first_array : (dats m 0 c).arrAt 14 cfg0.N
    = firstArr (V m c main_arg3)
        (gradArr (K := 4608) (M := 576) rfl (V m c main_arg0) (V m c main_arg1)) := by
  refine (dats m 0 c).arrAt_eq_of_covers 14 _ (by decide +kernel) fun t hf y => ?_
  obtain ⟨-, -, -, -, -, -, h, -⟩ := row_idx t
  rw [after0_14]
  refine (cast_eq _ _).trans ?_
  refine first_block m c t y _ ?_ ?_ <;> blk_simp [h]

theorem second_array : (dats m 0 c).arrAt 15 cfg0.N
    = secondArr (V m c main_arg4)
        (gradArr (K := 4608) (M := 576) rfl (V m c main_arg0) (V m c main_arg1)) := by
  refine (dats m 0 c).arrAt_eq_of_covers 15 _ (by decide +kernel) fun t hf y => ?_
  obtain ⟨-, -, -, -, -, -, -, h⟩ := row_idx t
  rw [after0_15]
  refine (cast_eq _ _).trans ?_
  refine second_block m c t y _ ?_ ?_ <;> blk_simp [h]

end Kernel

section Reference

open Cert.SumInRefIdeal Cert.SumInRefIdeal.Read

theorem ref_grad (recv : S4608x1024.Idx → EReal) (own : S576x1024.Idx → EReal) :
    val_main_v4 (F := Ideal) recv own = gradArr (K := 4608) (M := 576) rfl recv own := by
  funext i
  rw [val_main_v4_apply, val_main_v3_apply, val_main_cst_apply]
  refine congrArg (own i + ·) ((Attn.zero_const _).trans (Finset.sum_congr rfl fun s _ => ?_))
  rw [val_main_v2_apply, val_main_v1_apply, val_main_v0_apply]
  refine congrArg recv (funext fun a => Fin.ext ?_)
  have h0 : (i 0).val < 576 := (i 0).isLt
  have h1 : (i 1).val < 1024 := (i 1).isLt
  match a with
  | ⟨0, _⟩ => show (((1 + s.val) * 576 + (i 0).val) * 1024 + (i 1).val) / 1024 = (1 + s.val) * 576 + (i 0).val; omega
  | ⟨1, _⟩ => show (((1 + s.val) * 576 + (i 0).val) * 1024 + (i 1).val) % 1024 = (i 1).val; omega

end Reference

end Attn.SumIn

namespace Cert.Proof

open Idealize.ShloMosaic Idealize.ShloMosaic.TcCoe Idealize.SL.Sem

/-- The call's four results are its reference's. -/
theorem algebraic_sum_in : Cert.algebraic_SumInIdeal_SumInRefIdeal := by
  intro m ρ m' ρ' _ hagree
  refine ⟨_, _, _, _, (θ_run Cert.SumInIdeal.defs _ _).mono (fun r h c =>
    ⟨(h c).1.trans (Attn.SumIn.grad_array m c), (h c).2.1.trans (Attn.SumIn.delta_array m c),
      (h c).2.2.1.trans (Attn.SumIn.first_array m c), (h c).2.2.2.1.trans (Attn.SumIn.second_array m c), (h c).2.2.2.2⟩)
    (Cert.SumInIdeal.Value.run_blocks m ρ), ?_⟩
  refine (θ_run Cert.SumInRefIdeal.defs _ _).mono (fun r h c => ?_) (Cert.SumInRefIdeal.Value.run m' ρ')
  obtain ⟨a0, a1, a2, a3, a4⟩ := hagree c
  refine ⟨(h c).1.trans ?_, (h c).2.1.trans ?_, (h c).2.2.1.trans ?_, (h c).2.2.2.1.trans ?_, (h c).2.2.2.2⟩
  · rw [Cert.SumInRefIdeal.Read.val_main_v4_eq, a0, a1]
    exact Attn.SumIn.ref_grad _ _
  · rw [Cert.SumInRefIdeal.Read.val_main_v28_eq, a0, a1, a2, a3, a4]
    exact congrArg (fun g => Attn.Sum.deltaArr _ g _ _) (Attn.SumIn.ref_grad _ _)
  · rw [Cert.SumInRefIdeal.Read.val_main_v9_eq, a0, a1, a3]
    exact congrArg (Attn.Sum.firstArr _) (Attn.SumIn.ref_grad _ _)
  · rw [Cert.SumInRefIdeal.Read.val_main_v15_eq, a0, a1, a4]
    exact congrArg (Attn.Sum.secondArr _) (Attn.SumIn.ref_grad _ _)

end Cert.Proof

end
-- ==== Proof.FeedRun.lean ====
/-
  Every buffer of the feed-forward program after its run: the six calls' arrays and the host operations' around them,
  folded from the arguments.
-/
module

public import proofs.«01_k».proof.Proof.Gen.FeedIdeal.Frame

@[expose] public section

noncomputable section

namespace Attn.Feed

open Cert.FeedIdeal Cert.FeedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The program runs to the last boundary's contents. The proof is the frame's own, with every buffer kept in the result. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Attn.Feed
-- ==== Proof.FeedForward.lean ====
/-
  The arrays of the feed-forward's forward calls, of its units' gradient and of its input's, from the arrays they are called
  with.

  A call's columns: 5632 columns in two halves, each 1408 gates followed by their 1408 ups.
-/
module

public import proofs.«01_k».proof.Proof.Gen.FeedIdeal.Frame
public import proofs.«01_k».proof.Proof.Products

@[expose] public section

noncomputable section

namespace Attn.Feed

open Cert.FeedIdeal Cert.FeedIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The logistic function, the gated unit, and its two derivatives as the kernel computes them. -/
def sig1 (g : EReal) : EReal := Ideal.logistic g
def glu (g u : EReal) : EReal := g * sig1 g * u
def dGate (d g u : EReal) : EReal := d * u * (sig1 g * (1 + g * (1 - sig1 g)))
def dUp (d g : EReal) : EReal := d * (g * sig1 g)

/-- Where a hidden unit's gate and its up lie among a call's columns, and the unit of a column. -/
def gCol (k : Fin 2816) : Fin 5632 := ⟨2816 * (k.val / 1408) + k.val % 1408, by omega⟩
def uCol (k : Fin 2816) : Fin 5632 := ⟨2816 * (k.val / 1408) + k.val % 1408 + 1408, by omega⟩
def unit (q : Fin 5632) : Fin 2816 := ⟨1408 * (q.val / 2816) + q.val % 1408, by omega⟩

/-- The first product, the hidden units, the output, the units' gradient, and the input gradient. -/
def guOf (x : S8320x1024.Idx → EReal) (w : S5632x1024.Idx → EReal) : S8320x5632.Idx → EReal := fun i => mulAtT x w (i 0) (i 1)
def actOf (x : S8320x1024.Idx → EReal) (w : S5632x1024.Idx → EReal) : S8320x2816.Idx → EReal := fun i =>
  glu (mulAtT x w (i 0) (gCol (i 1))) (mulAtT x w (i 0) (uCol (i 1)))
def outOf (x : S8320x2816.Idx → EReal) (w : S2816x1024.Idx → EReal) (h : S8320x1024.Idx → EReal) : S8320x1024.Idx → EReal := fun i =>
  h i + mulAt x w (i 0) (i 1)
def dguOf (d : S8320x1024.Idx → EReal) (w : S2816x1024.Idx → EReal) (gu : S8320x5632.Idx → EReal) : S8320x5632.Idx → EReal := fun i =>
  if (i 1).val % 2816 < 1408 then dGate (mulAtT d w (i 0) (unit (i 1))) (gu (ix2 (i 0) (gCol (unit (i 1))))) (gu (ix2 (i 0) (uCol (unit (i 1)))))
  else dUp (mulAtT d w (i 0) (unit (i 1))) (gu (ix2 (i 0) (gCol (unit (i 1)))))
def dhnOf (x : S8320x5632.Idx → EReal) (w : S5632x1024.Idx → EReal) : S8320x1024.Idx → EReal := fun i => mulAt x w (i 0) (i 1)

theorem idx0_0 : ∀ t : Fin cfg0.N, win0_0.index t = ![t.val / 2, 0] := (by decide +kernel : ∀ t : Fin grid0.N, win0_0.index t = ![t.val / 2, 0])
theorem idx0_1 : ∀ t : Fin cfg0.N, win0_1.index t = ![t.val % 2, 0] := (by decide +kernel : ∀ t : Fin grid0.N, win0_1.index t = ![t.val % 2, 0])
theorem idx0_2 : ∀ t : Fin cfg0.N, win0_2.index t = ![t.val / 2, t.val % 2] := (by decide +kernel : ∀ t : Fin grid0.N, win0_2.index t = ![t.val / 2, t.val % 2])
theorem idx0_3 : ∀ t : Fin cfg0.N, win0_3.index t = ![t.val / 2, t.val % 2] := (by decide +kernel : ∀ t : Fin grid0.N, win0_3.index t = ![t.val / 2, t.val % 2])
theorem idx1_0 : ∀ t : Fin cfg1.N, win1_0.index t = ![t.val, 0] := (by decide +kernel : ∀ t : Fin grid1.N, win1_0.index t = ![t.val, 0])
theorem idx1_1 : ∀ t : Fin cfg1.N, win1_1.index t = ![0, 0] := (by decide +kernel : ∀ t : Fin grid1.N, win1_1.index t = ![0, 0])
theorem idx1_2 : ∀ t : Fin cfg1.N, win1_2.index t = ![t.val, 0] := (by decide +kernel : ∀ t : Fin grid1.N, win1_2.index t = ![t.val, 0])
theorem idx1_3 : ∀ t : Fin cfg1.N, win1_3.index t = ![t.val, 0] := (by decide +kernel : ∀ t : Fin grid1.N, win1_3.index t = ![t.val, 0])
theorem idx2_0 : ∀ t : Fin cfg2.N, win2_0.index t = ![t.val / 2, 0] := (by decide +kernel : ∀ t : Fin grid2.N, win2_0.index t = ![t.val / 2, 0])
theorem idx2_1 : ∀ t : Fin cfg2.N, win2_1.index t = ![t.val % 2, 0] := (by decide +kernel : ∀ t : Fin grid2.N, win2_1.index t = ![t.val % 2, 0])
theorem idx2_2 : ∀ t : Fin cfg2.N, win2_2.index t = ![t.val / 2, t.val % 2] := (by decide +kernel : ∀ t : Fin grid2.N, win2_2.index t = ![t.val / 2, t.val % 2])
theorem idx2_3 : ∀ t : Fin cfg2.N, win2_3.index t = ![t.val / 2, t.val % 2] := (by decide +kernel : ∀ t : Fin grid2.N, win2_3.index t = ![t.val / 2, t.val % 2])
theorem idx5_0 : ∀ t : Fin cfg5.N, win5_0.index t = ![t.val, 0] := (by decide +kernel : ∀ t : Fin grid5.N, win5_0.index t = ![t.val, 0])
theorem idx5_1 : ∀ t : Fin cfg5.N, win5_1.index t = ![0, 0] := (by decide +kernel : ∀ t : Fin grid5.N, win5_1.index t = ![0, 0])
theorem idx5_2 : ∀ t : Fin cfg5.N, win5_2.index t = ![t.val, 0] := (by decide +kernel : ∀ t : Fin grid5.N, win5_2.index t = ![t.val, 0])

theorem tile0 (x : FVec Ideal S640x1024 .bf16) (w : FVec Ideal S2816x1024 .bf16) (y : S640x2816.Idx) :
    k0_pay1 (F := Ideal) x w y = mulAtT x w (y 0) (y 1) := by
  unfold k0_pay1
  rw [shapeCast_self, shapeCast_self]
  exact matmul_nt rfl x w y

theorem gu_array : (dat0 V c).arrAt 2 cfg0.N = guOf (V c main_v7) (V c main_v6) := by
  refine (dat0 V c).arrAt_eq_of_covers 2 _ (by decide +kernel) fun t hf y => ?_
  blk_simp [idx0_2 t]
  rw [after0_2]
  frame_out
  refine (tile0 _ _ y).trans (mulAtT_congr (fun k => ?_) fun k => ?_)
  · blk_ext [iblk0, idx0_0 t, idx0_2 t]
  · blk_ext [iblk0, idx0_1 t, idx0_2 t]

/-- The gated units of a tile. -/
theorem tile0' (x : FVec Ideal S640x1024 .bf16) (w : FVec Ideal S2816x1024 .bf16) (y : S640x1408.Idx) :
    k0_pay3 (F := Ideal) x w y = glu (mulAtT x w (y 0) ⟨(y 1).val, by have := (y 1).isLt; simp at this; omega⟩)
      (mulAtT x w (y 0) ⟨(y 1).val + 1408, by have := (y 1).isLt; simp at this; omega⟩) := by
  have a : ∀ (o : ℕ) (h : S640x2816.Slices ![0, o] S640x1408) (q : Fin 2816) (e : q.val = o + (y 1).val),
      extractStridedSlice S640x1408 ![0, o] (k0_pay1 (F := Ideal) x w) h y = mulAtT x w (y 0) q := fun o h q e =>
    (extractStridedSlice_apply ![0, o] _ h y (ix2 (y 0) q) (fun a => match a with
      | ⟨0, _⟩ => by show (y 0).val = 0 + (y 0).val; omega
      | ⟨1, _⟩ => by show q.val = o + (y 1).val; exact e)).trans (tile0 x w _)
  exact congr (congrArg glu (a 0 slices_S640x2816_o0_0_S640x1408 _ (Nat.zero_add _).symm)) (a 1408 slices_S640x2816_o0_1408_S640x1408 _ (Nat.add_comm _ _))

theorem act_array : (dat0 V c).arrAt 3 cfg0.N = actOf (V c main_v7) (V c main_v6) := by
  refine (dat0 V c).arrAt_eq_of_covers 3 _ (by decide +kernel) fun t hf y => ?_
  blk_simp [idx0_3 t]
  rw [after0_3]
  frame_out
  refine (tile0' _ _ y).trans ?_
  refine congr (congrArg glu (mulAtT_congr (fun k => ?_) fun k => ?_)) (mulAtT_congr (fun k => ?_) fun k => ?_)
  · blk_ext [iblk0, idx0_0 t, idx0_3 t]
  · blk_ext [iblk0, idx0_1 t, idx0_3 t, gCol]
  · blk_ext [iblk0, idx0_0 t, idx0_3 t]
  · blk_ext [iblk0, idx0_1 t, idx0_3 t, uCol]

theorem tile1 (x : FVec Ideal S1040x2816 .bf16) (w : FVec Ideal S2816x1024 .bf16) (h : FVec Ideal S1040x1024 .f32) (y : S1040x1024.Idx) :
    k1_pay1 (F := Ideal) x w h y = h y + mulAt x w (y 0) (y 1) := by
  unfold k1_pay1
  rw [shapeCast_self, shapeCast_self]
  exact congrArg (h y + ·) (matmul_nn rfl x w y)

theorem out_array : (dat1 V c).arrAt 3 cfg1.N = outOf (V c main_v10_1) (V c main_v8) (V c main_arg3) := by
  refine (dat1 V c).arrAt_eq_of_covers 3 _ (by decide +kernel) fun t hf y => ?_
  blk_simp [idx1_3 t]
  rw [after1_3]
  frame_out
  refine (tile1 _ _ _ y).trans (congr (congrArg _ ?_) (mulAt_congr (fun k => ?_) fun k => ?_))
  · blk_ext [iblk1, idx1_2 t, idx1_3 t]
  · blk_ext [iblk1, idx1_0 t, idx1_3 t]
  · blk_ext [iblk1, idx1_1 t, idx1_3 t]

theorem tile5 (x : FVec Ideal S640x5632 .bf16) (w : FVec Ideal S5632x1024 .bf16) (y : S640x1024.Idx) :
    k5_pay1 (F := Ideal) x w y = mulAt x w (y 0) (y 1) := by
  unfold k5_pay1
  rw [shapeCast_self, shapeCast_self]
  exact matmul_nn rfl x w y

theorem dhn_array : (dat5 V c).arrAt 2 cfg5.N = dhnOf (V c main_v12) (V c main_v6) := by
  refine (dat5 V c).arrAt_eq_of_covers 2 _ (by decide +kernel) fun t hf y => ?_
  blk_simp [idx5_2 t]
  rw [after5_2]
  frame_out
  refine (tile5 _ _ y).trans (mulAt_congr (fun k => ?_) fun k => ?_)
  · blk_ext [iblk5, idx5_0 t, idx5_2 t]
  · blk_ext [iblk5, idx5_1 t, idx5_2 t]

theorem tile2 (x : FVec Ideal S640x1024 .bf16) (w : FVec Ideal S1408x1024 .bf16) (y : S640x1408.Idx) :
    k2_pay1 (F := Ideal) x w y = mulAtT x w (y 0) (y 1) := by
  unfold k2_pay1
  rw [shapeCast_self, shapeCast_self]
  exact matmul_nt rfl x w y

theorem tile2_up (x : FVec Ideal S640x1024 .bf16) (w : FVec Ideal S1408x1024 .bf16) (g : FVec Ideal S640x1408 .bf16) (y : S640x1408.Idx) :
    k2_pay5 (F := Ideal) x w g y = dUp (mulAtT x w (y 0) (y 1)) (g y) := by
  unfold k2_pay5 k2_pay3 k2_pay2
  rw [shapeCast_self]
  exact congrArg (fun d => dUp d (g y)) (tile2 x w y)

theorem tile2_gate (x : FVec Ideal S640x1024 .bf16) (w : FVec Ideal S1408x1024 .bf16) (g u : FVec Ideal S640x1408 .bf16) (y : S640x1408.Idx) :
    k2_pay4 (F := Ideal) x w g u y = dGate (mulAtT x w (y 0) (y 1)) (g y) (u y) := by
  have one : (Scalar.ofBits .f32 0x3F800000#32 : Ideal .f32) = (1 : EReal) := Ideal.ofBits_one_f32
  unfold k2_pay4 k2_pay3 k2_pay2
  rw [shapeCast_self, shapeCast_self, one]
  exact congrArg (fun d => dGate d (g y) (u y)) (tile2 x w y)

/-- The units' gradient at a unit's two columns. -/
theorem dguOf_up (d : S8320x1024.Idx → EReal) (w : S2816x1024.Idx → EReal) (gu : S8320x5632.Idx → EReal) (i : S8320x5632.Idx)
    (k : Fin 2816) (e : (i 1).val = (uCol k).val) :
    dguOf d w gu i = dUp (mulAtT d w (i 0) k) (gu (ix2 (i 0) (gCol k))) := by
  have e' : (i 1).val = 2816 * (k.val / 1408) + k.val % 1408 + 1408 := e
  have u : unit (i 1) = k := Fin.ext (by show 1408 * ((i 1).val / 2816) + (i 1).val % 1408 = k.val; omega)
  unfold dguOf
  rw [if_neg (by omega), u]

theorem dguOf_gate (d : S8320x1024.Idx → EReal) (w : S2816x1024.Idx → EReal) (gu : S8320x5632.Idx → EReal) (i : S8320x5632.Idx)
    (k : Fin 2816) (e : (i 1).val = (gCol k).val) :
    dguOf d w gu i = dGate (mulAtT d w (i 0) k) (gu (ix2 (i 0) (gCol k))) (gu (ix2 (i 0) (uCol k))) := by
  have e' : (i 1).val = 2816 * (k.val / 1408) + k.val % 1408 := e
  have u : unit (i 1) = k := Fin.ext (by show 1408 * ((i 1).val / 2816) + (i 1).val % 1408 = k.val; omega)
  unfold dguOf
  rw [if_pos (by omega), u]

theorem dgu_array : (dat2 V c).arrAt 3 cfg2.N = dguOf (V c main_v9) (V c main_v8) (V c main_v10_0) := by
  refine (dat2 V c).arrAt_eq_of_covers 3 _ (by decide +kernel) fun t hf y => ?_
  blk_simp [idx2_3 t]
  rw [after2_3]
  unfold out2_3
  canon_tiles x h
  · refine (tile2_up _ _ _ x).trans ((dguOf_up _ _ _ _ ⟨1408 * (t.val % 2) + (x 1).val, by omega⟩ ?_).trans
      (congr (congrArg dUp (mulAtT_congr (fun k => ?_) fun k => ?_)) ?_)).symm
    · blk_simp [idx2_3 t, uCol]
      dsimp only
      omega
    · blk_ext [iblk2, r2_0, Rect.idx_unit_val, idx2_0 t, idx2_3 t]
    · blk_ext [iblk2, r2_1, Rect.idx_unit_val, idx2_1 t, idx2_3 t]
    · blk_ext [iblk2, r2_2, Rect.idx_unit_val, idx2_2 t, idx2_3 t, gCol]
  · refine (tile2_gate _ _ _ _ x).trans ((dguOf_gate _ _ _ _ ⟨1408 * (t.val % 2) + (x 1).val, by omega⟩ ?_).trans
      (congr (congr (congrArg dGate (mulAtT_congr (fun k => ?_) fun k => ?_)) ?_) ?_)).symm
    · blk_simp [idx2_3 t, gCol]
      dsimp only
      omega
    · blk_ext [iblk2, r2_0, Rect.idx_unit_val, idx2_0 t, idx2_3 t]
    · blk_ext [iblk2, r2_1, Rect.idx_unit_val, idx2_1 t, idx2_3 t]
    · blk_ext [iblk2, r2_2, Rect.idx_unit_val, idx2_2 t, idx2_3 t, gCol]
    · blk_ext [iblk2, r2_3, Rect.idx_unit_val, idx2_2 t, idx2_3 t, uCol]

end Attn.Feed
-- ==== Proof.FeedGrads.lean ====
/-
  The two weight gradients of the feed-forward: a tile's products summed over the stretches of rows are the product over all
  rows.
-/
module

public import proofs.«01_k».proof.Proof.Gen.FeedIdeal.Frame
public import proofs.«01_k».proof.Proof.Products

@[expose] public section

noncomputable section

namespace Attn.Feed

open Cert.FeedIdeal Cert.FeedIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx3_0 : ∀ t : Fin cfg3.N, win3_0.index t = ![t.val % 4, t.val / 4] := (by decide +kernel : ∀ t : Fin grid3.N, win3_0.index t = ![t.val % 4, t.val / 4])
theorem idx3_1 : ∀ t : Fin cfg3.N, win3_1.index t = ![t.val % 4, 0] := (by decide +kernel : ∀ t : Fin grid3.N, win3_1.index t = ![t.val % 4, 0])
theorem idx3_2 : ∀ t : Fin cfg3.N, win3_2.index t = ![t.val / 4, 0] := (by decide +kernel : ∀ t : Fin grid3.N, win3_2.index t = ![t.val / 4, 0])

theorem N3_lt (n : ℕ) (h : n < cfg3.N) : n < 8 := h

/-- The row of the result that a row of a step's tile is. -/
def row3 (n : ℕ) (h : n < cfg3.N) (r : Fin 1408) : Fin 2816 := ⟨1408 * (n / 4) + r.val, by have := N3_lt n h; omega⟩

theorem step3 (acc : FVec Ideal S1408x1024 .f32) (x : FVec Ideal S2080x1408 .bf16) (y : FVec Ideal S2080x1024 .bf16) (j : S1408x1024.Idx) :
    k3_pay2 (F := Ideal) acc x y j = acc j + mulTAt x y (j 0) (j 1) := by
  unfold k3_pay2
  rw [shapeCast_self, shapeCast_self, shapeCast_self]
  exact congrArg (acc j + ·) (matmul_tn rfl x y j)

/-- The tile after its last step. -/
theorem last3 (n : ℕ) (h : n < cfg3.N) (e : n % 4 + 1 = 4) (j : S1408x1024.Idx) :
    (outsAt3 V c n h).1 j = mulTAt (V c main_v10_1 : S8320x2816.Idx → EReal) (V c main_v9) (row3 n h (j 0)) (j 1) := by
  refine sum_rows (N := cfg3.N) (K := 8320) (M := 2816) (C := 1024) (P := 1408) 4 2080 (by decide) (by decide) _ _ row3 ?_
    (fun n h => (outsAt3 V c n h).1) (fun n h => iblk3 V c 0 ⟨n, h⟩) (fun n h => iblk3 V c 1 ⟨n, h⟩) ?_ ?_ ?_ ?_ n h e j
  · intro n h r e
    refine Fin.ext ?_
    show 1408 * ((n + 1) / 4) + r.val = 1408 * (n / 4) + r.val
    have a : (n + 1) / 4 = n / 4 := by omega
    rw [a]
  · intro n h j e
    have e' : ¬n % 4 = 3 := by omega
    rw [outsAt3_A V c ⟨n, h⟩ e e']
    frame_out
    exact (step3 _ _ _ j).trans (zero_from j _)
  · intro n h j e
    by_cases e' : (n + 1) % 4 = 3
    · rw [outsAt3_C V c ⟨n + 1, h⟩ e e']
      frame_out
      exact step3 _ _ _ j
    · rw [outsAt3_B V c ⟨n + 1, h⟩ e e']
      frame_out
      exact step3 _ _ _ j
  · intro n h r k p e
    blk_ext [iblk3, idx3_0 ⟨n, h⟩, row3]
  · intro n h r k q e
    blk_ext [iblk3, idx3_1 ⟨n, h⟩]

theorem g_out_array : (dat3 V c).arrAt 2 cfg3.N = fun i : S2816x1024.Idx => mulTAt (V c main_v10_1 : S8320x2816.Idx → EReal) (V c main_v9) (i 0) (i 1) := by
  refine (dat3 V c).arrAt_eq_of_covers 2 _ (by decide +kernel) fun t hf j => ?_
  have e : t.val % 4 = 3 := (flush3_2 t).mp hf
  blk_simp [idx3_2 t]
  rw [after3_2]
  refine (last3 V c t.val t.isLt (by omega) j).trans (mulTAt_congr (fun k => ?_) (fun k => ?_))
  · blk_ext [row3, idx3_2 t]
  · blk_ext [idx3_2 t]

theorem idx4_0 : ∀ t : Fin cfg4.N, win4_0.index t = ![t.val % 4, t.val / 4] := (by decide +kernel : ∀ t : Fin grid4.N, win4_0.index t = ![t.val % 4, t.val / 4])
theorem idx4_1 : ∀ t : Fin cfg4.N, win4_1.index t = ![t.val % 4, 0] := (by decide +kernel : ∀ t : Fin grid4.N, win4_1.index t = ![t.val % 4, 0])
theorem idx4_2 : ∀ t : Fin cfg4.N, win4_2.index t = ![t.val / 4, 0] := (by decide +kernel : ∀ t : Fin grid4.N, win4_2.index t = ![t.val / 4, 0])

theorem N4_lt (n : ℕ) (h : n < cfg4.N) : n < 16 := h

/-- The row of the result that a row of a step's tile is. -/
def row4 (n : ℕ) (h : n < cfg4.N) (r : Fin 1408) : Fin 5632 := ⟨1408 * (n / 4) + r.val, by have := N4_lt n h; omega⟩

theorem step4 (acc : FVec Ideal S1408x1024 .f32) (x : FVec Ideal S2080x1408 .bf16) (y : FVec Ideal S2080x1024 .bf16) (j : S1408x1024.Idx) :
    k4_pay2 (F := Ideal) acc x y j = acc j + mulTAt x y (j 0) (j 1) := by
  unfold k4_pay2
  rw [shapeCast_self, shapeCast_self, shapeCast_self]
  exact congrArg (acc j + ·) (matmul_tn rfl x y j)

/-- The tile after its last step. -/
theorem last4 (n : ℕ) (h : n < cfg4.N) (e : n % 4 + 1 = 4) (j : S1408x1024.Idx) :
    (outsAt4 V c n h).1 j = mulTAt (V c main_v12 : S8320x5632.Idx → EReal) (V c main_v7) (row4 n h (j 0)) (j 1) := by
  refine sum_rows (N := cfg4.N) (K := 8320) (M := 5632) (C := 1024) (P := 1408) 4 2080 (by decide) (by decide) _ _ row4 ?_
    (fun n h => (outsAt4 V c n h).1) (fun n h => iblk4 V c 0 ⟨n, h⟩) (fun n h => iblk4 V c 1 ⟨n, h⟩) ?_ ?_ ?_ ?_ n h e j
  · intro n h r e
    refine Fin.ext ?_
    show 1408 * ((n + 1) / 4) + r.val = 1408 * (n / 4) + r.val
    have a : (n + 1) / 4 = n / 4 := by omega
    rw [a]
  · intro n h j e
    have e' : ¬n % 4 = 3 := by omega
    rw [outsAt4_A V c ⟨n, h⟩ e e']
    frame_out
    exact (step4 _ _ _ j).trans (zero_from j _)
  · intro n h j e
    by_cases e' : (n + 1) % 4 = 3
    · rw [outsAt4_C V c ⟨n + 1, h⟩ e e']
      frame_out
      exact step4 _ _ _ j
    · rw [outsAt4_B V c ⟨n + 1, h⟩ e e']
      frame_out
      exact step4 _ _ _ j
  · intro n h r k p e
    blk_ext [iblk4, idx4_0 ⟨n, h⟩, row4]
  · intro n h r k q e
    blk_ext [iblk4, idx4_1 ⟨n, h⟩]

theorem g_in_array : (dat4 V c).arrAt 2 cfg4.N = fun i : S5632x1024.Idx => mulTAt (V c main_v12 : S8320x5632.Idx → EReal) (V c main_v7) (i 0) (i 1) := by
  refine (dat4 V c).arrAt_eq_of_covers 2 _ (by decide +kernel) fun t hf j => ?_
  have e : t.val % 4 = 3 := (flush4_2 t).mp hf
  blk_simp [idx4_2 t]
  rw [after4_2]
  refine (last4 V c t.val t.isLt (by omega) j).trans (mulTAt_congr (fun k => ?_) (fun k => ?_))
  · blk_ext [row4, idx4_2 t]
  · blk_ext [idx4_2 t]

end Attn.Feed
-- ==== Proof.FeedTrace.lean ====
/-
  The feed-forward program's results from its arguments: the host operations before the calls, each call on what the
  earlier ones left, and the host operations after them.
-/
module

public import proofs.«01_k».proof.Proof.Gen.FeedIdeal.Frame
public import Idealize.ShloMosaic.Lib.StableHlo.RunRead
public import proofs.«01_k».proof.Proof.FeedForward
public import proofs.«01_k».proof.Proof.FeedGrads

@[expose] public section

noncomputable section

namespace Attn.Feed

open Cert.FeedIdeal Cert.FeedIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg) (c : Dev nD)

/-- Where a call's column lies among the weights' columns, whose gates all come first; and back. -/
def turn (q : Fin 5632) : Fin 5632 :=
  if q.val / 1408 = 1 then ⟨(q.val + 1408) % 5632, by omega⟩
  else if q.val / 1408 = 2 then ⟨q.val - 1408, by omega⟩ else q

theorem turn_val (q : Fin 5632) : (q.val / 1408 = 0 → 0 + q.val % 1408 = (turn q).val) ∧ (q.val / 1408 = 1 → 2816 + q.val % 1408 = (turn q).val)
    ∧ (q.val / 1408 = 2 → 1408 + q.val % 1408 = (turn q).val) ∧ (q.val / 1408 = 3 → 4224 + q.val % 1408 = (turn q).val) := by
  unfold turn
  split_ifs <;> (try dsimp only) <;> omega

theorem turn_turn : Function.Involutive turn := by
  intro q
  have h := q.isLt
  obtain ⟨a0, a1, a2, a3⟩ := turn_val q
  obtain ⟨b0, b1, b2, b3⟩ := turn_val (turn q)
  apply Fin.ext
  rcases (by omega : q.val / 1408 = 0 ∨ q.val / 1408 = 1 ∨ q.val / 1408 = 2 ∨ q.val / 1408 = 3) with e | e | e | e
  · have := a0 e; omega
  · have := a1 e; omega
  · have := a2 e; omega
  · have := a3 e; omega

/-- The four quarters of an array's rows, the middle two exchanged. -/
theorem quarters {α : Type} (x : S5632x1024.Idx → α) (x0 x1 x2 x3 : S1408x1024.Idx → α)
    (h0 : S5632x1024.Slices ![0, 0] S1408x1024) (h1 : S5632x1024.Slices ![2816, 0] S1408x1024)
    (h2 : S5632x1024.Slices ![1408, 0] S1408x1024) (h3 : S5632x1024.Slices ![4224, 0] S1408x1024)
    (e0 : x0 = extractStridedSlice S1408x1024 ![0, 0] x h0) (e1 : x1 = extractStridedSlice S1408x1024 ![2816, 0] x h1)
    (e2 : x2 = extractStridedSlice S1408x1024 ![1408, 0] x h2) (e3 : x3 = extractStridedSlice S1408x1024 ![4224, 0] x h3)
    (h : Shape.Concatenates (([⟨S1408x1024, x0⟩, ⟨S1408x1024, x1⟩, ⟨S1408x1024, x2⟩, ⟨S1408x1024, x3⟩] :
      List ((s : Shape) × (s.Idx → α))).map (·.1)) S5632x1024 0) :
    concatenate S5632x1024 0 [⟨S1408x1024, x0⟩, ⟨S1408x1024, x1⟩, ⟨S1408x1024, x2⟩, ⟨S1408x1024, x3⟩] h
      = fun i => x (ix2 (turn (i 0)) (i 1)) := by
  subst e0 e1 e2 e3
  funext i
  have hi : (i 0).val < 5632 := (i 0).isLt
  have hn : (i 0).val / 1408 < 4 := by omega
  let k : S1408x1024.Idx := ix2 (⟨(i 0).val % 1408, Nat.mod_lt _ (by decide)⟩ : Fin 1408) (i 1)
  have key : ∀ (o : ℕ) (hs : S5632x1024.Slices ![o, 0] S1408x1024), o + (i 0).val % 1408 = (turn (i 0)).val →
      extractStridedSlice S1408x1024 ![o, 0] x hs k = x (ix2 (turn (i 0)) (i 1)) := by
    intro o hs e
    refine extractStridedSlice_apply _ _ _ _ _ fun a => ?_
    match a with
    | ⟨0, _⟩ => exact e.symm
    | ⟨1, _⟩ => exact (Nat.zero_add _).symm
  refine (concatenate_ofFn_apply (s₁ := S1408x1024) (0 : Fin S5632x1024.rank)
    (![extractStridedSlice S1408x1024 ![0, 0] x h0, extractStridedSlice S1408x1024 ![2816, 0] x h1,
      extractStridedSlice S1408x1024 ![1408, 0] x h2, extractStridedSlice S1408x1024 ![4224, 0] x h3] : Fin 4 → _)
    h rfl 1408 rfl i ⟨(i 0).val / 1408, hn⟩ rfl k rfl (fun b hb => ?_)).trans ?_
  · match b with
    | ⟨0, _⟩ => exact absurd rfl hb
    | ⟨1, _⟩ => rfl
  · obtain ⟨t0, t1, t2, t3⟩ := turn_val (i 0)
    rcases (by omega : (i 0).val / 1408 = 0 ∨ (i 0).val / 1408 = 1 ∨ (i 0).val / 1408 = 2 ∨ (i 0).val / 1408 = 3) with e | e | e | e
    · rw [show (⟨(i 0).val / 1408, hn⟩ : Fin 4) = 0 from Fin.ext e]
      exact key 0 h0 (t0 e)
    · rw [show (⟨(i 0).val / 1408, hn⟩ : Fin 4) = 1 from Fin.ext e]
      exact key 2816 h1 (t1 e)
    · rw [show (⟨(i 0).val / 1408, hn⟩ : Fin 4) = 2 from Fin.ext e]
      exact key 1408 h2 (t2 e)
    · rw [show (⟨(i 0).val / 1408, hn⟩ : Fin 4) = 3 from Fin.ext e]
      exact key 4224 h3 (t3 e)

/-- The arguments. -/
abbrev hn : S8320x1024.Idx → EReal := m (c, Proc.tc.devRef main_arg0)
abbrev wIn : S1024x5632.Idx → EReal := m (c, Proc.tc.devRef main_arg1)
abbrev wOut : S2816x1024.Idx → EReal := m (c, Proc.tc.devRef main_arg2)
abbrev res : S8320x1024.Idx → EReal := m (c, Proc.tc.devRef main_arg3)
abbrev dh2 : S8320x1024.Idx → EReal := m (c, Proc.tc.devRef main_arg4)

/-- The weights' columns as the calls take them: a row per column, in the calls' order. -/
def wRows (w : S1024x5632.Idx → EReal) : S5632x1024.Idx → EReal := fun i => w (ix2 (i 1) (turn (i 0)))

/-! ### Before the calls -/

theorem start_hn : V1 m ρ c main_v7 = hn m c := by
  after_reads_simp
  rfl
theorem start_wOut : V1 m ρ c main_v8 = wOut m c := by
  after_reads_simp
  rfl
theorem start_dh2 : V1 m ρ c main_v9 = dh2 m c := by
  after_reads_simp
  rfl
theorem start_wRows : V1 m ρ c main_v6 = wRows (wIn m c) := by
  after_reads_simp
  refine (quarters (α := EReal) (transpose S5632x1024 [1, 0] (wIn m c) transposes_S1024x5632_S5632x1024_1_0) _ _ _ _
    slices_S5632x1024_S1408x1024_0_0 slices_S5632x1024_S1408x1024_2816_0 slices_S5632x1024_S1408x1024_1408_0
    slices_S5632x1024_S1408x1024_4224_0 ?_ ?_ ?_ ?_ _).trans ?_
  · show StableHlo.upto hostOps0 (W0 m ρ c) 6 (Proc.tc.devRef main_v2) = _
    after_reads_simp; rfl
  · show StableHlo.upto hostOps0 (W0 m ρ c) 6 (Proc.tc.devRef main_v3) = _
    after_reads_simp; rfl
  · show StableHlo.upto hostOps0 (W0 m ρ c) 6 (Proc.tc.devRef main_v4) = _
    after_reads_simp; rfl
  · show StableHlo.upto hostOps0 (W0 m ρ c) 6 (Proc.tc.devRef main_v5) = _
    after_reads_simp; rfl
  funext i
  exact transpose_apply [1, 0] _ _ _ _ (fun b => match b with | ⟨0, _⟩ => rfl | ⟨1, _⟩ => rfl)

/-! ### The results, with the weights' columns in their own order -/

/-- Where a hidden unit's gate and its up lie among the weights' columns. -/
def col0 (k : Fin 2816) : Fin 5632 := ⟨k.val, by omega⟩
def col1 (k : Fin 2816) : Fin 5632 := ⟨2816 + k.val, by omega⟩

def hidden (x : S8320x1024.Idx → EReal) (w : S1024x5632.Idx → EReal) : S8320x2816.Idx → EReal := fun i =>
  glu (mulAt x w (i 0) (col0 (i 1))) (mulAt x w (i 0) (col1 (i 1)))

/-- The gradient of the gates and of the ups, a row's entry at a column. -/
def dUnit (x : S8320x1024.Idx → EReal) (w : S1024x5632.Idx → EReal) (wo : S2816x1024.Idx → EReal) (d : S8320x1024.Idx → EReal)
    (r : Fin 8320) (q : Fin 5632) : EReal :=
  if h : q.val < 2816 then dGate (mulAtT d wo r ⟨q.val, h⟩) (mulAt x w r (col0 ⟨q.val, h⟩)) (mulAt x w r (col1 ⟨q.val, h⟩))
  else dUp (mulAtT d wo r ⟨q.val - 2816, by omega⟩) (mulAt x w r (col0 ⟨q.val - 2816, by omega⟩))

def dUnits (x : S8320x1024.Idx → EReal) (w : S1024x5632.Idx → EReal) (wo : S2816x1024.Idx → EReal) (d : S8320x1024.Idx → EReal) :
    S8320x5632.Idx → EReal := fun i => dUnit x w wo d (i 0) (i 1)

def outArr (x : S8320x1024.Idx → EReal) (w : S1024x5632.Idx → EReal) (wo : S2816x1024.Idx → EReal) (h : S8320x1024.Idx → EReal) :
    S8320x1024.Idx → EReal := fun i => h i + mulAt (hidden x w) wo (i 0) (i 1)
def gOutArr (x : S8320x1024.Idx → EReal) (w : S1024x5632.Idx → EReal) (d : S8320x1024.Idx → EReal) : S2816x1024.Idx → EReal := fun i =>
  mulTAt (hidden x w) d (i 0) (i 1)
def gInArr (x : S8320x1024.Idx → EReal) (w : S1024x5632.Idx → EReal) (wo : S2816x1024.Idx → EReal) (d : S8320x1024.Idx → EReal) :
    S1024x5632.Idx → EReal := fun i => mulTAt (dUnits x w wo d) x (i 1) (i 0)
def dhnArr (x : S8320x1024.Idx → EReal) (w : S1024x5632.Idx → EReal) (wo : S2816x1024.Idx → EReal) (d : S8320x1024.Idx → EReal) :
    S8320x1024.Idx → EReal := fun i => mulAtT (dUnits x w wo d) w (i 0) (i 1)

theorem turn_gCol (k : Fin 2816) : turn (gCol k) = col0 k := by
  obtain ⟨a0, a1, a2, a3⟩ := turn_val (gCol k)
  have e : (gCol k).val = 2816 * (k.val / 1408) + k.val % 1408 := rfl
  refine Fin.ext ?_
  show (turn (gCol k)).val = k.val
  omega

theorem turn_uCol (k : Fin 2816) : turn (uCol k) = col1 k := by
  obtain ⟨a0, a1, a2, a3⟩ := turn_val (uCol k)
  have e : (uCol k).val = 2816 * (k.val / 1408) + k.val % 1408 + 1408 := rfl
  refine Fin.ext ?_
  show (turn (uCol k)).val = 2816 + k.val
  omega

section
variable (x : S8320x1024.Idx → EReal) (w : S1024x5632.Idx → EReal) (wo : S2816x1024.Idx → EReal) (d : S8320x1024.Idx → EReal)
  (r : Fin 8320) (k : Fin 2816)

theorem mul_gCol : mulAtT x (wRows w) r (gCol k) = mulAt x w r (col0 k) :=
  (show _ = mulAt x w r (turn (gCol k)) from rfl).trans (congrArg _ (turn_gCol k))

theorem mul_uCol : mulAtT x (wRows w) r (uCol k) = mulAt x w r (col1 k) :=
  (show _ = mulAt x w r (turn (uCol k)) from rfl).trans (congrArg _ (turn_uCol k))

theorem act_hidden : actOf x (wRows w) = hidden x w :=
  funext fun i => congrArg₂ glu (mul_gCol x w (i 0) (i 1)) (mul_uCol x w (i 0) (i 1))

theorem unit_gate : dGate (mulAtT d wo r k) (mulAtT x (wRows w) r (gCol k)) (mulAtT x (wRows w) r (uCol k))
    = dUnit x w wo d r (turn (gCol k)) := by
  rw [mul_gCol, mul_uCol, turn_gCol, dUnit, dif_pos (show (col0 k).val < 2816 from k.isLt)]
  rfl

theorem unit_up : dUp (mulAtT d wo r k) (mulAtT x (wRows w) r (gCol k)) = dUnit x w wo d r (turn (uCol k)) := by
  have u : (⟨(col1 k).val - 2816, by omega⟩ : Fin 2816) = k := Fin.ext (by show 2816 + k.val - 2816 = _; omega)
  rw [mul_gCol, turn_uCol, dUnit, dif_neg (show ¬ (col1 k).val < 2816 by show ¬ 2816 + k.val < 2816; omega), u]

/-- The calls' columns of the units' gradient are its columns, turned. -/
theorem dgu_units : dguOf d wo (guOf x (wRows w)) = fun i => dUnit x w wo d (i 0) (turn (i 1)) := by
  funext i
  have hi : (i 1).val < 5632 := (i 1).isLt
  by_cases hq : (i 1).val % 2816 < 1408
  · have e : (i 1) = gCol (unit (i 1)) := Fin.ext (by
      show (i 1).val = 2816 * ((1408 * ((i 1).val / 2816) + (i 1).val % 1408) / 1408) + (1408 * ((i 1).val / 2816) + (i 1).val % 1408) % 1408
      omega)
    exact (dguOf_gate d wo _ i (unit (i 1)) (congrArg Fin.val e)).trans
      ((unit_gate x w wo d (i 0) (unit (i 1))).trans (congrArg (fun q => dUnit x w wo d (i 0) (turn q)) e.symm))
  · have e : (i 1) = uCol (unit (i 1)) := Fin.ext (by
      show (i 1).val = 2816 * ((1408 * ((i 1).val / 2816) + (i 1).val % 1408) / 1408) + (1408 * ((i 1).val / 2816) + (i 1).val % 1408) % 1408 + 1408
      omega)
    exact (dguOf_up d wo _ i (unit (i 1)) (congrArg Fin.val e)).trans
      ((unit_up x w wo d (i 0) (unit (i 1))).trans (congrArg (fun q => dUnit x w wo d (i 0) (turn q)) e.symm))

end

/-! ### Each call's operands -/

theorem hidden_at : V2 m ρ c main_v10_1 = hidden (hn m c) (wIn m c) := by
  refine (W2_arr m ρ c 3).trans ((act_array (V1 m ρ) c).trans ?_)
  rw [start_hn, start_wRows]
  exact act_hidden _ _

theorem gu_at : V2 m ρ c main_v10_0 = guOf (hn m c) (wRows (wIn m c)) := by
  refine (W2_arr m ρ c 2).trans ((gu_array (V1 m ρ) c).trans ?_)
  rw [start_hn, start_wRows]

theorem units_at : V4 m ρ c main_v12 = fun i => dUnit (hn m c) (wIn m c) (wOut m c) (dh2 m c) (i 0) (turn (i 1)) := by
  refine (W4_arr m ρ c 3).trans ((dgu_array (V3 m ρ) c).trans ?_)
  rw [show V3 m ρ c main_v9 = dh2 m c from
      (W3_of m ρ c main_v9 (by decide)).trans ((W2_of m ρ c main_v9 (by decide)).trans (start_dh2 m ρ c)),
    show V3 m ρ c main_v8 = wOut m c from
      (W3_of m ρ c main_v8 (by decide)).trans ((W2_of m ρ c main_v8 (by decide)).trans (start_wOut m ρ c)),
    show V3 m ρ c main_v10_0 = _ from (W3_of m ρ c main_v10_0 (by decide)).trans (gu_at m ρ c)]
  exact dgu_units _ _ _ _

/-! ### The results after the calls -/

theorem out_at : W8 m ρ c (Proc.tc.devRef main_v11) = outArr (hn m c) (wIn m c) (wOut m c) (res m c) := by
  refine (W8_of m ρ c main_v11 (by decide)).trans ((W7_of m ρ c main_v11 (by decide)).trans ((W6_of m ρ c main_v11 (by decide)).trans
    ((W5_of m ρ c main_v11 (by decide)).trans ((W4_of m ρ c main_v11 (by decide)).trans ((W3_arr m ρ c 3).trans
    ((out_array (V2 m ρ) c).trans ?_))))))
  rw [hidden_at, show V2 m ρ c main_v8 = wOut m c from (W2_of m ρ c main_v8 (by decide)).trans (start_wOut m ρ c),
    show V2 m ρ c main_arg3 = res m c from W2_args m ρ c main_arg3 (by decide)]
  rfl

theorem gOut_at : W8 m ρ c (Proc.tc.devRef main_v13_0) = gOutArr (hn m c) (wIn m c) (dh2 m c) := by
  refine (W8_of m ρ c main_v13_0 (by decide)).trans ((W7_of m ρ c main_v13_0 (by decide)).trans
    ((W6_of m ρ c main_v13_0 (by decide)).trans ((W5_arr m ρ c 2).trans ((g_out_array (V4 m ρ) c).trans ?_))))
  rw [show V4 m ρ c main_v10_1 = _ from (W4_of m ρ c main_v10_1 (by decide)).trans ((W3_of m ρ c main_v10_1 (by decide)).trans
      (hidden_at m ρ c)),
    show V4 m ρ c main_v9 = dh2 m c from (W4_of m ρ c main_v9 (by decide)).trans ((W3_of m ρ c main_v9 (by decide)).trans
      ((W2_of m ρ c main_v9 (by decide)).trans (start_dh2 m ρ c)))]
  rfl

theorem gIn_rows : W7 m ρ c (Proc.tc.devRef main_v14_0) = fun i : S5632x1024.Idx =>
    gInArr (hn m c) (wIn m c) (wOut m c) (dh2 m c) (ix2 (i 1) (turn (i 0))) := by
  refine (W7_of m ρ c main_v14_0 (by decide)).trans ((W6_arr m ρ c 2).trans ((g_in_array (V5 m ρ) c).trans ?_))
  rw [show V5 m ρ c main_v12 = _ from (W5_of m ρ c main_v12 (by decide)).trans (units_at m ρ c),
    show V5 m ρ c main_v7 = hn m c from (W5_of m ρ c main_v7 (by decide)).trans ((W4_of m ρ c main_v7 (by decide)).trans
      ((W3_of m ρ c main_v7 (by decide)).trans ((W2_of m ρ c main_v7 (by decide)).trans (start_hn m ρ c))))]
  rfl

theorem dhn_at : W8 m ρ c (Proc.tc.devRef main_v15) = dhnArr (hn m c) (wIn m c) (wOut m c) (dh2 m c) := by
  refine (W8_of m ρ c main_v15 (by decide)).trans ((W7_arr m ρ c 2).trans ((dhn_array (V6 m ρ) c).trans ?_))
  rw [show V6 m ρ c main_v12 = _ from (W6_of m ρ c main_v12 (by decide)).trans ((W5_of m ρ c main_v12 (by decide)).trans
      (units_at m ρ c)),
    show V6 m ρ c main_v6 = wRows (wIn m c) from (W6_of m ρ c main_v6 (by decide)).trans ((W5_of m ρ c main_v6 (by decide)).trans
      ((W4_of m ρ c main_v6 (by decide)).trans ((W3_of m ρ c main_v6 (by decide)).trans ((W2_of m ρ c main_v6 (by decide)).trans
        (start_wRows m ρ c)))))]
  funext i
  exact Equiv.sum_comp turn_turn.toPerm fun q => dUnit (hn m c) (wIn m c) (wOut m c) (dh2 m c) (i 0) q * wIn m c (ix2 (i 1) q)

theorem gIn_at : W8 m ρ c (Proc.tc.devRef main_v21) = gInArr (hn m c) (wIn m c) (wOut m c) (dh2 m c) := by
  have e := gIn_rows m ρ c
  show StableHlo.after hostOps6 (W7 m ρ c) (Proc.tc.devRef main_v21) = _
  generalize W7 m ρ c = V at e ⊢
  after_reads_simp
  refine Eq.trans (congrArg (fun y : S5632x1024.Idx → EReal => transpose S1024x5632 [1, 0] y transposes_S5632x1024_S1024x5632_1_0)
    (?_ : _ = fun i : S5632x1024.Idx => gInArr (hn m c) (wIn m c) (wOut m c) (dh2 m c) (ix2 (i 1) (i 0)))) ?_
  · refine (quarters (α := EReal) (V (Proc.tc.devRef main_v14_0)) _ _ _ _
      slices_S5632x1024_S1408x1024_0_0 slices_S5632x1024_S1408x1024_2816_0 slices_S5632x1024_S1408x1024_1408_0
      slices_S5632x1024_S1408x1024_4224_0 ?_ ?_ ?_ ?_ _).trans ?_
    · show StableHlo.upto hostOps6 V 4 (Proc.tc.devRef main_v16) = _
      after_reads_simp
    · show StableHlo.upto hostOps6 V 4 (Proc.tc.devRef main_v17) = _
      after_reads_simp
    · show StableHlo.upto hostOps6 V 4 (Proc.tc.devRef main_v18) = _
      after_reads_simp
    · show StableHlo.upto hostOps6 V 4 (Proc.tc.devRef main_v19) = _
      after_reads_simp
    rw [e]
    funext i
    show gInArr _ _ _ _ (ix2 (i 1) (turn (turn (i 0)))) = _
    rw [turn_turn (i 0)]
  funext i
  refine (transpose_apply [1, 0] _ _ _ (ix2 (i 1) (i 0)) (fun b => match b with | ⟨0, _⟩ => rfl | ⟨1, _⟩ => rfl)).trans ?_
  exact congrArg _ (eq_ix2 i).symm

end Attn.Feed
-- ==== Proof.FeedRef.lean ====
/-
  The feed-forward reference's results. Where the arguments are arrays of reals its gradient of the gates, which the chain
  rule gives as a sum of two terms, is the kernel's one product; the rest are the same sums.
-/
module

public import proofs.«01_k».proof.Proof.Gen.FeedRefIdeal.Read
public import proofs.«01_k».proof.Proof.FeedTrace
public import proofs.«01_k».proof.Proof.Equal

@[expose] public section

noncomputable section

namespace Attn.Feed

open Cert.FeedIdeal (S8320x1024 S1024x5632 S2816x1024 S8320x5632 S8320x2816 S5632x1024)
open Idealize.ShloMosaic Cert.FeedRefIdeal.Read

variable (x : S8320x1024.Idx → EReal) (w : S1024x5632.Idx → EReal) (wo : S2816x1024.Idx → EReal)
  (h d : S8320x1024.Idx → EReal)

theorem one_const (i : Cert.FeedRefIdeal.S_.Idx) : (constant (F := Ideal) Cert.FeedRefIdeal.S_ .f32 0x3F800000#32 i : EReal) = 1 :=
  Ideal.ofBits_one_f32

/-- A sum of products as a product's entry. -/
theorem sum_mulTAt {M K N : ℕ} (x : Shape.Idx ⟨2, ![K, M]⟩ → EReal) (y : Shape.Idx ⟨2, ![K, N]⟩ → EReal) (r : Fin M) (c : Fin N)
    (f : Fin K → EReal) (hf : ∀ k, f k = x (ix2 k r) * y (ix2 k c)) : ∑ k, f k = mulTAt x y r c :=
  Finset.sum_congr rfl fun k _ => hf k

theorem sum_mulAtT {M K N : ℕ} (x : Shape.Idx ⟨2, ![M, K]⟩ → EReal) (y : Shape.Idx ⟨2, ![N, K]⟩ → EReal) (r : Fin M) (c : Fin N)
    (f : Fin K → EReal) (hf : ∀ k, f k = x (ix2 r k) * y (ix2 c k)) : ∑ k, f k = mulAtT x y r c :=
  Finset.sum_congr rfl fun k _ => hf k

/-- Row `r`'s entry at column `q` of the first product. -/
theorem ref_product (i : S8320x5632.Idx) : val_main_v0 (F := Ideal) x w i = mulAt x w (i 0) (i 1) := by
  rw [val_main_v0_apply]
  exact Finset.sum_congr rfl fun k _ => congrArg₂ (fun a b => x a * w b) (Shape.idx_ext₂ rfl rfl) (Shape.idx_ext₂ rfl rfl)

theorem ref_gate (i : S8320x2816.Idx) : val_main_v1 (F := Ideal) x w i = mulAt x w (i 0) (col0 (i 1)) := by
  rw [val_main_v1_apply, ref_product]
  rfl

theorem ref_up (i : S8320x2816.Idx) : val_main_v2 (F := Ideal) x w i = mulAt x w (i 0) (col1 (i 1)) := by
  rw [val_main_v2_apply, ref_product]
  rfl

theorem ref_sig (i : S8320x2816.Idx) : val_main_v8 (F := Ideal) x w i = sig1 (mulAt x w (i 0) (col0 (i 1))) := by
  rw [val_main_v8_apply, val_main_v7_apply, val_main_v6_apply, val_main_v5_apply, val_main_v4_apply, val_main_v3_apply, ref_gate]
  show Ideal.div _ (_ + Ideal.exp (-_)) = Ideal.div 1 (1 + Ideal.exp (-_))
  rw [show val_main_cst_0 (F := Ideal) (idx_main_v7 i) = (1 : EReal) from one_const _,
    show val_main_cst (F := Ideal) (idx_main_v5 i) = (1 : EReal) from one_const _]

theorem ref_sig_rest (i : S8320x2816.Idx) : val_main_v10 (F := Ideal) x w i = 1 - sig1 (mulAt x w (i 0) (col0 (i 1))) := by
  rw [val_main_v10_apply, val_main_v9_apply, ref_sig]
  show _ - _ = _
  rw [show val_main_cst_1 (F := Ideal) (idx_main_v9 i) = (1 : EReal) from one_const _]

theorem ref_hidden : val_main_v13 (F := Ideal) x w = hidden x w := by
  funext i
  rw [val_main_v13_apply, val_main_v12_apply, ref_gate, ref_sig, ref_up]
  rfl

theorem ref_out : val_main_v28 (F := Ideal) x w wo h = outArr x w wo h := by
  funext i
  rw [val_main_v28_apply, val_main_v14_apply, ref_hidden]
  exact congrArg (h i + ·) (Finset.sum_congr rfl fun k _ =>
    congrArg₂ (fun a b => hidden x w a * wo b) (Shape.idx_ext₂ rfl rfl) (Shape.idx_ext₂ rfl rfl))

theorem ref_gOut : val_main_v16 (F := Ideal) x w d = gOutArr x w d := by
  funext i
  rw [val_main_v16_apply, val_main_v15_apply, ref_hidden]
  exact sum_mulTAt (K := 8320) (hidden x w) d (i 0) (i 1) _ fun k => (mul_comm _ _).trans
    (congrArg₂ (fun a b => hidden x w a * d b) (Shape.idx_ext₂ rfl rfl) (Shape.idx_ext₂ rfl rfl))

theorem ref_back (i : S8320x2816.Idx) : val_main_v17 (F := Ideal) wo d i = mulAtT d wo (i 0) (i 1) := by
  rw [val_main_v17_apply]
  exact Finset.sum_congr rfl fun k _ => congrArg₂ (fun a b => d a * wo b) (Shape.idx_ext₂ rfl rfl) (Shape.idx_ext₂ rfl rfl)

theorem ref_dUp (i : S8320x2816.Idx) : val_main_v18 (F := Ideal) x w wo d i
    = dUp (mulAtT d wo (i 0) (i 1)) (mulAt x w (i 0) (col0 (i 1))) := by
  rw [val_main_v18_apply, val_main_v12_apply, ref_gate, ref_sig, ref_back]
  exact mul_comm _ _

/-- The chain rule's two terms at a gate of reals are one product. -/
theorem gate_terms (d g u : ℝ) : (d : EReal) * u * sig1 g + g * (d * u) * (sig1 g * (1 - sig1 g)) = dGate d g u := by
  unfold dGate sig1
  rw [Ideal.logistic_coe]
  generalize (1 + Real.exp (-g))⁻¹ = s
  norm_cast
  ring

theorem mulAt_real {M K N : ℕ} (x : Shape.Idx ⟨2, ![M, K]⟩ → ℝ) (y : Shape.Idx ⟨2, ![K, N]⟩ → ℝ) (r : Fin M) (c : Fin N) :
    ∃ z : ℝ, mulAt (up x) (up y) r c = z :=
  ⟨_, sum_coe_mul Finset.univ _ _ (fun k => x (ix2 r k)) (fun k => y (ix2 k c)) (fun _ => rfl) fun _ => rfl⟩

theorem mulAtT_real {M K N : ℕ} (x : Shape.Idx ⟨2, ![M, K]⟩ → ℝ) (y : Shape.Idx ⟨2, ![N, K]⟩ → ℝ) (r : Fin M) (c : Fin N) :
    ∃ z : ℝ, mulAtT (up x) (up y) r c = z :=
  ⟨_, sum_coe_mul Finset.univ _ _ (fun k => x (ix2 r k)) (fun k => y (ix2 c k)) (fun _ => rfl) fun _ => rfl⟩

section
variable (xr : S8320x1024.Idx → ℝ) (wr : S1024x5632.Idx → ℝ) (wor : S2816x1024.Idx → ℝ) (dr : S8320x1024.Idx → ℝ)

theorem ref_dGate (i : S8320x2816.Idx) : val_main_v23 (F := Ideal) (up xr) (up wr) (up wor) (up dr) i
    = dGate (mulAtT (up dr) (up wor) (i 0) (i 1)) (mulAt (up xr) (up wr) (i 0) (col0 (i 1)))
        (mulAt (up xr) (up wr) (i 0) (col1 (i 1))) := by
  rw [val_main_v23_apply, val_main_v21_apply, val_main_v22_apply, val_main_v20_apply, val_main_v19_apply, val_main_v11_apply,
    ref_sig_rest, ref_sig, ref_gate, ref_up, ref_back]
  obtain ⟨g, eg⟩ := mulAt_real xr wr (i 0) (col0 (i 1))
  obtain ⟨u, eu⟩ := mulAt_real xr wr (i 0) (col1 (i 1))
  obtain ⟨d, ed⟩ := mulAtT_real dr wor (i 0) (i 1)
  rw [eg, eu, ed]
  exact gate_terms d g u

/-- The reference's gradient of the gates and ups, side by side. -/
theorem ref_units : val_main_v24 (F := Ideal) (up xr) (up wr) (up wor) (up dr) = dUnits (up xr) (up wr) (up wor) (up dr) := by
  funext i
  have hi : (i 1).val < 5632 := (i 1).isLt
  unfold val_main_v24
  by_cases hq : (i 1).val < 2816
  · refine (concatenate_pair_apply_left (s₁ := S8320x2816) (s₂ := S8320x2816) (1 : Fin S8320x5632.rank) _ _ _ i rfl
      (ix2 (i 0) (⟨(i 1).val, hq⟩ : Fin 2816) : S8320x2816.Idx) (fun b => match b with | ⟨0, _⟩ => rfl | ⟨1, _⟩ => rfl)).trans ?_
    refine (ref_dGate xr wr wor dr _).trans ?_
    unfold dUnits dUnit
    rw [dif_pos hq]
    rfl
  · refine (concatenate_pair_apply_right (s₁ := S8320x2816) (s₂ := S8320x2816) (1 : Fin S8320x5632.rank) _ _ _ i rfl rfl
      (ix2 (i 0) (⟨(i 1).val - 2816, by omega⟩ : Fin 2816) : S8320x2816.Idx)
      (fun b hb => match b, hb with | ⟨0, _⟩, _ => rfl | ⟨1, _⟩, hb => absurd rfl hb)
      (show (i 1).val - 2816 + 2816 = (i 1).val by omega)).trans ?_
    refine (ref_dUp (up xr) (up wr) (up wor) (up dr) _).trans ?_
    unfold dUnits dUnit
    rw [dif_neg hq]
    rfl

variable {x w wo d xr wr wor dr}
variable (hx : x = up xr) (hw : w = up wr) (ho : wo = up wor) (hd : d = up dr)
include hx hw ho hd

theorem ref_gIn : val_main_v26 (F := Ideal) x w wo d = gInArr x w wo d := by
  subst hx hw ho hd
  funext i
  rw [val_main_v26_apply, val_main_v25_apply, ref_units]
  exact sum_mulTAt (K := 8320) (dUnits (up xr) (up wr) (up wor) (up dr)) (up xr) (i 1) (i 0) _ fun k =>
    congrArg₂ (fun a b => dUnits (up xr) (up wr) (up wor) (up dr) a * up xr b) (Shape.idx_ext₂ rfl rfl) (Shape.idx_ext₂ rfl rfl)

theorem ref_dhn : val_main_v29 (F := Ideal) x w wo d = dhnArr x w wo d := by
  subst hx hw ho hd
  funext i
  rw [val_main_v29_apply, val_main_v27_apply, ref_units]
  exact sum_mulAtT (K := 5632) (dUnits (up xr) (up wr) (up wor) (up dr)) (up wr) (i 0) (i 1) _ fun k =>
    congrArg₂ (fun a b => dUnits (up xr) (up wr) (up wor) (up dr) a * up wr b) (Shape.idx_ext₂ rfl rfl) (Shape.idx_ext₂ rfl rfl)

end

end Attn.Feed
-- ==== Proof.ProjRun.lean ====
/-
  Every buffer of the input projection's program after its run: the three calls' arrays and the host operations' around them,
  folded from the arguments.
-/
module

public import proofs.«01_k».proof.Proof.Gen.ProjIdeal.Frame

@[expose] public section

noncomputable section

namespace Attn.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The program runs to the last boundary's contents. The proof is the frame's own, with every buffer kept in the result. -/
theorem run : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Attn.Proj
-- ==== Proof.ProjOrder.lean ====
/-
  The order in which the input projection's calls take the weight's columns: the gates, the recurrence's input, then q, k and v.
-/
module

public import proofs.«01_k».proof.Proof.Products

@[expose] public section

noncomputable section

namespace Attn.Proj

open Idealize.ShloMosaic

/-- Row blocks and column blocks of an array with the projection's 4608 columns. -/
abbrev Rows (n : ℕ) : Shape := ⟨2, ![n, 1024]⟩
abbrev Cols (n : ℕ) : Shape := ⟨2, ![8320, n]⟩

/-- The weight's column that a call's row is, and back. -/
def nat (p : Fin 4608) : Fin 4608 :=
  if h : p.val < 2048 then ⟨2560 + p.val, by omega⟩
  else if p.val < 3072 then ⟨p.val - 512, by omega⟩ else ⟨p.val - 3072, by omega⟩

def call (q : Fin 4608) : Fin 4608 :=
  if h : q.val < 1536 then ⟨q.val + 3072, by omega⟩
  else if h' : q.val < 2560 then ⟨q.val + 512, by omega⟩ else ⟨q.val - 2560, by omega⟩

theorem nat_val (p : Fin 4608) : (p.val < 2048 → (nat p).val = 2560 + p.val) ∧ (2048 ≤ p.val → p.val < 3072 → (nat p).val = p.val - 512)
    ∧ (3072 ≤ p.val → (nat p).val = p.val - 3072) := by
  unfold nat
  split_ifs <;> (try dsimp only) <;> omega

theorem call_val (q : Fin 4608) : (q.val < 1536 → (call q).val = q.val + 3072) ∧ (1536 ≤ q.val → q.val < 2560 → (call q).val = q.val + 512)
    ∧ (2560 ≤ q.val → (call q).val = q.val - 2560) := by
  unfold call
  split_ifs <;> (try dsimp only) <;> omega

/-- The rows of the three groups. -/
theorem nat_g (k : ℕ) (h : k < 2048) : nat ⟨k, by omega⟩ = ⟨2560 + k, by omega⟩ := Fin.ext ((nat_val ⟨k, by omega⟩).1 h)

theorem nat_u (k : ℕ) (h : k < 1024) : nat ⟨2048 + k, by omega⟩ = ⟨1536 + k, by omega⟩ :=
  Fin.ext (((nat_val ⟨2048 + k, by omega⟩).2.1 (Nat.le_add_right _ _) (show 2048 + k < 3072 by omega)).trans (show 2048 + k - 512 = 1536 + k by omega))

theorem nat_q (k : ℕ) (h : k < 1536) : nat ⟨3072 + k, by omega⟩ = ⟨0 + k, by omega⟩ :=
  Fin.ext (((nat_val ⟨3072 + k, by omega⟩).2.2 (Nat.le_add_right _ _)).trans (show 3072 + k - 3072 = 0 + k by omega))

theorem call_nat (p : Fin 4608) : call (nat p) = p := by
  have h := p.isLt
  obtain ⟨a0, a1, a2⟩ := nat_val p
  obtain ⟨b0, b1, b2⟩ := call_val (nat p)
  apply Fin.ext
  rcases (by omega : p.val < 2048 ∨ (2048 ≤ p.val ∧ p.val < 3072) ∨ 3072 ≤ p.val) with e | ⟨e, e'⟩ | e
  · have := a0 e; omega
  · have := a1 e e'; omega
  · have := a2 e; omega

theorem nat_call (q : Fin 4608) : nat (call q) = q := by
  have h := q.isLt
  obtain ⟨a0, a1, a2⟩ := call_val q
  obtain ⟨b0, b1, b2⟩ := nat_val (call q)
  apply Fin.ext
  rcases (by omega : q.val < 1536 ∨ (1536 ≤ q.val ∧ q.val < 2560) ∨ 2560 ≤ q.val) with e | ⟨e, e'⟩ | e
  · have := a0 e; omega
  · have := a1 e e'; omega
  · have := a2 e; omega

def order : Equiv.Perm (Fin 4608) := ⟨nat, call, call_nat, nat_call⟩

/-- The weight as the calls take it: a row per column, in the calls' order. -/
def wRows (w : Shape.Idx ⟨2, ![1024, 4608]⟩ → EReal) : (Rows 4608).Idx → EReal := fun i => w (ix2 (i 1) (nat (i 0)))

/-- Three pieces of 2048, 1024 and 1536 rows, one below the other, read in the piece that holds the row. -/
theorem three_rows {α : Type} (x0 : (Rows 2048).Idx → α) (x1 : (Rows 1024).Idx → α) (x2 : (Rows 1536).Idx → α)
    (h : Shape.Concatenates [Rows 2048, Rows 1024, Rows 1536] (Rows 4608) 0) (f : (Rows 4608).Idx → α)
    (e0 : ∀ (r : Fin 2048) (c : Fin 1024) (p : Fin 4608), p.val = r.val → x0 (ix2 r c) = f (ix2 p c))
    (e1 : ∀ (r : Fin 1024) (c : Fin 1024) (p : Fin 4608), p.val = 2048 + r.val → x1 (ix2 r c) = f (ix2 p c))
    (e2 : ∀ (r : Fin 1536) (c : Fin 1024) (p : Fin 4608), p.val = 3072 + r.val → x2 (ix2 r c) = f (ix2 p c)) :
    concatenate (Rows 4608) 0 [⟨Rows 2048, x0⟩, ⟨Rows 1024, x1⟩, ⟨Rows 1536, x2⟩] h = f := by
  funext i
  obtain ⟨p, c, rfl⟩ : ∃ (p : Fin 4608) (c : Fin 1024), i = ix2 p c := ⟨i 0, i 1, eq_ix2 i⟩
  by_cases h0 : p.val < 2048
  · refine (concatenate_apply_piece (0 : Fin (Rows 4608).rank) [⟨Rows 2048, x0⟩, ⟨Rows 1024, x1⟩, ⟨Rows 1536, x2⟩] h (ix2 p c) 0 (by simp) (Rows 2048) x0 rfl rfl 0 rfl
      (ix2 (⟨p.val, h0⟩ : Fin 2048) c) (fun b hb => ?_) (Nat.zero_add _)).trans (e0 _ c p rfl)
    match b with
    | ⟨0, _⟩ => exact absurd rfl hb
    | ⟨1, _⟩ => rfl
  · by_cases h1 : p.val < 3072
    · refine (concatenate_apply_piece (0 : Fin (Rows 4608).rank) [⟨Rows 2048, x0⟩, ⟨Rows 1024, x1⟩, ⟨Rows 1536, x2⟩] h (ix2 p c) 1 (by simp) (Rows 1024) x1 rfl rfl 2048 rfl
        (ix2 (⟨p.val - 2048, by omega⟩ : Fin 1024) c) (fun b hb => ?_) (show 2048 + (p.val - 2048) = p.val by omega)).trans
        (e1 _ c p (show p.val = 2048 + (p.val - 2048) by omega))
      match b with
      | ⟨0, _⟩ => exact absurd rfl hb
      | ⟨1, _⟩ => rfl
    · refine (concatenate_apply_piece (0 : Fin (Rows 4608).rank) [⟨Rows 2048, x0⟩, ⟨Rows 1024, x1⟩, ⟨Rows 1536, x2⟩] h (ix2 p c) 2 (by simp) (Rows 1536) x2 rfl rfl 3072 rfl
        (ix2 (⟨p.val - 3072, by omega⟩ : Fin 1536) c) (fun b hb => ?_) (show 3072 + (p.val - 3072) = p.val by omega)).trans
        (e2 _ c p (show p.val = 3072 + (p.val - 3072) by omega))
      match b with
      | ⟨0, _⟩ => exact absurd rfl hb
      | ⟨1, _⟩ => rfl

/-- The transposed weight's rows cut into the three groups and put into the calls' order. -/
theorem rows_in_order (w : Shape.Idx ⟨2, ![1024, 4608]⟩ → EReal) (ht : Shape.Transposes ⟨2, ![1024, 4608]⟩ [1, 0] (Rows 4608))
    (x0 : (Rows 2048).Idx → EReal) (x1 : (Rows 1024).Idx → EReal) (x2 : (Rows 1536).Idx → EReal)
    (s0 : (Rows 4608).Slices ![2560, 0] (Rows 2048)) (s1 : (Rows 4608).Slices ![1536, 0] (Rows 1024))
    (s2 : (Rows 4608).Slices ![0, 0] (Rows 1536))
    (e0 : x0 = extractStridedSlice (Rows 2048) ![2560, 0] (transpose (Rows 4608) [1, 0] w ht) s0)
    (e1 : x1 = extractStridedSlice (Rows 1024) ![1536, 0] (transpose (Rows 4608) [1, 0] w ht) s1)
    (e2 : x2 = extractStridedSlice (Rows 1536) ![0, 0] (transpose (Rows 4608) [1, 0] w ht) s2)
    (h : Shape.Concatenates [Rows 2048, Rows 1024, Rows 1536] (Rows 4608) 0) :
    concatenate (Rows 4608) 0 [⟨Rows 2048, x0⟩, ⟨Rows 1024, x1⟩, ⟨Rows 1536, x2⟩] h = wRows w := by
  subst e0 e1 e2
  have key : ∀ {n : ℕ} (o : ℕ) (hs : (Rows 4608).Slices ![o, 0] (Rows n)) (r : Fin n) (c : Fin 1024) (p : Fin 4608),
      (nat p).val = o + r.val → extractStridedSlice (Rows n) ![o, 0] (transpose (Rows 4608) [1, 0] w ht) hs (ix2 r c) = wRows w (ix2 p c) := by
    intro n o hs r c p e
    refine (extractStridedSlice_apply _ _ _ _ (ix2 (nat p) c : (Rows 4608).Idx) fun a => ?_).trans
      (transpose_apply [1, 0] _ _ _ (ix2 c (nat p)) fun b => match b with | ⟨0, _⟩ => rfl | ⟨1, _⟩ => rfl)
    match a with
    | ⟨0, _⟩ => exact e
    | ⟨1, _⟩ => exact (Nat.zero_add _).symm
  refine three_rows _ _ _ h _ (fun r c p e => key 2560 s0 r c p ?_) (fun r c p e => key 1536 s1 r c p ?_) (fun r c p e => key 0 s2 r c p ?_)
  · have := (nat_val p).1; omega
  · have := (nat_val p).2.1; omega
  · have := (nat_val p).2.2; omega

/-- Three pieces side by side, read in the piece that holds the column. -/
theorem three_cols {a b d : ℕ} {α : Type} (x0 : (Cols a).Idx → α) (x1 : (Cols b).Idx → α) (x2 : (Cols d).Idx → α) (hn : a + b + d = 4608)
    (h : Shape.Concatenates [Cols a, Cols b, Cols d] (Cols 4608) 1) (f : (Cols 4608).Idx → α)
    (e0 : ∀ (r : Fin 8320) (c : Fin a) (p : Fin 4608), p.val = c.val → x0 (ix2 r c) = f (ix2 r p))
    (e1 : ∀ (r : Fin 8320) (c : Fin b) (p : Fin 4608), p.val = a + c.val → x1 (ix2 r c) = f (ix2 r p))
    (e2 : ∀ (r : Fin 8320) (c : Fin d) (p : Fin 4608), p.val = a + b + c.val → x2 (ix2 r c) = f (ix2 r p)) :
    concatenate (Cols 4608) 1 [⟨Cols a, x0⟩, ⟨Cols b, x1⟩, ⟨Cols d, x2⟩] h = f := by
  funext i
  obtain ⟨r, p, rfl⟩ : ∃ (r : Fin 8320) (p : Fin 4608), i = ix2 r p := ⟨i 0, i 1, eq_ix2 i⟩
  by_cases h0 : p.val < a
  · refine (concatenate_apply_piece (1 : Fin (Cols 4608).rank) [⟨Cols a, x0⟩, ⟨Cols b, x1⟩, ⟨Cols d, x2⟩] h (ix2 r p) 0 (by simp) (Cols a) x0 rfl rfl 0 rfl
      (ix2 r (⟨p.val, h0⟩ : Fin a)) (fun j hj => ?_) (Nat.zero_add _)).trans (e0 r _ p rfl)
    match j with
    | ⟨0, _⟩ => rfl
    | ⟨1, _⟩ => exact absurd rfl hj
  · by_cases h1 : p.val < a + b
    · refine (concatenate_apply_piece (1 : Fin (Cols 4608).rank) [⟨Cols a, x0⟩, ⟨Cols b, x1⟩, ⟨Cols d, x2⟩] h (ix2 r p) 1 (by simp) (Cols b) x1 rfl rfl a rfl
        (ix2 r (⟨p.val - a, by omega⟩ : Fin b)) (fun j hj => ?_) (show a + (p.val - a) = p.val by omega)).trans
        (e1 r _ p (show p.val = a + (p.val - a) by omega))
      match j with
      | ⟨0, _⟩ => rfl
      | ⟨1, _⟩ => exact absurd rfl hj
    · refine (concatenate_apply_piece (1 : Fin (Cols 4608).rank) [⟨Cols a, x0⟩, ⟨Cols b, x1⟩, ⟨Cols d, x2⟩] h (ix2 r p) 2 (by simp) (Cols d) x2 rfl rfl (a + b) rfl
        (ix2 r (⟨p.val - (a + b), by omega⟩ : Fin d)) (fun j hj => ?_) (show a + b + (p.val - (a + b)) = p.val by omega)).trans
        (e2 r _ p (show p.val = a + b + (p.val - (a + b)) by omega))
      match j with
      | ⟨0, _⟩ => rfl
      | ⟨1, _⟩ => exact absurd rfl hj

/-- The gradients of q, k and v, of the recurrence's input and of the gates, as one array in the weight's order of columns. -/
def side (dq : (Cols 1536).Idx → EReal) (du : (Cols 1024).Idx → EReal) (dg : (Cols 2048).Idx → EReal) : (Cols 4608).Idx → EReal := fun i =>
  if h : (i 1).val < 1536 then dq (ix2 (i 0) ⟨(i 1).val, h⟩)
  else if h' : (i 1).val < 2560 then du (ix2 (i 0) ⟨(i 1).val - 1536, by omega⟩)
  else dg (ix2 (i 0) ⟨(i 1).val - 2560, by have : (i 1).val < 4608 := (i 1).isLt; omega⟩)

section
variable (dq : (Cols 1536).Idx → EReal) (du : (Cols 1024).Idx → EReal) (dg : (Cols 2048).Idx → EReal) (r : Fin 8320) (q : Fin 4608)

theorem side_q (k : Fin 1536) (e : q.val = k.val) : dq (ix2 r k) = side dq du dg (ix2 r q) := by
  have h : q.val < 1536 := by omega
  have u : k = ⟨q.val, h⟩ := Fin.ext e.symm
  have v : side dq du dg (ix2 r q) = dq (ix2 r ⟨q.val, h⟩) := dif_pos h
  exact (congrArg (fun k => dq (ix2 r k)) u).trans v.symm

theorem side_u (k : Fin 1024) (e : q.val = 1536 + k.val) : du (ix2 r k) = side dq du dg (ix2 r q) := by
  have u : k = ⟨q.val - 1536, by omega⟩ := Fin.ext (show k.val = q.val - 1536 by omega)
  exact (congrArg (fun k => du (ix2 r k)) u).trans ((dif_neg (show ¬ q.val < 1536 by omega)).trans (dif_pos (show q.val < 2560 by omega))).symm

theorem side_g (k : Fin 2048) (e : q.val = 2560 + k.val) : dg (ix2 r k) = side dq du dg (ix2 r q) := by
  have u : k = ⟨q.val - 2560, by omega⟩ := Fin.ext (show k.val = q.val - 2560 by omega)
  exact (congrArg (fun k => dg (ix2 r k)) u).trans ((dif_neg (show ¬ q.val < 1536 by omega)).trans (dif_neg (show ¬ q.val < 2560 by omega))).symm

end

/-- Side by side in the weight's order. -/
theorem cols_natural (dq : (Cols 1536).Idx → EReal) (du : (Cols 1024).Idx → EReal) (dg : (Cols 2048).Idx → EReal)
    (h : Shape.Concatenates [Cols 1536, Cols 1024, Cols 2048] (Cols 4608) 1) :
    concatenate (Cols 4608) 1 [⟨Cols 1536, dq⟩, ⟨Cols 1024, du⟩, ⟨Cols 2048, dg⟩] h = side dq du dg :=
  three_cols _ _ _ rfl h _ (fun r c p e => side_q dq du dg r p c e) (fun r c p e => side_u dq du dg r p c e)
    (fun r c p e => side_g dq du dg r p c e)

/-- Side by side in the calls' order. -/
theorem cols_in_order (dq : (Cols 1536).Idx → EReal) (du : (Cols 1024).Idx → EReal) (dg : (Cols 2048).Idx → EReal)
    (h : Shape.Concatenates [Cols 2048, Cols 1024, Cols 1536] (Cols 4608) 1) :
    concatenate (Cols 4608) 1 [⟨Cols 2048, dg⟩, ⟨Cols 1024, du⟩, ⟨Cols 1536, dq⟩] h = fun i => side dq du dg (ix2 (i 0) (nat (i 1))) :=
  three_cols _ _ _ rfl h _
    (fun r c p e => side_g dq du dg r (nat p) c (by have := (nat_val p).1; omega))
    (fun r c p e => side_u dq du dg r (nat p) c (by have := (nat_val p).2.1; omega))
    (fun r c p e => side_q dq du dg r (nat p) c (by have := (nat_val p).2.2; omega))

/-! ### The results, with the weight's columns in their own order -/

/-- A group of columns of the product. -/
def columns (o n : ℕ) (h : o + n ≤ 4608) (x : (Rows 8320).Idx → EReal) (w : Shape.Idx ⟨2, ![1024, 4608]⟩ → EReal) : (Cols n).Idx → EReal := fun i =>
  mulAt x w (i 0) ⟨o + (i 1).val, by have : (i 1).val < n := (i 1).isLt; omega⟩

/-- The weight's gradient and the input's. -/
def gArr (d : (Cols 4608).Idx → EReal) (x : (Rows 8320).Idx → EReal) : Shape.Idx ⟨2, ![1024, 4608]⟩ → EReal := fun i =>
  mulTAt d x (i 1) (i 0)
def dxnArr (d : (Cols 4608).Idx → EReal) (w : Shape.Idx ⟨2, ![1024, 4608]⟩ → EReal) : (Rows 8320).Idx → EReal := fun i =>
  mulAtT d w (i 0) (i 1)

/-- A call's row of the weight is the weight's column. -/
theorem mul_rows (x : (Rows 8320).Idx → EReal) (w : Shape.Idx ⟨2, ![1024, 4608]⟩ → EReal) (r : Fin 8320) (p q : Fin 4608) (h : nat p = q) :
    mulAtT x (wRows w) r p = mulAt x w r q := by
  subst h
  rfl

end Attn.Proj
-- ==== Proof.ProjArrays.lean ====
/-
  The arrays of the input projection's calls from the arrays they are called with: q, k and v, the weight's gradient and the
  input's.
-/
module

public import proofs.«01_k».proof.Proof.Gen.ProjIdeal.Frame
public import proofs.«01_k».proof.Proof.ProjOrder

@[expose] public section

noncomputable section

namespace Attn.Proj

open Cert.ProjIdeal Cert.ProjIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A column of q, k and v among the calls' columns. -/
def qRow (k : Fin 1536) : Fin 4608 := ⟨3072 + k.val, by omega⟩

theorem idx0_0 : ∀ t : Fin cfg0.N, win0_0.index t = ![t.val, 0] := (by decide +kernel : ∀ t : Fin grid0.N, win0_0.index t = ![t.val, 0])
theorem idx0_1 : ∀ t : Fin cfg0.N, win0_1.index t = ![2, 0] := (by decide +kernel : ∀ t : Fin grid0.N, win0_1.index t = ![2, 0])
theorem idx0_2 : ∀ t : Fin cfg0.N, win0_2.index t = ![t.val, 0] := (by decide +kernel : ∀ t : Fin grid0.N, win0_2.index t = ![t.val, 0])
theorem idx2_0 : ∀ t : Fin cfg2.N, win2_0.index t = ![t.val, 0] := (by decide +kernel : ∀ t : Fin grid2.N, win2_0.index t = ![t.val, 0])
theorem idx2_1 : ∀ t : Fin cfg2.N, win2_1.index t = ![0, 0] := (by decide +kernel : ∀ t : Fin grid2.N, win2_1.index t = ![0, 0])
theorem idx2_2 : ∀ t : Fin cfg2.N, win2_2.index t = ![t.val, 0] := (by decide +kernel : ∀ t : Fin grid2.N, win2_2.index t = ![t.val, 0])

theorem tile0 (x : FVec Ideal S2080x1024 .bf16) (w : FVec Ideal S1536x1024 .bf16) (y : S2080x1536.Idx) :
    k0_pay1 (F := Ideal) x w y = mulAtT x w (y 0) (y 1) := by
  unfold k0_pay1
  rw [shapeCast_self, shapeCast_self]
  exact matmul_nt rfl x w y

theorem qkv_array : (dat0 V c).arrAt 2 cfg0.N = fun i : S8320x1536.Idx =>
    mulAtT (V c main_v6 : S8320x1024.Idx → EReal) (V c main_v5 : S4608x1024.Idx → EReal) (i 0) (qRow (i 1)) := by
  refine (dat0 V c).arrAt_eq_of_covers 2 _ (by decide +kernel) fun t hf y => ?_
  blk_simp [idx0_2 t]
  rw [after0_2]
  frame_out
  refine (tile0 _ _ y).trans (mulAtT_congr (fun k => ?_) (fun k => ?_))
  · blk_ext [iblk0, idx0_0 t, idx0_2 t]
  · blk_ext [iblk0, idx0_1 t, idx0_2 t, qRow]

theorem tile2 (x : FVec Ideal S640x4608 .bf16) (w : FVec Ideal S4608x1024 .bf16) (y : S640x1024.Idx) :
    k2_pay1 (F := Ideal) x w y = mulAt x w (y 0) (y 1) := by
  unfold k2_pay1
  rw [shapeCast_self, shapeCast_self]
  exact matmul_nn rfl x w y

theorem dxn_array : (dat2 V c).arrAt 2 cfg2.N = fun i : S8320x1024.Idx =>
    mulAt (V c main_v9 : S8320x4608.Idx → EReal) (V c main_v5 : S4608x1024.Idx → EReal) (i 0) (i 1) := by
  refine (dat2 V c).arrAt_eq_of_covers 2 _ (by decide +kernel) fun t hf y => ?_
  blk_simp [idx2_2 t]
  rw [after2_2]
  frame_out
  refine (tile2 _ _ y).trans (mulAt_congr (fun k => ?_) (fun k => ?_))
  · blk_ext [iblk2, idx2_0 t, idx2_2 t]
  · blk_ext [iblk2, idx2_1 t, idx2_2 t]

/-! ### The weight's gradient: a tile's products summed over the stretches of rows, its rows left in the weight's own order -/

/-- The block of the result that the columns' block `n` goes to. -/
def back (n : ℕ) : ℕ := if n < 4 then n + 5 else if n < 6 then n - 1 else n - 6

theorem idx1_0 : ∀ t : Fin cfg1.N, win1_0.index t = ![t.val % 4, t.val / 4] := (by decide +kernel : ∀ t : Fin grid1.N, win1_0.index t = ![t.val % 4, t.val / 4])
theorem idx1_1 : ∀ t : Fin cfg1.N, win1_1.index t = ![t.val % 4, 0] := (by decide +kernel : ∀ t : Fin grid1.N, win1_1.index t = ![t.val % 4, 0])
theorem idx1_2 : ∀ t : Fin cfg1.N, win1_2.index t = ![back (t.val / 4), 0] := (by decide +kernel : ∀ t : Fin grid1.N, win1_2.index t = ![back (t.val / 4), 0])

theorem N1_lt (n : ℕ) (h : n < cfg1.N) : n < 36 := h

/-- The column that a row of a step's tile is the product with. -/
def row1 (n : ℕ) (h : n < cfg1.N) (r : Fin 512) : Fin 4608 := ⟨512 * (n / 4) + r.val, by have := N1_lt n h; omega⟩

theorem step1 (acc : FVec Ideal S512x1024 .f32) (x : FVec Ideal S2080x512 .bf16) (y : FVec Ideal S2080x1024 .bf16) (j : S512x1024.Idx) :
    k1_pay2 (F := Ideal) acc x y j = acc j + mulTAt x y (j 0) (j 1) := by
  unfold k1_pay2
  rw [shapeCast_self, shapeCast_self, shapeCast_self]
  exact congrArg (acc j + ·) (matmul_tn rfl x y j)

/-- The tile after its last step. -/
theorem last1 (n : ℕ) (h : n < cfg1.N) (e : n % 4 + 1 = 4) (j : S512x1024.Idx) :
    (outsAt1 V c n h).1 j = mulTAt (V c main_v9 : S8320x4608.Idx → EReal) (V c main_v6) (row1 n h (j 0)) (j 1) := by
  refine sum_rows (N := cfg1.N) (K := 8320) (M := 4608) (C := 1024) (P := 512) 4 2080 (by decide) (by decide) _ _ row1 ?_
    (fun n h => (outsAt1 V c n h).1) (fun n h => iblk1 V c 0 ⟨n, h⟩) (fun n h => iblk1 V c 1 ⟨n, h⟩) ?_ ?_ ?_ ?_ n h e j
  · intro n h r e
    refine Fin.ext ?_
    show 512 * ((n + 1) / 4) + r.val = 512 * (n / 4) + r.val
    have a : (n + 1) / 4 = n / 4 := by omega
    rw [a]
  · intro n h j e
    have e' : ¬n % 4 = 3 := by omega
    rw [outsAt1_A V c ⟨n, h⟩ e e']
    frame_out
    exact (step1 _ _ _ j).trans (zero_from j _)
  · intro n h j e
    by_cases e' : (n + 1) % 4 = 3
    · rw [outsAt1_C V c ⟨n + 1, h⟩ e e']
      frame_out
      exact step1 _ _ _ j
    · rw [outsAt1_B V c ⟨n + 1, h⟩ e e']
      frame_out
      exact step1 _ _ _ j
  · intro n h r k p e
    blk_ext [iblk1, idx1_0 ⟨n, h⟩, row1]
  · intro n h r k q e
    blk_ext [iblk1, idx1_1 ⟨n, h⟩]

/-- A column's block goes where its rows lie in the weight's own order. -/
theorem back_row (n : ℕ) (h : n < cfg1.N) (r : Fin 512) (q : Fin 4608) (e : q.val = back (n / 4) * 512 + r.val) : row1 n h r = call q := by
  have hn := N1_lt n h
  obtain ⟨b0, b1, b2⟩ := call_val q
  refine Fin.ext ?_
  show 512 * (n / 4) + r.val = _
  unfold back at e
  split_ifs at e <;> omega

theorem g_in_array : (dat1 V c).arrAt 2 cfg1.N = fun i : S4608x1024.Idx =>
    mulTAt (V c main_v9 : S8320x4608.Idx → EReal) (V c main_v6 : S8320x1024.Idx → EReal) (call (i 0)) (i 1) := by
  refine (dat1 V c).arrAt_eq_of_covers 2 _ (by decide +kernel) fun t hf j => ?_
  have e : t.val % 4 = 3 := (flush1_2 t).mp hf
  blk_simp [idx1_2 t]
  rw [after1_2]
  refine (last1 V c t.val t.isLt (by omega) j).trans (mulTAt_congr (fun k => ?_) (fun k => ?_))
  · refine congrArg (fun q : Fin 4608 => (V c main_v9 : S8320x4608.Idx → EReal) (ix2 k q)) (back_row t.val t.isLt (j 0) _ ?_)
    blk_simp [idx1_2 t]
  · blk_ext [idx1_2 t]

end Attn.Proj
-- ==== Proof.ProjTrace.lean ====
/-
  The input projection program's results from its arguments: the host operations before the calls, each call on what the
  earlier ones left, and the host operations after them.
-/
module

public import proofs.«01_k».proof.Proof.Gen.ProjIdeal.Frame
public import Idealize.ShloMosaic.Lib.StableHlo.RunRead
public import proofs.«01_k».proof.Proof.ProjArrays

@[expose] public section

noncomputable section

namespace Attn.Proj

open Cert.ProjIdeal Cert.ProjIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg) (c : Dev nD)

/-- The arguments: the projection's input, its weight, and the gradients of its three parts. -/
def xn : S8320x1024.Idx → EReal := m ((c : Thread nD τ).loc main_arg0)
def weight : S1024x4608.Idx → EReal := m ((c : Thread nD τ).loc main_arg1)
def dqkv : S8320x1536.Idx → EReal := m ((c : Thread nD τ).loc main_arg2)
def du : S8320x1024.Idx → EReal := m ((c : Thread nD τ).loc main_arg3)
def dgates : S8320x2048.Idx → EReal := m ((c : Thread nD τ).loc main_arg4)
def dproj : S8320x4608.Idx → EReal := side (dqkv m c) (du m c) (dgates m c)

/-! ### Each call's operands -/

theorem start_xn : V1 m ρ c main_v6 = xn m c := by
  after_reads_simp
  rfl
theorem start_rows : V1 m ρ c main_v5 = wRows (weight m c) := by
  after_reads_simp
  refine rows_in_order (weight m c) transposes_S1024x4608_S4608x1024_1_0 _ _ _ slices_S4608x1024_S2048x1024_2560_0
    slices_S4608x1024_S1024x1024_1536_0 slices_S4608x1024_S1536x1024_0_0 ?_ ?_ ?_ _
  · show StableHlo.upto hostOps0 (W0 m ρ c) 5 (Proc.tc.devRef main_v2) = _
    after_reads_simp; rfl
  · show StableHlo.upto hostOps0 (W0 m ρ c) 5 (Proc.tc.devRef main_v3) = _
    after_reads_simp; rfl
  · show StableHlo.upto hostOps0 (W0 m ρ c) 5 (Proc.tc.devRef main_v4) = _
    after_reads_simp; rfl

theorem dproj_at : V3 m ρ c main_v9 = fun i : S8320x4608.Idx => dproj m c (ix2 (i 0) (nat (i 1))) := by
  have e2 : W2 m ρ c (Proc.tc.devRef main_arg2) = dqkv m c := W2_args m ρ c main_arg2 (by decide)
  have e3 : W2 m ρ c (Proc.tc.devRef main_arg3) = du m c := W2_args m ρ c main_arg3 (by decide)
  have e4 : W2 m ρ c (Proc.tc.devRef main_arg4) = dgates m c := W2_args m ρ c main_arg4 (by decide)
  show StableHlo.after hostOps1 (W2 m ρ c) (Proc.tc.devRef main_v9) = _
  generalize W2 m ρ c = V at e2 e3 e4 ⊢
  after_reads_simp
  refine Eq.trans ?_ (cols_in_order (dqkv m c) (du m c) (dgates m c) concatenates_S8320x2048_S8320x1024_S8320x1536_S8320x4608_d1)
  rw [← e2, ← e3, ← e4]
  rfl

/-! ### The results after the calls -/

theorem qkv_at : W6 m ρ c (Proc.tc.devRef main_v7) = columns 0 1536 (by decide) (xn m c) (weight m c) := by
  refine (W6_of m ρ c main_v7 (by decide)).trans ((W5_of m ρ c main_v7 (by decide)).trans ((W4_of m ρ c main_v7 (by decide)).trans
    ((W3_of m ρ c main_v7 (by decide)).trans ((W2_arr m ρ c 2).trans ((qkv_array (V1 m ρ) c).trans ?_)))))
  rw [start_xn, start_rows]
  funext i
  exact mul_rows _ _ _ _ _ (nat_q (i 1).val (i 1).isLt)

theorem dxn_at : W6 m ρ c (Proc.tc.devRef main_v11) = dxnArr (dproj m c) (weight m c) := by
  refine (W6_of m ρ c main_v11 (by decide)).trans ((W5_arr m ρ c 2).trans ((dxn_array (V4 m ρ) c).trans ?_))
  rw [show V4 m ρ c main_v9 = _ from (W4_of m ρ c main_v9 (by decide)).trans (dproj_at m ρ c),
    show V4 m ρ c main_v5 = wRows (weight m c) from (W4_of m ρ c main_v5 (by decide)).trans ((W3_of m ρ c main_v5 (by decide)).trans
      ((W2_of m ρ c main_v5 (by decide)).trans (start_rows m ρ c)))]
  funext i
  exact Equiv.sum_comp order fun q => dproj m c (ix2 (i 0) q) * weight m c (ix2 (i 1) q)

theorem g_rows : W5 m ρ c (Proc.tc.devRef main_v10_0) = fun i : S4608x1024.Idx => gArr (dproj m c) (xn m c) (ix2 (i 1) (i 0)) := by
  refine (W5_of m ρ c main_v10_0 (by decide)).trans ((W4_arr m ρ c 2).trans ((g_in_array (V3 m ρ) c).trans ?_))
  rw [show V3 m ρ c main_v9 = _ from dproj_at m ρ c,
    show V3 m ρ c main_v6 = xn m c from (W3_of m ρ c main_v6 (by decide)).trans ((W2_of m ρ c main_v6 (by decide)).trans (start_xn m ρ c))]
  funext i
  exact (show _ = mulTAt (dproj m c) (xn m c) (nat (call (i 0))) (i 1) from rfl).trans
    (congrArg (fun q => mulTAt (dproj m c) (xn m c) q (i 1)) (nat_call (i 0)))

theorem g_at : W6 m ρ c (Proc.tc.devRef main_v12) = gArr (dproj m c) (xn m c) := by
  have e := g_rows m ρ c
  show StableHlo.after hostOps3 (W5 m ρ c) (Proc.tc.devRef main_v12) = _
  generalize W5 m ρ c = V at e ⊢
  after_reads_simp
  rw [e]
  funext i
  refine (transpose_apply [1, 0] _ _ _ (ix2 (i 1) (i 0)) (fun b => match b with | ⟨0, _⟩ => rfl | ⟨1, _⟩ => rfl)).trans ?_
  exact congrArg _ (eq_ix2 i).symm

end Attn.Proj
-- ==== Proof.ProjRef.lean ====
/-
  The input projection reference's results: the product's columns, and its derivative's two products.
-/
module

public import proofs.«01_k».proof.Proof.Gen.ProjRefIdeal.Read
public import proofs.«01_k».proof.Proof.ProjTrace
public import proofs.«01_k».proof.Proof.FeedRef

@[expose] public section

noncomputable section

namespace Attn.Proj

open Cert.ProjIdeal (S8320x1024 S1024x4608 S8320x1536 S8320x2048 S8320x4608)
open Idealize.ShloMosaic Cert.ProjRefIdeal.Read

variable (x : S8320x1024.Idx → EReal) (w : S1024x4608.Idx → EReal) (dq : S8320x1536.Idx → EReal) (du : S8320x1024.Idx → EReal)
  (dg : S8320x2048.Idx → EReal)

theorem ref_qkv : val_main_v1 (F := Ideal) x w = columns 0 1536 (by decide) x w := by
  funext i
  rw [val_main_v1_apply, val_main_v0_apply]
  unfold columns mulAt
  exact Finset.sum_congr rfl fun k _ => congrArg₂ (fun a b => x a * w b) (Shape.idx_ext₂ rfl rfl)
    (Shape.idx_ext₂ rfl (show (i 1).val = 0 + (i 1).val by omega))

theorem ref_side : val_main_v4 (F := Ideal) dq du dg = side dq du dg := cols_natural dq du dg _

theorem ref_g : val_main_v6 (F := Ideal) x dq du dg = gArr (side dq du dg) x := by
  funext i
  rw [val_main_v6_apply, val_main_v5_apply, ref_side]
  exact Feed.sum_mulTAt (K := 8320) (side dq du dg) x (i 1) (i 0) _ fun k =>
    congrArg₂ (fun a b => side dq du dg a * x b) (Shape.idx_ext₂ rfl rfl) (Shape.idx_ext₂ rfl rfl)

theorem ref_dxn : val_main_v8 (F := Ideal) w dq du dg = dxnArr (side dq du dg) w := by
  funext i
  rw [val_main_v8_apply]
  refine (val_main_v7_apply w dq du dg i).trans ?_
  rw [ref_side]
  exact Feed.sum_mulAtT (K := 4608) (side dq du dg) w (i 0) (i 1) _ fun k =>
    congrArg₂ (fun a b => side dq du dg a * w b) (Shape.idx_ext₂ rfl rfl) (Shape.idx_ext₂ rfl rfl)

end Attn.Proj
-- ==== Proof.ProjU.lean ====
/-
  The input projection's call for the recurrence's input: the program's result and its reference's are the same columns of
  the product.
-/
module

public import proofs.«01_k».proof.Proof.Gen.ProjUIdeal.Value
public import proofs.«01_k».proof.Proof.Gen.ProjURefIdeal.Read
public import Idealize.ShloMosaic.Lib.StableHlo.RunRead
public import proofs.«01_k».proof.Proof.ProjOrder

@[expose] public section

noncomputable section

namespace Attn.ProjU

open Attn.Proj Cert.ProjUIdeal Cert.ProjUIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (c : Dev nD)

/-- The arguments: the projection's input and its weight. -/
def xn : S8320x1024.Idx → EReal := m ((c : Thread nD τ).loc main_arg0)
def weight : S1024x4608.Idx → EReal := m ((c : Thread nD τ).loc main_arg1)

/-- A column of the recurrence's input among the calls' columns. -/
def uRow (k : Fin 1024) : Fin 4608 := ⟨2048 + k.val, by omega⟩

theorem start_xn : V m c main_v0 = xn m c := by
  after_reads_simp
  rfl
theorem start_rows : V m c main_v6 = wRows (weight m c) := by
  after_reads_simp
  refine rows_in_order (weight m c) transposes_S1024x4608_S4608x1024_1_0 _ _ _ slices_S4608x1024_S2048x1024_2560_0
    slices_S4608x1024_S1024x1024_1536_0 slices_S4608x1024_S1536x1024_0_0 ?_ ?_ ?_ _
  · show StableHlo.upto hostOps0 (fun b => m (c, b)) 6 (Proc.tc.devRef main_v3) = _
    after_reads_simp; rfl
  · show StableHlo.upto hostOps0 (fun b => m (c, b)) 6 (Proc.tc.devRef main_v4) = _
    after_reads_simp; rfl
  · show StableHlo.upto hostOps0 (fun b => m (c, b)) 6 (Proc.tc.devRef main_v5) = _
    after_reads_simp; rfl

theorem idx0_0 : ∀ t : Fin cfg0.N, win0_0.index t = ![t.val, 0] := (by decide +kernel : ∀ t : Fin grid0.N, win0_0.index t = ![t.val, 0])
theorem idx0_1 : ∀ t : Fin cfg0.N, win0_1.index t = ![2, 0] := (by decide +kernel : ∀ t : Fin grid0.N, win0_1.index t = ![2, 0])
theorem idx0_2 : ∀ t : Fin cfg0.N, win0_2.index t = ![t.val, 0] := (by decide +kernel : ∀ t : Fin grid0.N, win0_2.index t = ![t.val, 0])

theorem tile (x : FVec Ideal S2080x1024 .bf16) (w : FVec Ideal S1024x1024 .bf16) (y : S2080x1024.Idx) :
    k0_pay1 (F := Ideal) x w y = mulAtT x w (y 0) (y 1) := by
  unfold k0_pay1
  rw [shapeCast_self, shapeCast_self]
  exact matmul_nt rfl x w y

/-- The weight's block, which lies in the array whole. -/
theorem block_1 (t : Fin cfg0.N) (j : S1024x1024.Idx) : X0_1 m c t j = iblk m c 1 t (fun a => ⟨(j a).val,
    lt_of_lt_of_eq (j a).isLt (xsize0_1 t a).symm⟩) := by
  unfold X0_1 Pipeline.Window.fill
  exact dif_pos (moved0_1 t j)

theorem u_rows : (dats m 0 c).arrAt 2 cfg0.N = fun i : S8320x1024.Idx =>
    mulAtT (V m c main_v0 : S8320x1024.Idx → EReal) (V m c main_v6 : S4608x1024.Idx → EReal) (i 0) (uRow (i 1)) := by
  refine (dats m 0 c).arrAt_eq_of_covers 2 _ (by decide +kernel) fun t hf y => ?_
  blk_simp [idx0_2 t]
  rw [after0_2]
  unfold outsAt0
  frame_out
  refine (tile _ _ y).trans (mulAtT_congr (fun k => ?_) (fun k => ?_))
  · blk_ext [iblk, idx0_0 t, idx0_2 t]
  · refine (block_1 m c t _).trans ?_
    blk_ext [iblk, idx0_1 t, idx0_2 t, uRow]

theorem u_array : (dats m 0 c).arrAt 2 cfg0.N = columns 1536 1024 (by decide) (xn m c) (weight m c) := by
  rw [u_rows, start_xn, start_rows]
  funext i
  exact mul_rows _ _ _ _ _ (nat_u (i 1).val (i 1).isLt)

theorem ref_u (x : S8320x1024.Idx → EReal) (w : S1024x4608.Idx → EReal) :
    Cert.ProjURefIdeal.Read.val_main_v2 (F := Ideal) x w = columns 1536 1024 (by decide) x w := by
  funext i
  rw [Cert.ProjURefIdeal.Read.val_main_v2_apply, Cert.ProjURefIdeal.Read.val_main_v0_apply]
  unfold columns mulAt
  exact Finset.sum_congr rfl fun k _ => congrArg₂ (fun a b => x a * w b) (Shape.idx_ext₂ rfl rfl) (Shape.idx_ext₂ rfl rfl)

end Attn.ProjU
-- ==== Proof.ProjGates.lean ====
/-
  The input projection's call for the gates: the program's result and its reference's are the same columns of
  the product.
-/
module

public import proofs.«01_k».proof.Proof.Gen.ProjGatesIdeal.Value
public import proofs.«01_k».proof.Proof.Gen.ProjGatesRefIdeal.Read
public import Idealize.ShloMosaic.Lib.StableHlo.RunRead
public import proofs.«01_k».proof.Proof.ProjOrder

@[expose] public section

noncomputable section

namespace Attn.ProjGates

open Attn.Proj Cert.ProjGatesIdeal Cert.ProjGatesIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (c : Dev nD)

/-- The arguments: the projection's input and its weight. -/
def xn : S8320x1024.Idx → EReal := m ((c : Thread nD τ).loc main_arg0)
def weight : S1024x4608.Idx → EReal := m ((c : Thread nD τ).loc main_arg1)

/-- A column of the gates among the calls' columns. -/
def gRow (k : Fin 2048) : Fin 4608 := ⟨k.val, by omega⟩

theorem start_xn : V m c main_v0 = xn m c := by
  after_reads_simp
  rfl
theorem start_rows : V m c main_v6 = wRows (weight m c) := by
  after_reads_simp
  refine rows_in_order (weight m c) transposes_S1024x4608_S4608x1024_1_0 _ _ _ slices_S4608x1024_S2048x1024_2560_0
    slices_S4608x1024_S1024x1024_1536_0 slices_S4608x1024_S1536x1024_0_0 ?_ ?_ ?_ _
  · show StableHlo.upto hostOps0 (fun b => m (c, b)) 6 (Proc.tc.devRef main_v3) = _
    after_reads_simp; rfl
  · show StableHlo.upto hostOps0 (fun b => m (c, b)) 6 (Proc.tc.devRef main_v4) = _
    after_reads_simp; rfl
  · show StableHlo.upto hostOps0 (fun b => m (c, b)) 6 (Proc.tc.devRef main_v5) = _
    after_reads_simp; rfl

theorem idx0_0 : ∀ t : Fin cfg0.N, win0_0.index t = ![t.val / 2, 0] := (by decide +kernel : ∀ t : Fin grid0.N, win0_0.index t = ![t.val / 2, 0])
theorem idx0_1 : ∀ t : Fin cfg0.N, win0_1.index t = ![t.val % 2, 0] := (by decide +kernel : ∀ t : Fin grid0.N, win0_1.index t = ![t.val % 2, 0])
theorem idx0_2 : ∀ t : Fin cfg0.N, win0_2.index t = ![t.val / 2, t.val % 2] := (by decide +kernel : ∀ t : Fin grid0.N, win0_2.index t = ![t.val / 2, t.val % 2])

theorem tile (x : FVec Ideal S2080x1024 .bf16) (w : FVec Ideal S1024x1024 .bf16) (y : S2080x1024.Idx) :
    k0_pay1 (F := Ideal) x w y = mulAtT x w (y 0) (y 1) := by
  unfold k0_pay1
  rw [shapeCast_self, shapeCast_self]
  exact matmul_nt rfl x w y

/-- The weight's block, which lies in the array whole. -/
theorem block_1 (t : Fin cfg0.N) (j : S1024x1024.Idx) : X0_1 m c t j = iblk m c 1 t (fun a => ⟨(j a).val,
    lt_of_lt_of_eq (j a).isLt (xsize0_1 t a).symm⟩) := by
  unfold X0_1 Pipeline.Window.fill
  exact dif_pos (moved0_1 t j)

theorem gates_rows : (dats m 0 c).arrAt 2 cfg0.N = fun i : S8320x2048.Idx =>
    mulAtT (V m c main_v0 : S8320x1024.Idx → EReal) (V m c main_v6 : S4608x1024.Idx → EReal) (i 0) (gRow (i 1)) := by
  refine (dats m 0 c).arrAt_eq_of_covers 2 _ (by decide +kernel) fun t hf y => ?_
  blk_simp [idx0_2 t]
  rw [after0_2]
  unfold outsAt0
  frame_out
  refine (tile _ _ y).trans (mulAtT_congr (fun k => ?_) (fun k => ?_))
  · blk_ext [iblk, idx0_0 t, idx0_2 t]
  · refine (block_1 m c t _).trans ?_
    blk_ext [iblk, idx0_1 t, idx0_2 t, gRow]

theorem gates_array : (dats m 0 c).arrAt 2 cfg0.N = columns 2560 2048 (by decide) (xn m c) (weight m c) := by
  rw [gates_rows, start_xn, start_rows]
  funext i
  exact mul_rows _ _ _ _ _ (nat_g (i 1).val (i 1).isLt)

theorem ref_gates (x : S8320x1024.Idx → EReal) (w : S1024x4608.Idx → EReal) :
    Cert.ProjGatesRefIdeal.Read.val_main_v4 (F := Ideal) x w = columns 2560 2048 (by decide) x w := by
  funext i
  rw [Cert.ProjGatesRefIdeal.Read.val_main_v4_apply]
  refine (Cert.ProjGatesRefIdeal.Read.val_main_v3_apply (F := Ideal) x w i).trans ?_
  rw [Cert.ProjGatesRefIdeal.Read.val_main_v0_apply]
  unfold columns mulAt
  exact Finset.sum_congr rfl fun k _ => congrArg₂ (fun a b => x a * w b) (Shape.idx_ext₂ rfl rfl) (Shape.idx_ext₂ rfl rfl)

end Attn.ProjGates
-- ==== Proof.MixRun.lean ====
/-
  Every buffer of the program of the gated linear unit and the output projection after its run: the six calls' arrays and the
  host operations' around them, folded from the arguments.
-/
module

public import proofs.«01_k».proof.Proof.Gen.MixIdeal.Frame

@[expose] public section

noncomputable section

namespace Attn.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The program runs to the last boundary's contents. The proof is the frame's own, with every buffer kept in the result. -/
theorem run : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Attn.Mix
-- ==== Proof.MixArrays.lean ====
/-
  The arrays of the calls of the gated linear unit's projection and of the output projection from the arrays they are called
  with.
-/
module

public import proofs.«01_k».proof.Proof.Gen.MixIdeal.Frame
public import proofs.«01_k».proof.Proof.Norm

@[expose] public section

noncomputable section

namespace Attn.Mix

open Cert.MixIdeal Cert.MixIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx0_0 : ∀ t : Fin cfg0.N, win0_0.index t = ![t.val / 2, 0] := (by decide +kernel : ∀ t : Fin grid0.N, win0_0.index t = ![t.val / 2, 0])
theorem idx0_1 : ∀ t : Fin cfg0.N, win0_1.index t = ![t.val % 2, 0] := (by decide +kernel : ∀ t : Fin grid0.N, win0_1.index t = ![t.val % 2, 0])
theorem idx0_2 : ∀ t : Fin cfg0.N, win0_2.index t = ![t.val / 2, t.val % 2] := (by decide +kernel : ∀ t : Fin grid0.N, win0_2.index t = ![t.val / 2, t.val % 2])
theorem idx1_0 : ∀ t : Fin cfg1.N, win1_0.index t = ![t.val, 0] := (by decide +kernel : ∀ t : Fin grid1.N, win1_0.index t = ![t.val, 0])
theorem idx1_1 : ∀ t : Fin cfg1.N, win1_1.index t = ![0, 0] := (by decide +kernel : ∀ t : Fin grid1.N, win1_1.index t = ![0, 0])
theorem idx1_2 : ∀ t : Fin cfg1.N, win1_2.index t = ![t.val, 0] := (by decide +kernel : ∀ t : Fin grid1.N, win1_2.index t = ![t.val, 0])
theorem idx1_3 : ∀ t : Fin cfg1.N, win1_3.index t = ![0, 0] := (by decide +kernel : ∀ t : Fin grid1.N, win1_3.index t = ![0, 0])
theorem idx1_4 : ∀ t : Fin cfg1.N, win1_4.index t = ![t.val, 0] := (by decide +kernel : ∀ t : Fin grid1.N, win1_4.index t = ![t.val, 0])
theorem idx1_5 : ∀ t : Fin cfg1.N, win1_5.index t = ![t.val, 0] := (by decide +kernel : ∀ t : Fin grid1.N, win1_5.index t = ![t.val, 0])
theorem idx2_0 : ∀ t : Fin cfg2.N, win2_0.index t = ![t.val, 0] := (by decide +kernel : ∀ t : Fin grid2.N, win2_0.index t = ![t.val, 0])
theorem idx2_1 : ∀ t : Fin cfg2.N, win2_1.index t = ![0, 0] := (by decide +kernel : ∀ t : Fin grid2.N, win2_1.index t = ![0, 0])
theorem idx2_2 : ∀ t : Fin cfg2.N, win2_2.index t = ![t.val, 0] := (by decide +kernel : ∀ t : Fin grid2.N, win2_2.index t = ![t.val, 0])
theorem idx4_0 : ∀ t : Fin cfg4.N, win4_0.index t = ![t.val, 0] := (by decide +kernel : ∀ t : Fin grid4.N, win4_0.index t = ![t.val, 0])
theorem idx4_1 : ∀ t : Fin cfg4.N, win4_1.index t = ![0, 0] := (by decide +kernel : ∀ t : Fin grid4.N, win4_1.index t = ![0, 0])
theorem idx4_2 : ∀ t : Fin cfg4.N, win4_2.index t = ![t.val, 0] := (by decide +kernel : ∀ t : Fin grid4.N, win4_2.index t = ![t.val, 0])

theorem tile0 (x : FVec Ideal S2080x1024 .bf16) (w : FVec Ideal S1024x1024 .bf16) (y : S2080x1024.Idx) :
    k0_pay1 (F := Ideal) x w y = mulAtT x w (y 0) (y 1) := by
  unfold k0_pay1
  rw [shapeCast_self, shapeCast_self]
  exact matmul_nt rfl x w y

theorem zab_array : (dat0 V c).arrAt 2 cfg0.N = fun i : S8320x2048.Idx =>
    mulAtT (V c main_v3 : S8320x1024.Idx → EReal) (V c main_v1 : S2048x1024.Idx → EReal) (i 0) (i 1) := by
  refine (dat0 V c).arrAt_eq_of_covers 2 _ (by decide +kernel) fun t hf y => ?_
  blk_simp [idx0_2 t]
  rw [after0_2]
  frame_out
  refine (tile0 _ _ y).trans (mulAtT_congr (fun k => ?_) (fun k => ?_))
  · blk_ext [iblk0, idx0_0 t, idx0_2 t]
  · blk_ext [iblk0, idx0_1 t, idx0_2 t]

/-! ### The output projection, added onto the layer's input, and the sum's norm -/

def outOf (x : S8320x1024.Idx → EReal) (w : S1024x1024.Idx → EReal) (h : S8320x1024.Idx → EReal) : S8320x1024.Idx → EReal := fun i =>
  h i + mulAt x w (i 0) (i 1)
def normOf (h : S8320x1024.Idx → EReal) (g : S1x1024.Idx → EReal) : S8320x1024.Idx → EReal := fun i =>
  normAt (fun k => h (ix2 (i 0) k)) (g (ix2 (0 : Fin 1) (i 1))) (i 1)

theorem tile1 (x : FVec Ideal S1040x1024 .bf16) (w : FVec Ideal S1024x1024 .bf16) (h : FVec Ideal S1040x1024 .f32) (y : S1040x1024.Idx) :
    k1_pay1 (F := Ideal) x w h y = h y + mulAt x w (y 0) (y 1) := by
  unfold k1_pay1
  rw [shapeCast_self, shapeCast_self]
  exact congrArg (h y + ·) (matmul_nn rfl x w y)

theorem out_array : (dat1 V c).arrAt 4 cfg1.N = outOf (V c main_v5) (V c main_v2) (V c main_arg5) := by
  refine (dat1 V c).arrAt_eq_of_covers 4 _ (by decide +kernel) fun t hf y => ?_
  blk_simp [idx1_4 t]
  rw [after1_4]
  frame_out
  refine (tile1 _ _ _ y).trans (congrArg₂ (· + ·) ?_ (mulAt_congr (fun k => ?_) (fun k => ?_)))
  · blk_ext [iblk1, idx1_2 t, idx1_4 t]
  · blk_ext [iblk1, idx1_0 t, idx1_4 t]
  · blk_ext [iblk1, idx1_1 t, idx1_4 t]

theorem tile1_norm (x : FVec Ideal S1040x1024 .bf16) (w : FVec Ideal S1024x1024 .bf16) (h : FVec Ideal S1040x1024 .f32)
    (g : FVec Ideal S1x1024 .f32) (y : S1040x1024.Idx) :
    k1_pay2 (F := Ideal) x w h g y = normAt (fun k => h (ix2 (y 0) k) + mulAt x w (y 0) k) (g (ix2 (0 : Fin 1) (y 1))) (y 1) := by
  obtain ⟨r, q, rfl⟩ : ∃ (r : Fin 1040) (q : Fin 1024), y = ix2 r q := ⟨y 0, y 1, eq_ix2 y⟩
  have s : shapeCast S1040x1 (multiReduction (F := Ideal) (φ := .f32) .add [1] S1040 (mulf (k1_pay1 (F := Ideal) x w h) (k1_pay1 (F := Ideal) x w h))
      0x00000000#32 reduces_S1040x1024_S1040 (.inl rfl) rfl) shapeCasts_S1040_S1040x1 (ix2 r (0 : Fin 1))
      = ∑ k : Fin 1024, (h (ix2 r k) + mulAt x w r k) * (h (ix2 r k) + mulAt x w r k) := by
    refine (shapeCast_apply _ _ _ (ix1 r) (by
      rw [Shape.rowMajor_val_two, Shape.rowMajor_val_one]
      show r.val = r.val * 1 + 0; omega)).trans ?_
    refine (Ideal.multiReduction_add_single _ _ _ _ _ _).trans ?_
    refine Finset.sum_congr rfl fun k _ => ?_
    have e : k1_pay1 (F := Ideal) x w h (reduces_S1040x1024_S1040.lift (ix1 r) k) = h (ix2 r k) + mulAt x w r k :=
      (congrArg _ (Shape.idx_ext₂ rfl rfl : reduces_S1040x1024_S1040.lift (ix1 r) k = ix2 r k)).trans (tile1 x w h (ix2 r k))
    exact congrArg₂ (· * ·) e e
  unfold k1_pay2
  refine congrArg₂ (· * ·) (congrArg₂ (· * ·) (tile1 x w h _) ?_) (broadcastTo_apply _ _ _ (ix2 (0 : Fin 1) q) fun a => match a with
    | ⟨0, _⟩ => rfl
    | ⟨1, _⟩ => rfl)
  refine (broadcastTo_apply _ _ _ (ix2 r (0 : Fin 1)) fun a => match a with
    | ⟨0, _⟩ => rfl
    | ⟨1, _⟩ => rfl).trans ?_
  exact congrArg (fun z => Ideal.rsqrt (Ideal.div z _ + _)) s

theorem norm_array : (dat1 V c).arrAt 5 cfg1.N = normOf (outOf (V c main_v5) (V c main_v2) (V c main_arg5)) (V c main_arg6) := by
  refine (dat1 V c).arrAt_eq_of_covers 5 _ (by decide +kernel) fun t hf y => ?_
  blk_simp [idx1_5 t]
  rw [after1_5]
  frame_out
  refine (tile1_norm _ _ _ _ y).trans (normAt_congr (fun q => congrArg₂ (· + ·) ?_ (mulAt_congr (fun k => ?_) (fun k => ?_))) ?_ ?_)
  · blk_ext [iblk1, idx1_2 t, idx1_5 t]
  · blk_ext [iblk1, idx1_0 t, idx1_5 t]
  · blk_ext [iblk1, idx1_1 t, idx1_5 t]
  · blk_ext [iblk1, idx1_3 t, idx1_5 t]
  · refine Fin.ext ?_
    blk_simp [idx1_5 t]

/-! ### The two input gradients -/

theorem tile2 (x : FVec Ideal S2080x1024 .bf16) (w : FVec Ideal S1024x1024 .bf16) (y : S2080x1024.Idx) :
    k2_pay1 (F := Ideal) x w y = mulAtT x w (y 0) (y 1) := by
  unfold k2_pay1
  rw [shapeCast_self, shapeCast_self]
  exact matmul_nt rfl x w y

theorem dmerged_array : (dat2 V c).arrAt 2 cfg2.N = fun i : S8320x1024.Idx =>
    mulAtT (V c main_v6 : S8320x1024.Idx → EReal) (V c main_v2 : S1024x1024.Idx → EReal) (i 0) (i 1) := by
  refine (dat2 V c).arrAt_eq_of_covers 2 _ (by decide +kernel) fun t hf y => ?_
  blk_simp [idx2_2 t]
  rw [after2_2]
  frame_out
  refine (tile2 _ _ y).trans (mulAtT_congr (fun k => ?_) (fun k => ?_))
  · blk_ext [iblk2, idx2_0 t, idx2_2 t]
  · blk_ext [iblk2, idx2_1 t, idx2_2 t]

theorem tile4 (x : FVec Ideal S1040x2048 .bf16) (w : FVec Ideal S2048x1024 .bf16) (y : S1040x1024.Idx) :
    k4_pay1 (F := Ideal) x w y = mulAt x w (y 0) (y 1) := by
  unfold k4_pay1
  rw [shapeCast_self, shapeCast_self]
  exact matmul_nn rfl x w y

theorem dz_array : (dat4 V c).arrAt 2 cfg4.N = fun i : S8320x1024.Idx =>
    mulAt (V c main_v4 : S8320x2048.Idx → EReal) (V c main_v1 : S2048x1024.Idx → EReal) (i 0) (i 1) := by
  refine (dat4 V c).arrAt_eq_of_covers 2 _ (by decide +kernel) fun t hf y => ?_
  blk_simp [idx4_2 t]
  rw [after4_2]
  frame_out
  refine (tile4 _ _ y).trans (mulAt_congr (fun k => ?_) (fun k => ?_))
  · blk_ext [iblk4, idx4_0 t, idx4_2 t]
  · blk_ext [iblk4, idx4_1 t, idx4_2 t]

/-! ### The two weight gradients: a tile's products summed over the stretches of rows -/

theorem idx3_0 : ∀ t : Fin cfg3.N, win3_0.index t = ![t.val % 4, t.val / 4] := (by decide +kernel : ∀ t : Fin grid3.N, win3_0.index t = ![t.val % 4, t.val / 4])
theorem idx3_1 : ∀ t : Fin cfg3.N, win3_1.index t = ![t.val % 4, 0] := (by decide +kernel : ∀ t : Fin grid3.N, win3_1.index t = ![t.val % 4, 0])
theorem idx3_2 : ∀ t : Fin cfg3.N, win3_2.index t = ![t.val / 4, 0] := (by decide +kernel : ∀ t : Fin grid3.N, win3_2.index t = ![t.val / 4, 0])

theorem N3_lt (n : ℕ) (h : n < cfg3.N) : n < 4 := h

/-- The row of the result that a row of a step's tile is. -/
def row3 (n : ℕ) (h : n < cfg3.N) (r : Fin 1024) : Fin 1024 := ⟨1024 * (n / 4) + r.val, by have := N3_lt n h; omega⟩

theorem step3 (acc : FVec Ideal S1024x1024 .f32) (x : FVec Ideal S2080x1024 .bf16) (y : FVec Ideal S2080x1024 .bf16) (j : S1024x1024.Idx) :
    k3_pay2 (F := Ideal) acc x y j = acc j + mulTAt x y (j 0) (j 1) := by
  unfold k3_pay2
  rw [shapeCast_self, shapeCast_self, shapeCast_self]
  exact congrArg (acc j + ·) (matmul_tn rfl x y j)

/-- The tile after its last step. -/
theorem last3 (n : ℕ) (h : n < cfg3.N) (e : n % 4 + 1 = 4) (j : S1024x1024.Idx) :
    (outsAt3 V c n h).1 j = mulTAt (V c main_v5 : S8320x1024.Idx → EReal) (V c main_v6) (row3 n h (j 0)) (j 1) := by
  refine sum_rows (N := cfg3.N) (K := 8320) (M := 1024) (C := 1024) (P := 1024) 4 2080 (by decide) (by decide) _ _ row3 ?_
    (fun n h => (outsAt3 V c n h).1) (fun n h => iblk3 V c 0 ⟨n, h⟩) (fun n h => iblk3 V c 1 ⟨n, h⟩) ?_ ?_ ?_ ?_ n h e j
  · intro n h r e
    refine Fin.ext ?_
    show 1024 * ((n + 1) / 4) + r.val = 1024 * (n / 4) + r.val
    have a : (n + 1) / 4 = n / 4 := by omega
    rw [a]
  · intro n h j e
    have e' : ¬n % 4 = 3 := by omega
    rw [outsAt3_A V c ⟨n, h⟩ e e']
    frame_out
    exact (step3 _ _ _ j).trans (zero_from j _)
  · intro n h j e
    by_cases e' : (n + 1) % 4 = 3
    · rw [outsAt3_C V c ⟨n + 1, h⟩ e e']
      frame_out
      exact step3 _ _ _ j
    · rw [outsAt3_B V c ⟨n + 1, h⟩ e e']
      frame_out
      exact step3 _ _ _ j
  · intro n h r k p e
    blk_ext [iblk3, idx3_0 ⟨n, h⟩, row3]
  · intro n h r k q e
    blk_ext [iblk3, idx3_1 ⟨n, h⟩]

theorem g_out_array : (dat3 V c).arrAt 2 cfg3.N = fun i : S1024x1024.Idx =>
    mulTAt (V c main_v5 : S8320x1024.Idx → EReal) (V c main_v6 : S8320x1024.Idx → EReal) (i 0) (i 1) := by
  refine (dat3 V c).arrAt_eq_of_covers 2 _ (by decide +kernel) fun t hf j => ?_
  have e : t.val % 4 = 3 := (flush3_2 t).mp hf
  blk_simp [idx3_2 t]
  rw [after3_2]
  refine (last3 V c t.val t.isLt (by omega) j).trans (mulTAt_congr (fun k => ?_) (fun k => ?_))
  · blk_ext [row3, idx3_2 t]
  · blk_ext [idx3_2 t]

theorem idx5_0 : ∀ t : Fin cfg5.N, win5_0.index t = ![t.val % 4, t.val / 4] := (by decide +kernel : ∀ t : Fin grid5.N, win5_0.index t = ![t.val % 4, t.val / 4])
theorem idx5_1 : ∀ t : Fin cfg5.N, win5_1.index t = ![t.val % 4, 0] := (by decide +kernel : ∀ t : Fin grid5.N, win5_1.index t = ![t.val % 4, 0])
theorem idx5_2 : ∀ t : Fin cfg5.N, win5_2.index t = ![t.val / 4, 0] := (by decide +kernel : ∀ t : Fin grid5.N, win5_2.index t = ![t.val / 4, 0])

theorem N5_lt (n : ℕ) (h : n < cfg5.N) : n < 8 := h

/-- The row of the result that a row of a step's tile is. -/
def row5 (n : ℕ) (h : n < cfg5.N) (r : Fin 1024) : Fin 2048 := ⟨1024 * (n / 4) + r.val, by have := N5_lt n h; omega⟩

theorem step5 (acc : FVec Ideal S1024x1024 .f32) (x : FVec Ideal S2080x1024 .bf16) (y : FVec Ideal S2080x1024 .bf16) (j : S1024x1024.Idx) :
    k5_pay2 (F := Ideal) acc x y j = acc j + mulTAt x y (j 0) (j 1) := by
  unfold k5_pay2
  rw [shapeCast_self, shapeCast_self, shapeCast_self]
  exact congrArg (acc j + ·) (matmul_tn rfl x y j)

/-- The tile after its last step. -/
theorem last5 (n : ℕ) (h : n < cfg5.N) (e : n % 4 + 1 = 4) (j : S1024x1024.Idx) :
    (outsAt5 V c n h).1 j = mulTAt (V c main_v4 : S8320x2048.Idx → EReal) (V c main_v3) (row5 n h (j 0)) (j 1) := by
  refine sum_rows (N := cfg5.N) (K := 8320) (M := 2048) (C := 1024) (P := 1024) 4 2080 (by decide) (by decide) _ _ row5 ?_
    (fun n h => (outsAt5 V c n h).1) (fun n h => iblk5 V c 0 ⟨n, h⟩) (fun n h => iblk5 V c 1 ⟨n, h⟩) ?_ ?_ ?_ ?_ n h e j
  · intro n h r e
    refine Fin.ext ?_
    show 1024 * ((n + 1) / 4) + r.val = 1024 * (n / 4) + r.val
    have a : (n + 1) / 4 = n / 4 := by omega
    rw [a]
  · intro n h j e
    have e' : ¬n % 4 = 3 := by omega
    rw [outsAt5_A V c ⟨n, h⟩ e e']
    frame_out
    exact (step5 _ _ _ j).trans (zero_from j _)
  · intro n h j e
    by_cases e' : (n + 1) % 4 = 3
    · rw [outsAt5_C V c ⟨n + 1, h⟩ e e']
      frame_out
      exact step5 _ _ _ j
    · rw [outsAt5_B V c ⟨n + 1, h⟩ e e']
      frame_out
      exact step5 _ _ _ j
  · intro n h r k p e
    blk_ext [iblk5, idx5_0 ⟨n, h⟩, row5]
  · intro n h r k q e
    blk_ext [iblk5, idx5_1 ⟨n, h⟩]

theorem g_glu_array : (dat5 V c).arrAt 2 cfg5.N = fun i : S2048x1024.Idx =>
    mulTAt (V c main_v4 : S8320x2048.Idx → EReal) (V c main_v3 : S8320x1024.Idx → EReal) (i 0) (i 1) := by
  refine (dat5 V c).arrAt_eq_of_covers 2 _ (by decide +kernel) fun t hf j => ?_
  have e : t.val % 4 = 3 := (flush5_2 t).mp hf
  blk_simp [idx5_2 t]
  rw [after5_2]
  refine (last5 V c t.val t.isLt (by omega) j).trans (mulTAt_congr (fun k => ?_) (fun k => ?_))
  · blk_ext [row5, idx5_2 t]
  · blk_ext [idx5_2 t]

end Attn.Mix
-- ==== Proof.MixTrace.lean ====
/-
  The results of the program of the gated linear unit and the output projection from its arguments: the host operations before
  the calls, each call on the buffers left to it, and the host operation after them.
-/
module

public import proofs.«01_k».proof.Proof.Gen.MixIdeal.Frame
public import Idealize.ShloMosaic.Lib.StableHlo.RunRead
public import proofs.«01_k».proof.Proof.MixArrays

@[expose] public section

noncomputable section

namespace Attn.Mix

open Cert.MixIdeal Cert.MixIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg) (c : Dev nD)

/-- The arguments: the gated linear unit's input, its weight and its product's gradient; the output projection's input, its
    weight, what it is added onto, the gain of the sum's norm, and the sum's gradient. -/
def z : S8320x1024.Idx → EReal := m ((c : Thread nD τ).loc main_arg0)
def wGlu : S1024x2048.Idx → EReal := m ((c : Thread nD τ).loc main_arg1)
def dzab : S8320x2048.Idx → EReal := m ((c : Thread nD τ).loc main_arg2)
def merged : S8320x1024.Idx → EReal := m ((c : Thread nD τ).loc main_arg3)
def wOut : S1024x1024.Idx → EReal := m ((c : Thread nD τ).loc main_arg4)
def res : S8320x1024.Idx → EReal := m ((c : Thread nD τ).loc main_arg5)
def gain : S1x1024.Idx → EReal := m ((c : Thread nD τ).loc main_arg6)
def dh : S8320x1024.Idx → EReal := m ((c : Thread nD τ).loc main_arg7)

/-- The results that are one product each. -/
def zabArr (z : S8320x1024.Idx → EReal) (w : S1024x2048.Idx → EReal) : S8320x2048.Idx → EReal := fun i => mulAt z w (i 0) (i 1)
def dmergedArr (d : S8320x1024.Idx → EReal) (w : S1024x1024.Idx → EReal) : S8320x1024.Idx → EReal := fun i => mulAtT d w (i 0) (i 1)
def gOutArr (x d : S8320x1024.Idx → EReal) : S1024x1024.Idx → EReal := fun i => mulTAt x d (i 0) (i 1)
def dzArr (d : S8320x2048.Idx → EReal) (w : S1024x2048.Idx → EReal) : S8320x1024.Idx → EReal := fun i => mulAtT d w (i 0) (i 1)
def gGluArr (d : S8320x2048.Idx → EReal) (z : S8320x1024.Idx → EReal) : S1024x2048.Idx → EReal := fun i => mulTAt d z (i 1) (i 0)

/-! ### Each call's operands -/

/-- The weight with its rows and columns exchanged. -/
def turned (w : S1024x2048.Idx → EReal) : S2048x1024.Idx → EReal := fun i => w (ix2 (i 1) (i 0))

theorem start_wt : V1 m ρ c main_v1 = turned (wGlu m c) := by
  after_reads_simp
  funext i
  exact (transpose_apply [1, 0] _ _ i (ix2 (i 1) (i 0)) (fun b => match b with | ⟨0, _⟩ => rfl | ⟨1, _⟩ => rfl))
theorem start_w : V1 m ρ c main_v2 = wOut m c := by
  after_reads_simp
  rfl
theorem start_z : V1 m ρ c main_v3 = z m c := by
  after_reads_simp
  rfl
theorem start_dzab : V1 m ρ c main_v4 = dzab m c := by
  after_reads_simp
  rfl
theorem start_merged : V1 m ρ c main_v5 = merged m c := by
  after_reads_simp
  rfl
theorem start_dh : V1 m ρ c main_v6 = dh m c := by
  after_reads_simp
  rfl

/-! ### The results after the calls -/

theorem zab_at : W8 m ρ c (Proc.tc.devRef main_v7) = zabArr (z m c) (wGlu m c) := by
  refine (W8_of m ρ c main_v7 (by decide)).trans ((W7_of m ρ c main_v7 (by decide)).trans ((W6_of m ρ c main_v7 (by decide)).trans
    ((W5_of m ρ c main_v7 (by decide)).trans ((W4_of m ρ c main_v7 (by decide)).trans ((W3_of m ρ c main_v7 (by decide)).trans
    ((W2_arr m ρ c 2).trans ((zab_array (V1 m ρ) c).trans ?_)))))))
  rw [start_z, start_wt]
  rfl

theorem out_operands : outOf (V2 m ρ c main_v5) (V2 m ρ c main_v2) (V2 m ρ c main_arg5) = outOf (merged m c) (wOut m c) (res m c) := by
  rw [show V2 m ρ c main_v5 = merged m c from (W2_of m ρ c main_v5 (by decide)).trans (start_merged m ρ c),
    show V2 m ρ c main_v2 = wOut m c from (W2_of m ρ c main_v2 (by decide)).trans (start_w m ρ c),
    show V2 m ρ c main_arg5 = res m c from W2_args m ρ c main_arg5 (by decide)]

theorem h_at : W8 m ρ c (Proc.tc.devRef main_v8_0) = outOf (merged m c) (wOut m c) (res m c) :=
  (W8_of m ρ c main_v8_0 (by decide)).trans ((W7_of m ρ c main_v8_0 (by decide)).trans ((W6_of m ρ c main_v8_0 (by decide)).trans
    ((W5_of m ρ c main_v8_0 (by decide)).trans ((W4_of m ρ c main_v8_0 (by decide)).trans ((W3_arr m ρ c 4).trans
    ((out_array (V2 m ρ) c).trans (out_operands m ρ c)))))))

theorem hn_at : W8 m ρ c (Proc.tc.devRef main_v8_1) = normOf (outOf (merged m c) (wOut m c) (res m c)) (gain m c) := by
  refine (W8_of m ρ c main_v8_1 (by decide)).trans ((W7_of m ρ c main_v8_1 (by decide)).trans ((W6_of m ρ c main_v8_1 (by decide)).trans
    ((W5_of m ρ c main_v8_1 (by decide)).trans ((W4_of m ρ c main_v8_1 (by decide)).trans ((W3_arr m ρ c 5).trans
    ((norm_array (V2 m ρ) c).trans ?_))))))
  rw [out_operands, show V2 m ρ c main_arg6 = gain m c from W2_args m ρ c main_arg6 (by decide)]

theorem dmerged_at : W8 m ρ c (Proc.tc.devRef main_v9) = dmergedArr (dh m c) (wOut m c) := by
  refine (W8_of m ρ c main_v9 (by decide)).trans ((W7_of m ρ c main_v9 (by decide)).trans ((W6_of m ρ c main_v9 (by decide)).trans
    ((W5_of m ρ c main_v9 (by decide)).trans ((W4_arr m ρ c 2).trans ((dmerged_array (V3 m ρ) c).trans ?_)))))
  rw [show V3 m ρ c main_v6 = dh m c from (W3_of m ρ c main_v6 (by decide)).trans ((W2_of m ρ c main_v6 (by decide)).trans (start_dh m ρ c)),
    show V3 m ρ c main_v2 = wOut m c from (W3_of m ρ c main_v2 (by decide)).trans ((W2_of m ρ c main_v2 (by decide)).trans (start_w m ρ c))]
  rfl

theorem gOut_at : W8 m ρ c (Proc.tc.devRef main_v10_0) = gOutArr (merged m c) (dh m c) := by
  refine (W8_of m ρ c main_v10_0 (by decide)).trans ((W7_of m ρ c main_v10_0 (by decide)).trans ((W6_of m ρ c main_v10_0 (by decide)).trans
    ((W5_arr m ρ c 2).trans ((g_out_array (V4 m ρ) c).trans ?_))))
  rw [show V4 m ρ c main_v5 = merged m c from (W4_of m ρ c main_v5 (by decide)).trans ((W3_of m ρ c main_v5 (by decide)).trans
      ((W2_of m ρ c main_v5 (by decide)).trans (start_merged m ρ c))),
    show V4 m ρ c main_v6 = dh m c from (W4_of m ρ c main_v6 (by decide)).trans ((W3_of m ρ c main_v6 (by decide)).trans
      ((W2_of m ρ c main_v6 (by decide)).trans (start_dh m ρ c)))]
  rfl

/-- The fifth call is run with the gradient and the turned weight as they were at the start, -/
theorem dz_at : W8 m ρ c (Proc.tc.devRef main_v11) = dzArr (dzab m c) (wGlu m c) := by
  refine (W8_of m ρ c main_v11 (by decide)).trans ((W7_of m ρ c main_v11 (by decide)).trans ((W6_arr m ρ c 2).trans
    ((dz_array (V5 m ρ) c).trans ?_)))
  rw [show V5 m ρ c main_v4 = dzab m c from (W5_of m ρ c main_v4 (by decide)).trans ((W4_of m ρ c main_v4 (by decide)).trans
      ((W3_of m ρ c main_v4 (by decide)).trans ((W2_of m ρ c main_v4 (by decide)).trans (start_dzab m ρ c)))),
    show V5 m ρ c main_v1 = turned (wGlu m c) from (W5_of m ρ c main_v1 (by decide)).trans ((W4_of m ρ c main_v1 (by decide)).trans
      ((W3_of m ρ c main_v1 (by decide)).trans ((W2_of m ρ c main_v1 (by decide)).trans (start_wt m ρ c))))]
  rfl

/-- and the sixth with the gradient and the input. -/
theorem gGlu_rows : W7 m ρ c (Proc.tc.devRef main_v12_0) = fun i : S2048x1024.Idx => gGluArr (dzab m c) (z m c) (ix2 (i 1) (i 0)) := by
  refine (W7_arr m ρ c 2).trans ((g_glu_array (V6 m ρ) c).trans ?_)
  rw [show V6 m ρ c main_v4 = dzab m c from (W6_of m ρ c main_v4 (by decide)).trans ((W5_of m ρ c main_v4 (by decide)).trans
      ((W4_of m ρ c main_v4 (by decide)).trans ((W3_of m ρ c main_v4 (by decide)).trans ((W2_of m ρ c main_v4 (by decide)).trans
      (start_dzab m ρ c))))),
    show V6 m ρ c main_v3 = z m c from (W6_of m ρ c main_v3 (by decide)).trans ((W5_of m ρ c main_v3 (by decide)).trans
      ((W4_of m ρ c main_v3 (by decide)).trans ((W3_of m ρ c main_v3 (by decide)).trans ((W2_of m ρ c main_v3 (by decide)).trans
      (start_z m ρ c)))))]
  rfl

theorem gGlu_at : W8 m ρ c (Proc.tc.devRef main_v13) = gGluArr (dzab m c) (z m c) := by
  have e := gGlu_rows m ρ c
  show StableHlo.after hostOps6 (W7 m ρ c) (Proc.tc.devRef main_v13) = _
  generalize W7 m ρ c = V at e ⊢
  after_reads_simp
  rw [e]
  funext i
  refine (transpose_apply [1, 0] _ _ _ (ix2 (i 1) (i 0)) (fun b => match b with | ⟨0, _⟩ => rfl | ⟨1, _⟩ => rfl)).trans ?_
  exact congrArg _ (eq_ix2 i).symm

end Attn.Mix
-- ==== Proof.MixRef.lean ====
/-
  The results of the reference of the gated linear unit and the output projection: the products, the derivatives' products, and
  the norm of the sum.
-/
module

public import proofs.«01_k».proof.Proof.Gen.MixRefIdeal.Read
public import proofs.«01_k».proof.Proof.MixTrace
public import proofs.«01_k».proof.Proof.FeedRef

@[expose] public section

noncomputable section

namespace Attn.Mix

open Cert.MixIdeal (S8320x1024 S1024x2048 S8320x2048 S1024x1024 S1x1024 S2048x1024)
open Idealize.ShloMosaic Cert.MixRefIdeal.Read

variable (x : S8320x1024.Idx → EReal) (w : S1024x2048.Idx → EReal) (d : S8320x2048.Idx → EReal) (a : S8320x1024.Idx → EReal)
  (wo : S1024x1024.Idx → EReal) (h : S8320x1024.Idx → EReal) (g : S1x1024.Idx → EReal) (dh : S8320x1024.Idx → EReal)

theorem ref_zab : val_main_v21 (F := Ideal) x w = zabArr x w := by
  funext i
  rw [val_main_v21_apply]
  refine (val_main_v0_apply x w i).trans ?_
  unfold zabArr mulAt
  exact Finset.sum_congr rfl fun k _ => congrArg₂ (fun a b => x a * w b) (Shape.idx_ext₂ rfl rfl) (Shape.idx_ext₂ rfl rfl)

theorem ref_out : val_main_v5 (F := Ideal) a wo h = outOf a wo h := by
  funext i
  rw [val_main_v5_apply, val_main_v4_apply]
  unfold outOf mulAt
  exact congrArg (h i + ·) (Finset.sum_congr rfl fun k _ =>
    congrArg₂ (fun p q => a p * wo q) (Shape.idx_ext₂ rfl rfl) (Shape.idx_ext₂ rfl rfl))

theorem ref_square (i : Shape.Idx ⟨1, ![8320]⟩) : val_main_v10 (F := Ideal) a wo h i =
    ∑ k : Fin 1024, outOf a wo h (ix2 (i 0) k) * outOf a wo h (ix2 (i 0) k) := by
  rw [val_main_v10_apply, show val_main_cst (F := Ideal) _ = (0 : EReal) from Ideal.ofBits_zero_f32, zero_add]
  refine Finset.sum_congr rfl fun k _ => ?_
  rw [val_main_v9_apply, ref_out]
  exact congrArg (fun p => outOf a wo h p * outOf a wo h p) (Shape.idx_ext₂ rfl rfl)

theorem ref_norm : val_main_v22 (F := Ideal) a wo h g = normOf (outOf a wo h) g := by
  funext i
  rw [val_main_v22_apply]
  refine (val_main_v20_apply (F := Ideal) a wo h g i).trans ?_
  rw [val_main_v18_apply, val_main_v17_apply, val_main_v16_apply, val_main_v15_apply, val_main_v13_apply, val_main_v11_apply,
    val_main_v12_apply, val_main_v14_apply, val_main_v19_apply, ref_square, ref_out]
  unfold normOf normAt
  exact congrArg₂ (fun p q => outOf a wo h p * _ * g q) (Shape.idx_ext₂ rfl rfl) (Shape.idx_ext₂ rfl rfl)

theorem ref_dmerged : val_main_v23 (F := Ideal) wo dh = dmergedArr dh wo := by
  funext i
  rw [val_main_v23_apply]
  refine (val_main_v8_apply wo dh i).trans ?_
  exact Feed.sum_mulAtT (K := 1024) dh wo (i 0) (i 1) _ fun k =>
    congrArg₂ (fun p q => dh p * wo q) (Shape.idx_ext₂ rfl rfl) (Shape.idx_ext₂ rfl rfl)

theorem ref_gOut : val_main_v7 (F := Ideal) a dh = gOutArr a dh := by
  funext i
  rw [val_main_v7_apply, val_main_v6_apply]
  exact Feed.sum_mulTAt (K := 8320) a dh (i 0) (i 1) _ fun k => (mul_comm _ _).trans
    (congrArg₂ (fun p q => a p * dh q) (Shape.idx_ext₂ rfl rfl) (Shape.idx_ext₂ rfl rfl))

theorem ref_dz : val_main_v24 (F := Ideal) w d = dzArr d w := by
  funext i
  rw [val_main_v24_apply]
  refine (val_main_v3_apply w d i).trans ?_
  exact Feed.sum_mulAtT (K := 2048) d w (i 0) (i 1) _ fun k =>
    congrArg₂ (fun p q => d p * w q) (Shape.idx_ext₂ rfl rfl) (Shape.idx_ext₂ rfl rfl)

theorem ref_gGlu : val_main_v2 (F := Ideal) x d = gGluArr d x := by
  funext i
  rw [val_main_v2_apply, val_main_v1_apply]
  exact Feed.sum_mulTAt (K := 8320) d x (i 1) (i 0) _ fun k =>
    congrArg₂ (fun p q => d p * x q) (Shape.idx_ext₂ rfl rfl) (Shape.idx_ext₂ rfl rfl)

end Attn.Mix
-- ==== Proof.NormArrays.lean ====
/-
  The arrays of the call that takes the gradient of the feed-forward's norm: the layer's gradient with the residual's added, and
  the gain's gradient, to which each grid point adds the terms of its 320 rows.
-/
module

public import proofs.«01_k».proof.Proof.Gen.NormIdeal.Value
public import Idealize.ShloMosaic.Lib.StableHlo.RunRead
public import proofs.«01_k».proof.Proof.NormBack

@[expose] public section

noncomputable section

namespace Attn.NormBack

open Cert.NormIdeal Cert.NormIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (c : Dev nD)

/-- The arguments: the norm's input, its gain, the norm's cotangent, and the gradient that it is added onto. -/
def h : S8320x1024.Idx → EReal := m ((c : Thread nD τ).loc main_arg0)
def gain : S1x1024.Idx → EReal := m ((c : Thread nD τ).loc main_arg1)
def dy : S8320x1024.Idx → EReal := m ((c : Thread nD τ).loc main_arg2)
def dres : S8320x1024.Idx → EReal := m ((c : Thread nD τ).loc main_arg3)

/-- The input's gradient, and the gain's. -/
def dhArr (h : S8320x1024.Idx → EReal) (g : S1x1024.Idx → EReal) (d e : S8320x1024.Idx → EReal) : S8320x1024.Idx → EReal := fun i =>
  e i + backAt (fun k => h (ix2 (i 0) k)) (fun k => d (ix2 (i 0) k) * g (ix2 (0 : Fin 1) k)) (i 1)
def gainTerm {M : ℕ} (h d : Shape.Idx ⟨2, ![M, 1024]⟩ → EReal) (q : Fin 1024) (r : Fin M) : EReal :=
  d (ix2 r q) * (h (ix2 r q) * rootAt fun k => h (ix2 r k))
def dgArr (h d : S8320x1024.Idx → EReal) : S1x1024.Idx → EReal := fun i => ∑ r : Fin 8320, gainTerm h d (i 1) r

theorem V_h : (V m c main_arg0 : S8320x1024.Idx → EReal) = h m c := V_main_arg0 m c
theorem V_gain : (V m c main_arg1 : S1x1024.Idx → EReal) = gain m c := V_main_arg1 m c
theorem V_dres : (V m c main_arg3 : S8320x1024.Idx → EReal) = dres m c := V_main_arg3 m c
theorem V_dy : (V m c main_v0 : S8320x1024.Idx → EReal) = dy m c := by
  unfold V
  after_reads_simp
  rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])

theorem N_lt (n : ℕ) (h : n < cfg0.N) : n < 26 := h

/-! ### A grid point's tile -/

/-- Sums along the rows of a tile. -/
theorem row_sum (x : FVec Ideal S320x1024 .f32) (r : Fin 320) :
    shapeCast S320x1 (multiReduction (F := Ideal) (φ := .f32) .add [1] S320 x 0x00000000#32 reduces_S320x1024_S320 (.inl rfl) rfl)
      shapeCasts_S320_S320x1 (ix2 r (0 : Fin 1)) = ∑ k : Fin 1024, x (ix2 r k) := by
  refine (shapeCast_apply _ _ _ (ix1 r) (by
    rw [Shape.rowMajor_val_two, Shape.rowMajor_val_one]
    show r.val = r.val * 1 + 0; omega)).trans ?_
  refine (Ideal.multiReduction_add_single _ _ _ _ _ _).trans ?_
  exact Finset.sum_congr rfl fun k _ => congrArg x (Shape.idx_ext₂ rfl rfl)

/-- A column of a tile repeated along its rows. -/
theorem spread (x : FVec Ideal S320x1 .f32) (r : Fin 320) (q : Fin 1024) :
    broadcastTo S320x1024 x broadcasts_S320x1_S320x1024 (ix2 r q) = x (ix2 r (0 : Fin 1)) :=
  broadcastTo_apply _ _ _ (ix2 r (0 : Fin 1)) fun a => match a with
    | ⟨0, _⟩ => rfl
    | ⟨1, _⟩ => rfl

theorem tile_root (x : FVec Ideal S320x1024 .f32) (r : Fin 320) :
    k0_pay5 (F := Ideal) x (ix2 r (0 : Fin 1)) = rootAt fun k => x (ix2 r k) := by
  unfold k0_pay5
  exact congrArg (fun z => Ideal.rsqrt (Ideal.div z _ + _)) (row_sum (mulf x x) r)

theorem tile_dy (d : FVec Ideal S320x1024 .bf16) (y : S320x1024.Idx) : k0_pay4 (F := Ideal) d y = d y := by
  unfold k0_pay4
  rw [shapeCast_self]
  rfl

/-- The cotangent times the gain. -/
theorem tile_t (g : FVec Ideal S1x1024 .f32) (d : FVec Ideal S320x1024 .bf16) (r : Fin 320) (q : Fin 1024) :
    mulf (k0_pay4 (F := Ideal) d) (broadcastTo S320x1024 g broadcasts_S1x1024_S320x1024) (ix2 r q)
      = d (ix2 r q) * g (ix2 (0 : Fin 1) q) :=
  congrArg₂ (· * ·) (tile_dy d _) (broadcastTo_apply _ _ _ (ix2 (0 : Fin 1) q) fun a => match a with
    | ⟨0, _⟩ => rfl
    | ⟨1, _⟩ => rfl)

theorem tile_dh (x : FVec Ideal S320x1024 .f32) (g : FVec Ideal S1x1024 .f32) (d : FVec Ideal S320x1024 .bf16)
    (e : FVec Ideal S320x1024 .f32) (y : S320x1024.Idx) : k0_pay7 (F := Ideal) x g d e y
      = e y + backAt (fun k => x (ix2 (y 0) k)) (fun k => d (ix2 (y 0) k) * g (ix2 (0 : Fin 1) k)) (y 1) := by
  obtain ⟨r, q, rfl⟩ : ∃ (r : Fin 320) (q : Fin 1024), y = ix2 r q := ⟨y 0, y 1, eq_ix2 y⟩
  unfold k0_pay7
  have ρ := (spread (k0_pay5 (F := Ideal) x) r q).trans (tile_root x r)
  refine congrArg (e (ix2 r q) + ·) (congrArg₂ (· - ·) (congrArg₂ (· * ·) ρ (tile_t g d r q))
    (congrArg₂ (· * ·) (congrArg (x (ix2 r q) * ·) ?_) ?_))
  · refine (spread _ r q).trans ?_
    exact congrArg₂ (· * ·) (congrArg₂ (· * ·) (tile_root x r) (tile_root x r)) (tile_root x r)
  · refine (spread _ r q).trans ?_
    refine congrArg (fun z => Ideal.div z _) ((row_sum _ r).trans (Finset.sum_congr rfl fun k _ => ?_))
    exact congrArg (· * x (ix2 r k)) (tile_t g d r k)

theorem tile_dg (x : FVec Ideal S320x1024 .f32) (d : FVec Ideal S320x1024 .bf16) (y : S1x1024.Idx) :
    k0_pay6 (F := Ideal) x d y = ∑ r : Fin 320, gainTerm x d (y 1) r := by
  obtain ⟨z, q, rfl⟩ : ∃ (z : Fin 1) (q : Fin 1024), y = ix2 z q := ⟨y 0, y 1, eq_ix2 y⟩
  unfold k0_pay6
  refine (shapeCast_apply _ _ _ (ix1 q) (by
    rw [Shape.rowMajor_val_two, Shape.rowMajor_val_one]
    show q.val = z.val * 1024 + q.val; omega)).trans ?_
  refine (Ideal.multiReduction_add_single _ _ _ _ _ _).trans ?_
  refine Finset.sum_congr rfl fun r _ => ?_
  refine (congrArg _ (Shape.idx_ext₂ rfl rfl : reduces_S320x1024_S1024.lift (ix1 q) r = ix2 r q)).trans ?_
  exact congrArg₂ (· * ·) (tile_dy d _) (congrArg (x (ix2 r q) * ·) ((spread _ r q).trans (tile_root x r)))

/-! ### The input's gradient -/

/-- Both of the first two results hold the same values. -/
theorem dh_block (t : Fin cfg0.N) :
    (outsAt0 m c t.val t.isLt).1 = k0_pay7 (F := Ideal) (iblk m c 0 t) (iblk m c 1 t) (iblk m c 2 t) (iblk m c 3 t)
    ∧ ((outsAt0 m c t.val t.isLt).2.1 : S320x1024.Idx → EReal)
      = k0_pay7 (F := Ideal) (iblk m c 0 t) (iblk m c 1 t) (iblk m c 2 t) (iblk m c 3 t) := by
  by_cases e : t.val % 26 = 0
  · rw [outsAt0_A m c t e]
    constructor <;> frame_out <;> rfl
  · rw [outsAt0_B m c t e]
    constructor <;> frame_out <;> rfl

theorem dh_entry (t : Fin cfg0.N) (y : S320x1024.Idx) (i : S8320x1024.Idx) (e0 : (i 0).val = t.val * 320 + (y 0).val)
    (e1 : (i 1).val = (y 1).val) :
    (k0_pay7 (F := Ideal) (iblk m c 0 t) (iblk m c 1 t) (iblk m c 2 t) (iblk m c 3 t) y : EReal)
      = dhArr (V m c main_arg0) (V m c main_arg1) (V m c main_v0) (V m c main_arg3) i := by
  refine (tile_dh _ _ _ _ y).trans (congrArg₂ (· + ·) ?_ (backAt_congr (fun k => ?_) (fun k => congrArg₂ (· * ·) ?_ ?_) ?_))
  · blk_ext [iblk, idx3 t]
  · blk_ext [iblk, idx0 t]
  · blk_ext [iblk, idx2 t]
  · blk_ext [iblk, idx1 t]
  · exact Fin.ext e1.symm

theorem dh_array : (dats m 0 c).arrAt 4 cfg0.N = dhArr (h m c) (gain m c) (dy m c) (dres m c) := by
  rw [← V_h, ← V_gain, ← V_dy, ← V_dres]
  refine (dats m 0 c).arrAt_eq_of_covers 4 _ (by decide +kernel) fun t hf y => ?_
  rw [after0_4, (dh_block m c t).1]
  refine dh_entry m c t y _ ?_ ?_ <;> blk_simp [idx4 t]

theorem dh16_array : (dats m 0 c).arrAt 5 cfg0.N = dhArr (h m c) (gain m c) (dy m c) (dres m c) := by
  rw [← V_h, ← V_gain, ← V_dy, ← V_dres]
  refine (dats m 0 c).arrAt_eq_of_covers 5 _ (by decide +kernel) fun t hf y => ?_
  rw [after0_5]
  refine (congrFun (dh_block m c t).2 y).trans (dh_entry m c t y _ ?_ ?_) <;> blk_simp [idx5 t]

/-! ### The gain's gradient -/

theorem dg_step (acc : FVec Ideal S1x1024 .f32) (x : FVec Ideal S320x1024 .f32) (d : FVec Ideal S320x1024 .bf16) (y : S1x1024.Idx) :
    k0_pay2 (F := Ideal) (k0_pay6 (F := Ideal) x d) acc y = acc y + ∑ r : Fin 320, gainTerm x d (y 1) r := by
  unfold k0_pay2
  rw [shapeCast_self]
  exact congrArg (acc y + ·) (tile_dg x d y)

theorem dg_last (n : ℕ) (hn : n < cfg0.N) (e : n + 1 = 26) (y : S1x1024.Idx) :
    (outsAt0 m c n hn).2.2 y = dgArr (V m c main_arg0) (V m c main_v0) y := by
  have a := accumulate (N := cfg0.N) 26 320 (by decide) (by decide) (fun n hn => (outsAt0 m c n hn).2.2)
    (fun _ _ y => gainTerm (V m c main_arg0 : S8320x1024.Idx → EReal) (V m c main_v0 : S8320x1024.Idx → EReal) (y 1))
    (fun n hn y => gainTerm (iblk m c 0 ⟨n, hn⟩ : S320x1024.Idx → EReal) (iblk m c 2 ⟨n, hn⟩ : S320x1024.Idx → EReal) (y 1))
    (fun n hn y e => by
      rw [outsAt0_A m c ⟨n, hn⟩ e]
      frame_out
      exact (dg_step _ _ _ y).trans (zero_from y _))
    (fun n hn y e => by
      rw [outsAt0_B m c ⟨n + 1, hn⟩ e]
      frame_out
      exact dg_step _ _ _ y)
    (fun n hn e => rfl)
    (fun n hn y r k e => by
      have b := N_lt n hn
      have e' : k.val = 320 * n + r.val := by rw [e, Nat.mod_eq_of_lt b]
      refine congrArg₂ (· * ·) ?_ (congrArg₂ (· * ·) ?_ (rootAt_congr fun q => ?_))
      · blk_ext [iblk, idx2 ⟨n, hn⟩]
      · blk_ext [iblk, idx0 ⟨n, hn⟩]
      · blk_ext [iblk, idx0 ⟨n, hn⟩])
    n hn y
  rw [a, Nat.mod_eq_of_lt (N_lt n hn), e]
  exact part_all _

theorem dg_array : (dats m 0 c).arrAt 6 cfg0.N = dgArr (h m c) (dy m c) := by
  rw [← V_h, ← V_dy]
  refine (dats m 0 c).arrAt_eq_of_covers 6 _ (by decide +kernel) fun t hf y => ?_
  have e : t.val % 26 = 25 := (flush0_6 t).mp hf
  have b := N_lt t.val t.isLt
  blk_simp [idx6 t]
  rw [after0_6]
  refine (dg_last m c t.val t.isLt (by omega) y).trans (congrArg _ (Shape.idx_ext₂ ?_ ?_))
  · blk_simp [idx6 t]
  · blk_simp [idx6 t]

end Attn.NormBack
-- ==== Proof.NormRef.lean ====
/-
  The results of the reference of the norm's backward pass: the chain rule's terms, added up.
-/
module

public import proofs.«01_k».proof.Proof.Gen.NormRefIdeal.Read
public import proofs.«01_k».proof.Proof.NormArrays

@[expose] public section

noncomputable section

namespace Attn.NormBack

open Cert.NormIdeal (S8320x1024 S1x1024)
open Idealize.ShloMosaic Cert.NormRefIdeal.Read

variable (h : S8320x1024.Idx → EReal) (g : S1x1024.Idx → EReal) (d e : S8320x1024.Idx → EReal)

/-- A row of the input, and of the cotangent times the gain. -/
def rowOf (h : S8320x1024.Idx → EReal) (r : Fin 8320) (k : Fin 1024) : EReal := h (ix2 r k)
def scaled (d : S8320x1024.Idx → EReal) (g : S1x1024.Idx → EReal) (r : Fin 8320) (k : Fin 1024) : EReal :=
  d (ix2 r k) * g (ix2 (0 : Fin 1) k)

theorem ref_square (i : Shape.Idx ⟨2, ![8320, 1]⟩) : val_main_v6 (F := Ideal) h i = squareAt (rowOf h (i 0)) := by
  rw [val_main_v6_apply, val_main_v4_apply, val_main_v2_apply, val_main_v1_apply, val_main_v3_apply, val_main_v5_apply,
    show val_main_cst (F := Ideal) _ = (0 : EReal) from Ideal.ofBits_zero_f32, zero_add]
  refine congrArg (fun z => Ideal.div z cols + small) (Finset.sum_congr rfl fun k _ => ?_)
  rw [val_main_v0_apply]
  exact congrArg (fun p => h p * h p) (Shape.idx_ext₂ rfl rfl)

theorem ref_root (i : Shape.Idx ⟨2, ![8320, 1]⟩) : val_main_v7 (F := Ideal) h i = rootAt (rowOf h (i 0)) := by
  rw [val_main_v7_apply]
  exact congrArg Ideal.rsqrt (ref_square h i)

theorem ref_scaled (r : Fin 8320) (k : Fin 1024) : val_main_v19 (F := Ideal) g d (ix2 r k) = scaled d g r k := by
  rw [val_main_v19_apply, val_main_v18_apply]
  exact congrArg (fun p => d (ix2 r k) * g p) (Shape.idx_ext₂ rfl rfl)

/-- What a row's sum contributes to each entry's gradient, before the entry itself. -/
theorem ref_factor (r : Fin 8320) (q : Fin 1024) : val_main_v29 (F := Ideal) h g d (ix2 r q)
    = Ideal.div ((∑ k, rowOf h r k * scaled d g r k) * (minusHalf * Ideal.div (rootAt (rowOf h r)) (squareAt (rowOf h r)))) cols := by
  rw [val_main_v29_apply, val_main_v28_apply, show val_main_cst_6 (F := Ideal) _ = (0 : EReal) from Ideal.ofBits_zero_f32, zero_add,
    Fin.sum_univ_one, val_main_v27_apply, val_main_v25_apply, val_main_v22_apply, val_main_v21_apply, val_main_v10_apply,
    val_main_v8_apply, ref_root, ref_square, val_main_v26_apply, val_main_v9_apply,
    show val_main_cst_4 (F := Ideal) _ = (0 : EReal) from Ideal.ofBits_zero_f32, zero_add]
  refine congrArg (fun z => Ideal.div (z * (minusHalf * Ideal.div (rootAt (rowOf h r)) (squareAt (rowOf h r)))) cols)
    (Finset.sum_congr rfl fun k _ => ?_)
  have p : idx_main_v21 (idx_main_v22 (idx_main_v28 (idx_main_v29 (ix2 r q)) 0)) k = ix2 r k :=
    Shape.idx_ext₂ (by show r.val * 1 + 0 = r.val; omega) rfl
  rw [p, val_main_v20_apply]
  exact congrArg (h (ix2 r k) * ·) (ref_scaled g d r k)

theorem ref_back (r : Fin 8320) (q : Fin 1024) : val_main_v33 (F := Ideal) h g d (ix2 r q) = backAt (rowOf h r) (scaled d g r) q := by
  rw [val_main_v33_apply, val_main_v31_apply, val_main_v24_apply, val_main_v30_apply, val_main_v32_apply,
    ref_factor, ref_scaled, val_main_v23_apply, ref_root]
  exact backAt_eq (rowOf h r) (scaled d g r) q

theorem ref_dh : val_main_v34 (F := Ideal) h g d e = dhArr h g d e := by
  funext i
  obtain ⟨r, q, rfl⟩ : ∃ (r : Fin 8320) (q : Fin 1024), i = ix2 r q := ⟨i 0, i 1, eq_ix2 i⟩
  rw [val_main_v34_apply, ref_back]
  rfl

theorem ref_dh16 : val_main_v35 (F := Ideal) h g d e = dhArr h g d e := by
  funext i
  rw [val_main_v35_apply]
  exact congrFun (ref_dh h g d e) i

theorem ref_dg : val_main_v17 (F := Ideal) h d = dgArr h d := by
  funext i
  obtain ⟨z, q, rfl⟩ : ∃ (z : Fin 1) (q : Fin 1024), i = ix2 z q := ⟨i 0, i 1, eq_ix2 i⟩
  rw [val_main_v17_apply, val_main_v16_apply, show val_main_cst_3 (F := Ideal) _ = (0 : EReal) from Ideal.ofBits_zero_f32, zero_add]
  refine Finset.sum_congr rfl fun r _ => ?_
  have p : idx_main_v16 (idx_main_v17 (ix2 z q)) r = ix2 r q :=
    Shape.idx_ext₂ rfl (by show z.val * 1024 + q.val = q.val; omega)
  rw [p, val_main_v15_apply, val_main_v12_apply, val_main_v11_apply, ref_root]
  exact mul_comm _ _

end Attn.NormBack
-- ==== Proof.MergeRow.lean ====
/-
  The gradient of the merge of the two branches, a row at a time: the attention's branch is a row normed, scaled by its gain and
  gated; the other branch's row is first a gated linear unit's. A row of 2048 holds the two halves of the linear unit, or the
  two branches' gates.
-/
module

public import proofs.«01_k».proof.Proof.NormBack

@[expose] public section

noncomputable section

namespace Attn.Merge

open Idealize.ShloMosaic

/-- The columns of the two halves. -/
def lo (k : Fin 1024) : Fin 2048 := ⟨k.val, by omega⟩
def hi (k : Fin 1024) : Fin 2048 := ⟨1024 + k.val, by omega⟩

/-- A row put together from its halves. -/
def both (f g : Fin 1024 → EReal) (c : Fin 2048) : EReal :=
  if h : c.val < 1024 then f ⟨c.val, h⟩ else g ⟨c.val - 1024, by omega⟩

theorem both_lo (f g : Fin 1024 → EReal) (q : Fin 1024) (c : Fin 2048) (h : c.val = q.val) : both f g c = f q := by
  unfold both
  rw [dif_pos (by omega)]
  exact congrArg f (Fin.ext h)

theorem both_hi (f g : Fin 1024 → EReal) (q : Fin 1024) (c : Fin 2048) (h : c.val = 1024 + q.val) : both f g c = g q := by
  unfold both
  rw [dif_neg (by omega)]
  exact congrArg g (Fin.ext (by show c.val - 1024 = q.val; omega))

/-- A row of a matrix. -/
def rowAt {M N : ℕ} (x : Shape.Idx ⟨2, ![M, N]⟩ → EReal) (r : Fin M) (k : Fin N) : EReal := x (ix2 r k)

/-- The gated linear unit's row. -/
def unit (z : Fin 2048 → EReal) (k : Fin 1024) : EReal := z (lo k) * Ideal.logistic (z (hi k))

variable (x : Fin 1024 → EReal) (s : Fin 1024 → EReal) (a : Fin 1024 → EReal) (d : Fin 1024 → EReal)

/-- Of a branch's row `x`, gated by `s` and scaled by `a` after its norm, with the merged row's cotangent `d`: its gradient, its
    gate's before the logistic function, and its term of the gain's gradient. -/
def branchBack : Fin 1024 → EReal := backAt x fun k => d k * Ideal.logistic (s k) * a k
def gateBack (q : Fin 1024) : EReal :=
  d q * (x q * rootAt x * a q) * Ideal.logistic (s q) * (1 - Ideal.logistic (s q))
def gainBack (q : Fin 1024) : EReal := d q * Ideal.logistic (s q) * (x q * rootAt x)

/-- The gradients of the linear unit's two halves from its own. -/
def unitLo (z : Fin 2048 → EReal) (e : Fin 1024 → EReal) (q : Fin 1024) : EReal := e q * Ideal.logistic (z (hi q))
def unitHi (z : Fin 2048 → EReal) (e : Fin 1024 → EReal) (q : Fin 1024) : EReal :=
  e q * z (lo q) * Ideal.logistic (z (hi q)) * (1 - Ideal.logistic (z (hi q)))

/-- The rows of 2048: the linear unit's gradient, and the gates'. -/
def zabRow (z g : Fin 2048 → EReal) (b d : Fin 1024 → EReal) : Fin 2048 → EReal :=
  both (unitLo z (branchBack (unit z) (fun k => g (hi k)) b d)) (unitHi z (branchBack (unit z) (fun k => g (hi k)) b d))
def gatesRow (x : Fin 1024 → EReal) (z g : Fin 2048 → EReal) (a b d : Fin 1024 → EReal) : Fin 2048 → EReal :=
  both (gateBack x (fun k => g (lo k)) a d) (gateBack (unit z) (fun k => g (hi k)) b d)

end Attn.Merge
-- ==== Proof.MergeArrays.lean ====
/-
  The arrays of the call that takes the gradient of the two branches' merge: the attention's gradient, the linear unit's, the
  gates', and the gradients of the two norms' gains, to which each grid point adds the terms of its 320 rows.
-/
module

public import proofs.«01_k».proof.Proof.Gen.MergeIdeal.Frame
public import Idealize.ShloMosaic.Lib.StableHlo.RunRead
public import proofs.«01_k».proof.Proof.NormArrays
public import proofs.«01_k».proof.Proof.MergeRow

@[expose] public section

noncomputable section

namespace Attn.Merge

open Cert.MergeIdeal Cert.MergeIdeal.Gen Idealize.ShloMosaic Idealize.ShloMosaic.TcCoe Idealize.SL.Sem
open Idealize.ShloMosaic.Pipeline (Dat)
open Idealize.ShloMosaic.StableHlo
open NormBack (row_sum spread)

/-! ### A grid point's tile -/

section Tile

/-- A row of a gain repeated along the columns. -/
theorem spread_gain (g : FVec Ideal S1x1024 .f32) (r : Fin 320) (q : Fin 1024) :
    broadcastTo S320x1024 g broadcasts_S1x1024_S320x1024 (ix2 r q) = rowAt g 0 q :=
  broadcastTo_apply _ _ _ (ix2 (0 : Fin 1) q) fun a => match a with
    | ⟨0, _⟩ => rfl
    | ⟨1, _⟩ => rfl

theorem tile_root (x : FVec Ideal S320x1024 .f32) (r : Fin 320) :
    k0_pay19 (F := Ideal) x (ix2 r (0 : Fin 1)) = rootAt (rowAt x r) := by
  unfold k0_pay19
  exact congrArg (fun z => Ideal.rsqrt (Ideal.div z _ + _)) (row_sum (mulf x x) r)

/-- A norm's gradient as a grid point computes it. -/
theorem tile_back (f t : FVec Ideal S320x1024 .f32) (r : Fin 320) (q : Fin 1024) :
    subf (mulf (broadcastTo S320x1024 (k0_pay19 (F := Ideal) f) broadcasts_S320x1_S320x1024) t)
      (mulf (mulf f (broadcastTo S320x1024 (mulf (mulf (k0_pay19 (F := Ideal) f) (k0_pay19 (F := Ideal) f)) (k0_pay19 (F := Ideal) f))
          broadcasts_S320x1_S320x1024))
        (broadcastTo S320x1024 (divf (shapeCast S320x1 (multiReduction (F := Ideal) (φ := .f32) .add [1] S320 (mulf t f) 0x00000000#32
          reduces_S320x1024_S320 (.inl rfl) rfl) shapeCasts_S320_S320x1) (k0_pay24 (F := Ideal))) broadcasts_S320x1_S320x1024)) (ix2 r q)
      = backAt (rowAt f r) (rowAt t r) q := by
  refine congrArg₂ (· - ·) (congrArg (· * t (ix2 r q)) ((spread _ r q).trans (tile_root f r)))
    (congrArg₂ (· * ·) (congrArg (f (ix2 r q) * ·) ?_) ?_)
  · refine (spread _ r q).trans ?_
    exact congrArg₂ (· * ·) (congrArg₂ (· * ·) (tile_root f r) (tile_root f r)) (tile_root f r)
  · refine (spread _ r q).trans ?_
    exact congrArg (fun z => Ideal.div z _) (row_sum _ r)

/-- A row normed, and scaled by a gain. -/
theorem tile_rooted (f : FVec Ideal S320x1024 .f32) (r : Fin 320) (q : Fin 1024) :
    mulf f (broadcastTo S320x1024 (k0_pay19 (F := Ideal) f) broadcasts_S320x1_S320x1024) (ix2 r q) = rowAt f r q * rootAt (rowAt f r) :=
  congrArg (f (ix2 r q) * ·) ((spread _ r q).trans (tile_root f r))
theorem tile_normed (f : FVec Ideal S320x1024 .f32) (g : FVec Ideal S1x1024 .f32) (r : Fin 320) (q : Fin 1024) :
    k0_pay13 (F := Ideal) f g (ix2 r q) = rowAt f r q * rootAt (rowAt f r) * rowAt g 0 q :=
  congrArg₂ (· * ·) (tile_rooted f r q) (spread_gain g r q)

/-- Sums along the columns of a tile. -/
theorem col_sum (x : FVec Ideal S320x1024 .f32) (z : Fin 1) (q : Fin 1024) :
    shapeCast S1x1024 (multiReduction (F := Ideal) (φ := .f32) .add [0] S1024 x 0x00000000#32 reduces_S320x1024_S1024 (.inl rfl) rfl)
      shapeCasts_S1024_S1x1024 (ix2 z q) = ∑ r : Fin 320, x (ix2 r q) := by
  refine (shapeCast_apply _ _ _ (ix1 q) (by
    rw [Shape.rowMajor_val_two, Shape.rowMajor_val_one]
    show q.val = z.val * 1024 + q.val; omega)).trans ?_
  refine (Ideal.multiReduction_add_single _ _ _ _ _ _).trans ?_
  exact Finset.sum_congr rfl fun r _ => congrArg x (Shape.idx_ext₂ rfl rfl)

variable (a : FVec Ideal S320x1024 .f32) (z g : FVec Ideal S320x2048 .bf16) (an sn : FVec Ideal S1x1024 .f32)
variable (d : FVec Ideal S320x1024 .bf16) (r : Fin 320) (q : Fin 1024)

theorem tile_d (y : S320x1024.Idx) : k0_pay7 (F := Ideal) d y = d y := by
  unfold k0_pay7
  rw [shapeCast_self]
  rfl

/-- The halves of a tile of 2048 columns. -/
theorem tile_lo : extractStridedSlice S320x1024 ![0, 0] (k0_pay5 (F := Ideal) z) slices_S320x2048_o0_0_S320x1024 (ix2 r q)
    = rowAt z r (lo q) := by
  refine (extractStridedSlice_apply _ _ _ _ (ix2 r (lo q)) fun a => match a with
    | ⟨0, _⟩ => (Nat.zero_add _).symm
    | ⟨1, _⟩ => (Nat.zero_add _).symm).trans ?_
  unfold k0_pay5
  rw [shapeCast_self]
  rfl
theorem tile_hi : extractStridedSlice S320x1024 ![0, 1024] (k0_pay5 (F := Ideal) z) slices_S320x2048_o0_1024_S320x1024 (ix2 r q)
    = rowAt z r (hi q) := by
  refine (extractStridedSlice_apply _ _ _ _ (ix2 r (hi q)) fun a => match a with
    | ⟨0, _⟩ => (Nat.zero_add _).symm
    | ⟨1, _⟩ => rfl).trans ?_
  unfold k0_pay5
  rw [shapeCast_self]
  rfl

theorem tile_sig : k0_pay9 (F := Ideal) z (ix2 r q) = Ideal.logistic (rowAt z r (hi q)) := congrArg Ideal.logistic (tile_hi z r q)
theorem tile_gateLo : k0_pay11 (F := Ideal) g (ix2 r q) = Ideal.logistic (rowAt g r (lo q)) := congrArg Ideal.logistic (tile_lo g r q)
theorem tile_gateHi : k0_pay12 (F := Ideal) g (ix2 r q) = Ideal.logistic (rowAt g r (hi q)) := congrArg Ideal.logistic (tile_hi g r q)

theorem tile_unit : rowAt (k0_pay10 (F := Ideal) z) r = unit (rowAt z r) :=
  funext fun q => congrArg₂ (· * ·) (tile_lo z r q) (tile_sig z r q)

/-- A branch's gradient from its rows, its gate and its gain. -/
theorem tile_branch (f s : FVec Ideal S320x1024 .f32) (h : FVec Ideal S1x1024 .f32) :
    k0_pay28 (F := Ideal) (k0_pay7 (F := Ideal) d) f s h (ix2 r q)
      = backAt (rowAt f r) (fun k => rowAt d r k * rowAt s r k * rowAt h 0 k) q := by
  refine (tile_back f (mulf (k0_pay26 (F := Ideal) (k0_pay7 (F := Ideal) d) s) (broadcastTo S320x1024 h broadcasts_S1x1024_S320x1024)) r q).trans
    (backAt_congr (fun _ => rfl) (fun k => ?_) rfl)
  exact congrArg₂ (· * ·) (congrArg (· * s (ix2 r k)) (tile_d d _)) (spread_gain h r k)

theorem tile_unitBack : k0_pay28 (F := Ideal) (k0_pay7 (F := Ideal) d) (k0_pay10 (F := Ideal) z) (k0_pay12 (F := Ideal) g) sn (ix2 r q)
    = branchBack (unit (rowAt z r)) (fun k => rowAt g r (hi k)) (rowAt sn 0) (rowAt d r) q := by
  rw [tile_branch, tile_unit]
  exact backAt_congr (fun _ => rfl) (fun k => congrArg (fun e => rowAt d r k * e * rowAt sn 0 k) (tile_gateHi g r k)) rfl

theorem tile_dattn : k0_pay30 (F := Ideal) (k0_pay21 (F := Ideal) (k0_pay7 (F := Ideal) d) a (k0_pay11 (F := Ideal) g) an)
      (k0_pay22 (F := Ideal) a) (k0_pay23 (F := Ideal) (k0_pay7 (F := Ideal) d) a (k0_pay11 (F := Ideal) g) an) (k0_pay24 (F := Ideal)) (ix2 r q)
    = branchBack (rowAt a r) (fun k => rowAt g r (lo k)) (rowAt an 0) (rowAt d r) q := by
  refine (tile_branch d r q a (k0_pay11 (F := Ideal) g) an).trans ?_
  exact backAt_congr (fun _ => rfl) (fun k => congrArg (fun e => rowAt d r k * e * rowAt an 0 k) (tile_gateLo g r k)) rfl

theorem one_const : (Scalar.ofBits .f32 0x3F800000#32 : Ideal .f32) = (1 : EReal) := Ideal.ofBits_one_f32

theorem tile_zLo : k0_pay35 (F := Ideal) (k0_pay9 (F := Ideal) z)
      (k0_pay28 (F := Ideal) (k0_pay7 (F := Ideal) d) (k0_pay10 (F := Ideal) z) (k0_pay12 (F := Ideal) g) sn) (ix2 r q)
    = unitLo (rowAt z r) (branchBack (unit (rowAt z r)) (fun k => rowAt g r (hi k)) (rowAt sn 0) (rowAt d r)) q :=
  congrArg₂ (· * ·) (tile_unitBack z g sn d r q) (tile_sig z r q)

theorem tile_zHi : k0_pay36 (F := Ideal) (k0_pay8 (F := Ideal) z) (k0_pay9 (F := Ideal) z)
      (k0_pay28 (F := Ideal) (k0_pay7 (F := Ideal) d) (k0_pay10 (F := Ideal) z) (k0_pay12 (F := Ideal) g) sn) (ix2 r q)
    = unitHi (rowAt z r) (branchBack (unit (rowAt z r)) (fun k => rowAt g r (hi k)) (rowAt sn 0) (rowAt d r)) q :=
  congrArg₂ (· * ·) (congrArg₂ (· * ·) (congrArg₂ (· * ·) (tile_unitBack z g sn d r q) (tile_lo z r q)) (tile_sig z r q))
    (congrArg₂ (· - ·) one_const (tile_sig z r q))

theorem tile_gLo : k0_pay16 (F := Ideal) (k0_pay7 (F := Ideal) d) (k0_pay11 (F := Ideal) g) (k0_pay13 (F := Ideal) a an) (ix2 r q)
    = gateBack (rowAt a r) (fun k => rowAt g r (lo k)) (rowAt an 0) (rowAt d r) q :=
  congrArg₂ (· * ·) (congrArg₂ (· * ·) (congrArg₂ (· * ·) (tile_d d _) (tile_normed a an r q)) (tile_gateLo g r q))
    (congrArg₂ (· - ·) one_const (tile_gateLo g r q))

theorem tile_gHi : k0_pay17 (F := Ideal) (k0_pay7 (F := Ideal) d) (k0_pay10 (F := Ideal) z) (k0_pay12 (F := Ideal) g) sn
      (k0_pay14 (F := Ideal) z) (k0_pay15 (F := Ideal)) (ix2 r q)
    = gateBack (unit (rowAt z r)) (fun k => rowAt g r (hi k)) (rowAt sn 0) (rowAt d r) q := by
  rw [← tile_unit]
  exact congrArg₂ (· * ·) (congrArg₂ (· * ·) (congrArg₂ (· * ·) (tile_d d _) (tile_normed (k0_pay10 (F := Ideal) z) sn r q))
    (tile_gateHi g r q)) (congrArg₂ (· - ·) one_const (tile_gateHi g r q))

/-- The terms of the two gains' gradients. -/
theorem tile_an (y : S1x1024.Idx) : k0_pay25 (F := Ideal) a (k0_pay18 (F := Ideal) (k0_pay7 (F := Ideal) d) (k0_pay11 (F := Ideal) g))
      (k0_pay19 (F := Ideal) a) y
    = ∑ r : Fin 320, gainBack (rowAt a r) (fun k => rowAt g r (lo k)) (rowAt d r) (y 1) := by
  obtain ⟨z, q, rfl⟩ : ∃ (z : Fin 1) (q : Fin 1024), y = ix2 z q := ⟨y 0, y 1, eq_ix2 y⟩
  refine (col_sum _ z q).trans (Finset.sum_congr rfl fun r _ => ?_)
  exact congrArg₂ (· * ·) (congrArg₂ (· * ·) (tile_d d _) (tile_gateLo g r q)) (tile_rooted a r q)

theorem tile_sn (y : S1x1024.Idx) : k0_pay29 (F := Ideal) (k0_pay7 (F := Ideal) d) (k0_pay10 (F := Ideal) z) (k0_pay12 (F := Ideal) g) y
    = ∑ r : Fin 320, gainBack (unit (rowAt z r)) (fun k => rowAt g r (hi k)) (rowAt d r) (y 1) := by
  obtain ⟨i, q, rfl⟩ : ∃ (i : Fin 1) (q : Fin 1024), y = ix2 i q := ⟨y 0, y 1, eq_ix2 y⟩
  refine (col_sum _ i q).trans (Finset.sum_congr rfl fun r _ => ?_)
  rw [← tile_unit]
  exact congrArg₂ (· * ·) (congrArg₂ (· * ·) (tile_d d _) (tile_gateHi g r q)) (tile_rooted (k0_pay10 (F := Ideal) z) r q)

end Tile

/-! ### The arguments, and their rows in a grid point's blocks -/

variable (m : (ℓ : Loc nD τ sig) → Buf (Elt Ideal) ℓ) (c : Dev nD)

/-- The arguments: the attention's branch, the linear unit's two halves, the gates, the two norms' gains, and the merged rows'
    cotangent. -/
def attn : S8320x1024.Idx → EReal := m ((c : Thread nD τ).loc main_arg0)
def zab : S8320x2048.Idx → EReal := m ((c : Thread nD τ).loc main_arg1)
def gates : S8320x2048.Idx → EReal := m ((c : Thread nD τ).loc main_arg2)
def gainA : S1x1024.Idx → EReal := m ((c : Thread nD τ).loc main_arg3)
def gainS : S1x1024.Idx → EReal := m ((c : Thread nD τ).loc main_arg4)
def dmerged : S8320x1024.Idx → EReal := m ((c : Thread nD τ).loc main_arg5)

/-- The results. -/
def dattnArr (a : S8320x1024.Idx → EReal) (g : S8320x2048.Idx → EReal) (an : S1x1024.Idx → EReal) (d : S8320x1024.Idx → EReal) :
    S8320x1024.Idx → EReal := fun i => branchBack (rowAt a (i 0)) (fun k => rowAt g (i 0) (lo k)) (rowAt an 0) (rowAt d (i 0)) (i 1)
def dzabArr (z g : S8320x2048.Idx → EReal) (sn : S1x1024.Idx → EReal) (d : S8320x1024.Idx → EReal) :
    S8320x2048.Idx → EReal := fun i => zabRow (rowAt z (i 0)) (rowAt g (i 0)) (rowAt sn 0) (rowAt d (i 0)) (i 1)
def dgatesArr (a : S8320x1024.Idx → EReal) (z g : S8320x2048.Idx → EReal) (an sn : S1x1024.Idx → EReal) (d : S8320x1024.Idx → EReal) :
    S8320x2048.Idx → EReal := fun i =>
  gatesRow (rowAt a (i 0)) (rowAt z (i 0)) (rowAt g (i 0)) (rowAt an 0) (rowAt sn 0) (rowAt d (i 0)) (i 1)
def danArr (a : S8320x1024.Idx → EReal) (g : S8320x2048.Idx → EReal) (d : S8320x1024.Idx → EReal) : S1x1024.Idx → EReal := fun i =>
  ∑ r : Fin 8320, gainBack (rowAt a r) (fun k => rowAt g r (lo k)) (rowAt d r) (i 1)
def dsnArr (z g : S8320x2048.Idx → EReal) (d : S8320x1024.Idx → EReal) : S1x1024.Idx → EReal := fun i =>
  ∑ r : Fin 8320, gainBack (unit (rowAt z r)) (fun k => rowAt g r (hi k)) (rowAt d r) (i 1)

theorem V_attn : (V m c main_arg0 : S8320x1024.Idx → EReal) = attn m c := V_main_arg0 m c
theorem V_gainA : (V m c main_arg3 : S1x1024.Idx → EReal) = gainA m c := V_main_arg3 m c
theorem V_gainS : (V m c main_arg4 : S1x1024.Idx → EReal) = gainS m c := V_main_arg4 m c
theorem V_zab : (V m c main_v0 : S8320x2048.Idx → EReal) = zab m c := by
  unfold V
  after_reads_simp
  rfl
theorem V_gates : (V m c main_v1 : S8320x2048.Idx → EReal) = gates m c := by
  unfold V
  after_reads_simp
  rfl
theorem V_dmerged : (V m c main_v2 : S8320x1024.Idx → EReal) = dmerged m c := by
  unfold V
  after_reads_simp
  rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])

theorem N_lt (n : ℕ) (h : n < cfg0.N) : n < 26 := h

section Rows

variable (t : Fin cfg0.N) (r : Fin 320) (i : Fin 8320) (e : i.val = t.val * 320 + r.val)
include e

theorem row_attn : rowAt (iblk m c 0 t : S320x1024.Idx → EReal) r = rowAt (attn m c) i := by
  rw [← V_attn]
  funext k
  unfold rowAt
  blk_ext [iblk, idx0 t]
theorem row_zab : rowAt (iblk m c 1 t : S320x2048.Idx → EReal) r = rowAt (zab m c) i := by
  rw [← V_zab]
  funext k
  unfold rowAt
  blk_ext [iblk, idx1 t]
theorem row_gates : rowAt (iblk m c 2 t : S320x2048.Idx → EReal) r = rowAt (gates m c) i := by
  rw [← V_gates]
  funext k
  unfold rowAt
  blk_ext [iblk, idx2 t]
theorem row_d : rowAt (iblk m c 5 t : S320x1024.Idx → EReal) r = rowAt (dmerged m c) i := by
  rw [← V_dmerged]
  funext k
  unfold rowAt
  blk_ext [iblk, idx5 t]

end Rows

theorem row_gainA (t : Fin cfg0.N) : rowAt (iblk m c 3 t : S1x1024.Idx → EReal) 0 = rowAt (gainA m c) 0 := by
  rw [← V_gainA]
  funext k
  unfold rowAt
  blk_ext [iblk, idx3 t]
theorem row_gainS (t : Fin cfg0.N) : rowAt (iblk m c 4 t : S1x1024.Idx → EReal) 0 = rowAt (gainS m c) 0 := by
  rw [← V_gainS]
  funext k
  unfold rowAt
  blk_ext [iblk, idx4 t]

/-! ### The blocks written in one point -/

section Blocks

variable (t : Fin cfg0.N)

theorem dattn_block (y : S320x1024.Idx) (i : S8320x1024.Idx) (e0 : (i 0).val = t.val * 320 + (y 0).val) (e1 : (i 1).val = (y 1).val) :
    ((outsAt0 m c t.val t.isLt).1 y : EReal) = dattnArr (attn m c) (gates m c) (gainA m c) (dmerged m c) i := by
  have v : k0_pay30 (F := Ideal) (k0_pay21 (F := Ideal) (k0_pay7 (F := Ideal) (iblk m c 5 t)) (iblk m c 0 t) (k0_pay11 (F := Ideal) (iblk m c 2 t)) (iblk m c 3 t))
      (k0_pay22 (F := Ideal) (iblk m c 0 t)) (k0_pay23 (F := Ideal) (k0_pay7 (F := Ideal) (iblk m c 5 t)) (iblk m c 0 t) (k0_pay11 (F := Ideal) (iblk m c 2 t)) (iblk m c 3 t))
      (k0_pay24 (F := Ideal)) y = dattnArr (attn m c) (gates m c) (gainA m c) (dmerged m c) i := by
    obtain ⟨r, q, rfl⟩ : ∃ (r : Fin 320) (q : Fin 1024), y = ix2 r q := ⟨y 0, y 1, eq_ix2 y⟩
    refine (tile_dattn _ _ _ _ r q).trans ?_
    rw [row_attn m c t r (i 0) e0, row_gates m c t r (i 0) e0, row_d m c t r (i 0) e0, row_gainA]
    exact congrArg _ (Fin.ext e1.symm)
  by_cases e : t.val % 26 = 0
  · rw [outsAt0_A m c t e]
    frame_out
    exact v
  · rw [outsAt0_B m c t e]
    frame_out
    exact v

theorem dz_block (y : S320x2048.Idx) (i : S8320x2048.Idx) (e0 : (i 0).val = t.val * 320 + (y 0).val) (e1 : (i 1).val = (y 1).val) :
    ((outsAt0 m c t.val t.isLt).2.1 y : EReal) = dzabArr (zab m c) (gates m c) (gainS m c) (dmerged m c) i := by
  have lo' : ∀ x : S320x1024.Idx, (y 0).val = (x 0).val → (y 1).val = (x 1).val →
      k0_pay35 (F := Ideal) (k0_pay9 (F := Ideal) (iblk m c 1 t)) (k0_pay28 (F := Ideal) (k0_pay7 (F := Ideal) (iblk m c 5 t))
        (k0_pay10 (F := Ideal) (iblk m c 1 t)) (k0_pay12 (F := Ideal) (iblk m c 2 t)) (iblk m c 4 t)) x
        = dzabArr (zab m c) (gates m c) (gainS m c) (dmerged m c) i := fun x h0 h1 => by
    obtain ⟨r, q, rfl⟩ : ∃ (r : Fin 320) (q : Fin 1024), x = ix2 r q := ⟨x 0, x 1, eq_ix2 x⟩
    have e := e0.trans (congrArg (t.val * 320 + ·) h0)
    refine (tile_zLo _ _ _ _ r q).trans ?_
    rw [row_zab m c t r (i 0) e, row_gates m c t r (i 0) e, row_d m c t r (i 0) e, row_gainS]
    exact (both_lo _ _ q _ (e1.trans h1)).symm
  have hi' : ∀ x : S320x1024.Idx, (y 0).val = (x 0).val → (y 1).val = 1024 + (x 1).val →
      k0_pay36 (F := Ideal) (k0_pay8 (F := Ideal) (iblk m c 1 t)) (k0_pay9 (F := Ideal) (iblk m c 1 t)) (k0_pay28 (F := Ideal) (k0_pay7 (F := Ideal) (iblk m c 5 t))
        (k0_pay10 (F := Ideal) (iblk m c 1 t)) (k0_pay12 (F := Ideal) (iblk m c 2 t)) (iblk m c 4 t)) x
        = dzabArr (zab m c) (gates m c) (gainS m c) (dmerged m c) i := fun x h0 h1 => by
    obtain ⟨r, q, rfl⟩ : ∃ (r : Fin 320) (q : Fin 1024), x = ix2 r q := ⟨x 0, x 1, eq_ix2 x⟩
    have e := e0.trans (congrArg (t.val * 320 + ·) h0)
    refine (tile_zHi _ _ _ _ r q).trans ?_
    rw [row_zab m c t r (i 0) e, row_gates m c t r (i 0) e, row_d m c t r (i 0) e, row_gainS]
    exact (both_hi _ _ q _ (e1.trans h1)).symm
  by_cases e : t.val % 26 = 0
  · rw [outsAt0_A m c t e]
    frame_out
    canon_tiles x h
    · exact hi' x h0 h1
    · exact lo' x h0 h1
  · rw [outsAt0_B m c t e]
    frame_out
    canon_tiles x h
    · exact hi' x h0 h1
    · exact lo' x h0 h1

theorem dg_block (y : S320x2048.Idx) (i : S8320x2048.Idx) (e0 : (i 0).val = t.val * 320 + (y 0).val) (e1 : (i 1).val = (y 1).val) :
    ((outsAt0 m c t.val t.isLt).2.2.1 y : EReal)
      = dgatesArr (attn m c) (zab m c) (gates m c) (gainA m c) (gainS m c) (dmerged m c) i := by
  have lo' : ∀ x : S320x1024.Idx, (y 0).val = (x 0).val → (y 1).val = (x 1).val →
      k0_pay16 (F := Ideal) (k0_pay7 (F := Ideal) (iblk m c 5 t)) (k0_pay11 (F := Ideal) (iblk m c 2 t))
        (k0_pay13 (F := Ideal) (iblk m c 0 t) (iblk m c 3 t)) x
        = dgatesArr (attn m c) (zab m c) (gates m c) (gainA m c) (gainS m c) (dmerged m c) i := fun x h0 h1 => by
    obtain ⟨r, q, rfl⟩ : ∃ (r : Fin 320) (q : Fin 1024), x = ix2 r q := ⟨x 0, x 1, eq_ix2 x⟩
    have e := e0.trans (congrArg (t.val * 320 + ·) h0)
    refine (tile_gLo _ _ _ _ r q).trans ?_
    rw [row_attn m c t r (i 0) e, row_gates m c t r (i 0) e, row_d m c t r (i 0) e, row_gainA]
    exact (both_lo _ _ q _ (e1.trans h1)).symm
  have hi' : ∀ x : S320x1024.Idx, (y 0).val = (x 0).val → (y 1).val = 1024 + (x 1).val →
      k0_pay17 (F := Ideal) (k0_pay7 (F := Ideal) (iblk m c 5 t)) (k0_pay10 (F := Ideal) (iblk m c 1 t)) (k0_pay12 (F := Ideal) (iblk m c 2 t))
        (iblk m c 4 t) (k0_pay14 (F := Ideal) (iblk m c 1 t)) (k0_pay15 (F := Ideal)) x
        = dgatesArr (attn m c) (zab m c) (gates m c) (gainA m c) (gainS m c) (dmerged m c) i := fun x h0 h1 => by
    obtain ⟨r, q, rfl⟩ : ∃ (r : Fin 320) (q : Fin 1024), x = ix2 r q := ⟨x 0, x 1, eq_ix2 x⟩
    have e := e0.trans (congrArg (t.val * 320 + ·) h0)
    refine (tile_gHi _ _ _ _ r q).trans ?_
    rw [row_zab m c t r (i 0) e, row_gates m c t r (i 0) e, row_d m c t r (i 0) e, row_gainS]
    exact (both_hi _ _ q _ (e1.trans h1)).symm
  by_cases e : t.val % 26 = 0
  · rw [outsAt0_A m c t e]
    frame_out
    canon_tiles x h
    · exact hi' x h0 h1
    · exact lo' x h0 h1
  · rw [outsAt0_B m c t e]
    frame_out
    canon_tiles x h
    · exact hi' x h0 h1
    · exact lo' x h0 h1

end Blocks

theorem dattn_array : (dats m 0 c).arrAt 6 cfg0.N = dattnArr (attn m c) (gates m c) (gainA m c) (dmerged m c) := by
  refine (dats m 0 c).arrAt_eq_of_covers 6 _ (by decide +kernel) fun t hf y => ?_
  rw [after0_6]
  refine dattn_block m c t y _ ?_ ?_ <;> blk_simp [idx6 t]

theorem dz_array : (dats m 0 c).arrAt 7 cfg0.N = dzabArr (zab m c) (gates m c) (gainS m c) (dmerged m c) := by
  refine (dats m 0 c).arrAt_eq_of_covers 7 _ (by decide +kernel) fun t hf y => ?_
  rw [after0_7]
  refine dz_block m c t y _ ?_ ?_ <;> blk_simp [idx7 t]

/-- The gates' gradient fills the first 2048 columns of its array. -/
def wide (g : S8320x2048.Idx → EReal) : S8320x4608.Idx → EReal := fun i =>
  if h : (i 1).val < 2048 then g (ix2 (i 0) ⟨(i 1).val, h⟩) else 0

theorem wide_apply (g : S8320x2048.Idx → EReal) (i : S8320x4608.Idx) (h : (i 1).val < 2048) :
    wide g i = g (ix2 (i 0) ⟨(i 1).val, h⟩) := dif_pos h

theorem dg_array (r : Fin 8320) (q : Fin 2048) : ((dats m 0 c).arrAt 8 cfg0.N : S8320x4608.Idx → EReal) (ix2 r ⟨q.val, by omega⟩)
    = dgatesArr (attn m c) (zab m c) (gates m c) (gainA m c) (gainS m c) (dmerged m c) (ix2 r q) := by
  refine ((dats m 0 c).arrAt_apply_of_coversWhere 8 (wide (dgatesArr (attn m c) (zab m c) (gates m c) (gainA m c) (gainS m c) (dmerged m c)))
    (P := fun i : S8320x4608.Idx => (i 1).val < 2048) (fun β => β (1 : Fin 2) = 0) (by decide +kernel) (fun t hf y => ?_) (fun j => ?_)
    (ix2 r ⟨q.val, by omega⟩)).trans ?_
  · rw [after0_8]
    blk_simp
    have k : ((win0_8.blk t).view.emb y (1 : Fin 2)).val < 2048 := by
      have b : ((cfg0.win 8).xinj (cfg0.grid.coords t) y (1 : Fin 2)).val < 2048 := ((cfg0.win 8).xinj (cfg0.grid.coords t) y (1 : Fin 2)).isLt
      rw [Pipeline.Window.xinj_val] at b
      blk_simp [idx8 t]
      omega
    refine (dg_block m c t _ (ix2 ((win0_8.blk t).view.emb y (0 : Fin 2)) ⟨((win0_8.blk t).view.emb y (1 : Fin 2)).val, k⟩) ?_ ?_).trans (wide_apply _ _ k).symm
    · show ((win0_8.blk t).view.emb y (0 : Fin 2)).val = _
      rw [Pipeline.Window.xinj_val]
      blk_simp [idx8 t]
    · show ((win0_8.blk t).view.emb y (1 : Fin 2)).val = _
      rw [Pipeline.Window.xinj_val]
      blk_simp [idx8 t]
  · blk_simp [Pipeline.Window.cell_apply]
    omega
  · refine (if_pos q.isLt).trans ?_
    exact wide_apply _ _ q.isLt

/-! ### The gains' gradients -/

theorem an_step (acc : FVec Ideal S1x1024 .f32) (t : Fin cfg0.N) (y : S1x1024.Idx) :
    k0_pay1 (F := Ideal) (k0_pay25 (F := Ideal) (iblk m c 0 t) (k0_pay18 (F := Ideal) (k0_pay7 (F := Ideal) (iblk m c 5 t))
      (k0_pay11 (F := Ideal) (iblk m c 2 t))) (k0_pay19 (F := Ideal) (iblk m c 0 t))) acc y
      = acc y + ∑ r : Fin 320, gainBack (rowAt (iblk m c 0 t : S320x1024.Idx → EReal) r)
        (fun k => rowAt (iblk m c 2 t : S320x2048.Idx → EReal) r (lo k)) (rowAt (iblk m c 5 t : S320x1024.Idx → EReal) r) (y 1) := by
  unfold k0_pay1
  rw [shapeCast_self]
  exact congrArg (acc y + ·) (tile_an _ _ _ y)

theorem an_last (n : ℕ) (hn : n < cfg0.N) (e : n + 1 = 26) (y : S1x1024.Idx) :
    (outsAt0 m c n hn).2.2.2.1 y = danArr (attn m c) (gates m c) (dmerged m c) y := by
  have a := accumulate (N := cfg0.N) 26 320 (by decide) (by decide) (fun n hn => (outsAt0 m c n hn).2.2.2.1)
    (fun _ _ y r => gainBack (rowAt (attn m c) r) (fun k => rowAt (gates m c) r (lo k)) (rowAt (dmerged m c) r) (y 1))
    (fun n hn y r => gainBack (rowAt (iblk m c 0 ⟨n, hn⟩ : S320x1024.Idx → EReal) r)
      (fun k => rowAt (iblk m c 2 ⟨n, hn⟩ : S320x2048.Idx → EReal) r (lo k)) (rowAt (iblk m c 5 ⟨n, hn⟩ : S320x1024.Idx → EReal) r) (y 1))
    (fun n hn y e => by
      rw [outsAt0_A m c ⟨n, hn⟩ e]
      frame_out
      exact (an_step m c _ ⟨n, hn⟩ y).trans (zero_from y _))
    (fun n hn y e => by
      rw [outsAt0_B m c ⟨n + 1, hn⟩ e]
      frame_out
      exact an_step m c _ ⟨n + 1, hn⟩ y)
    (fun n hn e => rfl)
    (fun n hn y r k e => by
      have e' : k.val = n * 320 + r.val := by rw [e, Nat.mod_eq_of_lt (N_lt n hn), Nat.mul_comm]
      rw [row_attn m c ⟨n, hn⟩ r k e', row_gates m c ⟨n, hn⟩ r k e', row_d m c ⟨n, hn⟩ r k e'])
    n hn y
  rw [a, Nat.mod_eq_of_lt (N_lt n hn), e]
  exact part_all _

theorem an_array : (dats m 0 c).arrAt 9 cfg0.N = danArr (attn m c) (gates m c) (dmerged m c) := by
  refine (dats m 0 c).arrAt_eq_of_covers 9 _ (by decide +kernel) fun t hf y => ?_
  have e : t.val % 26 = 25 := (flush0_9 t).mp hf
  have b := N_lt t.val t.isLt
  blk_simp [idx9 t]
  rw [after0_9]
  refine (an_last m c t.val t.isLt (by omega) y).trans (congrArg _ (Shape.idx_ext₂ ?_ ?_))
  · blk_simp [idx9 t]
  · blk_simp [idx9 t]

theorem sn_step (acc : FVec Ideal S1x1024 .f32) (t : Fin cfg0.N) (y : S1x1024.Idx) :
    k0_pay2 (F := Ideal) (k0_pay29 (F := Ideal) (k0_pay7 (F := Ideal) (iblk m c 5 t)) (k0_pay10 (F := Ideal) (iblk m c 1 t))
      (k0_pay12 (F := Ideal) (iblk m c 2 t))) acc y
      = acc y + ∑ r : Fin 320, gainBack (unit (rowAt (iblk m c 1 t : S320x2048.Idx → EReal) r))
        (fun k => rowAt (iblk m c 2 t : S320x2048.Idx → EReal) r (hi k)) (rowAt (iblk m c 5 t : S320x1024.Idx → EReal) r) (y 1) := by
  unfold k0_pay2
  rw [shapeCast_self]
  exact congrArg (acc y + ·) (tile_sn _ _ _ y)

theorem sn_last (n : ℕ) (hn : n < cfg0.N) (e : n + 1 = 26) (y : S1x1024.Idx) :
    (outsAt0 m c n hn).2.2.2.2.1 y = dsnArr (zab m c) (gates m c) (dmerged m c) y := by
  have a := accumulate (N := cfg0.N) 26 320 (by decide) (by decide) (fun n hn => (outsAt0 m c n hn).2.2.2.2.1)
    (fun _ _ y r => gainBack (unit (rowAt (zab m c) r)) (fun k => rowAt (gates m c) r (hi k)) (rowAt (dmerged m c) r) (y 1))
    (fun n hn y r => gainBack (unit (rowAt (iblk m c 1 ⟨n, hn⟩ : S320x2048.Idx → EReal) r))
      (fun k => rowAt (iblk m c 2 ⟨n, hn⟩ : S320x2048.Idx → EReal) r (hi k)) (rowAt (iblk m c 5 ⟨n, hn⟩ : S320x1024.Idx → EReal) r) (y 1))
    (fun n hn y e => by
      rw [outsAt0_A m c ⟨n, hn⟩ e]
      frame_out
      exact (sn_step m c _ ⟨n, hn⟩ y).trans (zero_from y _))
    (fun n hn y e => by
      rw [outsAt0_B m c ⟨n + 1, hn⟩ e]
      frame_out
      exact sn_step m c _ ⟨n + 1, hn⟩ y)
    (fun n hn e => rfl)
    (fun n hn y r k e => by
      have e' : k.val = n * 320 + r.val := by rw [e, Nat.mod_eq_of_lt (N_lt n hn), Nat.mul_comm]
      rw [row_zab m c ⟨n, hn⟩ r k e', row_gates m c ⟨n, hn⟩ r k e', row_d m c ⟨n, hn⟩ r k e'])
    n hn y
  rw [a, Nat.mod_eq_of_lt (N_lt n hn), e]
  exact part_all _

theorem sn_array : (dats m 0 c).arrAt 10 cfg0.N = dsnArr (zab m c) (gates m c) (dmerged m c) := by
  refine (dats m 0 c).arrAt_eq_of_covers 10 _ (by decide +kernel) fun t hf y => ?_
  have e : t.val % 26 = 25 := (flush0_10 t).mp hf
  have b := N_lt t.val t.isLt
  blk_simp [idx10 t]
  rw [after0_10]
  refine (sn_last m c t.val t.isLt (by omega) y).trans (congrArg _ (Shape.idx_ext₂ ?_ ?_))
  · blk_simp [idx10 t]
  · blk_simp [idx10 t]

/-! ### The run -/

/-- The first 2048 columns of the gates' array, cut out after the call. -/
theorem slice_after : (Pipeline.afterTail₀ cfgs (dats m) 0 (V0 m) [hostOps1] c main_v4 : S8320x2048.Idx → EReal)
    = dgatesArr (attn m c) (zab m c) (gates m c) (gainA m c) (gainS m c) (dmerged m c) := by
  unfold Pipeline.afterTail₀
  after_reads_simp
  funext i
  obtain ⟨r, q, rfl⟩ : ∃ (r : Fin 8320) (q : Fin 2048), i = ix2 r q := ⟨i 0, i 1, eq_ix2 i⟩
  refine (extractStridedSlice_apply ![0, 0] _ slices_S8320x4608_S8320x2048_0_0 (ix2 r q) (ix2 r (⟨q.val, by omega⟩ : Fin 4608) : S8320x4608.Idx)
    (fun b => match b with
      | ⟨0, _⟩ => by show r.val = 0 + r.val; omega
      | ⟨1, _⟩ => by show q.val = 0 + q.val; omega)).trans ?_
  exact (congrFun (Pipeline.withArrays_arr spec0 (by decide) c _ _ 8) _).trans (dg_array m c r q)

theorem run_results (ρ : Dev nD → PrngReg) :
    θ_run defs (onTc (τ := τ) (main (F := Ideal))) ⟨m, fun _ => 0, ρ⟩ (fun r => ∀ c : Dev nD,
      r.2.mem ((c.tc : Thread nD τ).loc main_v3_0) = dattnArr (attn m c) (gates m c) (gainA m c) (dmerged m c)
      ∧ r.2.mem ((c.tc : Thread nD τ).loc main_v3_1) = dzabArr (zab m c) (gates m c) (gainS m c) (dmerged m c)
      ∧ r.2.mem ((c.tc : Thread nD τ).loc main_v4)
        = dgatesArr (attn m c) (zab m c) (gates m c) (gainA m c) (gainS m c) (dmerged m c)
      ∧ r.2.mem ((c.tc : Thread nD τ).loc main_v3_3) = danArr (attn m c) (gates m c) (dmerged m c)
      ∧ r.2.mem ((c.tc : Thread nD τ).loc main_v3_4) = dsnArr (zab m c) (gates m c) (dmerged m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (dattn_array m c), ((h c).1 7).trans (dz_array m c),
      ((h c).2 main_v4 (Pipeline.mem_restRefs_of main_v4 (by decide) (by decide))).trans (slice_after m c),
      ((h c).1 9).trans (an_array m c), ((h c).1 10).trans (sn_array m c),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans (V_main_arg3 m c)),
      ((h c).1 4).trans (((dats m 0 c).arrAt_in 4 rfl _).trans (V_main_arg4 m c)),
      ((h c).2 main_arg5 (Pipeline.mem_restRefs_of main_arg5 (by decide) (by decide))).trans (W_main_arg5 m (dats m) c)⟩)
    (run_main m ρ)

end Attn.Merge
-- ==== Proof.MergeRef.lean ====
/-
  The results of the reference of the merge's backward pass: each branch's through its norm's, whose reference is the one of
  the norm's backward pass at other arguments.
-/
module

public import proofs.«01_k».proof.Proof.Gen.MergeRefIdeal.Read
public import proofs.«01_k».proof.Proof.MergeArrays
public import proofs.«01_k».proof.Proof.NormRef

@[expose] public section

noncomputable section

namespace Attn.Merge

open Cert.MergeIdeal (S8320x1024 S8320x2048 S1x1024)
open Idealize.ShloMosaic Cert.MergeRefIdeal.Read
open NormBack

variable (a : S8320x1024.Idx → EReal) (z g : S8320x2048.Idx → EReal) (an sn : S1x1024.Idx → EReal) (d : S8320x1024.Idx → EReal)

/-! ### The norm's part, of either branch -/

theorem norm_attn : val_main_v109 (F := Ideal) a g an d
    = Cert.NormRefIdeal.Read.val_main_v33 (F := Ideal) a an (val_main_v89 (F := Ideal) g d) := rfl
theorem norm_unit : val_main_v87 (F := Ideal) z g sn d
    = Cert.NormRefIdeal.Read.val_main_v33 (F := Ideal) (val_main_v13 (F := Ideal) z) sn (val_main_v67 (F := Ideal) g d) := rfl
theorem gain_attn : val_main_v93 (F := Ideal) a g d
    = Cert.NormRefIdeal.Read.val_main_v17 (F := Ideal) a (val_main_v89 (F := Ideal) g d) := rfl
theorem gain_unit : val_main_v71 (F := Ideal) z g d
    = Cert.NormRefIdeal.Read.val_main_v17 (F := Ideal) (val_main_v13 (F := Ideal) z) (val_main_v67 (F := Ideal) g d) := rfl
theorem normed_attn : val_main_v35 (F := Ideal) a = Cert.NormRefIdeal.Read.val_main_v12 (F := Ideal) a := rfl
theorem normed_unit : val_main_v60 (F := Ideal) z = Cert.NormRefIdeal.Read.val_main_v12 (F := Ideal) (val_main_v13 (F := Ideal) z) := rfl

/-! ### The logistic functions and their derivatives -/

theorem sig_host (x : EReal) : Ideal.div (FloatOps.ofBits (F := Ideal) .f32 0x3F800000#32 : EReal)
    ((FloatOps.ofBits (F := Ideal) .f32 0x3F800000#32 : EReal) + Ideal.exp (-x)) = Ideal.logistic x := by
  rw [show (FloatOps.ofBits (F := Ideal) .f32 0x3F800000#32 : EReal) = 1 from Ideal.ofBits_one_f32]
  rfl

/-- The logistic function's derivative, from its value. -/
theorem rest_host (x y : EReal) (h : y = Ideal.logistic x) : y * ((FloatOps.ofBits (F := Ideal) .f32 0x3F800000#32 : EReal) - y)
    = Ideal.logistic x * (1 - Ideal.logistic x) := by
  rw [h, show (FloatOps.ofBits (F := Ideal) .f32 0x3F800000#32 : EReal) = 1 from Ideal.ofBits_one_f32]

section Entries

variable (r : Fin 8320) (q : Fin 1024)

theorem ref_sig : val_main_v9 (F := Ideal) z (ix2 r q) = Ideal.logistic (rowAt z r (hi q)) := by
  rw [val_main_v9_apply, val_main_v8_apply, val_main_v7_apply, val_main_v6_apply, val_main_v5_apply, val_main_v4_apply, val_main_v1_apply]
  exact (sig_host _).trans (congrArg (fun p => Ideal.logistic (z p)) (Shape.idx_ext₂ rfl rfl))
theorem ref_gateLo : val_main_v19 (F := Ideal) g (ix2 r q) = Ideal.logistic (rowAt g r (lo q)) := by
  rw [val_main_v19_apply, val_main_v18_apply, val_main_v17_apply, val_main_v16_apply, val_main_v15_apply, val_main_v14_apply, val_main_v2_apply]
  exact (sig_host _).trans (congrArg (fun p => Ideal.logistic (g p)) (Shape.idx_ext₂ rfl rfl))
theorem ref_gateHi : val_main_v44 (F := Ideal) g (ix2 r q) = Ideal.logistic (rowAt g r (hi q)) := by
  rw [val_main_v44_apply, val_main_v43_apply, val_main_v42_apply, val_main_v41_apply, val_main_v40_apply, val_main_v39_apply, val_main_v3_apply]
  exact (sig_host _).trans (congrArg (fun p => Ideal.logistic (g p)) (Shape.idx_ext₂ rfl rfl))

theorem ref_sigRest : val_main_v12 (F := Ideal) z (ix2 r q)
    = Ideal.logistic (rowAt z r (hi q)) * (1 - Ideal.logistic (rowAt z r (hi q))) := by
  rw [val_main_v12_apply, val_main_v11_apply, val_main_v10_apply]
  exact rest_host _ _ (ref_sig z r q)
theorem ref_gateLoRest : val_main_v22 (F := Ideal) g (ix2 r q)
    = Ideal.logistic (rowAt g r (lo q)) * (1 - Ideal.logistic (rowAt g r (lo q))) := by
  rw [val_main_v22_apply, val_main_v21_apply, val_main_v20_apply]
  exact rest_host _ _ (ref_gateLo g r q)
theorem ref_gateHiRest : val_main_v47 (F := Ideal) g (ix2 r q)
    = Ideal.logistic (rowAt g r (hi q)) * (1 - Ideal.logistic (rowAt g r (hi q))) := by
  rw [val_main_v47_apply, val_main_v46_apply, val_main_v45_apply]
  exact rest_host _ _ (ref_gateHi g r q)

/-! ### The branches' rows and what reaches their norms -/

theorem ref_left : val_main_v0 (F := Ideal) z (ix2 r q) = rowAt z r (lo q) := by
  rw [val_main_v0_apply]
  exact congrArg z (Shape.idx_ext₂ rfl rfl)

theorem ref_unit : rowOf (val_main_v13 (F := Ideal) z) r = unit (rowAt z r) := by
  funext k
  show val_main_v13 (F := Ideal) z (ix2 r k) = _
  rw [val_main_v13_apply, ref_left, ref_sig]
  rfl

theorem ref_d : val_main_v65 (F := Ideal) d = d := shapeCast_self _ _
theorem ref_d' : val_main_v66 (F := Ideal) d = d := shapeCast_self _ _

theorem ref_toLo : val_main_v89 (F := Ideal) g d (ix2 r q) = rowAt d r q * Ideal.logistic (rowAt g r (lo q)) := by
  rw [val_main_v89_apply, ref_gateLo, ref_d]
  exact mul_comm _ _
theorem ref_toHi : val_main_v67 (F := Ideal) g d (ix2 r q) = rowAt d r q * Ideal.logistic (rowAt g r (hi q)) := by
  rw [val_main_v67_apply, ref_gateHi, ref_d']
  exact mul_comm _ _

theorem ref_normedOf (h : S8320x1024.Idx → EReal) :
    Cert.NormRefIdeal.Read.val_main_v12 (F := Ideal) h (ix2 r q) = rowOf h r q * rootAt (rowOf h r) := by
  rw [Cert.NormRefIdeal.Read.val_main_v12_apply, Cert.NormRefIdeal.Read.val_main_v11_apply, ref_root]
  rfl

theorem ref_scaledLo : scaled (val_main_v89 (F := Ideal) g d) an r
    = fun k => rowAt d r k * Ideal.logistic (rowAt g r (lo k)) * rowAt an 0 k :=
  funext fun k => congrArg (· * an (ix2 (0 : Fin 1) k)) (ref_toLo g d r k)
theorem ref_scaledHi : scaled (val_main_v67 (F := Ideal) g d) sn r
    = fun k => rowAt d r k * Ideal.logistic (rowAt g r (hi k)) * rowAt sn 0 k :=
  funext fun k => congrArg (· * sn (ix2 (0 : Fin 1) k)) (ref_toHi g d r k)

/-! ### The branches' gradients -/

theorem ref_branch : val_main_v109 (F := Ideal) a g an d (ix2 r q)
    = branchBack (rowAt a r) (fun k => rowAt g r (lo k)) (rowAt an 0) (rowAt d r) q := by
  rw [norm_attn, ref_back, ref_scaledLo]
  rfl
theorem ref_unitBack : val_main_v87 (F := Ideal) z g sn d (ix2 r q)
    = branchBack (unit (rowAt z r)) (fun k => rowAt g r (hi k)) (rowAt sn 0) (rowAt d r) q := by
  rw [norm_unit, ref_back, ref_scaledHi, ref_unit]
  rfl

theorem ref_gateA : val_main_v110 (F := Ideal) a g an d (ix2 r q)
    = gateBack (rowAt a r) (fun k => rowAt g r (lo k)) (rowAt an 0) (rowAt d r) q := by
  rw [val_main_v110_apply, val_main_v90_apply, val_main_v37_apply, val_main_v36_apply, normed_attn, ref_normedOf, ref_gateLoRest, ref_d]
  rw [show idx_main_v36 (ix2 r q) = ix2 (0 : Fin 1) q from Shape.idx_ext₂ rfl rfl]
  exact (mul_assoc (d (ix2 r q) * (rowOf a r q * rootAt (rowOf a r) * an (ix2 (0 : Fin 1) q))) _ _).symm
theorem ref_gateS : val_main_v88 (F := Ideal) z g sn d (ix2 r q)
    = gateBack (unit (rowAt z r)) (fun k => rowAt g r (hi k)) (rowAt sn 0) (rowAt d r) q := by
  rw [val_main_v88_apply, val_main_v68_apply, val_main_v62_apply, val_main_v61_apply, normed_unit, ref_normedOf, ref_gateHiRest, ref_d', ref_unit]
  rw [show idx_main_v61 (ix2 r q) = ix2 (0 : Fin 1) q from Shape.idx_ext₂ rfl rfl]
  exact (mul_assoc (d (ix2 r q) * (unit (rowAt z r) q * rootAt (unit (rowAt z r)) * sn (ix2 (0 : Fin 1) q))) _ _).symm

theorem ref_zLo : val_main_v112 (F := Ideal) z g sn d (ix2 r q)
    = unitLo (rowAt z r) (branchBack (unit (rowAt z r)) (fun k => rowAt g r (hi k)) (rowAt sn 0) (rowAt d r)) q := by
  rw [val_main_v112_apply, ref_unitBack, ref_sig]
  rfl
theorem ref_zHi : val_main_v113 (F := Ideal) z g sn d (ix2 r q)
    = unitHi (rowAt z r) (branchBack (unit (rowAt z r)) (fun k => rowAt g r (hi k)) (rowAt sn 0) (rowAt d r)) q := by
  rw [val_main_v113_apply, val_main_v111_apply, ref_unitBack, ref_sigRest, ref_left]
  exact (congrArg (· * _) (mul_comm _ _)).trans (mul_assoc _ _ _).symm

end Entries

/-! ### The results -/

/-- Two halves side by side, at an entry. -/
theorem beside (f h : S8320x1024.Idx → EReal) (k : Shape.Concatenates [S8320x1024, S8320x1024] S8320x2048 1) (i : S8320x2048.Idx) :
    concatenate S8320x2048 1 [⟨S8320x1024, f⟩, ⟨S8320x1024, h⟩] k i = both (rowAt f (i 0)) (rowAt h (i 0)) (i 1) := by
  have hi : (i 1).val < 2048 := (i 1).isLt
  by_cases hq : (i 1).val < 1024
  · refine (concatenate_pair_apply_left (s₁ := S8320x1024) (s₂ := S8320x1024) (1 : Fin S8320x2048.rank) _ _ _ i rfl
      (ix2 (i 0) (⟨(i 1).val, hq⟩ : Fin 1024) : S8320x1024.Idx) (fun b => match b with | ⟨0, _⟩ => rfl | ⟨1, _⟩ => rfl)).trans ?_
    exact (both_lo (rowAt f (i 0)) (rowAt h (i 0)) ⟨(i 1).val, hq⟩ _ rfl).symm
  · refine (concatenate_pair_apply_right (s₁ := S8320x1024) (s₂ := S8320x1024) (1 : Fin S8320x2048.rank) _ _ _ i rfl rfl
      (ix2 (i 0) (⟨(i 1).val - 1024, by omega⟩ : Fin 1024) : S8320x1024.Idx)
      (fun b hb => match b, hb with | ⟨0, _⟩, _ => rfl | ⟨1, _⟩, hb => absurd rfl hb)
      (show (i 1).val - 1024 + 1024 = (i 1).val by omega)).trans ?_
    exact (both_hi (rowAt f (i 0)) (rowAt h (i 0)) ⟨(i 1).val - 1024, by omega⟩ _ (by show (i 1).val = 1024 + ((i 1).val - 1024); omega)).symm

theorem ref_dattn : val_main_v116 (F := Ideal) a g an d = dattnArr a g an d := by
  funext i
  obtain ⟨r, q, rfl⟩ : ∃ (r : Fin 8320) (q : Fin 1024), i = ix2 r q := ⟨i 0, i 1, eq_ix2 i⟩
  rw [val_main_v116_apply]
  exact ref_branch a g an d r q

theorem ref_dzab : val_main_v117 (F := Ideal) z g sn d = dzabArr z g sn d := by
  funext i
  rw [val_main_v117_apply]
  refine (beside _ _ Cert.MergeRefIdeal.Gen.concatenates_S8320x1024_S8320x1024_S8320x2048_d1 i).trans ?_
  exact congrArg₂ (fun f h => both f h (i 1)) (funext (ref_zLo z g sn d (i 0))) (funext (ref_zHi z g sn d (i 0)))

theorem ref_dgates : val_main_v118 (F := Ideal) a z g an sn d = dgatesArr a z g an sn d := by
  funext i
  rw [val_main_v118_apply]
  refine (beside _ _ Cert.MergeRefIdeal.Gen.concatenates_S8320x1024_S8320x1024_S8320x2048_d1 i).trans ?_
  exact congrArg₂ (fun f h => both f h (i 1)) (funext (ref_gateA a g an d (i 0))) (funext (ref_gateS z g sn d (i 0)))

theorem ref_dan : val_main_v93 (F := Ideal) a g d = danArr a g d := by
  rw [gain_attn, ref_dg]
  exact funext fun i => Finset.sum_congr rfl fun r _ => congrArg (· * (rowOf a r (i 1) * rootAt (rowOf a r))) (ref_toLo g d r (i 1))

theorem ref_dsn : val_main_v71 (F := Ideal) z g d = dsnArr z g d := by
  rw [gain_unit, ref_dg]
  refine funext fun i => Finset.sum_congr rfl fun r _ => ?_
  refine (congrArg (· * _) (ref_toHi g d r (i 1))).trans ?_
  exact congrArg (fun f => rowAt d r (i 1) * Ideal.logistic (rowAt g r (hi (i 1))) * (f (i 1) * rootAt f)) (ref_unit z r)

end Attn.Merge
-- ==== Proof.lean ====
/-
  The certificate of the attention's backward kernel, of the kernels of the layer's products forward and backward, of the
  backward kernel of the feed-forward's norm, of the one of the two branches' merge, and of three steps of the optimiser.

  The frames of the kernels at both instances are the generated ones; the references are host operations alone, so their
  arguments are read off their generated runs and they have no semaphore to count. The one rewrite between the attention
  kernel and its idealization is the mask, named and set to minus infinity; the others have none. The algebraic claims:
  at finite arguments the attention kernel's two arrays (Proof/Out.lean, Proof/Sinks.lean) and the reference's
  (Proof/Equal.lean) are the same arrays of reals, and the feed-forward's four arrays (Proof/FeedTrace.lean) are its
  reference's (Proof/FeedRef.lean). So are the arrays of the other programs theirs (Proof/Proj…, Proof/Mix…, Proof/Norm…,
  Proof/Merge…, Proof/Opt…, Proof/Sum…), at any arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal
public import proofs.«01_k».proof.Proof.Equal
public import proofs.«01_k».proof.Proof.Gen.Feed
public import proofs.«01_k».proof.Proof.Gen.Feed.Frame
public import proofs.«01_k».proof.Proof.Gen.FeedIdeal
public import proofs.«01_k».proof.Proof.Gen.FeedIdeal.Frame
public import proofs.«01_k».proof.Proof.Gen.FeedRefIdeal
public import proofs.«01_k».proof.Proof.Gen.FeedRefIdeal.Run
public import proofs.«01_k».proof.Proof.Gen.FeedRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjU
public import proofs.«01_k».proof.Proof.Gen.ProjU.Frame
public import proofs.«01_k».proof.Proof.Gen.ProjUIdeal
public import proofs.«01_k».proof.Proof.Gen.ProjUIdeal.Frame
public import proofs.«01_k».proof.Proof.Gen.ProjUIdeal.Value
public import proofs.«01_k».proof.Proof.Gen.ProjURefIdeal
public import proofs.«01_k».proof.Proof.Gen.ProjURefIdeal.Run
public import proofs.«01_k».proof.Proof.Gen.ProjURefIdeal.Read
public import proofs.«01_k».proof.Proof.Gen.ProjGates
public import proofs.«01_k».proof.Proof.Gen.ProjGates.Frame
public import proofs.«01_k».proof.Proof.Gen.ProjGatesIdeal
public import proofs.«01_k».proof.Proof.Gen.ProjGatesIdeal.Frame
public import proofs.«01_k».proof.Proof.Gen.ProjGatesIdeal.Value
public import proofs.«01_k».proof.Proof.Gen.ProjGatesRefIdeal
public import proofs.«01_k».proof.Proof.Gen.ProjGatesRefIdeal.Run
public import proofs.«01_k».proof.Proof.Gen.ProjGatesRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OptGlu
public import proofs.«01_k».proof.Proof.Gen.OptGlu.Frame
public import proofs.«01_k».proof.Proof.Gen.OptGluIdeal
public import proofs.«01_k».proof.Proof.Gen.OptGluIdeal.Frame
public import proofs.«01_k».proof.Proof.Gen.OptGluIdeal.Value
public import proofs.«01_k».proof.Proof.Gen.OptGluRefIdeal
public import proofs.«01_k».proof.Proof.Gen.OptGluRefIdeal.Run
public import proofs.«01_k».proof.Proof.Gen.OptGluRefIdeal.Read
public import proofs.«01_k».proof.Proof.Gen.OptMeta
public import proofs.«01_k».proof.Proof.Gen.OptMeta.Frame
public import proofs.«01_k».proof.Proof.Gen.OptMetaIdeal
public import proofs.«01_k».proof.Proof.Gen.OptMetaIdeal.Frame
public import proofs.«01_k».proof.Proof.Gen.OptMetaIdeal.Value
public import proofs.«01_k».proof.Proof.Gen.OptMetaRefIdeal
public import proofs.«01_k».proof.Proof.Gen.OptMetaRefIdeal.Run
public import proofs.«01_k».proof.Proof.Gen.OptMetaRefIdeal.Read
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInIdeal.Value
public import proofs.«01_k».proof.Proof.Gen.SumInRefIdeal
public import proofs.«01_k».proof.Proof.Gen.SumInRefIdeal.Run
public import proofs.«01_k».proof.Proof.Gen.SumInRefIdeal.Read
public import proofs.«01_k».proof.Proof.OptGlu
public import proofs.«01_k».proof.Proof.OptMeta
public import proofs.«01_k».proof.Proof.SumIn
public import proofs.«01_k».proof.Proof.FeedRun
public import proofs.«01_k».proof.Proof.FeedTrace
public import proofs.«01_k».proof.Proof.FeedRef
public import proofs.«01_k».proof.Proof.ProjRun
public import proofs.«01_k».proof.Proof.ProjTrace
public import proofs.«01_k».proof.Proof.ProjRef
public import proofs.«01_k».proof.Proof.ProjU
public import proofs.«01_k».proof.Proof.ProjGates
public import proofs.«01_k».proof.Proof.MixRun
public import proofs.«01_k».proof.Proof.MixTrace
public import proofs.«01_k».proof.Proof.MixRef
public import proofs.«01_k».proof.Proof.NormArrays
public import proofs.«01_k».proof.Proof.NormRef
public import proofs.«01_k».proof.Proof.MergeArrays
public import proofs.«01_k».proof.Proof.MergeRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Pre_finite.Facts := ⟨by decide, by decide, by decide⟩
instance : Cert.Pre_finite_ff.Facts := ⟨by decide, by decide, by decide⟩

/-- The reference leaves its arguments as they were. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

theorem preserves : Cert.preserves_Kernel_KernelIdeal :=
  IdealRules.named_const.statement Cert.KernelIdeal.κ "mask" .f32 0xF149F2CA#32 ⊥ rfl

/-- The kernel's two results are the reference's. -/
theorem algebraic : Cert.algebraic_KernelIdeal_ReferenceIdeal_pre_finite := by
  intro m ρ m' ρ' hpre hagree
  have e0 : ∀ c : Dev Cert.KernelIdeal.nD, ∃ x, m ((c : Thread Cert.KernelIdeal.nD Cert.KernelIdeal.τ).loc Cert.KernelIdeal.main_arg0) = Attn.up x :=
    fun c => ⟨_, Attn.up_of_finite _ _ (hpre c).1⟩
  have e1 : ∀ c : Dev Cert.KernelIdeal.nD, ∃ x, m ((c : Thread Cert.KernelIdeal.nD Cert.KernelIdeal.τ).loc Cert.KernelIdeal.main_arg1) = Attn.up x :=
    fun c => ⟨_, Attn.up_of_finite _ _ (hpre c).2.1⟩
  have e2 : ∀ c : Dev Cert.KernelIdeal.nD, ∃ x, m ((c : Thread Cert.KernelIdeal.nD Cert.KernelIdeal.τ).loc Cert.KernelIdeal.main_arg2) = Attn.up x :=
    fun c => ⟨_, Attn.up_of_finite _ _ (hpre c).2.2.1⟩
  have e3 : ∀ c : Dev Cert.KernelIdeal.nD, ∃ x, m ((c : Thread Cert.KernelIdeal.nD Cert.KernelIdeal.τ).loc Cert.KernelIdeal.main_arg3) = Attn.up x :=
    fun c => ⟨_, Attn.up_of_finite _ _ (hpre c).2.2.2.1⟩
  have e4 : ∀ c : Dev Cert.KernelIdeal.nD, ∃ x, m ((c : Thread Cert.KernelIdeal.nD Cert.KernelIdeal.τ).loc Cert.KernelIdeal.main_arg4) = Attn.up x :=
    fun c => ⟨_, Attn.up_of_finite _ _ (hpre c).2.2.2.2⟩
  choose x0 h0 using e0
  choose x1 h1 using e1
  choose x2 h2 using e2
  choose x3 h3 using e3
  choose x4 h4 using e4
  refine ⟨fun c => Attn.dqArr (x0 c) (x1 c) (x2 c) (x3 c) (x4 c), fun c => Attn.skArr (x0 c) (x1 c) (x2 c) (x3 c) (x4 c), ?_, ?_⟩
  rotate_left
  · refine (θ_run Cert.ReferenceIdeal.defs _ _).mono (fun r h c => ?_) (Cert.ReferenceIdeal.Value.run m' ρ')
    obtain ⟨a0, a1, a2, a3, a4⟩ := hagree c
    refine ⟨(h c).1.trans ?_, (h c).2.1.trans ?_, (h c).2.2⟩
    · rw [Cert.ReferenceIdeal.Read.val_main_v112_eq, a0, a1, a2, a3, a4, h0 c, h1 c, h2 c, h3 c, h4 c]
      exact Attn.ref_dq _ _ _ _ _
    · rw [Cert.ReferenceIdeal.Read.val_main_v107_eq, a0, a1, a2, a3, a4, h0 c, h1 c, h2 c, h3 c, h4 c]
      exact Attn.ref_sinks _ _ _ _ _
  · refine (θ_run Cert.KernelIdeal.defs _ _).mono (fun r h c => ?_) (Cert.KernelIdeal.Value.run_blocks m ρ)
    exact ⟨(h c).1.trans (Attn.dq_array m c _ _ _ _ _ (h0 c) (h1 c) (h2 c) (h3 c) (h4 c)),
      (h c).2.2.2.2.2.2.2.1.trans (Attn.sinks_array m c _ _ _ _ _ (h0 c) (h1 c) (h2 c) (h3 c) (h4 c)), (h c).2.2.2.2.2.2.2.2⟩

/-- The feed-forward reference leaves its arguments as they were. -/
theorem frame_ri_ff : Cert.quiescent_FeedRefIdeal := fun m ρ _ =>
  (θ_run Cert.FeedRefIdeal.defs _ _).mono
    (fun r h => ⟨fun c => (h c).2.2.2.2, sem_eq_zero_of_no_sems (by decide) r.2⟩)
    (Cert.FeedRefIdeal.Value.run m ρ)

/-- The feed-forward's four results are its reference's. -/
theorem algebraic_ff : Cert.algebraic_FeedIdeal_FeedRefIdeal_pre_finite_ff := by
  intro m ρ m' ρ' hpre hagree
  refine ⟨fun c => Attn.Feed.outArr (Attn.Feed.hn m c) (Attn.Feed.wIn m c) (Attn.Feed.wOut m c) (Attn.Feed.res m c),
    fun c => Attn.Feed.gOutArr (Attn.Feed.hn m c) (Attn.Feed.wIn m c) (Attn.Feed.dh2 m c),
    fun c => Attn.Feed.gInArr (Attn.Feed.hn m c) (Attn.Feed.wIn m c) (Attn.Feed.wOut m c) (Attn.Feed.dh2 m c),
    fun c => Attn.Feed.dhnArr (Attn.Feed.hn m c) (Attn.Feed.wIn m c) (Attn.Feed.wOut m c) (Attn.Feed.dh2 m c), ?_, ?_⟩
  · refine (θ_run Cert.FeedIdeal.defs _ _).mono (fun r h c => ?_) (Attn.Feed.run m ρ)
    refine ⟨(h c _ (Cert.FeedIdeal.Gen.mem_uc Cert.FeedIdeal.main_v11 (by decide))).trans (Attn.Feed.out_at m ρ c),
      (h c _ (Cert.FeedIdeal.Gen.mem_uc Cert.FeedIdeal.main_v13_0 (by decide))).trans (Attn.Feed.gOut_at m ρ c),
      (h c _ (Cert.FeedIdeal.Gen.mem_uc Cert.FeedIdeal.main_v21 (by decide))).trans (Attn.Feed.gIn_at m ρ c),
      (h c _ (Cert.FeedIdeal.Gen.mem_uc Cert.FeedIdeal.main_v15 (by decide))).trans (Attn.Feed.dhn_at m ρ c),
      (h c _ (Cert.FeedIdeal.Gen.mem_uc Cert.FeedIdeal.main_arg0 (by decide))).trans (Cert.FeedIdeal.Gen.W8_main_arg0 m ρ c),
      (h c _ (Cert.FeedIdeal.Gen.mem_uc Cert.FeedIdeal.main_arg1 (by decide))).trans (Cert.FeedIdeal.Gen.W8_main_arg1 m ρ c),
      (h c _ (Cert.FeedIdeal.Gen.mem_uc Cert.FeedIdeal.main_arg2 (by decide))).trans (Cert.FeedIdeal.Gen.W8_main_arg2 m ρ c),
      (h c _ (Cert.FeedIdeal.Gen.mem_uc Cert.FeedIdeal.main_arg3 (by decide))).trans (Cert.FeedIdeal.Gen.W8_main_arg3 m ρ c),
      (h c _ (Cert.FeedIdeal.Gen.mem_uc Cert.FeedIdeal.main_arg4 (by decide))).trans (Cert.FeedIdeal.Gen.W8_main_arg4 m ρ c)⟩
  · refine (θ_run Cert.FeedRefIdeal.defs _ _).mono (fun r h c => ?_) (Cert.FeedRefIdeal.Value.run m' ρ')
    obtain ⟨a0, a1, a2, a3, a4⟩ := hagree c
    have u0 : Attn.Feed.hn m c = Attn.up _ := Attn.up_of_finite _ _ (hpre c).1
    have u1 : Attn.Feed.wIn m c = Attn.up _ := Attn.up_of_finite _ _ (hpre c).2.1
    have u2 : Attn.Feed.wOut m c = Attn.up _ := Attn.up_of_finite _ _ (hpre c).2.2.1
    have u4 : Attn.Feed.dh2 m c = Attn.up _ := Attn.up_of_finite _ _ (hpre c).2.2.2
    refine ⟨(h c).1.trans ?_, (h c).2.1.trans ?_, (h c).2.2.1.trans ?_, (h c).2.2.2.1.trans ?_, (h c).2.2.2.2⟩
    · rw [Cert.FeedRefIdeal.Read.val_main_v28_eq, a0, a1, a2, a3]
      exact Attn.Feed.ref_out _ _ _ _
    · rw [Cert.FeedRefIdeal.Read.val_main_v16_eq, a0, a1, a4]
      exact Attn.Feed.ref_gOut _ _ _
    · rw [Cert.FeedRefIdeal.Read.val_main_v26_eq, a0, a1, a2, a4]
      exact Attn.Feed.ref_gIn u0 u1 u2 u4
    · rw [Cert.FeedRefIdeal.Read.val_main_v29_eq, a0, a1, a2, a4]
      exact Attn.Feed.ref_dhn u0 u1 u2 u4

/-- The input projection reference leaves its arguments as they were. -/
theorem frame_ri_proj : Cert.quiescent_ProjRefIdeal := fun m ρ _ =>
  (θ_run Cert.ProjRefIdeal.defs _ _).mono
    (fun r h => ⟨fun c => (h c).2.2.2, sem_eq_zero_of_no_sems (by decide) r.2⟩)
    (Cert.ProjRefIdeal.Value.run m ρ)

/-- The input projection's first part, its weight gradient and its input gradient are its reference's. -/
theorem algebraic_proj : Cert.algebraic_ProjIdeal_ProjRefIdeal := by
  intro m ρ m' ρ' _ hagree
  refine ⟨fun c => Attn.Proj.columns 0 1536 (by decide) (Attn.Proj.xn m c) (Attn.Proj.weight m c),
    fun c => Attn.Proj.gArr (Attn.Proj.dproj m c) (Attn.Proj.xn m c), fun c => Attn.Proj.dxnArr (Attn.Proj.dproj m c) (Attn.Proj.weight m c), ?_, ?_⟩
  · refine (θ_run Cert.ProjIdeal.defs _ _).mono (fun r h c => ?_) (Attn.Proj.run m ρ)
    exact ⟨(h c _ (Cert.ProjIdeal.Gen.mem_uc Cert.ProjIdeal.main_v7 (by decide))).trans (Attn.Proj.qkv_at m ρ c),
      (h c _ (Cert.ProjIdeal.Gen.mem_uc Cert.ProjIdeal.main_v12 (by decide))).trans (Attn.Proj.g_at m ρ c),
      (h c _ (Cert.ProjIdeal.Gen.mem_uc Cert.ProjIdeal.main_v11 (by decide))).trans (Attn.Proj.dxn_at m ρ c),
      (h c _ (Cert.ProjIdeal.Gen.mem_uc Cert.ProjIdeal.main_arg0 (by decide))).trans (Cert.ProjIdeal.Gen.W6_main_arg0 m ρ c),
      (h c _ (Cert.ProjIdeal.Gen.mem_uc Cert.ProjIdeal.main_arg1 (by decide))).trans (Cert.ProjIdeal.Gen.W6_main_arg1 m ρ c),
      (h c _ (Cert.ProjIdeal.Gen.mem_uc Cert.ProjIdeal.main_arg2 (by decide))).trans (Cert.ProjIdeal.Gen.W6_main_arg2 m ρ c),
      (h c _ (Cert.ProjIdeal.Gen.mem_uc Cert.ProjIdeal.main_arg3 (by decide))).trans (Cert.ProjIdeal.Gen.W6_main_arg3 m ρ c),
      (h c _ (Cert.ProjIdeal.Gen.mem_uc Cert.ProjIdeal.main_arg4 (by decide))).trans (Cert.ProjIdeal.Gen.W6_main_arg4 m ρ c)⟩
  · refine (θ_run Cert.ProjRefIdeal.defs _ _).mono (fun r h c => ?_) (Cert.ProjRefIdeal.Value.run m' ρ')
    obtain ⟨a0, a1, a2, a3, a4⟩ := hagree c
    refine ⟨(h c).1.trans ?_, (h c).2.1.trans ?_, (h c).2.2.1.trans ?_, (h c).2.2.2⟩
    · rw [Cert.ProjRefIdeal.Read.val_main_v1_eq, a0, a1]
      exact Attn.Proj.ref_qkv _ _
    · rw [Cert.ProjRefIdeal.Read.val_main_v6_eq, a0, a2, a3, a4]
      exact Attn.Proj.ref_g _ _ _ _
    · rw [Cert.ProjRefIdeal.Read.val_main_v8_eq, a1, a2, a3, a4]
      exact Attn.Proj.ref_dxn _ _ _ _

/-- The reference of the projection's second part leaves its arguments as they were. -/
theorem frame_ri_u : Cert.quiescent_ProjURefIdeal := fun m ρ _ =>
  (θ_run Cert.ProjURefIdeal.defs _ _).mono
    (fun r h => ⟨fun c => (h c).2, sem_eq_zero_of_no_sems (by decide) r.2⟩)
    (Cert.ProjURefIdeal.Value.run m ρ)

/-- The projection's second part is its reference's. -/
theorem algebraic_u : Cert.algebraic_ProjUIdeal_ProjURefIdeal := by
  intro m ρ m' ρ' _ hagree
  refine ⟨fun c => Attn.Proj.columns 1536 1024 (by decide) (Attn.ProjU.xn m c) (Attn.ProjU.weight m c), ?_, ?_⟩
  · refine (θ_run Cert.ProjUIdeal.defs _ _).mono (fun r h c => ?_) (Cert.ProjUIdeal.Value.run_blocks m ρ)
    exact ⟨(h c).1.trans (Attn.ProjU.u_array m c), (h c).2⟩
  · refine (θ_run Cert.ProjURefIdeal.defs _ _).mono (fun r h c => ?_) (Cert.ProjURefIdeal.Value.run m' ρ')
    obtain ⟨a0, a1⟩ := hagree c
    refine ⟨(h c).1.trans ?_, (h c).2⟩
    rw [Cert.ProjURefIdeal.Read.val_main_v2_eq, a0, a1]
    exact Attn.ProjU.ref_u _ _

/-- The reference of the projection's third part leaves its arguments as they were. -/
theorem frame_ri_gates : Cert.quiescent_ProjGatesRefIdeal := fun m ρ _ =>
  (θ_run Cert.ProjGatesRefIdeal.defs _ _).mono
    (fun r h => ⟨fun c => (h c).2, sem_eq_zero_of_no_sems (by decide) r.2⟩)
    (Cert.ProjGatesRefIdeal.Value.run m ρ)

/-- The projection's third part is its reference's. -/
theorem algebraic_gates : Cert.algebraic_ProjGatesIdeal_ProjGatesRefIdeal := by
  intro m ρ m' ρ' _ hagree
  refine ⟨fun c => Attn.Proj.columns 2560 2048 (by decide) (Attn.ProjGates.xn m c) (Attn.ProjGates.weight m c), ?_, ?_⟩
  · refine (θ_run Cert.ProjGatesIdeal.defs _ _).mono (fun r h c => ?_) (Cert.ProjGatesIdeal.Value.run_blocks m ρ)
    exact ⟨(h c).1.trans (Attn.ProjGates.gates_array m c), (h c).2⟩
  · refine (θ_run Cert.ProjGatesRefIdeal.defs _ _).mono (fun r h c => ?_) (Cert.ProjGatesRefIdeal.Value.run m' ρ')
    obtain ⟨a0, a1⟩ := hagree c
    refine ⟨(h c).1.trans ?_, (h c).2⟩
    rw [Cert.ProjGatesRefIdeal.Read.val_main_v4_eq, a0, a1]
    exact Attn.ProjGates.ref_gates _ _

/-- The reference of the gated linear unit and the output projection leaves its arguments as they were. -/
theorem frame_ri_mix : Cert.quiescent_MixRefIdeal := fun m ρ _ =>
  (θ_run Cert.MixRefIdeal.defs _ _).mono
    (fun r h => ⟨fun c => (h c).2.2.2.2.2.2.2, sem_eq_zero_of_no_sems (by decide) r.2⟩)
    (Cert.MixRefIdeal.Value.run m ρ)

/-- The seven results of the gated linear unit and the output projection are their reference's. -/
theorem algebraic_mix : Cert.algebraic_MixIdeal_MixRefIdeal := by
  intro m ρ m' ρ' _ hagree
  refine ⟨fun c => Attn.Mix.zabArr (Attn.Mix.z m c) (Attn.Mix.wGlu m c),
    fun c => Attn.Mix.outOf (Attn.Mix.merged m c) (Attn.Mix.wOut m c) (Attn.Mix.res m c),
    fun c => Attn.Mix.normOf (Attn.Mix.outOf (Attn.Mix.merged m c) (Attn.Mix.wOut m c) (Attn.Mix.res m c)) (Attn.Mix.gain m c),
    fun c => Attn.Mix.dmergedArr (Attn.Mix.dh m c) (Attn.Mix.wOut m c),
    fun c => Attn.Mix.gOutArr (Attn.Mix.merged m c) (Attn.Mix.dh m c),
    fun c => Attn.Mix.dzArr (Attn.Mix.dzab m c) (Attn.Mix.wGlu m c),
    fun c => Attn.Mix.gGluArr (Attn.Mix.dzab m c) (Attn.Mix.z m c), ?_, ?_⟩
  · refine (θ_run Cert.MixIdeal.defs _ _).mono (fun r h c => ?_) (Attn.Mix.run m ρ)
    exact ⟨(h c _ (Cert.MixIdeal.Gen.mem_uc Cert.MixIdeal.main_v7 (by decide))).trans (Attn.Mix.zab_at m ρ c),
      (h c _ (Cert.MixIdeal.Gen.mem_uc Cert.MixIdeal.main_v8_0 (by decide))).trans (Attn.Mix.h_at m ρ c),
      (h c _ (Cert.MixIdeal.Gen.mem_uc Cert.MixIdeal.main_v8_1 (by decide))).trans (Attn.Mix.hn_at m ρ c),
      (h c _ (Cert.MixIdeal.Gen.mem_uc Cert.MixIdeal.main_v9 (by decide))).trans (Attn.Mix.dmerged_at m ρ c),
      (h c _ (Cert.MixIdeal.Gen.mem_uc Cert.MixIdeal.main_v10_0 (by decide))).trans (Attn.Mix.gOut_at m ρ c),
      (h c _ (Cert.MixIdeal.Gen.mem_uc Cert.MixIdeal.main_v11 (by decide))).trans (Attn.Mix.dz_at m ρ c),
      (h c _ (Cert.MixIdeal.Gen.mem_uc Cert.MixIdeal.main_v13 (by decide))).trans (Attn.Mix.gGlu_at m ρ c),
      (h c _ (Cert.MixIdeal.Gen.mem_uc Cert.MixIdeal.main_arg0 (by decide))).trans (Cert.MixIdeal.Gen.W8_main_arg0 m ρ c),
      (h c _ (Cert.MixIdeal.Gen.mem_uc Cert.MixIdeal.main_arg1 (by decide))).trans (Cert.MixIdeal.Gen.W8_main_arg1 m ρ c),
      (h c _ (Cert.MixIdeal.Gen.mem_uc Cert.MixIdeal.main_arg2 (by decide))).trans (Cert.MixIdeal.Gen.W8_main_arg2 m ρ c),
      (h c _ (Cert.MixIdeal.Gen.mem_uc Cert.MixIdeal.main_arg3 (by decide))).trans (Cert.MixIdeal.Gen.W8_main_arg3 m ρ c),
      (h c _ (Cert.MixIdeal.Gen.mem_uc Cert.MixIdeal.main_arg4 (by decide))).trans (Cert.MixIdeal.Gen.W8_main_arg4 m ρ c),
      (h c _ (Cert.MixIdeal.Gen.mem_uc Cert.MixIdeal.main_arg5 (by decide))).trans (Cert.MixIdeal.Gen.W8_main_arg5 m ρ c),
      (h c _ (Cert.MixIdeal.Gen.mem_uc Cert.MixIdeal.main_arg6 (by decide))).trans (Cert.MixIdeal.Gen.W8_main_arg6 m ρ c),
      (h c _ (Cert.MixIdeal.Gen.mem_uc Cert.MixIdeal.main_arg7 (by decide))).trans (Cert.MixIdeal.Gen.W8_main_arg7 m ρ c)⟩
  · refine (θ_run Cert.MixRefIdeal.defs _ _).mono (fun r h c => ?_) (Cert.MixRefIdeal.Value.run m' ρ')
    obtain ⟨a0, a1, a2, a3, a4, a5, a6, a7⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Cert.MixRefIdeal.Read.val_main_v21_eq, a0, a1]
      exact Attn.Mix.ref_zab _ _
    · rw [Cert.MixRefIdeal.Read.val_main_v5_eq, a3, a4, a5]
      exact Attn.Mix.ref_out _ _ _
    · rw [Cert.MixRefIdeal.Read.val_main_v22_eq, a3, a4, a5, a6]
      exact Attn.Mix.ref_norm _ _ _ _
    · rw [Cert.MixRefIdeal.Read.val_main_v23_eq, a4, a7]
      exact Attn.Mix.ref_dmerged _ _
    · rw [Cert.MixRefIdeal.Read.val_main_v7_eq, a3, a7]
      exact Attn.Mix.ref_gOut _ _
    · rw [Cert.MixRefIdeal.Read.val_main_v24_eq, a1, a2]
      exact Attn.Mix.ref_dz _ _
    · rw [Cert.MixRefIdeal.Read.val_main_v2_eq, a0, a2]
      exact Attn.Mix.ref_gGlu _ _

/-- The reference of the norm's backward pass leaves its arguments as they were. -/
theorem frame_ri_norm : Cert.quiescent_NormRefIdeal := fun m ρ _ =>
  (θ_run Cert.NormRefIdeal.defs _ _).mono
    (fun r h => ⟨fun c => (h c).2.2.2, sem_eq_zero_of_no_sems (by decide) r.2⟩)
    (Cert.NormRefIdeal.Value.run m ρ)

/-- The three results of the norm's backward pass are its reference's. -/
theorem algebraic_norm : Cert.algebraic_NormIdeal_NormRefIdeal := by
  intro m ρ m' ρ' _ hagree
  refine ⟨fun c => Attn.NormBack.dhArr (Attn.NormBack.h m c) (Attn.NormBack.gain m c) (Attn.NormBack.dy m c) (Attn.NormBack.dres m c),
    fun c => Attn.NormBack.dhArr (Attn.NormBack.h m c) (Attn.NormBack.gain m c) (Attn.NormBack.dy m c) (Attn.NormBack.dres m c),
    fun c => Attn.NormBack.dgArr (Attn.NormBack.h m c) (Attn.NormBack.dy m c), ?_, ?_⟩
  · refine (θ_run Cert.NormIdeal.defs _ _).mono (fun r h c => ?_) (Cert.NormIdeal.Value.run_blocks m ρ)
    exact ⟨(h c).1.trans (Attn.NormBack.dh_array m c), (h c).2.1.trans (Attn.NormBack.dh16_array m c),
      (h c).2.2.1.trans (Attn.NormBack.dg_array m c), (h c).2.2.2⟩
  · refine (θ_run Cert.NormRefIdeal.defs _ _).mono (fun r h c => ?_) (Cert.NormRefIdeal.Value.run m' ρ')
    obtain ⟨a0, a1, a2, a3⟩ := hagree c
    refine ⟨(h c).1.trans ?_, (h c).2.1.trans ?_, (h c).2.2.1.trans ?_, (h c).2.2.2⟩
    · rw [Cert.NormRefIdeal.Read.val_main_v34_eq, a0, a1, a2, a3]
      exact Attn.NormBack.ref_dh _ _ _ _
    · rw [Cert.NormRefIdeal.Read.val_main_v35_eq, a0, a1, a2, a3]
      exact Attn.NormBack.ref_dh16 _ _ _ _
    · rw [Cert.NormRefIdeal.Read.val_main_v17_eq, a0, a2]
      exact Attn.NormBack.ref_dg _ _

/-- The reference of the merge's backward pass leaves its arguments as they were. -/
theorem frame_ri_merge : Cert.quiescent_MergeRefIdeal := fun m ρ _ =>
  (θ_run Cert.MergeRefIdeal.defs _ _).mono
    (fun r h => ⟨fun c => (h c).2.2.2.2.2, sem_eq_zero_of_no_sems (by decide) r.2⟩)
    (Cert.MergeRefIdeal.Value.run m ρ)

/-- The five results of the merge's backward pass are its reference's. -/
theorem algebraic_merge : Cert.algebraic_MergeIdeal_MergeRefIdeal := by
  intro m ρ m' ρ' _ hagree
  refine ⟨fun c => Attn.Merge.dattnArr (Attn.Merge.attn m c) (Attn.Merge.gates m c) (Attn.Merge.gainA m c) (Attn.Merge.dmerged m c),
    fun c => Attn.Merge.dzabArr (Attn.Merge.zab m c) (Attn.Merge.gates m c) (Attn.Merge.gainS m c) (Attn.Merge.dmerged m c),
    fun c => Attn.Merge.dgatesArr (Attn.Merge.attn m c) (Attn.Merge.zab m c) (Attn.Merge.gates m c) (Attn.Merge.gainA m c)
      (Attn.Merge.gainS m c) (Attn.Merge.dmerged m c),
    fun c => Attn.Merge.danArr (Attn.Merge.attn m c) (Attn.Merge.gates m c) (Attn.Merge.dmerged m c),
    fun c => Attn.Merge.dsnArr (Attn.Merge.zab m c) (Attn.Merge.gates m c) (Attn.Merge.dmerged m c), Attn.Merge.run_results m ρ, ?_⟩
  refine (θ_run Cert.MergeRefIdeal.defs _ _).mono (fun r h c => ?_) (Cert.MergeRefIdeal.Value.run m' ρ')
  obtain ⟨a0, a1, a2, a3, a4, a5⟩ := hagree c
  refine ⟨(h c).1.trans ?_, (h c).2.1.trans ?_, (h c).2.2.1.trans ?_, (h c).2.2.2.1.trans ?_, (h c).2.2.2.2.1.trans ?_, (h c).2.2.2.2.2⟩
  · rw [Cert.MergeRefIdeal.Read.val_main_v116_eq, a0, a2, a3, a5]
    exact Attn.Merge.ref_dattn _ _ _ _
  · rw [Cert.MergeRefIdeal.Read.val_main_v117_eq, a1, a2, a4, a5]
    exact Attn.Merge.ref_dzab _ _ _ _
  · rw [Cert.MergeRefIdeal.Read.val_main_v118_eq, a0, a1, a2, a3, a4, a5]
    exact Attn.Merge.ref_dgates _ _ _ _ _ _
  · refine (Attn.Merge.ref_dan (m' ((c.tc : Thread Cert.MergeRefIdeal.nD Cert.MergeRefIdeal.τ).loc Cert.MergeRefIdeal.main_arg0))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg5))).trans ?_
    rw [a0, a2, a5]
    rfl
  · refine (Attn.Merge.ref_dsn (m' ((c.tc : Thread Cert.MergeRefIdeal.nD Cert.MergeRefIdeal.τ).loc Cert.MergeRefIdeal.main_arg1))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg5))).trans ?_
    rw [a1, a2, a5]
    rfl

/-- The reference of the optimiser's step for the gated linear unit's weight leaves its arguments as they were. -/
theorem frame_ri_opt_glu : Cert.quiescent_OptGluRefIdeal := fun m ρ _ =>
  (θ_run Cert.OptGluRefIdeal.defs _ _).mono
    (fun r h => ⟨fun c => (h c).2.2.2, sem_eq_zero_of_no_sems (by decide) r.2⟩)
    (Cert.OptGluRefIdeal.Value.run m ρ)

/-- The reference of the optimiser's step for the meta tokens leaves its arguments as they were. -/
theorem frame_ri_opt_meta : Cert.quiescent_OptMetaRefIdeal := fun m ρ _ =>
  (θ_run Cert.OptMetaRefIdeal.defs _ _).mono
    (fun r h => ⟨fun c => (h c).2.2.2, sem_eq_zero_of_no_sems (by decide) r.2⟩)
    (Cert.OptMetaRefIdeal.Value.run m ρ)

/-- The reference of the sum of the parts of the input projection's gradient and of the optimiser's step with it leaves its arguments as they were. -/
theorem frame_ri_sum_in : Cert.quiescent_SumInRefIdeal := fun m ρ _ =>
  (θ_run Cert.SumInRefIdeal.defs _ _).mono
    (fun r h => ⟨fun c => (h c).2.2.2.2, sem_eq_zero_of_no_sems (by decide) r.2⟩)
    (Cert.SumInRefIdeal.Value.run m ρ)

theorem claim : Cert.Claim :=
  ⟨Cert.Kernel.Gen.facts, Cert.KernelIdeal.Gen.facts, Cert.ReferenceIdeal.Gen.facts, Cert.Feed.Gen.facts,
    Cert.FeedIdeal.Gen.facts, Cert.FeedRefIdeal.Gen.facts,
    Cert.Proj.Gen.facts, Cert.ProjIdeal.Gen.facts, Cert.ProjRefIdeal.Gen.facts,
    Cert.ProjU.Gen.facts, Cert.ProjUIdeal.Gen.facts, Cert.ProjURefIdeal.Gen.facts,
    Cert.ProjGates.Gen.facts, Cert.ProjGatesIdeal.Gen.facts, Cert.ProjGatesRefIdeal.Gen.facts,
    Cert.Mix.Gen.facts, Cert.MixIdeal.Gen.facts, Cert.MixRefIdeal.Gen.facts,
    Cert.Norm.Gen.facts, Cert.NormIdeal.Gen.facts, Cert.NormRefIdeal.Gen.facts,
    Cert.Merge.Gen.facts, Cert.MergeIdeal.Gen.facts, Cert.MergeRefIdeal.Gen.facts,
    Cert.OptGlu.Gen.facts, Cert.OptGluIdeal.Gen.facts, Cert.OptGluRefIdeal.Gen.facts,
    Cert.OptMeta.Gen.facts, Cert.OptMetaIdeal.Gen.facts, Cert.OptMetaRefIdeal.Gen.facts,
    Cert.SumIn.Gen.facts, Cert.SumInIdeal.Gen.facts, Cert.SumInRefIdeal.Gen.facts,
    inferInstance, inferInstance,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.Feed.Gen.frame m ρ, fun m ρ _ => Cert.FeedIdeal.Gen.frame m ρ,
    fun m ρ _ => Cert.FeedIdeal.Gen.frame m ρ, frame_ri_ff, fun m ρ _ => frame_ri_ff m ρ trivial,
    fun m ρ _ => Cert.Proj.Gen.frame m ρ, fun m ρ _ => Cert.ProjIdeal.Gen.frame m ρ, frame_ri_proj,
    fun m ρ _ => Cert.ProjU.Gen.frame m ρ, fun m ρ _ => Cert.ProjUIdeal.Gen.frame m ρ, frame_ri_u,
    fun m ρ _ => Cert.ProjGates.Gen.frame m ρ, fun m ρ _ => Cert.ProjGatesIdeal.Gen.frame m ρ, frame_ri_gates,
    fun m ρ _ => Cert.Mix.Gen.frame m ρ, fun m ρ _ => Cert.MixIdeal.Gen.frame m ρ, frame_ri_mix,
    fun m ρ _ => Cert.Norm.Gen.frame m ρ, fun m ρ _ => Cert.NormIdeal.Gen.frame m ρ, frame_ri_norm,
    fun m ρ _ => Cert.Merge.Gen.frame m ρ, fun m ρ _ => Cert.MergeIdeal.Gen.frame m ρ, frame_ri_merge,
    fun m ρ _ => Cert.OptGlu.Gen.frame m ρ, fun m ρ _ => Cert.OptGluIdeal.Gen.frame m ρ, frame_ri_opt_glu,
    fun m ρ _ => Cert.OptMeta.Gen.frame m ρ, fun m ρ _ => Cert.OptMetaIdeal.Gen.frame m ρ, frame_ri_opt_meta,
    fun m ρ _ => Cert.SumIn.Gen.frame m ρ, fun m ρ _ => Cert.SumInIdeal.Gen.frame m ρ, frame_ri_sum_in,
    preserves, algebraic, trivial, algebraic_ff, trivial, algebraic_proj, trivial, algebraic_u, trivial, algebraic_gates, trivial, algebraic_mix, trivial, algebraic_norm,
    trivial, algebraic_merge, trivial, algebraic_opt_glu, trivial, algebraic_opt_meta, trivial, algebraic_sum_in⟩

end Cert.Proof

end
